-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_qk [hPre_finite_qk : Cert.Pre_finite_qk.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_qk.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite_qk.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite_qk.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_finite_qk.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.1 = (fun _ => 1#1)
    ∧ (Cert.Pre_finite_qk.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_qk [hPre_finite_qk : Cert.Pre_finite_qk.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_qk.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite_qk.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite_qk.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_finite_qk.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.1 = (fun _ => 1#1)
    ∧ (Cert.Pre_finite_qk.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_bfold [hPre_finite_bfold : Cert.Pre_finite_bfold.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_bfold.fn (F := Ideal) (m ((c.tc : Thread Cert.Kernel7Ideal.nD Cert.Kernel7Ideal.τ).loc Cert.Kernel7Ideal.main_arg0))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_bfold [hPre_finite_bfold : Cert.Pre_finite_bfold.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_bfold.fn (F := Ideal) (m ((c.tc : Thread Cert.Reference7Ideal.nD Cert.Reference7Ideal.τ).loc Cert.Reference7Ideal.main_arg0))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_fwd [hPre_finite_fwd : Cert.Pre_finite_fwd.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_fwd.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).1 = (fun _ => 1#1)
    ∧ (Cert.Pre_finite_fwd.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.1 = (fun _ => 1#1)
    ∧ (Cert.Pre_finite_fwd.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_fwd [hPre_finite_fwd : Cert.Pre_finite_fwd.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_fwd.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).1 = (fun _ => 1#1)
    ∧ (Cert.Pre_finite_fwd.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.1 = (fun _ => 1#1)
    ∧ (Cert.Pre_finite_fwd.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_gnc [hPre_finite_gnc : Cert.Pre_finite_gnc.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_gnc.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_gnc [hPre_finite_gnc : Cert.Pre_finite_gnc.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_gnc.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_qk [hKernel6Ideal : Cert.Kernel6Ideal.Facts] [hPre_finite_qk : Cert.Pre_finite_qk.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_qk m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_qk [hReference6Ideal : Cert.Reference6Ideal.Facts] [hPre_finite_qk : Cert.Pre_finite_qk.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_qk m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Kernel7Ideal_pre_finite_bfold [hKernel7Ideal : Cert.Kernel7Ideal.Facts] [hPre_finite_bfold : Cert.Pre_finite_bfold.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_bfold m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Reference7Ideal_pre_finite_bfold [hReference7Ideal : Cert.Reference7Ideal.Facts] [hPre_finite_bfold : Cert.Pre_finite_bfold.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_bfold m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite_fwd [hKernel8Ideal : Cert.Kernel8Ideal.Facts] [hPre_finite_fwd : Cert.Pre_finite_fwd.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_fwd m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite_fwd [hReference8Ideal : Cert.Reference8Ideal.Facts] [hPre_finite_fwd : Cert.Pre_finite_fwd.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_fwd m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Kernel11Ideal_pre_finite_gnc [hKernel11Ideal : Cert.Kernel11Ideal.Facts] [hPre_finite_gnc : Cert.Pre_finite_gnc.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_gnc m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Reference11Ideal_pre_finite_gnc [hReference11Ideal : Cert.Reference11Ideal.Facts] [hPre_finite_gnc : Cert.Pre_finite_gnc.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_gnc m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)) (v5 : (c : Dev Cert.Kernel2Ideal.nD) → Buf (Elt Ideal) ((c.tc : Thread Cert.Kernel2Ideal.nD Cert.Kernel2Ideal.τ).loc Cert.Kernel2Ideal.main_v20_5)) (v6 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_v20_5) = v5 c
          ∧ r.2.mem ((c.tc : Thread Cert.Kernel2Ideal.nD Cert.Kernel2Ideal.τ).loc Cert.Kernel2Ideal.main_v21) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v36) = v2 c
          ∧ r.2.mem ((c.tc : Thread Cert.Reference2Ideal.nD Cert.Reference2Ideal.τ).loc Cert.Reference2Ideal.main_v37) = v3 c
          ∧ r.2.mem ((c.tc : Thread Cert.Reference2Ideal.nD Cert.Reference2Ideal.τ).loc Cert.Reference2Ideal.main_v38) = v4 c
          ∧ r.2.mem ((c.tc : Thread Cert.Reference2Ideal.nD Cert.Reference2Ideal.τ).loc Cert.Reference2Ideal.main_v31) = v5 c
          ∧ r.2.mem ((c.tc : Thread Cert.Reference2Ideal.nD Cert.Reference2Ideal.τ).loc Cert.Reference2Ideal.main_v30) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v5) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_v13) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)) (v2 : (c : Dev Cert.Kernel4Ideal.nD) → Buf (Elt Ideal) ((c.tc : Thread Cert.Kernel4Ideal.nD Cert.Kernel4Ideal.τ).loc Cert.Kernel4Ideal.main_v19_2)) (v3 : (c : Dev Cert.Kernel4Ideal.nD) → Buf (Elt Ideal) ((c.tc : Thread Cert.Kernel4Ideal.nD Cert.Kernel4Ideal.τ).loc Cert.Kernel4Ideal.main_v20)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_v19_2) = v2 c
          ∧ r.2.mem ((c.tc : Thread Cert.Kernel4Ideal.nD Cert.Kernel4Ideal.τ).loc Cert.Kernel4Ideal.main_v20) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_v50) = v1 c
          ∧ r.2.mem ((c.tc : Thread Cert.Reference4Ideal.nD Cert.Reference4Ideal.τ).loc Cert.Reference4Ideal.main_v52) = v2 c
          ∧ r.2.mem ((c.tc : Thread Cert.Reference4Ideal.nD Cert.Reference4Ideal.τ).loc Cert.Reference4Ideal.main_v35) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v7) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite_qk [hKernel6Ideal : Cert.Kernel6Ideal.Facts] [hReference6Ideal : Cert.Reference6Ideal.Facts] [hPre_finite_qk : Cert.Pre_finite_qk.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_qk m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v11_0)) (v1 : (c : Dev Cert.Kernel6Ideal.nD) → Buf (Elt Ideal) ((c.tc : Thread Cert.Kernel6Ideal.nD Cert.Kernel6Ideal.τ).loc Cert.Kernel6Ideal.main_v13)) (v2 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_0) = v0 c
          ∧ r.2.mem ((c.tc : Thread Cert.Kernel6Ideal.nD Cert.Kernel6Ideal.τ).loc Cert.Kernel6Ideal.main_v13) = v1 c
          ∧ r.2.mem ((c.tc : Thread Cert.Kernel6Ideal.nD Cert.Kernel6Ideal.τ).loc Cert.Kernel6Ideal.main_v15) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v87) = v0 c
          ∧ r.2.mem ((c.tc : Thread Cert.Reference6Ideal.nD Cert.Reference6Ideal.τ).loc Cert.Reference6Ideal.main_v70) = v1 c
          ∧ r.2.mem ((c.tc : Thread Cert.Reference6Ideal.nD Cert.Reference6Ideal.τ).loc Cert.Reference6Ideal.main_v47) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite_bfold [hKernel7Ideal : Cert.Kernel7Ideal.Facts] [hReference7Ideal : Cert.Reference7Ideal.Facts] [hPre_finite_bfold : Cert.Pre_finite_bfold.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_bfold m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  IdealRules.named_const.Statement Cert.Kernel8Ideal.κ "mask" .f32 0xF149F2CA#32 ⊥
  ∧ IdealRules.named_const.Statement Cert.Kernel8Ideal.κ "log2e" .f32 0x3FB8AA3B#32 (((Real.log 2)⁻¹ : ℝ) : EReal)

def algebraic_Kernel8Ideal_Reference8Ideal_pre_finite_fwd [hKernel8Ideal : Cert.Kernel8Ideal.Facts] [hReference8Ideal : Cert.Reference8Ideal.Facts] [hPre_finite_fwd : Cert.Pre_finite_fwd.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_fwd m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v47_0)) (v1 : (c : Dev Cert.Kernel8Ideal.nD) → Buf (Elt Ideal) ((c.tc : Thread Cert.Kernel8Ideal.nD Cert.Kernel8Ideal.τ).loc Cert.Kernel8Ideal.main_v47_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v47_0) = v0 c
          ∧ r.2.mem ((c.tc : Thread Cert.Kernel8Ideal.nD Cert.Kernel8Ideal.τ).loc Cert.Kernel8Ideal.main_v47_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v107) = v0 c
          ∧ r.2.mem ((c.tc : Thread Cert.Reference8Ideal.nD Cert.Reference8Ideal.τ).loc Cert.Reference8Ideal.main_v109) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v7_1)) (v2 : (c : Dev Cert.Kernel9Ideal.nD) → Buf (Elt Ideal) ((c.tc : Thread Cert.Kernel9Ideal.nD Cert.Kernel9Ideal.τ).loc Cert.Kernel9Ideal.main_v7_2)) (v3 : (c : Dev Cert.Kernel9Ideal.nD) → Buf (Elt Ideal) ((c.tc : Thread Cert.Kernel9Ideal.nD Cert.Kernel9Ideal.τ).loc Cert.Kernel9Ideal.main_v7_3)) (v4 : (c : Dev Cert.Kernel9Ideal.nD) → Buf (Elt Ideal) ((c.tc : Thread Cert.Kernel9Ideal.nD Cert.Kernel9Ideal.τ).loc Cert.Kernel9Ideal.main_v7_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v7_1) = v1 c
          ∧ r.2.mem ((c.tc : Thread Cert.Kernel9Ideal.nD Cert.Kernel9Ideal.τ).loc Cert.Kernel9Ideal.main_v7_2) = v2 c
          ∧ r.2.mem ((c.tc : Thread Cert.Kernel9Ideal.nD Cert.Kernel9Ideal.τ).loc Cert.Kernel9Ideal.main_v7_3) = v3 c
          ∧ r.2.mem ((c.tc : Thread Cert.Kernel9Ideal.nD Cert.Kernel9Ideal.τ).loc Cert.Kernel9Ideal.main_v7_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_v10) = v1 c
          ∧ r.2.mem ((c.tc : Thread Cert.Reference9Ideal.nD Cert.Reference9Ideal.τ).loc Cert.Reference9Ideal.main_v11) = v2 c
          ∧ r.2.mem ((c.tc : Thread Cert.Reference9Ideal.nD Cert.Reference9Ideal.τ).loc Cert.Reference9Ideal.main_v8) = v3 c
          ∧ r.2.mem ((c.tc : Thread Cert.Reference9Ideal.nD Cert.Reference9Ideal.τ).loc Cert.Reference9Ideal.main_v25) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  IdealRules.named_const.Statement Cert.Kernel10Ideal.κ "log2e" .f32 0x3FB8AA3B#32 (((Real.log 2)⁻¹ : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v6_0)) (v1 : (c : Dev Cert.Kernel10Ideal.nD) → Buf (Elt Ideal) ((c.tc : Thread Cert.Kernel10Ideal.nD Cert.Kernel10Ideal.τ).loc Cert.Kernel10Ideal.main_v6_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6_0) = v0 c
          ∧ r.2.mem ((c.tc : Thread Cert.Kernel10Ideal.nD Cert.Kernel10Ideal.τ).loc Cert.Kernel10Ideal.main_v6_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v35) = v0 c
          ∧ r.2.mem ((c.tc : Thread Cert.Reference10Ideal.nD Cert.Reference10Ideal.τ).loc Cert.Reference10Ideal.main_v49) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  IdealRules.named_const.Statement Cert.Kernel11Ideal.κ "q_scale" .f32 0x3E38AA3B#32 (((Real.log 256)⁻¹ : ℝ) : EReal)

def algebraic_Kernel11Ideal_Reference11Ideal_pre_finite_gnc [hKernel11Ideal : Cert.Kernel11Ideal.Facts] [hReference11Ideal : Cert.Reference11Ideal.Facts] [hPre_finite_gnc : Cert.Pre_finite_gnc.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_gnc m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v13_0)) (v1 : (c : Dev Cert.Kernel11Ideal.nD) → Buf (Elt Ideal) ((c.tc : Thread Cert.Kernel11Ideal.nD Cert.Kernel11Ideal.τ).loc Cert.Kernel11Ideal.main_v13_1)) (v2 : (c : Dev Cert.Kernel11Ideal.nD) → Buf (Elt Ideal) ((c.tc : Thread Cert.Kernel11Ideal.nD Cert.Kernel11Ideal.τ).loc Cert.Kernel11Ideal.main_v13_2)) (v3 : (c : Dev Cert.Kernel11Ideal.nD) → Buf (Elt Ideal) ((c.tc : Thread Cert.Kernel11Ideal.nD Cert.Kernel11Ideal.τ).loc Cert.Kernel11Ideal.main_v13_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v13_0) = v0 c
          ∧ r.2.mem ((c.tc : Thread Cert.Kernel11Ideal.nD Cert.Kernel11Ideal.τ).loc Cert.Kernel11Ideal.main_v13_1) = v1 c
          ∧ r.2.mem ((c.tc : Thread Cert.Kernel11Ideal.nD Cert.Kernel11Ideal.τ).loc Cert.Kernel11Ideal.main_v13_2) = v2 c
          ∧ r.2.mem ((c.tc : Thread Cert.Kernel11Ideal.nD Cert.Kernel11Ideal.τ).loc Cert.Kernel11Ideal.main_v13_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v80) = v0 c
          ∧ r.2.mem ((c.tc : Thread Cert.Reference11Ideal.nD Cert.Reference11Ideal.τ).loc Cert.Reference11Ideal.main_v81) = v1 c
          ∧ r.2.mem ((c.tc : Thread Cert.Reference11Ideal.nD Cert.Reference11Ideal.τ).loc Cert.Reference11Ideal.main_v82) = v2 c
          ∧ r.2.mem ((c.tc : Thread Cert.Reference11Ideal.nD Cert.Reference11Ideal.τ).loc Cert.Reference11Ideal.main_v83) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite_qk : Cert.Pre_finite_qk.Facts) (hPre_finite_bfold : Cert.Pre_finite_bfold.Facts) (hPre_finite_fwd : Cert.Pre_finite_fwd.Facts) (hPre_finite_gnc : Cert.Pre_finite_gnc.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_qk (hKernel6Ideal := hKernel6Ideal) (hPre_finite_qk := hPre_finite_qk)
    ∧ quiescent_Reference6Ideal (hReference6Ideal := hReference6Ideal)
    ∧ quiescent_Reference6Ideal_pre_finite_qk (hReference6Ideal := hReference6Ideal) (hPre_finite_qk := hPre_finite_qk)
    ∧ quiescent_Kernel7 (hKernel7 := hKernel7)
    ∧ quiescent_Kernel7Ideal (hKernel7Ideal := hKernel7Ideal)
    ∧ quiescent_Kernel7Ideal_pre_finite_bfold (hKernel7Ideal := hKernel7Ideal) (hPre_finite_bfold := hPre_finite_bfold)
    ∧ quiescent_Reference7Ideal (hReference7Ideal := hReference7Ideal)
    ∧ quiescent_Reference7Ideal_pre_finite_bfold (hReference7Ideal := hReference7Ideal) (hPre_finite_bfold := hPre_finite_bfold)
    ∧ quiescent_Kernel8 (hKernel8 := hKernel8)
    ∧ quiescent_Kernel8Ideal (hKernel8Ideal := hKernel8Ideal)
    ∧ quiescent_Kernel8Ideal_pre_finite_fwd (hKernel8Ideal := hKernel8Ideal) (hPre_finite_fwd := hPre_finite_fwd)
    ∧ quiescent_Reference8Ideal (hReference8Ideal := hReference8Ideal)
    ∧ quiescent_Reference8Ideal_pre_finite_fwd (hReference8Ideal := hReference8Ideal) (hPre_finite_fwd := hPre_finite_fwd)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_gnc (hKernel11Ideal := hKernel11Ideal) (hPre_finite_gnc := hPre_finite_gnc)
    ∧ quiescent_Reference11Ideal (hReference11Ideal := hReference11Ideal)
    ∧ quiescent_Reference11Ideal_pre_finite_gnc (hReference11Ideal := hReference11Ideal) (hPre_finite_gnc := hPre_finite_gnc)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_qk (hKernel6Ideal := hKernel6Ideal) (hReference6Ideal := hReference6Ideal) (hPre_finite_qk := hPre_finite_qk)
    ∧ preserves_Kernel7_Kernel7Ideal
    ∧ algebraic_Kernel7Ideal_Reference7Ideal_pre_finite_bfold (hKernel7Ideal := hKernel7Ideal) (hReference7Ideal := hReference7Ideal) (hPre_finite_bfold := hPre_finite_bfold)
    ∧ preserves_Kernel8_Kernel8Ideal
    ∧ algebraic_Kernel8Ideal_Reference8Ideal_pre_finite_fwd (hKernel8Ideal := hKernel8Ideal) (hReference8Ideal := hReference8Ideal) (hPre_finite_fwd := hPre_finite_fwd)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_gnc (hKernel11Ideal := hKernel11Ideal) (hReference11Ideal := hReference11Ideal) (hPre_finite_gnc := hPre_finite_gnc)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite_bfold.lean ====
abbrev S16x768x256 : Shape := ⟨3, ![16, 768, 256]⟩
abbrev S_ : Shape := ⟨0, ![]⟩

class Facts : Prop where
  bcast_S_S16x768x256 : S_.BroadcastsInDim S16x768x256 (![] : Fin 0 → Fin S16x768x256.rank)

variable [Facts]

def fn {F : FTy → Type} [FloatOps F] (main_arg0 : FVec F S16x768x256 .f32) : IVec S16x768x256 1 :=
  let main_v0 : FVec F S16x768x256 .f32 := Host.absf main_arg0
  let main_cst : FVec F S_ .f32 := constant S_ .f32 0x7F800000#32
  let main_v1 : FVec F S16x768x256 .f32 := broadcastInDim S16x768x256 ![] bcast_S_S16x768x256 main_cst
  let main_v2 : IVec S16x768x256 1 := cmpf .olt main_v0 main_v1
  main_v2
-- ==== Pre_finite_fwd.lean ====
abbrev S4096x1024 : Shape := ⟨2, ![4096, 1024]⟩
abbrev S4096x6144 : Shape := ⟨2, ![4096, 6144]⟩
abbrev S16x513 : Shape := ⟨2, ![16, 513]⟩
abbrev S_ : Shape := ⟨0, ![]⟩

class Facts : Prop where
  bcast_S_S4096x1024 : S_.BroadcastsInDim S4096x1024 (![] : Fin 0 → Fin S4096x1024.rank)
  bcast_S_S16x513 : S_.BroadcastsInDim S16x513 (![] : Fin 0 → Fin S16x513.rank)

variable [Facts]

def fn {F : FTy → Type} [FloatOps F] (main_arg0 : FVec F S4096x1024 .f32) (main_arg1 : FVec F S4096x1024 .f32) (main_arg2 : FVec F S4096x6144 .f32) (main_arg3 : FVec F S16x513 .f32) : IVec S4096x1024 1 × IVec S4096x1024 1 × IVec S16x513 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S16x513 .f32 := Host.absf main_arg3
  let main_cst_1 : FVec F S_ .f32 := constant S_ .f32 0x7F800000#32
  let main_v7 : FVec F S16x513 .f32 := broadcastInDim S16x513 ![] bcast_S_S16x513 main_cst_1
  let main_v8 : IVec S16x513 1 := cmpf .olt main_v6 main_v7
  (main_v2, main_v5, main_v8)
-- ==== Pre_finite_gnc.lean ====
abbrev S4096x1024 : Shape := ⟨2, ![4096, 1024]⟩
abbrev S4096x6144 : Shape := ⟨2, ![4096, 6144]⟩
abbrev S1024x2048 : Shape := ⟨2, ![1024, 2048]⟩
abbrev S2048 : Shape := ⟨1, ![2048]⟩
abbrev S64 : Shape := ⟨1, ![64]⟩
abbrev S3x1024 : Shape := ⟨2, ![3, 1024]⟩
abbrev S1024 : Shape := ⟨1, ![1024]⟩
abbrev S4096x2048 : Shape := ⟨2, ![4096, 2048]⟩
abbrev S_ : Shape := ⟨0, ![]⟩

class Facts : Prop where
  slices_S4096x6144_S4096x2048_0_0 : S4096x6144.Slices ![0, 0] S4096x2048
  bcast_S_S4096x2048 : S_.BroadcastsInDim S4096x2048 (![] : Fin 0 → Fin S4096x2048.rank)

variable [Facts]

def fn {F : FTy → Type} [FloatOps F] (main_arg0 : FVec F S4096x1024 .f32) (main_arg1 : FVec F S4096x6144 .f32) (main_arg2 : FVec F S1024x2048 .f32) (main_arg3 : FVec F S2048 .f32) (main_arg4 : FVec F S64 .f32) (main_arg5 : FVec F S64 .f32) (main_arg6 : FVec F S3x1024 .f32) (main_arg7 : FVec F S1024 .f32) : IVec S4096x2048 1 :=
  let main_v0 : FVec F S4096x2048 .f32 := (extractStridedSlice S4096x2048 ![0, 0] · slices_S4096x6144_S4096x2048_0_0) main_arg1
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  main_v3
-- ==== Pre_finite_qk.lean ====
abbrev S4096x6144 : Shape := ⟨2, ![4096, 6144]⟩
abbrev S64 : Shape := ⟨1, ![64]⟩
abbrev S4096x1024 : Shape := ⟨2, ![4096, 1024]⟩
abbrev S4096x2048 : Shape := ⟨2, ![4096, 2048]⟩
abbrev S_ : Shape := ⟨0, ![]⟩

class Facts : Prop where
  slices_S4096x6144_S4096x2048_0_0 : S4096x6144.Slices ![0, 0] S4096x2048
  bcast_S_S4096x2048 : S_.BroadcastsInDim S4096x2048 (![] : Fin 0 → Fin S4096x2048.rank)
  bcast_S_S64 : S_.BroadcastsInDim S64 (![] : Fin 0 → Fin S64.rank)
  bcast_S_S4096x1024 : S_.BroadcastsInDim S4096x1024 (![] : Fin 0 → Fin S4096x1024.rank)

variable [Facts]

def fn {F : FTy → Type} [FloatOps F] (main_arg0 : FVec F S4096x6144 .f32) (main_arg1 : FVec F S64 .f32) (main_arg2 : FVec F S64 .f32) (main_arg3 : FVec F S4096x1024 .f32) (main_arg4 : FVec F S4096x1024 .f32) : IVec S4096x2048 1 × IVec S64 1 × IVec S64 1 × IVec S4096x1024 1 × IVec S4096x1024 1 :=
  let main_v0 : FVec F S4096x2048 .f32 := (extractStridedSlice S4096x2048 ![0, 0] · slices_S4096x6144_S4096x2048_0_0) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_v7 : FVec F S64 .f32 := Host.absf main_arg2
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  let main_v10 : FVec F S4096x1024 .f32 := Host.absf main_arg3
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_v13 : FVec F S4096x1024 .f32 := Host.absf main_arg4
  let main_cst_3 : FVec F S_ .f32 := constant S_ .f32 0x7F800000#32
  let main_v14 : FVec F S4096x1024 .f32 := broadcastInDim S4096x1024 ![] bcast_S_S4096x1024 main_cst_3
  let main_v15 : IVec S4096x1024 1 := cmpf .olt main_v13 main_v14
  (main_v3, main_v6, main_v9, main_v12, main_v15)
-- ==== Kernel.lean ====
abbrev S4096x6144 : Shape := ⟨2, ![4096, 6144]⟩
abbrev S3x1024 : Shape := ⟨2, ![3, 1024]⟩
abbrev S1024 : Shape := ⟨1, ![1024]⟩
abbrev S4096x1024 : Shape := ⟨2, ![4096, 1024]⟩
abbrev S1x1024 : Shape := ⟨2, ![1, 1024]⟩
abbrev S4096x3072 : Shape := ⟨2, ![4096, 3072]⟩
abbrev S8x1024 : Shape := ⟨2, ![8, 1024]⟩
abbrev S24x1024 : Shape := ⟨2, ![24, 1024]⟩
abbrev S512x1024 : Shape := ⟨2, ![512, 1024]⟩
abbrev S512x3072 : Shape := ⟨2, ![512, 3072]⟩
abbrev S512x1 : Shape := ⟨2, ![512, 1]⟩
abbrev S64x8x1024 : Shape := ⟨3, ![64, 8, 1024]⟩
abbrev S_ : Shape := ⟨0, ![]⟩
abbrev S3x8x1024 : Shape := ⟨3, ![3, 8, 1024]⟩

abbrev nBuf : Space → Nat
  | .hbm => 15
  | .vmem => 22
  | .smem => 0
  | _ => 0

abbrev bufTy : (tb : Table) → Fin (tcTables nBuf tb) → BufTy
  | .hbm, ⟨0, _⟩ => ⟨S4096x6144, .f32⟩
  | .hbm, ⟨1, _⟩ => ⟨S3x1024, .f32⟩
  | .hbm, ⟨2, _⟩ => ⟨S1024, .f32⟩
  | .hbm, ⟨3, _⟩ => ⟨S4096x1024, .f32⟩
  | .hbm, ⟨4, _⟩ => ⟨S4096x1024, .bf16⟩
  | .hbm, ⟨5, _⟩ => ⟨S4096x6144, .bf16⟩
  | .hbm, ⟨6, _⟩ => ⟨S1x1024, .f32⟩
  | .hbm, ⟨7, _⟩ => ⟨S4096x3072, .bf16⟩
  | .hbm, ⟨8, _⟩ => ⟨S8x1024, .f32⟩
  | .hbm, ⟨9, _⟩ => ⟨S24x1024, .f32⟩
  | .hbm, ⟨10, _⟩ => ⟨S_, .f32⟩
  | .hbm, ⟨11, _⟩ => ⟨S1024, .f32⟩
  | .hbm, ⟨12, _⟩ => ⟨S3x8x1024, .f32⟩
  | .hbm, ⟨13, _⟩ => ⟨S_, .f32⟩
  | .hbm, ⟨14, _⟩ => ⟨S3x1024, .f32⟩
  | .local _ .vmem, ⟨0, _⟩ => ⟨S512x1024, .bf16⟩
  | .local _ .vmem, ⟨1, _⟩ => ⟨S512x1024, .bf16⟩
  | .local _ .vmem, ⟨2, _⟩ => ⟨S8x1024, .bf16⟩
  | .local _ .vmem, ⟨3, _⟩ => ⟨S8x1024, .bf16⟩
  | .local _ .vmem, ⟨4, _⟩ => ⟨S512x1024, .bf16⟩
  | .local _ .vmem, ⟨5, _⟩ => ⟨S512x1024, .bf16⟩
  | .local _ .vmem, ⟨6, _⟩ => ⟨S8x1024, .bf16⟩
  | .local _ .vmem, ⟨7, _⟩ => ⟨S8x1024, .bf16⟩
  | .local _ .vmem, ⟨8, _⟩ => ⟨S512x1024, .bf16⟩
  | .local _ .vmem, ⟨9, _⟩ => ⟨S512x1024, .bf16⟩
  | .local _ .vmem, ⟨10, _⟩ => ⟨S8x1024, .bf16⟩
  | .local _ .vmem, ⟨11, _⟩ => ⟨S8x1024, .bf16⟩
  | .local _ .vmem, ⟨12, _⟩ => ⟨S512x1024, .bf16⟩
  | .local _ .vmem, ⟨13, _⟩ => ⟨S512x1024, .bf16⟩
  | .local _ .vmem, ⟨14, _⟩ => ⟨S8x1024, .bf16⟩
  | .local _ .vmem, ⟨15, _⟩ => ⟨S8x1024, .bf16⟩
  | .local _ .vmem, ⟨16, _⟩ => ⟨S3x1024, .f32⟩
  | .local _ .vmem, ⟨17, _⟩ => ⟨S1x1024, .f32⟩
  | .local _ .vmem, ⟨18, _⟩ => ⟨S512x3072, .bf16⟩
  | .local _ .vmem, ⟨19, _⟩ => ⟨S512x3072, .bf16⟩
  | .local _ .vmem, ⟨20, _⟩ => ⟨S8x1024, .f32⟩
  | .local _ .vmem, ⟨21, _⟩ => ⟨S24x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c3_i32 : BitVec 32 := 3#32
  let c0_i32 : BitVec 32 := 0#32
  ![v2.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S24x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x6144 : Shape := ⟨2, ![4096, 6144]⟩
abbrev S3x1024 : Shape := ⟨2, ![3, 1024]⟩
abbrev S1024 : Shape := ⟨1, ![1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S4096x3072 : Shape := ⟨2, ![4096, 3072]⟩

abbrev nBuf : Space → Nat
  | .hbm => 99
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S3x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S2x1024, .f32⟩
  | .hbm, ⟨13, _⟩ => ⟨S4098x1024, .f32⟩
  | .hbm, ⟨14, _⟩ => ⟨S_, .f32⟩
  | .hbm, ⟨15, _⟩ => ⟨S2x1024, .f32⟩
  | .hbm, ⟨16, _⟩ => ⟨S1x1024, .f32⟩
  | .hbm, ⟨17, _⟩ => ⟨S1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S_, .f32⟩
  | .hbm, ⟨59, _⟩ => ⟨S4098x1024, .f32⟩
  | .hbm, ⟨60, _⟩ => ⟨S1x1024, .f32⟩
  | .hbm, ⟨61, _⟩ => ⟨S_, .f32⟩
  | .hbm, ⟨62, _⟩ => ⟨S3x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S_, .f32⟩
  | .hbm, ⟨72, _⟩ => ⟨S4098x1024, .f32⟩
  | .hbm, ⟨73, _⟩ => ⟨S4098x1024, .f32⟩
  | .hbm, ⟨74, _⟩ => ⟨S1x1024, .f32⟩
  | .hbm, ⟨75, _⟩ => ⟨S_, .f32⟩
  | .hbm, ⟨76, _⟩ => ⟨S3x1024, .f32⟩
  | .hbm, ⟨77, _⟩ => ⟨S3x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S_, .f32⟩
  | .hbm, ⟨85, _⟩ => ⟨S1024, .f32⟩
  | .hbm, ⟨86, _⟩ => ⟨S_, .f32⟩
  | .hbm, ⟨87, _⟩ => ⟨S4098x1024, .f32⟩
  | .hbm, ⟨88, _⟩ => ⟨S4098x1024, .f32⟩
  | .hbm, ⟨89, _⟩ => ⟨S1x1024, .f32⟩
  | .hbm, ⟨90, _⟩ => ⟨S_, .f32⟩
  | .hbm, ⟨91, _⟩ => ⟨S3x1024, .f32⟩
  | .hbm, ⟨92, _⟩ => ⟨S3x1024, .f32⟩
  | .hbm, ⟨93, _⟩ => ⟨S2x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x3072, .f32⟩
  | .hbm, ⟨98, _⟩ => ⟨S4096x3072, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Kernel2.lean ====
abbrev S4096x1024 : Shape := ⟨2, ![4096, 1024]⟩
abbrev S1024x1024 : Shape := ⟨2, ![1024, 1024]⟩
abbrev S1024x2048 : Shape := ⟨2, ![1024, 2048]⟩
abbrev S2048 : Shape := ⟨1, ![2048]⟩
abbrev S4096x2048 : Shape := ⟨2, ![4096, 2048]⟩
abbrev S1x2048 : Shape := ⟨2, ![1, 2048]⟩
abbrev S_ : Shape := ⟨0, ![]⟩
abbrev S8x2048 : Shape := ⟨2, ![8, 2048]⟩
abbrev S512x1024 : Shape := ⟨2, ![512, 1024]⟩
abbrev S512x2048 : Shape := ⟨2, ![512, 2048]⟩
abbrev S8x1024 : Shape := ⟨2, ![8, 1024]⟩
abbrev S64x8x1024 : Shape := ⟨3, ![64, 8, 1024]⟩

abbrev nBuf : Space → Nat
  | .hbm => 40
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x2048, .f32⟩
  | .hbm, ⟨6, _⟩ => ⟨S2048, .f32⟩
  | .hbm, ⟨7, _⟩ => ⟨S1024x1024, .f32⟩
  | .hbm, ⟨8, _⟩ => ⟨S4096x1024, .f32⟩
  | .hbm, ⟨9, _⟩ => ⟨S4096x2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .bf16⟩
  | .hbm, ⟨22, _⟩ => ⟨S4096x1024, .f32⟩
  | .hbm, ⟨23, _⟩ => ⟨S4096x1024, .bf16⟩
  | .hbm, ⟨24, _⟩ => ⟨S4096x1024, .f32⟩
  | .hbm, ⟨25, _⟩ => ⟨S4096x1024, .bf16⟩
  | .hbm, ⟨26, _⟩ => ⟨S4096x1024, .bf16⟩
  | .hbm, ⟨27, _⟩ => ⟨S1024x1024, .bf16⟩
  | .hbm, ⟨28, _⟩ => ⟨S1024x1024, .bf16⟩
  | .hbm, ⟨29, _⟩ => ⟨S1024x1024, .bf16⟩
  | .hbm, ⟨30, _⟩ => ⟨S1024x2048, .bf16⟩
  | .hbm, ⟨31, _⟩ => ⟨S4096x2048, .bf16⟩
  | .hbm, ⟨32, _⟩ => ⟨S4096x1024, .bf16⟩
  | .hbm, ⟨33, _⟩ => ⟨S4096x1024, .bf16⟩
  | .hbm, ⟨34, _⟩ => ⟨S4096x1024, .bf16⟩
  | .hbm, ⟨35, _⟩ => ⟨S4096x1024, .bf16⟩
  | .hbm, ⟨36, _⟩ => ⟨S4096x1024, .f32⟩
  | .hbm, ⟨37, _⟩ => ⟨S8x2048, .f32⟩
  | .hbm, ⟨38, _⟩ => ⟨S_, .f32⟩
  | .hbm, ⟨39, _⟩ => ⟨S2048, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S8x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev main_v20_4 : Ref sig .tc := ⟨.hbm, 35, rfl⟩
abbrev main_v20_5 : Ref sig .tc := ⟨.hbm, 36, rfl⟩
abbrev main_v20_6 : Ref sig .tc := ⟨.hbm, 37, rfl⟩
abbrev main_cst_1 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference2Ideal.lean ====
abbrev S4096x1024 : Shape := ⟨2, ![4096, 1024]⟩
abbrev S1024x1024 : Shape := ⟨2, ![1024, 1024]⟩
abbrev S1024x2048 : Shape := ⟨2, ![1024, 2048]⟩
abbrev S2048 : Shape := ⟨1, ![2048]⟩
abbrev S4096x2048 : Shape := ⟨2, ![4096, 2048]⟩
abbrev S1x2048 : Shape := ⟨2, ![1, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x2048, .f32⟩
  | .hbm, ⟨6, _⟩ => ⟨S2048, .f32⟩
  | .hbm, ⟨7, _⟩ => ⟨S1024x1024, .f32⟩
  | .hbm, ⟨8, _⟩ => ⟨S4096x1024, .f32⟩
  | .hbm, ⟨9, _⟩ => ⟨S4096x2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x1024, .f32⟩
  | .hbm, ⟨14, _⟩ => ⟨S4096x1024, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S_, .f32⟩
  | .hbm, ⟨44, _⟩ => ⟨S2048, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x2048, .bf16⟩
  | .hbm, ⟨49, _⟩ => ⟨S4096x1024, .bf16⟩
  | .hbm, ⟨50, _⟩ => ⟨S4096x1024, .bf16⟩
  | .hbm, ⟨51, _⟩ => ⟨S4096x1024, .bf16⟩
  | .hbm, ⟨52, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel3.lean ====
abbrev S4096x1024 : Shape := ⟨2, ![4096, 1024]⟩
abbrev S1024x4096 : Shape := ⟨2, ![1024, 4096]⟩
abbrev S4096x4096 : Shape := ⟨2, ![4096, 4096]⟩
abbrev S8x1024 : Shape := ⟨2, ![8, 1024]⟩
abbrev S512x1024 : Shape := ⟨2, ![512, 1024]⟩
abbrev S512x4096 : Shape := ⟨2, ![512, 4096]⟩
abbrev S1024x1024 : Shape := ⟨2, ![1024, 1024]⟩
abbrev S64x8x1024 : Shape := ⟨3, ![64, 8, 1024]⟩
abbrev S_ : Shape := ⟨0, ![]⟩

abbrev nBuf : Space → Nat
  | .hbm => 16
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1024x4096, .bf16⟩
  | .hbm, ⟨7, _⟩ => ⟨S4096x1024, .bf16⟩
  | .hbm, ⟨8, _⟩ => ⟨S4096x4096, .bf16⟩
  | .hbm, ⟨9, _⟩ => ⟨S4096x1024, .f32⟩
  | .hbm, ⟨10, _⟩ => ⟨S4096x1024, .bf16⟩
  | .hbm, ⟨11, _⟩ => ⟨S8x1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x4096, .bf16⟩
  | .local _ .vmem, ⟨9, _⟩ => ⟨S512x4096, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x1024, .f32⟩
  | .hbm, ⟨34, _⟩ => ⟨S4096x1024, .f32⟩
  | .hbm, ⟨35, _⟩ => ⟨S4096x4096, .bf16⟩
  | .hbm, ⟨36, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_cst_4 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S8x1024 : Shape := ⟨2, ![8, 1024]⟩
abbrev S512x1024 : Shape := ⟨2, ![512, 1024]⟩
abbrev S512x4096 : Shape := ⟨2, ![512, 4096]⟩
abbrev S1024x1024 : Shape := ⟨2, ![1024, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 33
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S4096x4096, .bf16⟩
  | .hbm, ⟨23, _⟩ => ⟨S4096x1024, .bf16⟩
  | .hbm, ⟨24, _⟩ => ⟨S4096x1024, .bf16⟩
  | .hbm, ⟨25, _⟩ => ⟨S1024x4096, .bf16⟩
  | .hbm, ⟨26, _⟩ => ⟨S1x1024, .f32⟩
  | .hbm, ⟨27, _⟩ => ⟨S4096x4096, .bf16⟩
  | .hbm, ⟨28, _⟩ => ⟨S4096x1024, .f32⟩
  | .hbm, ⟨29, _⟩ => ⟨S4096x1024, .bf16⟩
  | .hbm, ⟨30, _⟩ => ⟨S8x1024, .f32⟩
  | .hbm, ⟨31, _⟩ => ⟨S_, .f32⟩
  | .hbm, ⟨32, _⟩ => ⟨S1024, .f32⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S1024x4096, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x4096, .bf16⟩
  | .local _ .vmem, ⟨12, _⟩ => ⟨S512x4096, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev main_cst_2 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x4096, .bf16⟩
  | .hbm, ⟨72, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x6144 : Shape := ⟨2, ![1024, 6144]⟩
abbrev S4096x6144 : Shape := ⟨2, ![4096, 6144]⟩
abbrev S4096x2048 : Shape := ⟨2, ![4096, 2048]⟩
abbrev S4096x3072 : Shape := ⟨2, ![4096, 3072]⟩
abbrev S1x1024 : Shape := ⟨2, ![1, 1024]⟩
abbrev S8x1024 : Shape := ⟨2, ![8, 1024]⟩
abbrev S512x2048 : Shape := ⟨2, ![512, 2048]⟩
abbrev S512x1024 : Shape := ⟨2, ![512, 1024]⟩
abbrev S512x3072 : Shape := ⟨2, ![512, 3072]⟩
abbrev S1024x1024 : Shape := ⟨2, ![1024, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 16
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S4096x6144, .f32⟩
  | .hbm, ⟨4, _⟩ => ⟨S4096x1024, .f32⟩
  | .hbm, ⟨5, _⟩ => ⟨S4096x1024, .f32⟩
  | .hbm, ⟨6, _⟩ => ⟨S4096x6144, .bf16⟩
  | .hbm, ⟨7, _⟩ => ⟨S4096x2048, .bf16⟩
  | .hbm, ⟨8, _⟩ => ⟨S4096x1024, .bf16⟩
  | .hbm, ⟨9, _⟩ => ⟨S4096x3072, .bf16⟩
  | .hbm, ⟨10, _⟩ => ⟨S1024x6144, .bf16⟩
  | .hbm, ⟨11, _⟩ => ⟨S1x1024, .f32⟩
  | .hbm, ⟨12, _⟩ => ⟨S4096x1024, .f32⟩
  | .hbm, ⟨13, _⟩ => ⟨S8x1024, .f32⟩
  | .hbm, ⟨14, _⟩ => ⟨S_, .f32⟩
  | .hbm, ⟨15, _⟩ => ⟨S1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x3072, .bf16⟩
  | .local _ .vmem, ⟨5, _⟩ => ⟨S512x3072, .bf16⟩
  | .local _ .vmem, ⟨6, _⟩ => ⟨S1024x6144, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_cst : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S4096x1024 : Shape := ⟨2, ![4096, 1024]⟩
abbrev S1024 : Shape := ⟨1, ![1024]⟩
abbrev S1024x6144 : Shape := ⟨2, ![1024, 6144]⟩
abbrev S4096x6144 : Shape := ⟨2, ![4096, 6144]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S4096x6144, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x6144, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel6.lean ====
abbrev S4096x6144 : Shape := ⟨2, ![4096, 6144]⟩
abbrev S64 : Shape := ⟨1, ![64]⟩
abbrev S4096x1024 : Shape := ⟨2, ![4096, 1024]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S4096x2048 : Shape := ⟨2, ![4096, 2048]⟩
abbrev S8x1024 : Shape := ⟨2, ![8, 1024]⟩
abbrev S512x1024 : Shape := ⟨2, ![512, 1024]⟩
abbrev S512x2048 : Shape := ⟨2, ![512, 2048]⟩
abbrev S128x128 : Shape := ⟨2, ![128, 128]⟩
abbrev S512x128 : Shape := ⟨2, ![512, 128]⟩
abbrev S8x128 : Shape := ⟨2, ![8, 128]⟩
abbrev S64x8x128 : Shape := ⟨3, ![64, 8, 128]⟩
abbrev S1x128 : Shape := ⟨2, ![1, 128]⟩
abbrev S128x64 : Shape := ⟨2, ![128, 64]⟩
abbrev S_ : Shape := ⟨0, ![]⟩

abbrev nBuf : Space → Nat
  | .hbm => 25
  | .vmem => 14
  | .smem => 0
  | _ => 0

abbrev bufTy : (tb : Table) → Fin (tcTables nBuf tb) → BufTy
  | .hbm, ⟨0, _⟩ => ⟨S4096x6144, .f32⟩
  | .hbm, ⟨1, _⟩ => ⟨S64, .f32⟩
  | .hbm, ⟨2, _⟩ => ⟨S64, .f32⟩
  | .hbm, ⟨3, _⟩ => ⟨S4096x1024, .f32⟩
  | .hbm, ⟨4, _⟩ => ⟨S4096x1024, .f32⟩
  | .hbm, ⟨5, _⟩ => ⟨S1x64, .f32⟩
  | .hbm, ⟨6, _⟩ => ⟨S16x64, .f32⟩
  | .hbm, ⟨7, _⟩ => ⟨S1024, .f32⟩
  | .hbm, ⟨8, _⟩ => ⟨S1x1024, .f32⟩
  | .hbm, ⟨9, _⟩ => ⟨S1x64, .f32⟩
  | .hbm, ⟨10, _⟩ => ⟨S16x64, .f32⟩
  | .hbm, ⟨11, _⟩ => ⟨S1024, .f32⟩
  | .hbm, ⟨12, _⟩ => ⟨S1x1024, .f32⟩
  | .hbm, ⟨13, _⟩ => ⟨S4096x6144, .bf16⟩
  | .hbm, ⟨14, _⟩ => ⟨S4096x1024, .bf16⟩
  | .hbm, ⟨15, _⟩ => ⟨S4096x1024, .bf16⟩
  | .hbm, ⟨16, _⟩ => ⟨S4096x2048, .bf16⟩
  | .hbm, ⟨17, _⟩ => ⟨S8x1024, .f32⟩
  | .hbm, ⟨18, _⟩ => ⟨S8x1024, .f32⟩
  | .hbm, ⟨19, _⟩ => ⟨S128x64, .f32⟩
  | .hbm, ⟨20, _⟩ => ⟨S_, .f32⟩
  | .hbm, ⟨21, _⟩ => ⟨S64, .f32⟩
  | .hbm, ⟨22, _⟩ => ⟨S128x64, .f32⟩
  | .hbm, ⟨23, _⟩ => ⟨S_, .f32⟩
  | .hbm, ⟨24, _⟩ => ⟨S64, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S512x2048, .bf16⟩
  | .local _ .vmem, ⟨11, _⟩ => ⟨S512x2048, .bf16⟩
  | .local _ .vmem, ⟨12, _⟩ => ⟨S8x1024, .f32⟩
  | .local _ .vmem, ⟨13, _⟩ => ⟨S8x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S4096x6144 : Shape := ⟨2, ![4096, 6144]⟩
abbrev S64 : Shape := ⟨1, ![64]⟩
abbrev S4096x1024 : Shape := ⟨2, ![4096, 1024]⟩
abbrev S4096x16x64 : Shape := ⟨3, ![4096, 16, 64]⟩
abbrev S_ : Shape := ⟨0, ![]⟩
abbrev S4096x16 : Shape := ⟨2, ![4096, 16]⟩
abbrev S4096x16x1 : Shape := ⟨3, ![4096, 16, 1]⟩
abbrev S1x1x64 : Shape := ⟨3, ![1, 1, 64]⟩
abbrev S4096x2048 : Shape := ⟨2, ![4096, 2048]⟩

abbrev nBuf : Space → Nat
  | .hbm => 113
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S64, .f32⟩
  | .hbm, ⟨2, _⟩ => ⟨S64, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x16x64, .f32⟩
  | .hbm, ⟨8, _⟩ => ⟨S4096x16x64, .f32⟩
  | .hbm, ⟨9, _⟩ => ⟨S_, .f32⟩
  | .hbm, ⟨10, _⟩ => ⟨S4096x16, .f32⟩
  | .hbm, ⟨11, _⟩ => ⟨S4096x16x1, .f32⟩
  | .hbm, ⟨12, _⟩ => ⟨S_, .f32⟩
  | .hbm, ⟨13, _⟩ => ⟨S4096x16x1, .f32⟩
  | .hbm, ⟨14, _⟩ => ⟨S4096x16x1, .f32⟩
  | .hbm, ⟨15, _⟩ => ⟨S_, .f32⟩
  | .hbm, ⟨16, _⟩ => ⟨S4096x16x1, .f32⟩
  | .hbm, ⟨17, _⟩ => ⟨S4096x16x1, .f32⟩
  | .hbm, ⟨18, _⟩ => ⟨S4096x16x1, .f32⟩
  | .hbm, ⟨19, _⟩ => ⟨S4096x16x1, .f32⟩
  | .hbm, ⟨20, _⟩ => ⟨S_, .f32⟩
  | .hbm, ⟨21, _⟩ => ⟨S4096x16x1, .f32⟩
  | .hbm, ⟨22, _⟩ => ⟨S4096x16x1, .f32⟩
  | .hbm, ⟨23, _⟩ => ⟨S4096x16x64, .f32⟩
  | .hbm, ⟨24, _⟩ => ⟨S4096x16x64, .f32⟩
  | .hbm, ⟨25, _⟩ => ⟨S1x1x64, .f32⟩
  | .hbm, ⟨26, _⟩ => ⟨S4096x16x64, .f32⟩
  | .hbm, ⟨27, _⟩ => ⟨S4096x16x64, .f32⟩
  | .hbm, ⟨28, _⟩ => ⟨S_, .f32⟩
  | .hbm, ⟨29, _⟩ => ⟨S4096x16x64, .f32⟩
  | .hbm, ⟨30, _⟩ => ⟨S4096x16x64, .f32⟩
  | .hbm, ⟨31, _⟩ => ⟨S4096x16x64, .f32⟩
  | .hbm, ⟨32, _⟩ => ⟨S4096x16x64, .f32⟩
  | .hbm, ⟨33, _⟩ => ⟨S_, .f32⟩
  | .hbm, ⟨34, _⟩ => ⟨S4096x16, .f32⟩
  | .hbm, ⟨35, _⟩ => ⟨S4096x16x1, .f32⟩
  | .hbm, ⟨36, _⟩ => ⟨S_, .f32⟩
  | .hbm, ⟨37, _⟩ => ⟨S4096x16x1, .f32⟩
  | .hbm, ⟨38, _⟩ => ⟨S4096x16x1, .f32⟩
  | .hbm, ⟨39, _⟩ => ⟨S_, .f32⟩
  | .hbm, ⟨40, _⟩ => ⟨S4096x16x1, .f32⟩
  | .hbm, ⟨41, _⟩ => ⟨S4096x16x1, .f32⟩
  | .hbm, ⟨42, _⟩ => ⟨S4096x16x1, .f32⟩
  | .hbm, ⟨43, _⟩ => ⟨S4096x16x1, .f32⟩
  | .hbm, ⟨44, _⟩ => ⟨S_, .f32⟩
  | .hbm, ⟨45, _⟩ => ⟨S4096x16x1, .f32⟩
  | .hbm, ⟨46, _⟩ => ⟨S4096x16x1, .f32⟩
  | .hbm, ⟨47, _⟩ => ⟨S4096x16x64, .f32⟩
  | .hbm, ⟨48, _⟩ => ⟨S4096x16x64, .f32⟩
  | .hbm, ⟨49, _⟩ => ⟨S1x1x64, .f32⟩
  | .hbm, ⟨50, _⟩ => ⟨S4096x16x64, .f32⟩
  | .hbm, ⟨51, _⟩ => ⟨S4096x16x64, .f32⟩
  | .hbm, ⟨52, _⟩ => ⟨S4096x1024, .f32⟩
  | .hbm, ⟨53, _⟩ => ⟨S4096x1024, .f32⟩
  | .hbm, ⟨54, _⟩ => ⟨S4096x16x64, .f32⟩
  | .hbm, ⟨55, _⟩ => ⟨S4096x16x64, .f32⟩
  | .hbm, ⟨56, _⟩ => ⟨S4096x16x64, .f32⟩
  | .hbm, ⟨57, _⟩ => ⟨S_, .f32⟩
  | .hbm, ⟨58, _⟩ => ⟨S64, .f32⟩
  | .hbm, ⟨59, _⟩ => ⟨S1x1x64, .f32⟩
  | .hbm, ⟨60, _⟩ => ⟨S4096x16x64, .f32⟩
  | .hbm, ⟨61, _⟩ => ⟨S4096x16x64, .f32⟩
  | .hbm, ⟨62, _⟩ => ⟨S_, .f32⟩
  | .hbm, ⟨63, _⟩ => ⟨S64, .f32⟩
  | .hbm, ⟨64, _⟩ => ⟨S4096x16x64, .f32⟩
  | .hbm, ⟨65, _⟩ => ⟨S_, .f32⟩
  | .hbm, ⟨66, _⟩ => ⟨S4096x16, .f32⟩
  | .hbm, ⟨67, _⟩ => ⟨S4096x16x1, .f32⟩
  | .hbm, ⟨68, _⟩ => ⟨S4096x16x64, .f32⟩
  | .hbm, ⟨69, _⟩ => ⟨S4096x16x64, .f32⟩
  | .hbm, ⟨70, _⟩ => ⟨S4096x16x1, .f32⟩
  | .hbm, ⟨71, _⟩ => ⟨S_, .f32⟩
  | .hbm, ⟨72, _⟩ => ⟨S4096x16x1, .f32⟩
  | .hbm, ⟨73, _⟩ => ⟨S4096x16x1, .f32⟩
  | .hbm, ⟨74, _⟩ => ⟨S_, .f32⟩
  | .hbm, ⟨75, _⟩ => ⟨S4096x16, .f32⟩
  | .hbm, ⟨76, _⟩ => ⟨S4096x16x64, .f32⟩
  | .hbm, ⟨77, _⟩ => ⟨S4096x16x64, .f32⟩
  | .hbm, ⟨78, _⟩ => ⟨S4096x16x64, .f32⟩
  | .hbm, ⟨79, _⟩ => ⟨S4096x16x64, .f32⟩
  | .hbm, ⟨80, _⟩ => ⟨S4096x16x64, .f32⟩
  | .hbm, ⟨81, _⟩ => ⟨S4096x1024, .f32⟩
  | .hbm, ⟨82, _⟩ => ⟨S_, .f32⟩
  | .hbm, ⟨83, _⟩ => ⟨S4096x16x64, .f32⟩
  | .hbm, ⟨84, _⟩ => ⟨S4096x16x64, .f32⟩
  | .hbm, ⟨85, _⟩ => ⟨S4096x16x64, .f32⟩
  | .hbm, ⟨86, _⟩ => ⟨S_, .f32⟩
  | .hbm, ⟨87, _⟩ => ⟨S64, .f32⟩
  | .hbm, ⟨88, _⟩ => ⟨S1x1x64, .f32⟩
  | .hbm, ⟨89, _⟩ => ⟨S4096x16x64, .f32⟩
  | .hbm, ⟨90, _⟩ => ⟨S4096x16x64, .f32⟩
  | .hbm, ⟨91, _⟩ => ⟨S_, .f32⟩
  | .hbm, ⟨92, _⟩ => ⟨S64, .f32⟩
  | .hbm, ⟨93, _⟩ => ⟨S4096x16x64, .f32⟩
  | .hbm, ⟨94, _⟩ => ⟨S_, .f32⟩
  | .hbm, ⟨95, _⟩ => ⟨S4096x16, .f32⟩
  | .hbm, ⟨96, _⟩ => ⟨S4096x16x1, .f32⟩
  | .hbm, ⟨97, _⟩ => ⟨S4096x16x64, .f32⟩
  | .hbm, ⟨98, _⟩ => ⟨S4096x16x64, .f32⟩
  | .hbm, ⟨99, _⟩ => ⟨S4096x16x1, .f32⟩
  | .hbm, ⟨100, _⟩ => ⟨S_, .f32⟩
  | .hbm, ⟨101, _⟩ => ⟨S4096x16x1, .f32⟩
  | .hbm, ⟨102, _⟩ => ⟨S4096x16x1, .f32⟩
  | .hbm, ⟨103, _⟩ => ⟨S_, .f32⟩
  | .hbm, ⟨104, _⟩ => ⟨S4096x16, .f32⟩
  | .hbm, ⟨105, _⟩ => ⟨S4096x16x64, .f32⟩
  | .hbm, ⟨106, _⟩ => ⟨S4096x16x64, .f32⟩
  | .hbm, ⟨107, _⟩ => ⟨S4096x16x64, .f32⟩
  | .hbm, ⟨108, _⟩ => ⟨S4096x16x64, .f32⟩
  | .hbm, ⟨109, _⟩ => ⟨S4096x16x64, .f32⟩
  | .hbm, ⟨110, _⟩ => ⟨S4096x1024, .f32⟩
  | .hbm, ⟨111, _⟩ => ⟨S4096x2048, .f32⟩
  | .hbm, ⟨112, _⟩ => ⟨S4096x2048, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_13 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_14 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_15 : Ref sig .tc := ⟨.hbm, 91, rfl⟩
abbrev main_v70 : Ref sig .tc := ⟨.hbm, 92, rfl⟩
abbrev main_v71 : Ref sig .tc := ⟨.hbm, 93, rfl⟩
abbrev main_cst_16 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_17 : Ref sig .tc := ⟨.hbm, 100, rfl⟩
abbrev main_v77 : Ref sig .tc := ⟨.hbm, 101, rfl⟩
abbrev main_v78 : Ref sig .tc := ⟨.hbm, 102, rfl⟩
abbrev main_cst_18 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩

abbrev nD : Nat := 1
abbrev τ : Topo := Topo.v7x

variable {F : FTy → Type} [FloatOps F]
-- ==== Kernel7.lean ====
abbrev S16x768x256 : Shape := ⟨3, ![16, 768, 256]⟩
abbrev S16x8x256 : Shape := ⟨3, ![16, 8, 256]⟩
abbrev S1x768x256 : Shape := ⟨3, ![1, 768, 256]⟩
abbrev S1x8x256 : Shape := ⟨3, ![1, 8, 256]⟩
abbrev S256x256 : Shape := ⟨2, ![256, 256]⟩
abbrev S1x256x256 : Shape := ⟨3, ![1, 256, 256]⟩
abbrev S256 : Shape := ⟨1, ![256]⟩
abbrev S1x256 : Shape := ⟨2, ![1, 256]⟩
abbrev S8x256 : Shape := ⟨2, ![8, 256]⟩
abbrev S1x1x256 : Shape := ⟨3, ![1, 1, 256]⟩
abbrev S1 : Shape := ⟨1, ![1]⟩
abbrev S1x1 : Shape := ⟨2, ![1, 1]⟩
abbrev S16x1x256 : Shape := ⟨3, ![16, 1, 256]⟩
abbrev S16x256 : Shape := ⟨2, ![16, 256]⟩
abbrev S16x1x1 : Shape := ⟨3, ![16, 1, 1]⟩
abbrev S16x1 : Shape := ⟨2, ![16, 1]⟩
abbrev S16x513 : Shape := ⟨2, ![16, 513]⟩

abbrev nBuf : Space → Nat
  | .hbm => 11
  | .vmem => 4
  | .smem => 0
  | _ => 0

abbrev bufTy : (tb : Table) → Fin (tcTables nBuf tb) → BufTy
  | .hbm, ⟨0, _⟩ => ⟨S16x768x256, .f32⟩
  | .hbm, ⟨1, _⟩ => ⟨S16x8x256, .f32⟩
  | .hbm, ⟨2, _⟩ => ⟨S16x1x256, .f32⟩
  | .hbm, ⟨3, _⟩ => ⟨S16x256, .f32⟩
  | .hbm, ⟨4, _⟩ => ⟨S16x256, .f32⟩
  | .hbm, ⟨5, _⟩ => ⟨S16x1x256, .f32⟩
  | .hbm, ⟨6, _⟩ => ⟨S16x256, .f32⟩
  | .hbm, ⟨7, _⟩ => ⟨S16x256, .f32⟩
  | .hbm, ⟨8, _⟩ => ⟨S16x1x1, .f32⟩
  | .hbm, ⟨9, _⟩ => ⟨S16x1, .f32⟩
  | .hbm, ⟨10, _⟩ => ⟨S16x513, .f32⟩
  | .local _ .vmem, ⟨0, _⟩ => ⟨S1x768x256, .f32⟩
  | .local _ .vmem, ⟨1, _⟩ => ⟨S1x768x256, .f32⟩
  | .local _ .vmem, ⟨2, _⟩ => ⟨S1x8x256, .f32⟩
  | .local _ .vmem, ⟨3, _⟩ => ⟨S1x8x256, .f32⟩
  | _, _ => ⟨S16x768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference7Ideal.lean ====
abbrev S16x768x256 : Shape := ⟨3, ![16, 768, 256]⟩
abbrev S_ : Shape := ⟨0, ![]⟩
abbrev S16x513 : Shape := ⟨2, ![16, 513]⟩
abbrev S256 : Shape := ⟨1, ![256]⟩
abbrev S1x256 : Shape := ⟨2, ![1, 256]⟩
abbrev S768 : Shape := ⟨1, ![768]⟩
abbrev S768x1 : Shape := ⟨2, ![768, 1]⟩
abbrev S768x256 : Shape := ⟨2, ![768, 256]⟩
abbrev S768x256x1 : Shape := ⟨3, ![768, 256, 1]⟩

abbrev nBuf : Space → Nat
  | .hbm => 36
  | .vmem => 0
  | .smem => 0
  | _ => 0

abbrev bufTy : (tb : Table) → Fin (tcTables nBuf tb) → BufTy
  | .hbm, ⟨0, _⟩ => ⟨S16x768x256, .f32⟩
  | .hbm, ⟨1, _⟩ => ⟨S_, .f32⟩
  | .hbm, ⟨2, _⟩ => ⟨S16x513, .f32⟩
  | .hbm, ⟨3, _⟩ => ⟨S256, .i32⟩
  | .hbm, ⟨4, _⟩ => ⟨S1x256, .i32⟩
  | .hbm, ⟨5, _⟩ => ⟨S768, .i32⟩
  | .hbm, ⟨6, _⟩ => ⟨S768x1, .i32⟩
  | .hbm, ⟨7, _⟩ => ⟨S768x256, .i32⟩
  | .hbm, ⟨8, _⟩ => ⟨S768x256, .i32⟩
  | .hbm, ⟨9, _⟩ => ⟨S768x256, .i32⟩
  | .hbm, ⟨10, _⟩ => ⟨S_, .i32⟩
  | .hbm, ⟨11, _⟩ => ⟨S768x256, .i32⟩
  | .hbm, ⟨12, _⟩ => ⟨S768x256, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S768x256, .i32⟩
  | .hbm, ⟨17, _⟩ => ⟨S768x256, .i32⟩
  | .hbm, ⟨18, _⟩ => ⟨S_, .i32⟩
  | .hbm, ⟨19, _⟩ => ⟨S768x256, .i32⟩
  | .hbm, ⟨20, _⟩ => ⟨S768x256, .i32⟩
  | .hbm, ⟨21, _⟩ => ⟨S_, .i32⟩
  | .hbm, ⟨22, _⟩ => ⟨S768x256, .i32⟩
  | .hbm, ⟨23, _⟩ => ⟨S768x256, .i32⟩
  | .hbm, ⟨24, _⟩ => ⟨S_, .i32⟩
  | .hbm, ⟨25, _⟩ => ⟨S768x256, .i32⟩
  | .hbm, ⟨26, _⟩ => ⟨S768x256, .i1⟩
  | .hbm, ⟨27, _⟩ => ⟨S_, .i32⟩
  | .hbm, ⟨28, _⟩ => ⟨S768x256, .i32⟩
  | .hbm, ⟨29, _⟩ => ⟨S768x256, .i32⟩
  | .hbm, ⟨30, _⟩ => ⟨S768x256, .i32⟩
  | .hbm, ⟨31, _⟩ => ⟨S768x256x1, .i32⟩
  | .hbm, ⟨32, _⟩ => ⟨S16x768x256, .f32⟩
  | .hbm, ⟨33, _⟩ => ⟨S_, .f32⟩
  | .hbm, ⟨34, _⟩ => ⟨S16x513, .f32⟩
  | .hbm, ⟨35, _⟩ => ⟨S16x513, .f32⟩
  | _, _ => ⟨S16x768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== Kernel8.lean ====
abbrev S4096x1024 : Shape := ⟨2, ![4096, 1024]⟩
abbrev S4096x6144 : Shape := ⟨2, ![4096, 6144]⟩
abbrev S16x513 : Shape := ⟨2, ![16, 513]⟩
abbrev S_ : Shape := ⟨0, ![]⟩
abbrev S768 : Shape := ⟨1, ![768]⟩
abbrev S768x1 : Shape := ⟨2, ![768, 1]⟩
abbrev S256 : Shape := ⟨1, ![256]⟩
abbrev S1x256 : Shape := ⟨2, ![1, 256]⟩
abbrev S768x256 : Shape := ⟨2, ![768, 256]⟩
abbrev S1x768x256 : Shape := ⟨3, ![1, 768, 256]⟩
abbrev S768x256x1 : Shape := ⟨3, ![768, 256, 1]⟩
abbrev S16x768x256 : Shape := ⟨3, ![16, 768, 256]⟩
abbrev S16x4096 : Shape := ⟨2, ![16, 4096]⟩
abbrev S256x1024 : Shape := ⟨2, ![256, 1024]⟩
abbrev S16x256 : Shape := ⟨2, ![16, 256]⟩
abbrev S1x128 : Shape := ⟨2, ![1, 128]⟩
abbrev S256x128 : Shape := ⟨2, ![256, 128]⟩
abbrev S768x128 : Shape := ⟨2, ![768, 128]⟩
abbrev S128x768 : Shape := ⟨2, ![128, 768]⟩
abbrev S64x768 : Shape := ⟨2, ![64, 768]⟩
abbrev S8x768 : Shape := ⟨2, ![8, 768]⟩
abbrev S72x768 : Shape := ⟨2, ![72, 768]⟩
abbrev S72x256 : Shape := ⟨2, ![72, 256]⟩
abbrev S64x256 : Shape := ⟨2, ![64, 256]⟩
abbrev S128x256 : Shape := ⟨2, ![128, 256]⟩

abbrev nBuf : Space → Nat
  | .hbm => 106
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x6144, .f32⟩
  | .hbm, ⟨3, _⟩ => ⟨S16x513, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S768, .i32⟩
  | .hbm, ⟨8, _⟩ => ⟨S768x1, .i32⟩
  | .hbm, ⟨9, _⟩ => ⟨S_, .i32⟩
  | .hbm, ⟨10, _⟩ => ⟨S_, .i32⟩
  | .hbm, ⟨11, _⟩ => ⟨S768x1, .i32⟩
  | .hbm, ⟨12, _⟩ => ⟨S768x1, .i32⟩
  | .hbm, ⟨13, _⟩ => ⟨S768x1, .i32⟩
  | .hbm, ⟨14, _⟩ => ⟨S_, .i32⟩
  | .hbm, ⟨15, _⟩ => ⟨S768x1, .i32⟩
  | .hbm, ⟨16, _⟩ => ⟨S768x1, .i1⟩
  | .hbm, ⟨17, _⟩ => ⟨S768x1, .i32⟩
  | .hbm, ⟨18, _⟩ => ⟨S768x1, .i32⟩
  | .hbm, ⟨19, _⟩ => ⟨S_, .i32⟩
  | .hbm, ⟨20, _⟩ => ⟨S768x1, .i32⟩
  | .hbm, ⟨21, _⟩ => ⟨S768x1, .i1⟩
  | .hbm, ⟨22, _⟩ => ⟨S768x1, .i1⟩
  | .hbm, ⟨23, _⟩ => ⟨S_, .i32⟩
  | .hbm, ⟨24, _⟩ => ⟨S768x1, .i32⟩
  | .hbm, ⟨25, _⟩ => ⟨S768x1, .i32⟩
  | .hbm, ⟨26, _⟩ => ⟨S768x1, .i32⟩
  | .hbm, ⟨27, _⟩ => ⟨S256, .i32⟩
  | .hbm, ⟨28, _⟩ => ⟨S1x256, .i32⟩
  | .hbm, ⟨29, _⟩ => ⟨S_, .i32⟩
  | .hbm, ⟨30, _⟩ => ⟨S_, .i32⟩
  | .hbm, ⟨31, _⟩ => ⟨S1x256, .i32⟩
  | .hbm, ⟨32, _⟩ => ⟨S1x256, .i32⟩
  | .hbm, ⟨33, _⟩ => ⟨S1x256, .i32⟩
  | .hbm, ⟨34, _⟩ => ⟨S_, .i32⟩
  | .hbm, ⟨35, _⟩ => ⟨S1x256, .i32⟩
  | .hbm, ⟨36, _⟩ => ⟨S1x256, .i1⟩
  | .hbm, ⟨37, _⟩ => ⟨S1x256, .i32⟩
  | .hbm, ⟨38, _⟩ => ⟨S1x256, .i32⟩
  | .hbm, ⟨39, _⟩ => ⟨S_, .i32⟩
  | .hbm, ⟨40, _⟩ => ⟨S1x256, .i32⟩
  | .hbm, ⟨41, _⟩ => ⟨S1x256, .i1⟩
  | .hbm, ⟨42, _⟩ => ⟨S1x256, .i1⟩
  | .hbm, ⟨43, _⟩ => ⟨S_, .i32⟩
  | .hbm, ⟨44, _⟩ => ⟨S1x256, .i32⟩
  | .hbm, ⟨45, _⟩ => ⟨S1x256, .i32⟩
  | .hbm, ⟨46, _⟩ => ⟨S1x256, .i32⟩
  | .hbm, ⟨47, _⟩ => ⟨S768x256, .i32⟩
  | .hbm, ⟨48, _⟩ => ⟨S768x256, .i32⟩
  | .hbm, ⟨49, _⟩ => ⟨S768x256, .i1⟩
  | .hbm, ⟨50, _⟩ => ⟨S_, .i32⟩
  | .hbm, ⟨51, _⟩ => ⟨S1x256, .i32⟩
  | .hbm, ⟨52, _⟩ => ⟨S1x256, .i32⟩
  | .hbm, ⟨53, _⟩ => ⟨S768x256, .i32⟩
  | .hbm, ⟨54, _⟩ => ⟨S768x256, .i32⟩
  | .hbm, ⟨55, _⟩ => ⟨S768x256, .i1⟩
  | .hbm, ⟨56, _⟩ => ⟨S768x256, .i1⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S1x768x256, .i1⟩
  | .hbm, ⟨62, _⟩ => ⟨S256, .i32⟩
  | .hbm, ⟨63, _⟩ => ⟨S1x256, .i32⟩
  | .hbm, ⟨64, _⟩ => ⟨S768, .i32⟩
  | .hbm, ⟨65, _⟩ => ⟨S768x1, .i32⟩
  | .hbm, ⟨66, _⟩ => ⟨S768x256, .i32⟩
  | .hbm, ⟨67, _⟩ => ⟨S768x256, .i32⟩
  | .hbm, ⟨68, _⟩ => ⟨S768x256, .i32⟩
  | .hbm, ⟨69, _⟩ => ⟨S_, .i32⟩
  | .hbm, ⟨70, _⟩ => ⟨S768x256, .i32⟩
  | .hbm, ⟨71, _⟩ => ⟨S768x256, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S768x256, .i32⟩
  | .hbm, ⟨76, _⟩ => ⟨S768x256, .i32⟩
  | .hbm, ⟨77, _⟩ => ⟨S_, .i32⟩
  | .hbm, ⟨78, _⟩ => ⟨S768x256, .i32⟩
  | .hbm, ⟨79, _⟩ => ⟨S768x256, .i32⟩
  | .hbm, ⟨80, _⟩ => ⟨S_, .i32⟩
  | .hbm, ⟨81, _⟩ => ⟨S768x256, .i32⟩
  | .hbm, ⟨82, _⟩ => ⟨S768x256, .i32⟩
  | .hbm, ⟨83, _⟩ => ⟨S_, .i32⟩
  | .hbm, ⟨84, _⟩ => ⟨S768x256, .i32⟩
  | .hbm, ⟨85, _⟩ => ⟨S768x256, .i1⟩
  | .hbm, ⟨86, _⟩ => ⟨S_, .i32⟩
  | .hbm, ⟨87, _⟩ => ⟨S768x256, .i32⟩
  | .hbm, ⟨88, _⟩ => ⟨S768x256, .i32⟩
  | .hbm, ⟨89, _⟩ => ⟨S768x256, .i32⟩
  | .hbm, ⟨90, _⟩ => ⟨S768x256x1, .i32⟩
  | .hbm, ⟨91, _⟩ => ⟨S16x768x256, .f32⟩
  | .hbm, ⟨92, _⟩ => ⟨S16x768x256, .f32⟩
  | .hbm, ⟨93, _⟩ => ⟨S16x768x256, .f32⟩
  | .hbm, ⟨94, _⟩ => ⟨S_, .f32⟩
  | .hbm, ⟨95, _⟩ => ⟨S_, .f32⟩
  | .hbm, ⟨96, _⟩ => ⟨S16x768x256, .i1⟩
  | .hbm, ⟨97, _⟩ => ⟨S16x768x256, .f32⟩
  | .hbm, ⟨98, _⟩ => ⟨S16x768x256, .f32⟩
  | .hbm, ⟨99, _⟩ => ⟨S4096x1024, .f32⟩
  | .hbm, ⟨100, _⟩ => ⟨S4096x1024, .f32⟩
  | .hbm, ⟨101, _⟩ => ⟨S4096x1024, .bf16⟩
  | .hbm, ⟨102, _⟩ => ⟨S4096x1024, .bf16⟩
  | .hbm, ⟨103, _⟩ => ⟨S4096x6144, .bf16⟩
  | .hbm, ⟨104, _⟩ => ⟨S4096x1024, .bf16⟩
  | .hbm, ⟨105, _⟩ => ⟨S16x4096, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S16x768x256, .f32⟩
  | .local _ .vmem, ⟨15, _⟩ => ⟨S256x1024, .bf16⟩
  | .local _ .vmem, ⟨16, _⟩ => ⟨S256x1024, .bf16⟩
  | .local _ .vmem, ⟨17, _⟩ => ⟨S16x256, .f32⟩
  | .local _ .vmem, ⟨18, _⟩ => ⟨S16x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_2 : Ref sig .tc := ⟨.hbm, 57, rfl⟩
abbrev main_v17 : Ref sig .tc := ⟨.hbm, 58, rfl⟩
abbrev main_cst_3 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_c_4 : Ref sig .tc := ⟨.hbm, 69, rfl⟩
abbrev main_v27 : Ref sig .tc := ⟨.hbm, 70, rfl⟩
abbrev main_v28 : Ref sig .tc := ⟨.hbm, 71, rfl⟩
abbrev main_c_5 : Ref sig .tc := ⟨.hbm, 72, rfl⟩
abbrev main_c_6 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v29 : Ref sig .tc := ⟨.hbm, 79, rfl⟩
abbrev main_c_7 : Ref sig .tc := ⟨.hbm, 80, rfl⟩
abbrev main_v30 : Ref sig .tc := ⟨.hbm, 81, rfl⟩
abbrev main_v31 : Ref sig .tc := ⟨.hbm, 82, rfl⟩
abbrev main_c_8 : Ref sig .tc := ⟨.hbm, 83, rfl⟩
abbrev main_v32 : Ref sig .tc := ⟨.hbm, 84, rfl⟩
abbrev main_v33 : Ref sig .tc := ⟨.hbm, 85, rfl⟩
abbrev main_c_9 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_cst_10 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47_0 : Ref sig .tc := ⟨.hbm, 104, rfl⟩
abbrev main_v47_1 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c2_i32 : BitVec 32 := 2#32
  let v0 : BitVec 1 := Scalar.cmpi .slt arg1 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c2_i32_0 : BitVec 32 := 2#32
  let v3 : BitVec 1 := Scalar.cmpi .sge arg1 c2_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let v2 : BitVec 32 := Scalar.addi c0_i32_0 arg0
  let c0_i32_1 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 32 := Scalar.addi c0_i32_0 arg0
  let c0_i32_1 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let v2 : BitVec 32 := Scalar.addi c0_i32_1 arg0
  let c0_i32_2 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_0 : BitVec 32 := 2#32
  let v2 : BitVec 32 := Scalar.addi c2_i32_0 arg0
  let c0_i32_1 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let v2 : BitVec 32 := Scalar.addi c2_i32 arg0
  let c0_i32_0 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c2_i32 : BitVec 32 := 2#32
  let v2 : BitVec 32 := Scalar.addi c2_i32 arg0
  let c0_i32_1 : BitVec 32 := 0#32
  ![v1.toNat, v2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S16x768x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel8Ideal.lean ====
variable {F : FTy → Type} [FloatOps F] [Named F]
def κ : String → Option EReal := fun
  | "log2e" => some (((Real.log 2)⁻¹ : ℝ) : EReal)
  | "mask" => some ⊥
  | _ => none
-- ==== Reference8Ideal.lean ====
abbrev S4096x1024 : Shape := ⟨2, ![4096, 1024]⟩
abbrev S4096x6144 : Shape := ⟨2, ![4096, 6144]⟩
abbrev S16x513 : Shape := ⟨2, ![16, 513]⟩
abbrev S_ : Shape := ⟨0, ![]⟩
abbrev S64x64x16x64 : Shape := ⟨4, ![64, 64, 16, 64]⟩
abbrev S8x64x16x64 : Shape := ⟨4, ![8, 64, 16, 64]⟩
abbrev S72x64x16x64 : Shape := ⟨4, ![72, 64, 16, 64]⟩
abbrev S64x1x64x16x64 : Shape := ⟨5, ![64, 1, 64, 16, 64]⟩
abbrev S64x9x64x16x64 : Shape := ⟨5, ![64, 9, 64, 16, 64]⟩
abbrev S64x576x16x64 : Shape := ⟨4, ![64, 576, 16, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S64x16x64x576 : Shape := ⟨4, ![64, 16, 64, 576]⟩
abbrev S1x16x64x576 : Shape := ⟨4, ![1, 16, 64, 576]⟩
abbrev S64x1x1x576 : Shape := ⟨4, ![64, 1, 1, 576]⟩
abbrev S64x16x64 : Shape := ⟨3, ![64, 16, 64]⟩
abbrev S64x16x64x1 : Shape := ⟨4, ![64, 16, 64, 1]⟩
abbrev S64x16x64x64 : Shape := ⟨4, ![64, 16, 64, 64]⟩
abbrev S16x64x64 : Shape := ⟨3, ![16, 64, 64]⟩
abbrev S16x4096 : Shape := ⟨2, ![16, 4096]⟩

abbrev nBuf : Space → Nat
  | .hbm => 156
  | .vmem => 0
  | .smem => 0
  | _ => 0

abbrev hbmTy0_0 (i : Nat) : BufTy := match i % 128 with
  | 0 => ⟨S4096x1024, .f32⟩
  | 1 => ⟨S4096x1024, .f32⟩
  | 2 => ⟨S4096x6144, .f32⟩
  | 3 => ⟨S16x513, .f32⟩
  | 4 => ⟨S_, .f32⟩
  | 5 => ⟨S4096x1024, .f32⟩
  | 6 => ⟨S4096x1024, .f32⟩
  | 7 => ⟨S4096x1024, .f32⟩
  | 8 => ⟨S64x64x16x64, .f32⟩
  | 9 => ⟨S64x64x16x64, .f32⟩
  | 10 => ⟨S_, .f32⟩
  | 11 => ⟨S8x64x16x64, .f32⟩
  | 12 => ⟨S72x64x16x64, .f32⟩
  | 13 => ⟨S64x64x16x64, .f32⟩
  | 14 => ⟨S64x64x16x64, .f32⟩
  | 15 => ⟨S64x64x16x64, .f32⟩
  | 16 => ⟨S64x64x16x64, .f32⟩
  | 17 => ⟨S64x64x16x64, .f32⟩
  | 18 => ⟨S64x64x16x64, .f32⟩
  | 19 => ⟨S64x64x16x64, .f32⟩
  | 20 => ⟨S64x64x16x64, .f32⟩
  | 21 => ⟨S64x64x16x64, .f32⟩
  | 22 => ⟨S64x1x64x16x64, .f32⟩
  | 23 => ⟨S64x1x64x16x64, .f32⟩
  | 24 => ⟨S64x1x64x16x64, .f32⟩
  | 25 => ⟨S64x1x64x16x64, .f32⟩
  | 26 => ⟨S64x1x64x16x64, .f32⟩
  | 27 => ⟨S64x1x64x16x64, .f32⟩
  | 28 => ⟨S64x1x64x16x64, .f32⟩
  | 29 => ⟨S64x1x64x16x64, .f32⟩
  | 30 => ⟨S64x1x64x16x64, .f32⟩
  | 31 => ⟨S64x9x64x16x64, .f32⟩
  | 32 => ⟨S64x576x16x64, .f32⟩
  | 33 => ⟨S64, .i32⟩
  | 34 => ⟨S64x1, .i32⟩
  | 35 => ⟨S576, .i32⟩
  | 36 => ⟨S1x576, .i32⟩
  | 37 => ⟨S64x576, .i32⟩
  | 38 => ⟨S64x576, .i32⟩
  | 39 => ⟨S64x576, .i32⟩
  | 40 => ⟨S_, .i32⟩
  | 41 => ⟨S64x576, .i32⟩
  | 42 => ⟨S64x576, .i32⟩
  | 43 => ⟨S_, .i32⟩
  | 44 => ⟨S_, .i32⟩
  | 45 => ⟨S_, .i32⟩
  | 46 => ⟨S64x576, .i32⟩
  | 47 => ⟨S64x576, .i32⟩
  | 48 => ⟨S_, .i32⟩
  | 49 => ⟨S64x576, .i32⟩
  | 50 => ⟨S64x576, .i32⟩
  | 51 => ⟨S_, .i32⟩
  | 52 => ⟨S64x576, .i32⟩
  | 53 => ⟨S64x576, .i32⟩
  | 54 => ⟨S_, .i32⟩
  | 55 => ⟨S64x576, .i32⟩
  | 56 => ⟨S64x576, .i1⟩
  | 57 => ⟨S_, .i32⟩
  | 58 => ⟨S64x576, .i32⟩
  | 59 => ⟨S64x576, .i32⟩
  | 60 => ⟨S64x576, .i32⟩
  | 61 => ⟨S64x576x1, .i32⟩
  | 62 => ⟨S16x64x576, .f32⟩
  | 63 => ⟨S64, .i32⟩
  | 64 => ⟨S64x1, .i32⟩
  | 65 => ⟨S576, .i32⟩
  | 66 => ⟨S_, .i32⟩
  | 67 => ⟨S_, .i32⟩
  | 68 => ⟨S576, .i32⟩
  | 69 => ⟨S576, .i32⟩
  | 70 => ⟨S576, .i32⟩
  | 71 => ⟨S_, .i32⟩
  | 72 => ⟨S576, .i32⟩
  | 73 => ⟨S576, .i1⟩
  | 74 => ⟨S576, .i32⟩
  | 75 => ⟨S576, .i32⟩
  | 76 => ⟨S_, .i32⟩
  | 77 => ⟨S576, .i32⟩
  | 78 => ⟨S576, .i1⟩
  | 79 => ⟨S576, .i1⟩
  | 80 => ⟨S_, .i32⟩
  | 81 => ⟨S576, .i32⟩
  | 82 => ⟨S576, .i32⟩
  | 83 => ⟨S576, .i32⟩
  | 84 => ⟨S1x576, .i32⟩
  | 85 => ⟨S64x576, .i32⟩
  | 86 => ⟨S64x576, .i32⟩
  | 87 => ⟨S64x576, .i32⟩
  | 88 => ⟨S_, .i32⟩
  | 89 => ⟨S64x576, .i32⟩
  | 90 => ⟨S64x576, .i32⟩
  | 91 => ⟨S64x16x64x576, .f32⟩
  | 92 => ⟨S1x16x64x576, .f32⟩
  | 93 => ⟨S64x16x64x576, .f32⟩
  | 94 => ⟨S64x16x64x576, .f32⟩
  | 95 => ⟨S_, .i32⟩
  | 96 => ⟨S64x576, .i32⟩
  | 97 => ⟨S64x576, .i1⟩
  | 98 => ⟨S64x1x1x576, .i1⟩
  | 99 => ⟨S_, .f32⟩
  | 100 => ⟨S_, .f32⟩
  | 101 => ⟨S64x16x64x576, .i1⟩
  | 102 => ⟨S64x16x64x576, .f32⟩
  | 103 => ⟨S64x16x64x576, .f32⟩
  | 104 => ⟨S64x16x64x576, .f32⟩
  | 105 => ⟨S_, .f32⟩
  | 106 => ⟨S64x16x64, .f32⟩
  | 107 => ⟨S64x16x64, .f32⟩
  | 108 => ⟨S_, .f32⟩
  | 109 => ⟨S_, .f32⟩
  | 110 => ⟨S64x16x64, .f32⟩
  | 111 => ⟨S64x16x64, .f32⟩
  | 112 => ⟨S64x64x16x64, .f32⟩
  | 113 => ⟨S_, .f32⟩
  | 114 => ⟨S8x64x16x64, .f32⟩
  | 115 => ⟨S72x64x16x64, .f32⟩
  | 116 => ⟨S64x64x16x64, .f32⟩
  | 117 => ⟨S64x64x16x64, .f32⟩
  | 118 => ⟨S64x64x16x64, .f32⟩
  | 119 => ⟨S64x64x16x64, .f32⟩
  | 120 => ⟨S64x64x16x64, .f32⟩
  | 121 => ⟨S64x64x16x64, .f32⟩
  | 122 => ⟨S64x64x16x64, .f32⟩
  | 123 => ⟨S64x64x16x64, .f32⟩
  | 124 => ⟨S64x64x16x64, .f32⟩
  | 125 => ⟨S64x1x64x16x64, .f32⟩
  | 126 => ⟨S64x1x64x16x64, .f32⟩
  | 127 => ⟨S64x1x64x16x64, .f32⟩
  | _ => ⟨S4096x1024, .f32⟩

abbrev hbmTy0_1 (i : Nat) : BufTy := match i % 128 with
  | 0 => ⟨S64x1x64x16x64, .f32⟩
  | 1 => ⟨S64x1x64x16x64, .f32⟩
  | 2 => ⟨S64x1x64x16x64, .f32⟩
  | 3 => ⟨S64x1x64x16x64, .f32⟩
  | 4 => ⟨S64x1x64x16x64, .f32⟩
  | 5 => ⟨S64x1x64x16x64, .f32⟩
  | 6 => ⟨S64x9x64x16x64, .f32⟩
  | 7 => ⟨S64x576x16x64, .f32⟩
  | 8 => ⟨S_, .f32⟩
  | 9 => ⟨S64x16x64, .f32⟩
  | 10 => ⟨S_, .f32⟩
  | 11 => ⟨S64x16x64, .f32⟩
  | 12 => ⟨S64x16x64, .f32⟩
  | 13 => ⟨S64x16x64x1, .f32⟩
  | 14 => ⟨S64x16x64x576, .f32⟩
  | 15 => ⟨S64x16x64x576, .f32⟩
  | 16 => ⟨S64x16x64x576, .f32⟩
  | 17 => ⟨S_, .f32⟩
  | 18 => ⟨S64x16x64, .f32⟩
  | 19 => ⟨S64x16x64x1, .f32⟩
  | 20 => ⟨S64x16x64x576, .f32⟩
  | 21 => ⟨S64x16x64x576, .f32⟩
  | 22 => ⟨S64x16x64x64, .f32⟩
  | 23 => ⟨S64x64x16x64, .f32⟩
  | 24 => ⟨S4096x1024, .f32⟩
  | 25 => ⟨S4096x1024, .bf16⟩
  | 26 => ⟨S16x64x64, .f32⟩
  | 27 => ⟨S16x4096, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c : Ref sig .tc := ⟨.hbm, 40, rfl⟩
abbrev main_v34 : Ref sig .tc := ⟨.hbm, 41, rfl⟩
abbrev main_v35 : Ref sig .tc := ⟨.hbm, 42, rfl⟩
abbrev main_c_1 : Ref sig .tc := ⟨.hbm, 43, rfl⟩
abbrev main_c_2 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v36 : Ref sig .tc := ⟨.hbm, 50, rfl⟩
abbrev main_c_3 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_v39 : Ref sig .tc := ⟨.hbm, 55, rfl⟩
abbrev main_v40 : Ref sig .tc := ⟨.hbm, 56, rfl⟩
abbrev main_c_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_6 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_c : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_0 : Ref sig .tc := ⟨.hbm, 80, rfl⟩
abbrev main_call1_v12 : Ref sig .tc := ⟨.hbm, 81, rfl⟩
abbrev main_call1_v13 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_c_7 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_8 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_9 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v63 : Ref sig .tc := ⟨.hbm, 103, rfl⟩
abbrev main_v64 : Ref sig .tc := ⟨.hbm, 104, rfl⟩
abbrev main_cst_10 : Ref sig .tc := ⟨.hbm, 105, rfl⟩
abbrev main_v65 : Ref sig .tc := ⟨.hbm, 106, rfl⟩
abbrev main_v66 : Ref sig .tc := ⟨.hbm, 107, rfl⟩
abbrev main_cst_11 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_12 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_13 : Ref sig .tc := ⟨.hbm, 136, rfl⟩
abbrev main_v93 : Ref sig .tc := ⟨.hbm, 137, rfl⟩
abbrev main_cst_14 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_15 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩

abbrev nD : Nat := 1
abbrev τ : Topo := Topo.v7x

variable {F : FTy → Type} [FloatOps F]
-- ==== Kernel9.lean ====
abbrev S4096x1024 : Shape := ⟨2, ![4096, 1024]⟩
abbrev S4096x2048 : Shape := ⟨2, ![4096, 2048]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 20
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S4096x1024, .bf16⟩
  | .hbm, ⟨9, _⟩ => ⟨S4096x1024, .bf16⟩
  | .hbm, ⟨10, _⟩ => ⟨S4096x2048, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x1024, .f32⟩
  | .hbm, ⟨19, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference9Ideal.lean ====
abbrev S4096x1024 : Shape := ⟨2, ![4096, 1024]⟩
abbrev S4096x2048 : Shape := ⟨2, ![4096, 2048]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel10.lean ====
abbrev S16x513 : Shape := ⟨2, ![16, 513]⟩
abbrev S4096x1024 : Shape := ⟨2, ![4096, 1024]⟩
abbrev S1024 : Shape := ⟨1, ![1024]⟩
abbrev S1x1024 : Shape := ⟨2, ![1, 1024]⟩
abbrev S16x512 : Shape := ⟨2, ![16, 512]⟩
abbrev S16x1 : Shape := ⟨2, ![16, 1]⟩
abbrev S16x1024 : Shape := ⟨2, ![16, 1024]⟩
abbrev S16x1x1024 : Shape := ⟨3, ![16, 1, 1024]⟩
abbrev S16x768x256 : Shape := ⟨3, ![16, 768, 256]⟩
abbrev S1x1x1024 : Shape := ⟨3, ![1, 1, 1024]⟩
abbrev S256x1024 : Shape := ⟨2, ![256, 1024]⟩
abbrev S1x768x256 : Shape := ⟨3, ![1, 768, 256]⟩
abbrev S256 : Shape := ⟨1, ![256]⟩
abbrev S256x1 : Shape := ⟨2, ![256, 1]⟩
abbrev S256x256 : Shape := ⟨2, ![256, 256]⟩
abbrev S1x1x256 : Shape := ⟨3, ![1, 1, 256]⟩
abbrev S1x256 : Shape := ⟨2, ![1, 256]⟩
abbrev S1x256x256 : Shape := ⟨3, ![1, 256, 256]⟩

abbrev nBuf : Space → Nat
  | .hbm => 11
  | .vmem => 9
  | .smem => 0
  | _ => 0

abbrev bufTy : (tb : Table) → Fin (tcTables nBuf tb) → BufTy
  | .hbm, ⟨0, _⟩ => ⟨S16x513, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S16x512, .f32⟩
  | .hbm, ⟨5, _⟩ => ⟨S16x1, .f32⟩
  | .hbm, ⟨6, _⟩ => ⟨S16x512, .f32⟩
  | .hbm, ⟨7, _⟩ => ⟨S16x1024, .f32⟩
  | .hbm, ⟨8, _⟩ => ⟨S16x1x1024, .f32⟩
  | .hbm, ⟨9, _⟩ => ⟨S16x768x256, .f32⟩
  | .hbm, ⟨10, _⟩ => ⟨S4096x1024, .bf16⟩
  | .local _ .vmem, ⟨0, _⟩ => ⟨S1x1x1024, .f32⟩
  | .local _ .vmem, ⟨1, _⟩ => ⟨S1x1x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x768x256, .f32⟩
  | .local _ .vmem, ⟨6, _⟩ => ⟨S1x768x256, .f32⟩
  | .local _ .vmem, ⟨7, _⟩ => ⟨S256x1024, .bf16⟩
  | .local _ .vmem, ⟨8, _⟩ => ⟨S256x1024, .bf16⟩
  | _, _ => ⟨S16x513, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x768x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel10Ideal.lean ====
variable {F : FTy → Type} [FloatOps F] [Named F]
def κ : String → Option EReal := fun
  | "log2e" => some (((Real.log 2)⁻¹ : ℝ) : EReal)
  | _ => none
-- ==== Reference10Ideal.lean ====
abbrev S16x513 : Shape := ⟨2, ![16, 513]⟩
abbrev S4096x1024 : Shape := ⟨2, ![4096, 1024]⟩
abbrev S1024 : Shape := ⟨1, ![1024]⟩
abbrev S256 : Shape := ⟨1, ![256]⟩
abbrev S1x256 : Shape := ⟨2, ![1, 256]⟩
abbrev S768 : Shape := ⟨1, ![768]⟩
abbrev S768x1 : Shape := ⟨2, ![768, 1]⟩
abbrev S768x256 : Shape := ⟨2, ![768, 256]⟩
abbrev S_ : Shape := ⟨0, ![]⟩
abbrev S768x256x1 : Shape := ⟨3, ![768, 256, 1]⟩
abbrev S16x768x256 : Shape := ⟨3, ![16, 768, 256]⟩
abbrev S1x768x256 : Shape := ⟨3, ![1, 768, 256]⟩
abbrev S4096 : Shape := ⟨1, ![4096]⟩
abbrev S4096x1 : Shape := ⟨2, ![4096, 1]⟩
abbrev S1x1024 : Shape := ⟨2, ![1, 1024]⟩

abbrev nBuf : Space → Nat
  | .hbm => 109
  | .vmem => 0
  | .smem => 0
  | _ => 0

abbrev bufTy : (tb : Table) → Fin (tcTables nBuf tb) → BufTy
  | .hbm, ⟨0, _⟩ => ⟨S16x513, .f32⟩
  | .hbm, ⟨1, _⟩ => ⟨S4096x1024, .f32⟩
  | .hbm, ⟨2, _⟩ => ⟨S1024, .f32⟩
  | .hbm, ⟨3, _⟩ => ⟨S256, .i32⟩
  | .hbm, ⟨4, _⟩ => ⟨S1x256, .i32⟩
  | .hbm, ⟨5, _⟩ => ⟨S768, .i32⟩
  | .hbm, ⟨6, _⟩ => ⟨S768x1, .i32⟩
  | .hbm, ⟨7, _⟩ => ⟨S768x256, .i32⟩
  | .hbm, ⟨8, _⟩ => ⟨S768x256, .i32⟩
  | .hbm, ⟨9, _⟩ => ⟨S768x256, .i32⟩
  | .hbm, ⟨10, _⟩ => ⟨S_, .i32⟩
  | .hbm, ⟨11, _⟩ => ⟨S768x256, .i32⟩
  | .hbm, ⟨12, _⟩ => ⟨S768x256, .i32⟩
  | .hbm, ⟨13, _⟩ => ⟨S_, .i32⟩
  | .hbm, ⟨14, _⟩ => ⟨S_, .i32⟩
  | .hbm, ⟨15, _⟩ => ⟨S1x256, .i32⟩
  | .hbm, ⟨16, _⟩ => ⟨S1x256, .i32⟩
  | .hbm, ⟨17, _⟩ => ⟨S1x256, .i32⟩
  | .hbm, ⟨18, _⟩ => ⟨S_, .i32⟩
  | .hbm, ⟨19, _⟩ => ⟨S1x256, .i32⟩
  | .hbm, ⟨20, _⟩ => ⟨S1x256, .i1⟩
  | .hbm, ⟨21, _⟩ => ⟨S1x256, .i32⟩
  | .hbm, ⟨22, _⟩ => ⟨S1x256, .i32⟩
  | .hbm, ⟨23, _⟩ => ⟨S_, .i32⟩
  | .hbm, ⟨24, _⟩ => ⟨S1x256, .i32⟩
  | .hbm, ⟨25, _⟩ => ⟨S1x256, .i1⟩
  | .hbm, ⟨26, _⟩ => ⟨S1x256, .i1⟩
  | .hbm, ⟨27, _⟩ => ⟨S_, .i32⟩
  | .hbm, ⟨28, _⟩ => ⟨S1x256, .i32⟩
  | .hbm, ⟨29, _⟩ => ⟨S1x256, .i32⟩
  | .hbm, ⟨30, _⟩ => ⟨S1x256, .i32⟩
  | .hbm, ⟨31, _⟩ => ⟨S_, .i32⟩
  | .hbm, ⟨32, _⟩ => ⟨S_, .i32⟩
  | .hbm, ⟨33, _⟩ => ⟨S768x1, .i32⟩
  | .hbm, ⟨34, _⟩ => ⟨S768x1, .i32⟩
  | .hbm, ⟨35, _⟩ => ⟨S768x1, .i32⟩
  | .hbm, ⟨36, _⟩ => ⟨S_, .i32⟩
  | .hbm, ⟨37, _⟩ => ⟨S768x1, .i32⟩
  | .hbm, ⟨38, _⟩ => ⟨S768x1, .i1⟩
  | .hbm, ⟨39, _⟩ => ⟨S768x1, .i32⟩
  | .hbm, ⟨40, _⟩ => ⟨S768x1, .i32⟩
  | .hbm, ⟨41, _⟩ => ⟨S_, .i32⟩
  | .hbm, ⟨42, _⟩ => ⟨S768x1, .i32⟩
  | .hbm, ⟨43, _⟩ => ⟨S768x1, .i1⟩
  | .hbm, ⟨44, _⟩ => ⟨S768x1, .i1⟩
  | .hbm, ⟨45, _⟩ => ⟨S_, .i32⟩
  | .hbm, ⟨46, _⟩ => ⟨S768x1, .i32⟩
  | .hbm, ⟨47, _⟩ => ⟨S768x1, .i32⟩
  | .hbm, ⟨48, _⟩ => ⟨S768x1, .i32⟩
  | .hbm, ⟨49, _⟩ => ⟨S768x256, .i32⟩
  | .hbm, ⟨50, _⟩ => ⟨S768x256, .i32⟩
  | .hbm, ⟨51, _⟩ => ⟨S768x256, .i32⟩
  | .hbm, ⟨52, _⟩ => ⟨S_, .i32⟩
  | .hbm, ⟨53, _⟩ => ⟨S768x256, .i32⟩
  | .hbm, ⟨54, _⟩ => ⟨S768x256, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S768x256, .i32⟩
  | .hbm, ⟨59, _⟩ => ⟨S768x256, .i32⟩
  | .hbm, ⟨60, _⟩ => ⟨S_, .i32⟩
  | .hbm, ⟨61, _⟩ => ⟨S768x256, .i32⟩
  | .hbm, ⟨62, _⟩ => ⟨S768x256, .i32⟩
  | .hbm, ⟨63, _⟩ => ⟨S_, .i32⟩
  | .hbm, ⟨64, _⟩ => ⟨S768x256, .i32⟩
  | .hbm, ⟨65, _⟩ => ⟨S768x256, .i32⟩
  | .hbm, ⟨66, _⟩ => ⟨S_, .i32⟩
  | .hbm, ⟨67, _⟩ => ⟨S768x256, .i32⟩
  | .hbm, ⟨68, _⟩ => ⟨S768x256, .i1⟩
  | .hbm, ⟨69, _⟩ => ⟨S_, .i32⟩
  | .hbm, ⟨70, _⟩ => ⟨S768x256, .i32⟩
  | .hbm, ⟨71, _⟩ => ⟨S768x256, .i32⟩
  | .hbm, ⟨72, _⟩ => ⟨S768x256, .i32⟩
  | .hbm, ⟨73, _⟩ => ⟨S768x256x1, .i32⟩
  | .hbm, ⟨74, _⟩ => ⟨S16x768x256, .f32⟩
  | .hbm, ⟨75, _⟩ => ⟨S_, .f32⟩
  | .hbm, ⟨76, _⟩ => ⟨S_, .f32⟩
  | .hbm, ⟨77, _⟩ => ⟨S16x768x256, .f32⟩
  | .hbm, ⟨78, _⟩ => ⟨S16x768x256, .f32⟩
  | .hbm, ⟨79, _⟩ => ⟨S_, .i32⟩
  | .hbm, ⟨80, _⟩ => ⟨S768x256, .i32⟩
  | .hbm, ⟨81, _⟩ => ⟨S768x256, .i1⟩
  | .hbm, ⟨82, _⟩ => ⟨S_, .i32⟩
  | .hbm, ⟨83, _⟩ => ⟨S768x256, .i32⟩
  | .hbm, ⟨84, _⟩ => ⟨S768x256, .i1⟩
  | .hbm, ⟨85, _⟩ => ⟨S768x256, .i1⟩
  | .hbm, ⟨86, _⟩ => ⟨S1x768x256, .i1⟩
  | .hbm, ⟨87, _⟩ => ⟨S_, .f32⟩
  | .hbm, ⟨88, _⟩ => ⟨S_, .f32⟩
  | .hbm, ⟨89, _⟩ => ⟨S16x768x256, .i1⟩
  | .hbm, ⟨90, _⟩ => ⟨S16x768x256, .f32⟩
  | .hbm, ⟨91, _⟩ => ⟨S16x768x256, .f32⟩
  | .hbm, ⟨92, _⟩ => ⟨S4096x1024, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S4096x1, .f32⟩
  | .hbm, ⟨103, _⟩ => ⟨S4096x1024, .f32⟩
  | .hbm, ⟨104, _⟩ => ⟨S4096x1024, .f32⟩
  | .hbm, ⟨105, _⟩ => ⟨S1x1024, .f32⟩
  | .hbm, ⟨106, _⟩ => ⟨S4096x1024, .f32⟩
  | .hbm, ⟨107, _⟩ => ⟨S4096x1024, .f32⟩
  | .hbm, ⟨108, _⟩ => ⟨S4096x1024, .bf16⟩
  | _, _ => ⟨S16x513, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v9 : Ref sig .tc := ⟨.hbm, 30, rfl⟩
abbrev main_c_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_c_2 : Ref sig .tc := ⟨.hbm, 52, rfl⟩
abbrev main_v14 : Ref sig .tc := ⟨.hbm, 53, rfl⟩
abbrev main_v15 : Ref sig .tc := ⟨.hbm, 54, rfl⟩
abbrev main_c_3 : Ref sig .tc := ⟨.hbm, 55, rfl⟩
abbrev main_c_4 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v16 : Ref sig .tc := ⟨.hbm, 62, rfl⟩
abbrev main_c_5 : Ref sig .tc := ⟨.hbm, 63, rfl⟩
abbrev main_v17 : Ref sig .tc := ⟨.hbm, 64, rfl⟩
abbrev main_v18 : Ref sig .tc := ⟨.hbm, 65, rfl⟩
abbrev main_c_6 : Ref sig .tc := ⟨.hbm, 66, rfl⟩
abbrev main_v19 : Ref sig .tc := ⟨.hbm, 67, rfl⟩
abbrev main_v20 : Ref sig .tc := ⟨.hbm, 68, rfl⟩
abbrev main_c_7 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_cst : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_c_8 : Ref sig .tc := ⟨.hbm, 79, rfl⟩
abbrev main_v29 : Ref sig .tc := ⟨.hbm, 80, rfl⟩
abbrev main_v30 : Ref sig .tc := ⟨.hbm, 81, rfl⟩
abbrev main_c_9 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_cst_10 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v35 : Ref sig .tc := ⟨.hbm, 91, rfl⟩
abbrev main_v36 : Ref sig .tc := ⟨.hbm, 92, rfl⟩
abbrev main_cst_11 : Ref sig .tc := ⟨.hbm, 93, rfl⟩
abbrev main_v37 : Ref sig .tc := ⟨.hbm, 94, rfl⟩
abbrev main_v38 : Ref sig .tc := ⟨.hbm, 95, rfl⟩
abbrev main_cst_12 : Ref sig .tc := ⟨.hbm, 96, rfl⟩
abbrev main_v39 : Ref sig .tc := ⟨.hbm, 97, rfl⟩
abbrev main_v40 : Ref sig .tc := ⟨.hbm, 98, rfl⟩
abbrev main_cst_13 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩

abbrev nD : Nat := 1
abbrev τ : Topo := Topo.v7x

variable {F : FTy → Type} [FloatOps F]
-- ==== Kernel11.lean ====
abbrev S4096x1024 : Shape := ⟨2, ![4096, 1024]⟩
abbrev S4096x6144 : Shape := ⟨2, ![4096, 6144]⟩
abbrev S1024x2048 : Shape := ⟨2, ![1024, 2048]⟩
abbrev S2048 : Shape := ⟨1, ![2048]⟩
abbrev S64 : Shape := ⟨1, ![64]⟩
abbrev S3x1024 : Shape := ⟨2, ![3, 1024]⟩
abbrev S1024 : Shape := ⟨1, ![1024]⟩
abbrev S1x64 : Shape := ⟨2, ![1, 64]⟩
abbrev S16x64 : Shape := ⟨2, ![16, 64]⟩
abbrev S1x1024 : Shape := ⟨2, ![1, 1024]⟩
abbrev S1x2048 : Shape := ⟨2, ![1, 2048]⟩
abbrev S4096x2048 : Shape := ⟨2, ![4096, 2048]⟩
abbrev S512x1024 : Shape := ⟨2, ![512, 1024]⟩
abbrev S8x1024 : Shape := ⟨2, ![8, 1024]⟩
abbrev S512x2048 : Shape := ⟨2, ![512, 2048]⟩
abbrev S128x128 : Shape := ⟨2, ![128, 128]⟩
abbrev S1024x256 : Shape := ⟨2, ![1024, 256]⟩
abbrev S512x256 : Shape := ⟨2, ![512, 256]⟩
abbrev S1x256 : Shape := ⟨2, ![1, 256]⟩
abbrev S512x128 : Shape := ⟨2, ![512, 128]⟩
abbrev S1x128 : Shape := ⟨2, ![1, 128]⟩
abbrev S8x256 : Shape := ⟨2, ![8, 256]⟩
abbrev S3x256 : Shape := ⟨2, ![3, 256]⟩
abbrev S512x1 : Shape := ⟨2, ![512, 1]⟩

abbrev nBuf : Space → Nat
  | .hbm => 25
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S1024x2048, .f32⟩
  | .hbm, ⟨3, _⟩ => ⟨S2048, .f32⟩
  | .hbm, ⟨4, _⟩ => ⟨S64, .f32⟩
  | .hbm, ⟨5, _⟩ => ⟨S64, .f32⟩
  | .hbm, ⟨6, _⟩ => ⟨S3x1024, .f32⟩
  | .hbm, ⟨7, _⟩ => ⟨S1024, .f32⟩
  | .hbm, ⟨8, _⟩ => ⟨S1x64, .f32⟩
  | .hbm, ⟨9, _⟩ => ⟨S16x64, .f32⟩
  | .hbm, ⟨10, _⟩ => ⟨S1024, .f32⟩
  | .hbm, ⟨11, _⟩ => ⟨S1x1024, .f32⟩
  | .hbm, ⟨12, _⟩ => ⟨S1x64, .f32⟩
  | .hbm, ⟨13, _⟩ => ⟨S16x64, .f32⟩
  | .hbm, ⟨14, _⟩ => ⟨S1024, .f32⟩
  | .hbm, ⟨15, _⟩ => ⟨S1x1024, .f32⟩
  | .hbm, ⟨16, _⟩ => ⟨S4096x1024, .bf16⟩
  | .hbm, ⟨17, _⟩ => ⟨S4096x6144, .bf16⟩
  | .hbm, ⟨18, _⟩ => ⟨S1024x2048, .bf16⟩
  | .hbm, ⟨19, _⟩ => ⟨S1x2048, .f32⟩
  | .hbm, ⟨20, _⟩ => ⟨S1x1024, .f32⟩
  | .hbm, ⟨21, _⟩ => ⟨S4096x2048, .bf16⟩
  | .hbm, ⟨22, _⟩ => ⟨S4096x1024, .bf16⟩
  | .hbm, ⟨23, _⟩ => ⟨S4096x1024, .bf16⟩
  | .hbm, ⟨24, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1x2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S8x1024, .bf16⟩
  | .local _ .vmem, ⟨17, _⟩ => ⟨S8x1024, .bf16⟩
  | .local _ .vmem, ⟨18, _⟩ => ⟨S8x1024, .bf16⟩
  | .local _ .vmem, ⟨19, _⟩ => ⟨S8x1024, .bf16⟩
  | .local _ .vmem, ⟨20, _⟩ => ⟨S3x1024, .f32⟩
  | .local _ .vmem, ⟨21, _⟩ => ⟨S1x1024, .f32⟩
  | .local _ .vmem, ⟨22, _⟩ => ⟨S512x2048, .bf16⟩
  | .local _ .vmem, ⟨23, _⟩ => ⟨S512x2048, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_10 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_11 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel11Ideal.lean ====
variable {F : FTy → Type} [FloatOps F] [Named F]
def κ : String → Option EReal := fun
  | "q_scale" => some (((Real.log 256)⁻¹ : ℝ) : EReal)
  | _ => none
-- ==== Reference11Ideal.lean ====
abbrev S4096x1024 : Shape := ⟨2, ![4096, 1024]⟩
abbrev S4096x6144 : Shape := ⟨2, ![4096, 6144]⟩
abbrev S1024x2048 : Shape := ⟨2, ![1024, 2048]⟩
abbrev S2048 : Shape := ⟨1, ![2048]⟩
abbrev S64 : Shape := ⟨1, ![64]⟩
abbrev S3x1024 : Shape := ⟨2, ![3, 1024]⟩
abbrev S1024 : Shape := ⟨1, ![1024]⟩
abbrev S4096x2048 : Shape := ⟨2, ![4096, 2048]⟩
abbrev S1x2048 : Shape := ⟨2, ![1, 2048]⟩
abbrev S_ : Shape := ⟨0, ![]⟩
abbrev S4096x16x64 : Shape := ⟨3, ![4096, 16, 64]⟩
abbrev S4096x16 : Shape := ⟨2, ![4096, 16]⟩
abbrev S4096x16x1 : Shape := ⟨3, ![4096, 16, 1]⟩
abbrev S1x1x64 : Shape := ⟨3, ![1, 1, 64]⟩
abbrev S2x1024 : Shape := ⟨2, ![2, 1024]⟩
abbrev S4098x1024 : Shape := ⟨2, ![4098, 1024]⟩
abbrev S1x1024 : Shape := ⟨2, ![1, 1024]⟩

abbrev nBuf : Space → Nat
  | .hbm => 104
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S1024x2048, .f32⟩
  | .hbm, ⟨3, _⟩ => ⟨S2048, .f32⟩
  | .hbm, ⟨4, _⟩ => ⟨S64, .f32⟩
  | .hbm, ⟨5, _⟩ => ⟨S64, .f32⟩
  | .hbm, ⟨6, _⟩ => ⟨S3x1024, .f32⟩
  | .hbm, ⟨7, _⟩ => ⟨S1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x16x64, .f32⟩
  | .hbm, ⟨27, _⟩ => ⟨S4096x16x64, .f32⟩
  | .hbm, ⟨28, _⟩ => ⟨S_, .f32⟩
  | .hbm, ⟨29, _⟩ => ⟨S4096x16, .f32⟩
  | .hbm, ⟨30, _⟩ => ⟨S4096x16x1, .f32⟩
  | .hbm, ⟨31, _⟩ => ⟨S_, .f32⟩
  | .hbm, ⟨32, _⟩ => ⟨S4096x16x1, .f32⟩
  | .hbm, ⟨33, _⟩ => ⟨S4096x16x1, .f32⟩
  | .hbm, ⟨34, _⟩ => ⟨S_, .f32⟩
  | .hbm, ⟨35, _⟩ => ⟨S4096x16x1, .f32⟩
  | .hbm, ⟨36, _⟩ => ⟨S4096x16x1, .f32⟩
  | .hbm, ⟨37, _⟩ => ⟨S4096x16x1, .f32⟩
  | .hbm, ⟨38, _⟩ => ⟨S4096x16x64, .f32⟩
  | .hbm, ⟨39, _⟩ => ⟨S4096x16x64, .f32⟩
  | .hbm, ⟨40, _⟩ => ⟨S1x1x64, .f32⟩
  | .hbm, ⟨41, _⟩ => ⟨S4096x16x64, .f32⟩
  | .hbm, ⟨42, _⟩ => ⟨S4096x16x64, .f32⟩
  | .hbm, ⟨43, _⟩ => ⟨S_, .f32⟩
  | .hbm, ⟨44, _⟩ => ⟨S4096x16x64, .f32⟩
  | .hbm, ⟨45, _⟩ => ⟨S4096x16x64, .f32⟩
  | .hbm, ⟨46, _⟩ => ⟨S_, .f32⟩
  | .hbm, ⟨47, _⟩ => ⟨S_, .f32⟩
  | .hbm, ⟨48, _⟩ => ⟨S4096x16x64, .f32⟩
  | .hbm, ⟨49, _⟩ => ⟨S4096x16x64, .f32⟩
  | .hbm, ⟨50, _⟩ => ⟨S4096x16x64, .f32⟩
  | .hbm, ⟨51, _⟩ => ⟨S4096x16x64, .f32⟩
  | .hbm, ⟨52, _⟩ => ⟨S_, .f32⟩
  | .hbm, ⟨53, _⟩ => ⟨S4096x16, .f32⟩
  | .hbm, ⟨54, _⟩ => ⟨S4096x16x1, .f32⟩
  | .hbm, ⟨55, _⟩ => ⟨S_, .f32⟩
  | .hbm, ⟨56, _⟩ => ⟨S4096x16x1, .f32⟩
  | .hbm, ⟨57, _⟩ => ⟨S4096x16x1, .f32⟩
  | .hbm, ⟨58, _⟩ => ⟨S_, .f32⟩
  | .hbm, ⟨59, _⟩ => ⟨S4096x16x1, .f32⟩
  | .hbm, ⟨60, _⟩ => ⟨S4096x16x1, .f32⟩
  | .hbm, ⟨61, _⟩ => ⟨S4096x16x1, .f32⟩
  | .hbm, ⟨62, _⟩ => ⟨S4096x16x64, .f32⟩
  | .hbm, ⟨63, _⟩ => ⟨S4096x16x64, .f32⟩
  | .hbm, ⟨64, _⟩ => ⟨S1x1x64, .f32⟩
  | .hbm, ⟨65, _⟩ => ⟨S4096x16x64, .f32⟩
  | .hbm, ⟨66, _⟩ => ⟨S4096x16x64, .f32⟩
  | .hbm, ⟨67, _⟩ => ⟨S4096x1024, .f32⟩
  | .hbm, ⟨68, _⟩ => ⟨S_, .f32⟩
  | .hbm, ⟨69, _⟩ => ⟨S2x1024, .f32⟩
  | .hbm, ⟨70, _⟩ => ⟨S4098x1024, .f32⟩
  | .hbm, ⟨71, _⟩ => ⟨S1x1024, .f32⟩
  | .hbm, ⟨72, _⟩ => ⟨S1024, .f32⟩
  | .hbm, ⟨73, _⟩ => ⟨S4096x1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096x1024, .f32⟩
  | .hbm, ⟨79, _⟩ => ⟨S4096x1024, .f32⟩
  | .hbm, ⟨80, _⟩ => ⟨S1x1024, .f32⟩
  | .hbm, ⟨81, _⟩ => ⟨S1024, .f32⟩
  | .hbm, ⟨82, _⟩ => ⟨S4096x1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S1x1024, .f32⟩
  | .hbm, ⟨88, _⟩ => ⟨S1024, .f32⟩
  | .hbm, ⟨89, _⟩ => ⟨S4096x1024, .f32⟩
  | .hbm, ⟨90, _⟩ => ⟨S1x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S1x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x2048, .bf16⟩
  | .hbm, ⟨101, _⟩ => ⟨S4096x1024, .bf16⟩
  | .hbm, ⟨102, _⟩ => ⟨S4096x1024, .bf16⟩
  | .hbm, ⟨103, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩

abbrev nD : Nat := 1
abbrev τ : Topo := Topo.v7x

variable {F : FTy → Type} [FloatOps F]
-- ==== Kernel12.lean ====
abbrev S4096x1024 : Shape := ⟨2, ![4096, 1024]⟩
abbrev S1024x6144 : Shape := ⟨2, ![1024, 6144]⟩
abbrev S4096x6144 : Shape := ⟨2, ![4096, 6144]⟩
abbrev S512x1024 : Shape := ⟨2, ![512, 1024]⟩
abbrev S512x6144 : Shape := ⟨2, ![512, 6144]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S4096x1024, .bf16⟩
  | .hbm, ⟨3, _⟩ => ⟨S1024x6144, .bf16⟩
  | .hbm, ⟨4, _⟩ => ⟨S4096x6144, .bf16⟩
  | .local _ .vmem, ⟨0, _⟩ => ⟨S512x1024, .bf16⟩
  | .local _ .vmem, ⟨1, _⟩ => ⟨S512x1024, .bf16⟩
  | .local _ .vmem, ⟨2, _⟩ => ⟨S1024x6144, .bf16⟩
  | .local _ .vmem, ⟨3, _⟩ => ⟨S512x6144, .bf16⟩
  | .local _ .vmem, ⟨4, _⟩ => ⟨S512x6144, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S4096x1024 : Shape := ⟨2, ![4096, 1024]⟩
abbrev S1024x6144 : Shape := ⟨2, ![1024, 6144]⟩
abbrev S4096x6144 : Shape := ⟨2, ![4096, 6144]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S4096x6144, .f32⟩
  | .hbm, ⟨3, _⟩ => ⟨S4096x6144, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S4096x1024 : Shape := ⟨2, ![4096, 1024]⟩
abbrev S4096x6144 : Shape := ⟨2, ![4096, 6144]⟩
abbrev S4096x2048 : Shape := ⟨2, ![4096, 2048]⟩
abbrev S4096x3072 : Shape := ⟨2, ![4096, 3072]⟩
abbrev S1024x6144 : Shape := ⟨2, ![1024, 6144]⟩
abbrev S2048x1024 : Shape := ⟨2, ![2048, 1024]⟩
abbrev S1024x1024 : Shape := ⟨2, ![1024, 1024]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S4096x2048, .f32⟩
  | .hbm, ⟨3, _⟩ => ⟨S4096x1024, .f32⟩
  | .hbm, ⟨4, _⟩ => ⟨S4096x3072, .f32⟩
  | .hbm, ⟨5, _⟩ => ⟨S4096x1024, .bf16⟩
  | .hbm, ⟨6, _⟩ => ⟨S4096x2048, .bf16⟩
  | .hbm, ⟨7, _⟩ => ⟨S4096x1024, .bf16⟩
  | .hbm, ⟨8, _⟩ => ⟨S4096x3072, .bf16⟩
  | .hbm, ⟨9, _⟩ => ⟨S1024x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 6, 2], ![false, false, false]⟩

def k0_cond5 (i : grid0.Coords) : BitVec 1 :=
  let arg2 : BitVec 32 := BitVec.ofNat 32 (i 2).val
  let c1_i32 : BitVec 32 := 1#32
  let v20 : BitVec 1 := Scalar.cmpi .eq arg2 c1_i32
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .sge arg1 c2_i32
  let c3_i32 : BitVec 32 := 3#32
  let v1 : BitVec 1 := Scalar.cmpi .slt arg1 c3_i32
  let v2 : BitVec 1 := Scalar.andi v0 v1
  let c0_i32 : BitVec 32 := 0#32
  let v3 : BitVec 32 := Scalar.select v2 arg2 c0_i32
  let c2_i32_0 : BitVec 32 := 2#32
  let v4 : BitVec 32 := Scalar.subi arg1 c2_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .sge arg1 c3_i32
  let c6_i32 : BitVec 32 := 6#32
  let v1 : BitVec 1 := Scalar.cmpi .slt arg1 c6_i32
  let v2 : BitVec 1 := Scalar.andi v0 v1
  let c0_i32 : BitVec 32 := 0#32
  let v3 : BitVec 32 := Scalar.select v2 arg2 c0_i32
  let c3_i32_0 : BitVec 32 := 3#32
  let v4 : BitVec 32 := Scalar.subi arg1 c3_i32_0
  let c0_i32_1 : BitVec 32 := 0#32
  let c2_i32 : BitVec 32 := 2#32
  let v5 : BitVec 32 := Scalar.maxsi c0_i32_1 v4
  let v6 : BitVec 32 := Scalar.minsi c2_i32 v5
  let c0_i32_2 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference13Ideal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S_, .f32⟩
  | .hbm, ⟨3, _⟩ => ⟨S1024x6144, .f32⟩
  | .hbm, ⟨4, _⟩ => ⟨S4096x6144, .f32⟩
  | .hbm, ⟨5, _⟩ => ⟨S6144x1024, .f32⟩
  | .hbm, ⟨6, _⟩ => ⟨S1024x6144, .f32⟩
  | .hbm, ⟨7, _⟩ => ⟨S1024x6144, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4x1024x768 : Shape := ⟨3, ![4, 1024, 768]⟩
abbrev S1024x768 : Shape := ⟨2, ![1024, 768]⟩
abbrev S4x256x768 : Shape := ⟨3, ![4, 256, 768]⟩
abbrev S256x768 : Shape := ⟨2, ![256, 768]⟩
abbrev S1x256x768 : Shape := ⟨3, ![1, 256, 768]⟩

abbrev nBuf : Space → Nat
  | .hbm => 9
  | .vmem => 16
  | .smem => 0
  | _ => 0

abbrev bufTy : (tb : Table) → Fin (tcTables nBuf tb) → BufTy
  | .hbm, ⟨0, _⟩ => ⟨S4x1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S4x1024x768, .bf16⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .local _ .vmem, ⟨0, _⟩ => ⟨S4x256x768, .bf16⟩
  | .local _ .vmem, ⟨1, _⟩ => ⟨S4x256x768, .bf16⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S4x1024x768 : Shape := ⟨3, ![4, 1024, 768]⟩
abbrev S1024x768 : Shape := ⟨2, ![1024, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S_, .f32⟩
  | .hbm, ⟨7, _⟩ => ⟨S1024x768, .f32⟩
  | .hbm, ⟨8, _⟩ => ⟨S1024x768, .f32⟩
  | .hbm, ⟨9, _⟩ => ⟨S_, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1024x768, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel15.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference15Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Conv.Spec.lean ====
module

public import Mathlib.Data.EReal.Operations
public import Mathlib.Algebra.BigOperators.Fin

@[expose] public section

noncomputable section

/-! The gradients of the gated short convolution, entry by entry, over the extended reals. -/

namespace Cert.Conv

open scoped BigOperators

variable (P : Fin 4096 → Fin 6144 → EReal) (W : Fin 3 → Fin 1024 → EReal) (b : Fin 1024 → EReal)
  (C : Fin 4096 → Fin 1024 → EReal)

/-- The three column groups of the projection that the convolution reads. -/
def bg (i : Fin 4096) (d : Fin 1024) : EReal := P i ⟨3072 + d.val, by omega⟩
@[inherit_doc bg] def cg (i : Fin 4096) (d : Fin 1024) : EReal := P i ⟨4096 + d.val, by omega⟩
@[inherit_doc bg] def xc (i : Fin 4096) (d : Fin 1024) : EReal := P i ⟨5120 + d.val, by omega⟩

/-- The convolution's operand `k` positions back, zero before the first position. -/
def back (k : ℕ) (i : Fin 4096) (d : Fin 1024) : EReal :=
  if h : k ≤ i.val then cg P ⟨i.val - k, by omega⟩ d * xc P ⟨i.val - k, by omega⟩ d else 0

/-- The cotangent of the convolution. -/
def dconv (i : Fin 4096) (d : Fin 1024) : EReal := C i d * bg P i d

/-- The same `k` positions on, zero after the last position. -/
def ahead (k : ℕ) (i : Fin 4096) (d : Fin 1024) : EReal :=
  if h : i.val + k < 4096 then dconv P C ⟨i.val + k, h⟩ d else 0

/-- The convolution itself. -/
def conv (i : Fin 4096) (d : Fin 1024) : EReal :=
  b d + (W 0 d * back P 2 i d + W 1 d * back P 1 i d + W 2 d * back P 0 i d)

/-- The cotangent of the convolution's operand. -/
def du (i : Fin 4096) (d : Fin 1024) : EReal :=
  W 2 d * ahead P C 0 i d + W 1 d * ahead P C 1 i d + W 0 d * ahead P C 2 i d

/-- The gradients of the three column groups, side by side. -/
def dproj (i : Fin 4096) (e : Fin 3072) : EReal :=
  if h : e.val < 1024 then C i ⟨e.val, h⟩ * conv P W b i ⟨e.val, h⟩
  else if h' : e.val < 2048 then du P W C i ⟨e.val - 1024, by omega⟩ * xc P i ⟨e.val - 1024, by omega⟩
  else du P W C i ⟨e.val - 2048, by omega⟩ * cg P i ⟨e.val - 2048, by omega⟩

theorem dproj_0 (i : Fin 4096) (d : Fin 1024) :
    dproj P W b C i ⟨d.val, by omega⟩ = C i d * conv P W b i d := by
  unfold dproj
  rw [dif_pos d.isLt]
theorem dproj_1 (i : Fin 4096) (d : Fin 1024) :
    dproj P W b C i ⟨1024 + d.val, by omega⟩ = du P W C i d * xc P i d := by
  have e : (⟨1024 + d.val - 1024, by omega⟩ : Fin 1024) = d := Fin.ext (by show 1024 + d.val - 1024 = d.val; omega)
  unfold dproj
  rw [dif_neg (by show ¬ 1024 + d.val < 1024; omega), dif_pos (by show 1024 + d.val < 2048; omega), e]
theorem dproj_2 (i : Fin 4096) (d : Fin 1024) :
    dproj P W b C i ⟨2048 + d.val, by omega⟩ = du P W C i d * cg P i d := by
  have e : (⟨2048 + d.val - 2048, by omega⟩ : Fin 1024) = d := Fin.ext (by show 2048 + d.val - 2048 = d.val; omega)
  unfold dproj
  rw [dif_neg (by show ¬ 2048 + d.val < 1024; omega), dif_neg (by show ¬ 2048 + d.val < 2048; omega), e]

/-- The gradient of the bias. -/
def dbias (d : Fin 1024) : EReal := ∑ i, dconv P C i d

/-- The gradient of the taps. -/
def dtaps (k : Fin 3) (d : Fin 1024) : EReal := ∑ i, dconv P C i d * back P (2 - k.val) i d

end Cert.Conv
end
-- ==== Proof.Rows.lean ====
module

public import Mathlib.Algebra.BigOperators.Fin
public import Mathlib.Logic.Equiv.Fin.Basic

@[expose] public section

/-! Sums over the 4096 rows, taken as a kernel takes them: by blocks of 512 rows, and in a block by rows modulo 8. -/

namespace Cert.Rows

open scoped BigOperators

/-- A row of a block of 512 rows, as a row of the whole array. -/
theorem row_lt {n : ℕ} (hn : n = 8) (t : Fin n) (a : Fin 512) : t.val * 512 + a.val < 4096 := by omega

/-- Eight partial sums over every block's rows modulo 8 add up to the sum over all rows. -/
theorem sum_rows {M : Type*} [AddCommMonoid M] {n : ℕ} (hn : n = 8) (f : Fin 4096 → M) :
    ∑ a : Fin 8, ∑ t : Fin n, ∑ x : Fin 64, f ⟨t.val * 512 + (x.val * 8 + a.val), by omega⟩ = ∑ i, f i := by
  subst hn
  have e : ∀ g : Fin 8 → Fin 8 → Fin 64 → M, ∑ a, ∑ t, ∑ x, g a t x = ∑ p : Fin 8 × Fin 8 × Fin 64, g p.1 p.2.1 p.2.2 := by
    intro g
    rw [Fintype.sum_prod_type]
    refine Finset.sum_congr rfl fun a _ => ?_
    rw [Fintype.sum_prod_type]
  rw [e fun a t x => f ⟨t.val * 512 + (x.val * 8 + a.val), by omega⟩]
  refine Fintype.sum_bijective (fun p : Fin 8 × Fin 8 × Fin 64 => (⟨p.2.1.val * 512 + (p.2.2.val * 8 + p.1.val), by omega⟩ : Fin 4096))
    ⟨?_, ?_⟩ _ _ fun p => rfl
  · rintro ⟨a, t, x⟩ ⟨a', t', x'⟩ h
    simp only [Fin.mk.injEq] at h
    simp only [Prod.mk.injEq, Fin.ext_iff]
    omega
  · intro i
    refine ⟨(⟨i.val % 8, by omega⟩, ⟨i.val / 512, by omega⟩, ⟨i.val / 8 % 64, by omega⟩), Fin.ext ?_⟩
    show i.val / 512 * 512 + (i.val / 8 % 64 * 8 + i.val % 8) = i.val
    omega

end Cert.Rows
end
-- ==== Proof.Canon.lean ====
module

public import Idealize.ShloMosaic.Lib.Pipeline.CanonAppend
public import Idealize.ShloMosaic.Lib.Pipeline.ValueKit.Tiles

@[expose] public section

noncomputable section

namespace Cert.Canon

open Idealize.ShloMosaic

variable {Val : EltTy → Type} {S : Shape} {e : EltTy}

/-- Stores that cover an index leave there what they leave without the stores made before them. -/
theorem canon_append [∀ e, Nonempty (Val e)] (L' : List (View.Piece Val S e)) :
    ∀ (L : List (View.Piece Val S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append L' L y ?_
      obtain ⟨q, hq, hyq⟩ := hy
      rcases List.mem_cons.mp hq with rfl | hq'
      · exact absurd hyq hm
      · exact ⟨q, hq', hyq⟩

end Cert.Canon
end
-- ==== Proof.Conv.Kernel.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
public import proofs.«01_k».proof.Proof.Conv.Spec
public import proofs.«01_k».proof.Proof.Rows
public import proofs.«01_k».proof.Proof.Canon

@[expose] public section

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ)

/-- The three arguments the values are functions of, entry by entry. -/
abbrev aP (c : Dev nD) (i : Fin 4096) (j : Fin 6144) : EReal := m ((c : Thread nD τ).loc main_arg0) (ix2 i j)
@[inherit_doc aP] abbrev aW (c : Dev nD) (i : Fin 3) (j : Fin 1024) : EReal := m ((c : Thread nD τ).loc main_arg1) (ix2 i j)
@[inherit_doc aP] abbrev aB (c : Dev nD) (j : Fin 1024) : EReal := m ((c : Thread nD τ).loc main_arg2) (ix1 j)
@[inherit_doc aP] abbrev aC (c : Dev nD) (i : Fin 4096) (j : Fin 1024) : EReal := m ((c : Thread nD τ).loc main_arg3) (ix2 i j)

theorem idx : ∀ t : Fin cfg0.N, win0_0.index t = ![t.val, 0] ∧ win0_1.index t = ![min ((t.val + 1) * 64) 511, 0]
    ∧ win0_2.index t = ![t.val, 3] ∧ win0_3.index t = ![min ((t.val + 1) * 64) 511, 3]
    ∧ win0_4.index t = ![t.val, 4] ∧ win0_5.index t = ![t.val * 64 - 1, 4]
    ∧ win0_6.index t = ![t.val, 5] ∧ win0_7.index t = ![t.val * 64 - 1, 5]
    ∧ win0_8.index t = ![0, 0] ∧ win0_9.index t = ![0, 0] ∧ win0_10.index t = ![t.val, 0] ∧ (grid0.coords t 0).val = t.val :=
  (by decide +kernel : ∀ t : Fin grid0.N, _)

theorem tlt (t : Fin cfg0.N) : t.val < 8 := lt_of_lt_of_eq t.isLt N_0

/-- The row of the array that row `a` of block `t` is. -/
abbrev row (t : Fin cfg0.N) (a : Fin 512) : Fin 4096 := ⟨t.val * 512 + a.val, by have := tlt t; omega⟩

/-- What the pipelined arrays hold as the pipeline starts. -/
theorem entry0 (c : Dev nD) (i : Fin 4096) (d : Fin 1024) : V m c main_v0 (ix2 i d) = aC m c i d := by
  unfold V V0
  simp only [List.flatten_cons, List.flatten_nil, List.append_nil]
  unfold hostOps0
  after_reads_at
@[inherit_doc entry0] theorem entry1 (c : Dev nD) (i : Fin 4096) (d : Fin 6144) : V m c main_v1 (ix2 i d) = aP m c i d := by
  unfold V V0
  simp only [List.flatten_cons, List.flatten_nil, List.append_nil]
  unfold hostOps0
  after_reads_at
@[inherit_doc entry0] theorem entry2 (c : Dev nD) (i : Fin 1) (d : Fin 1024) : V m c main_v2 (ix2 i d) = aB m c d := by
  unfold V V0
  simp only [List.flatten_cons, List.flatten_nil, List.append_nil]
  unfold hostOps0
  after_reads_at

/-- The blocks at a point, read in the arguments. -/
theorem blk0 (c : Dev nD) (t : Fin cfg0.N) (a : Fin 512) (d : Fin 1024) :
    iblk m c 0 t (ix2 a d) = aC m c (row t a) d := by
  rw [← entry0 m c]
  blk_ext [iblk, (idx t).1]
@[inherit_doc blk0] theorem blk2 (c : Dev nD) (t : Fin cfg0.N) (a : Fin 512) (d : Fin 1024) :
    iblk m c 2 t (ix2 a d) = Conv.bg (aP m c) (row t a) d := by
  unfold Conv.bg
  rw [← entry1 m c]
  blk_ext [iblk, (idx t).2.2.1]
@[inherit_doc blk0] theorem blk4 (c : Dev nD) (t : Fin cfg0.N) (a : Fin 512) (d : Fin 1024) :
    iblk m c 4 t (ix2 a d) = Conv.cg (aP m c) (row t a) d := by
  unfold Conv.cg
  rw [← entry1 m c]
  blk_ext [iblk, (idx t).2.2.2.2.1]
@[inherit_doc blk0] theorem blk6 (c : Dev nD) (t : Fin cfg0.N) (a : Fin 512) (d : Fin 1024) :
    iblk m c 6 t (ix2 a d) = Conv.xc (aP m c) (row t a) d := by
  unfold Conv.xc
  rw [← entry1 m c]
  blk_ext [iblk, (idx t).2.2.2.2.2.2.1]
@[inherit_doc blk0] theorem blk1 (c : Dev nD) (t : Fin cfg0.N) (a : Fin 8) (d : Fin 1024) (h : t.val < 7) :
    iblk m c 1 t (ix2 a d) = aC m c ⟨t.val * 512 + 512 + a.val, by omega⟩ d := by
  rw [← entry0 m c]
  blk_ext [iblk, (idx t).2.1]
@[inherit_doc blk0] theorem blk3 (c : Dev nD) (t : Fin cfg0.N) (a : Fin 8) (d : Fin 1024) (h : t.val < 7) :
    iblk m c 3 t (ix2 a d) = Conv.bg (aP m c) ⟨t.val * 512 + 512 + a.val, by omega⟩ d := by
  unfold Conv.bg
  rw [← entry1 m c]
  blk_ext [iblk, (idx t).2.2.2.1]
@[inherit_doc blk0] theorem blk5 (c : Dev nD) (t : Fin cfg0.N) (a : Fin 8) (d : Fin 1024) (h : 0 < t.val) :
    iblk m c 5 t (ix2 a d) = Conv.cg (aP m c) ⟨t.val * 512 - 8 + a.val, by have := tlt t; omega⟩ d := by
  unfold Conv.cg
  rw [← entry1 m c]
  blk_ext [iblk, (idx t).2.2.2.2.2.1]
@[inherit_doc blk0] theorem blk7 (c : Dev nD) (t : Fin cfg0.N) (a : Fin 8) (d : Fin 1024) (h : 0 < t.val) :
    iblk m c 7 t (ix2 a d) = Conv.xc (aP m c) ⟨t.val * 512 - 8 + a.val, by have := tlt t; omega⟩ d := by
  unfold Conv.xc
  rw [← entry1 m c]
  blk_ext [iblk, (idx t).2.2.2.2.2.2.2.1]
@[inherit_doc blk0] theorem blk8 (c : Dev nD) (t : Fin cfg0.N) (a : Fin 3) (d : Fin 1024) :
    iblk m c 8 t (ix2 a d) = aW m c a d := by
  have e : V m c main_arg1 (ix2 a d) = aW m c a d := by rw [V_main_arg1]
  rw [← e]
  blk_ext [iblk, (idx t).2.2.2.2.2.2.2.2.1]
@[inherit_doc blk0] theorem blk9 (c : Dev nD) (t : Fin cfg0.N) (a : Fin 1) (d : Fin 1024) :
    iblk m c 9 t (ix2 a d) = aB m c d := by
  rw [← entry2 m c a d]
  blk_ext [iblk, (idx t).2.2.2.2.2.2.2.2.2.1]

theorem sel_eq (a k : ℕ) (ha : a < 512) (hk : k < 512) (x y : EReal) :
    Scalar.select (IntOp.cmpi .eq (BitVec.ofNat 32 a) (BitVec.ofNat 32 k)) x y = if a = k then x else y := by
  show (if Scalar.cmpi .eq (BitVec.ofNat 32 a) (BitVec.ofNat 32 k) = 1#1 then x else y) = _
  simp only [show (Scalar.cmpi .eq (BitVec.ofNat 32 a) (BitVec.ofNat 32 k) = 1#1) ↔ a = k from by word_cmp]

theorem sel_gt (t k : ℕ) (ht : t < 512) (hk : k < 512) (x y : EReal) :
    Scalar.select (Scalar.cmpi .sgt (BitVec.ofNat 32 t) (BitVec.ofNat 32 k)) x y = if k < t then x else y := by
  show (if Scalar.cmpi .sgt (BitVec.ofNat 32 t) (BitVec.ofNat 32 k) = 1#1 then x else y) = _
  simp only [show (Scalar.cmpi .sgt (BitVec.ofNat 32 t) (BitVec.ofNat 32 k) = 1#1) ↔ k < t from by word_cmp]

theorem sel_lt (t k : ℕ) (ht : t < 512) (hk : k < 512) (x y : EReal) :
    Scalar.select (Scalar.cmpi .slt (BitVec.ofNat 32 t) (BitVec.ofNat 32 k)) x y = if t < k then x else y := by
  show (if Scalar.cmpi .slt (BitVec.ofNat 32 t) (BitVec.ofNat 32 k) = 1#1 then x else y) = _
  simp only [show (Scalar.cmpi .slt (BitVec.ofNat 32 t) (BitVec.ofNat 32 k) = 1#1) ↔ t < k from by word_cmp]

theorem coord (t : Fin cfg0.N) : (grid0.coords t 0).val = t.val := (idx t).2.2.2.2.2.2.2.2.2.2.2

/-- An entry of the operand some rows back, whatever the spelling of the row. -/
theorem back_row (c : Dev nD) (k : ℕ) (i j : Fin 4096) (d : Fin 1024) (h : j.val + k = i.val) :
    Conv.back (aP m c) k i d = Conv.cg (aP m c) j d * Conv.xc (aP m c) j d := by
  unfold Conv.back
  rw [dif_pos (by omega)]
  have e : (⟨i.val - k, by omega⟩ : Fin 4096) = j := Fin.ext (by show i.val - k = j.val; omega)
  rw [e]
theorem ahead_row (c : Dev nD) (k : ℕ) (i j : Fin 4096) (d : Fin 1024) (h : i.val + k = j.val) :
    Conv.ahead (aP m c) (aC m c) k i d = aC m c j d * Conv.bg (aP m c) j d := by
  have hj := j.isLt
  unfold Conv.ahead Conv.dconv
  rw [dif_pos (by omega)]
  have e : (⟨i.val + k, by omega⟩ : Fin 4096) = j := Fin.ext h
  rw [e]

/-- The operand no, one and two positions back, as the kernel forms it. -/
theorem u0 (c : Dev nD) (t : Fin cfg0.N) (a : Fin 512) (d : Fin 1024) :
    k0_pay8 (iblk m c 4 t) (iblk m c 6 t) (ix2 a d) = Conv.back (aP m c) 0 (row t a) d := by
  unfold_payloads
  pointwise
  rw [blk4, blk6, back_row m c 0 _ (row t a) d rfl]

@[inherit_doc u0] theorem u1 (c : Dev nD) (t : Fin cfg0.N) (a : Fin 512) (d : Fin 1024) :
    k0_pay10 (grid0.coords t) (iblk m c 4 t) (iblk m c 6 t) (iblk m c 5 t) (iblk m c 7 t) (ix2 a d)
      = Conv.back (aP m c) 1 (row t a) d := by
  have ht := tlt t
  have ha := a.isLt
  unfold_payloads
  pointwise
  rw [sel_eq _ 0 (by omega) (by omega), sel_gt _ 0 (by rw [coord]; omega) (by omega), coord]
  split_ifs with h1 h2
  · rw [blk5 m c t _ d h2, blk7 m c t _ d h2, back_row m c 1 _ _ d]
    show t.val * 512 - 8 + 7 + 1 = t.val * 512 + a.val
    omega
  · unfold Conv.back
    rw [dif_neg]
    show ¬ 1 ≤ t.val * 512 + a.val
    omega
  · rw [blk4, blk6, back_row m c 1 _ _ d]
    show t.val * 512 + (a.val + 512 - 1) % 512 + 1 = t.val * 512 + a.val
    omega

@[inherit_doc u0] theorem u2 (c : Dev nD) (t : Fin cfg0.N) (a : Fin 512) (d : Fin 1024) :
    k0_pay13 (k0_pay9 (grid0.coords t) (iblk m c 5 t) (iblk m c 7 t))
        (k0_pay11 (grid0.coords t) (iblk m c 4 t) (iblk m c 6 t) (iblk m c 5 t) (iblk m c 7 t)) k0_pay12 (ix2 a d)
      = Conv.back (aP m c) 2 (row t a) d := by
  have ht := tlt t
  have ha := a.isLt
  unfold_payloads
  pointwise
  rw [sel_eq _ 1 (by omega) (by omega), sel_eq _ 0 (by omega) (by omega), sel_gt _ 0 (by rw [coord]; omega) (by omega),
    sel_gt _ 0 (by rw [coord]; omega) (by omega), coord]
  split_ifs with h1 h2 h3 h4
  · rw [blk5 m c t _ d h2, blk7 m c t _ d h2, back_row m c 2 _ _ d]
    show t.val * 512 - 8 + 7 + 2 = t.val * 512 + a.val
    omega
  · unfold Conv.back
    rw [dif_neg]
    show ¬ 2 ≤ t.val * 512 + a.val
    omega
  · rw [blk5 m c t _ d h4, blk7 m c t _ d h4, back_row m c 2 _ _ d]
    show t.val * 512 - 8 + 6 + 2 = t.val * 512 + a.val
    omega
  · unfold Conv.back
    rw [dif_neg]
    show ¬ 2 ≤ t.val * 512 + a.val
    omega
  · rw [blk4, blk6, back_row m c 2 _ _ d]
    show t.val * 512 + (a.val + 512 - 2) % 512 + 2 = t.val * 512 + a.val
    omega

/-- The cotangent of the convolution, as the kernel forms it. -/
theorem dc (c : Dev nD) (t : Fin cfg0.N) (a : Fin 512) (d : Fin 1024) :
    k0_pay16 (k0_pay7 (iblk m c 2 t)) (iblk m c 0 t) (ix2 a d) = Conv.dconv (aP m c) (aC m c) (row t a) d := by
  unfold_payloads
  pointwise
  rw [blk0, blk2]
  rfl

/-- The cotangent of the operand, as the kernel forms it. -/
theorem du_eq (c : Dev nD) (t : Fin cfg0.N) (a : Fin 512) (d : Fin 1024) :
    k0_pay23 (iblk m c 8 t) (k0_pay16 (k0_pay7 (iblk m c 2 t)) (iblk m c 0 t))
            (k0_pay17 (BitVec.ofNat 32 (grid0.coords t 0).val) (iblk m c 1 t) (iblk m c 3 t))
            (k0_pay18 (k0_pay7 (iblk m c 2 t)) (iblk m c 8 t) (iblk m c 0 t)) (k0_pay19 (iblk m c 8 t))
            (k0_pay20 (k0_pay7 (iblk m c 2 t)) (iblk m c 0 t))
            (k0_pay21 (BitVec.ofNat 32 (grid0.coords t 0).val) (iblk m c 1 t) (iblk m c 3 t)) k0_pay22 (ix2 a d)
      = Conv.du (aP m c) (aW m c) (aC m c) (row t a) d := by
  have ht := tlt t
  have ha := a.isLt
  unfold_payloads
  pointwise
  rw [sel_eq _ 511 (by omega) (by omega), sel_eq _ 511 (by omega) (by omega), sel_eq _ 510 (by omega) (by omega),
    sel_lt _ 7 (by rw [coord]; omega) (by omega), sel_lt _ 7 (by rw [coord]; omega) (by omega), coord, blk8, blk8, blk8]
  unfold Conv.du
  congr 1
  · congr 1
    · rw [blk0, blk2, ahead_row m c 0 _ (row t a) d rfl]
    · congr 1
      by_cases h1 : a.val = 511
      · rw [if_pos h1]
        by_cases h2 : t.val < 7
        · rw [if_pos h2, blk1 m c t _ d h2, blk3 m c t _ d h2, ahead_row m c 1 _ _ d]
          show t.val * 512 + a.val + 1 = t.val * 512 + 512 + 0
          omega
        · rw [if_neg h2]
          unfold Conv.ahead
          rw [dif_neg]
          show ¬ t.val * 512 + a.val + 1 < 4096
          omega
      · rw [if_neg h1, blk0, blk2, ahead_row m c 1 _ _ d]
        show t.val * 512 + a.val + 1 = t.val * 512 + (a.val + 512 - 511) % 512
        omega
  · congr 1
    by_cases h1 : a.val = 511 ∨ a.val = 510
    · by_cases h2 : t.val < 7
      · simp only [if_pos h2]
        by_cases h3 : a.val = 511
        · rw [if_pos h3, blk1 m c t _ d h2, blk3 m c t _ d h2, ahead_row m c 2 _ _ d]
          show t.val * 512 + a.val + 2 = t.val * 512 + 512 + 1
          omega
        · rw [if_neg h3, if_pos (by omega), blk1 m c t _ d h2, blk3 m c t _ d h2, ahead_row m c 2 _ _ d]
          show t.val * 512 + a.val + 2 = t.val * 512 + 512 + 0
          omega
      · simp only [if_neg h2]
        have e : Conv.ahead (aP m c) (aC m c) 2 (row t a) d = 0 := by
          unfold Conv.ahead
          rw [dif_neg]
          show ¬ t.val * 512 + a.val + 2 < 4096
          omega
        rw [e]
        rcases h1 with h3 | h3
        · rw [if_pos h3]
        · rw [if_neg (by omega), if_pos h3]
    · rw [if_neg (by omega), if_neg (by omega), blk0, blk2, ahead_row m c 2 _ _ d]
      show t.val * 512 + a.val + 2 = t.val * 512 + (a.val + 512 - 510) % 512
      omega

/-- The last two column groups of the first result. -/
theorem times26 (c : Dev nD) (t : Fin cfg0.N) (a : Fin 512) (d : Fin 1024) :
    k0_pay26 (k0_pay5 (iblk m c 4 t)) (iblk m c 8 t) (k0_pay16 (k0_pay7 (iblk m c 2 t)) (iblk m c 0 t))
            (k0_pay17 (BitVec.ofNat 32 (grid0.coords t 0).val) (iblk m c 1 t) (iblk m c 3 t))
            (k0_pay18 (k0_pay7 (iblk m c 2 t)) (iblk m c 8 t) (iblk m c 0 t)) (k0_pay19 (iblk m c 8 t))
            (k0_pay20 (k0_pay7 (iblk m c 2 t)) (iblk m c 0 t))
            (k0_pay21 (BitVec.ofNat 32 (grid0.coords t 0).val) (iblk m c 1 t) (iblk m c 3 t)) k0_pay22 (ix2 a d)
      = Conv.dproj (aP m c) (aW m c) (aB m c) (aC m c) (row t a) ⟨2048 + d.val, by omega⟩ := by
  rw [Conv.dproj_2, ← du_eq, ← blk4]
  unfold k0_pay26 k0_pay5
  pointwise
@[inherit_doc times26] theorem times25 (c : Dev nD) (t : Fin cfg0.N) (a : Fin 512) (d : Fin 1024) :
    k0_pay25 (k0_pay6 (iblk m c 6 t)) (iblk m c 8 t) (k0_pay16 (k0_pay7 (iblk m c 2 t)) (iblk m c 0 t))
            (k0_pay17 (BitVec.ofNat 32 (grid0.coords t 0).val) (iblk m c 1 t) (iblk m c 3 t))
            (k0_pay18 (k0_pay7 (iblk m c 2 t)) (iblk m c 8 t) (iblk m c 0 t)) (k0_pay19 (iblk m c 8 t))
            (k0_pay20 (k0_pay7 (iblk m c 2 t)) (iblk m c 0 t))
            (k0_pay21 (BitVec.ofNat 32 (grid0.coords t 0).val) (iblk m c 1 t) (iblk m c 3 t)) k0_pay22 (ix2 a d)
      = Conv.dproj (aP m c) (aW m c) (aB m c) (aC m c) (row t a) ⟨1024 + d.val, by omega⟩ := by
  rw [Conv.dproj_1, ← du_eq, ← blk6]
  unfold k0_pay25 k0_pay6
  pointwise

/-- The convolution times the output's cotangent, as the kernel forms it. -/
theorem times24 (c : Dev nD) (t : Fin cfg0.N) (a : Fin 512) (d : Fin 1024) :
    k0_pay24
      (k0_pay14 (k0_pay8 (iblk m c 4 t) (iblk m c 6 t)) (k0_pay9 (grid0.coords t) (iblk m c 5 t) (iblk m c 7 t))
        (k0_pay10 (grid0.coords t) (iblk m c 4 t) (iblk m c 6 t) (iblk m c 5 t) (iblk m c 7 t))
        (k0_pay11 (grid0.coords t) (iblk m c 4 t) (iblk m c 6 t) (iblk m c 5 t) (iblk m c 7 t)) k0_pay12 (iblk m c 8 t)
        (iblk m c 9 t))
      (k0_pay15 (iblk m c 0 t)) (ix2 a d)
      = Conv.dproj (aP m c) (aW m c) (aB m c) (aC m c) (row t a) ⟨d.val, by omega⟩ := by
  rw [Conv.dproj_0]
  unfold Conv.conv
  rw [← u0, ← u1, ← u2, ← blk9 m c t 0, ← blk8 m c t, ← blk8 m c t, ← blk8 m c t, ← blk0]
  unfold k0_pay24 k0_pay14 k0_pay15
  pointwise

/-- The first result's block. -/
theorem out10 (c : Dev nD) (t : Fin cfg0.N) (a : Fin 512) (e : Fin 3072) :
    (outsAt0 m c t.val t.isLt).1 (ix2 a e) = Conv.dproj (aP m c) (aW m c) (aB m c) (aC m c) (row t a) e := by
  by_cases h : t.val % 8 = 0
  · rw [outsAt0_A m c t h]
    frame_out
    canon_tiles x h
    · idx_vars x
      rw [times26]
      exact congrArg₂ _ (Fin.ext (congrArg (t.val * 512 + ·) h0.symm)) (Fin.ext h1.symm)
    · idx_vars x
      rw [times25]
      exact congrArg₂ _ (Fin.ext (congrArg (t.val * 512 + ·) h0.symm)) (Fin.ext h1.symm)
    · idx_vars x
      rw [times24]
      exact congrArg₂ _ (Fin.ext (congrArg (t.val * 512 + ·) h0.symm)) (Fin.ext h1.symm)
  · rw [outsAt0_B m c t h]
    frame_out
    canon_tiles x h
    · idx_vars x
      rw [times26]
      exact congrArg₂ _ (Fin.ext (congrArg (t.val * 512 + ·) h0.symm)) (Fin.ext h1.symm)
    · idx_vars x
      rw [times25]
      exact congrArg₂ _ (Fin.ext (congrArg (t.val * 512 + ·) h0.symm)) (Fin.ext h1.symm)
    · idx_vars x
      rw [times24]
      exact congrArg₂ _ (Fin.ext (congrArg (t.val * 512 + ·) h0.symm)) (Fin.ext h1.symm)

/-- One block's part of the bias gradient, rows of one residue modulo 8. -/
def part (c : Dev nD) (p : Fin cfg0.N) (a : Fin 8) (d : Fin 1024) : EReal :=
  ∑ x : Fin 64, Conv.dconv (aP m c) (aC m c) (row p ⟨x.val * 8 + a.val, by omega⟩) d

theorem acc11 (c : Dev nD) (a : Fin 8) (d : Fin 1024) :
    (outsAt0 m c t0_7.val t0_7.isLt).2.1 (ix2 a d) = 0 + ∑ p : Fin cfg0.N, part m c p a d := by
  refine Pipeline.eq_sum_fin_of_reset_step_apply_last (fun n h => (outsAt0 m c n h).2.1) 8 (fun _ => 0)
    (fun p i => part m c p (i 0) (i 1))
    (fun t h i => ?_) (fun t h i => ?_) (le_of_eq N_0) t0_7 N_0.symm (ix2 a d)
  · idx_vars i
    rw [outsAt0_A m c t h]
    frame_out
    unfold_payloads
    pointwise
    exact Finset.sum_congr rfl fun x _ => by rw [blk0, blk2]; rfl
  · idx_vars i
    rw [outsAt0_B m c t h]
    frame_out
    unfold_payloads
    pointwise
    exact congrArg _ (Finset.sum_congr rfl fun x _ => by rw [blk0, blk2]; rfl)

/-- The same for one tap. -/
def part' (c : Dev nD) (p : Fin cfg0.N) (k : ℕ) (a : Fin 8) (d : Fin 1024) : EReal :=
  ∑ x : Fin 64, Conv.dconv (aP m c) (aC m c) (row p ⟨x.val * 8 + a.val, by omega⟩) d
    * Conv.back (aP m c) k (row p ⟨x.val * 8 + a.val, by omega⟩) d

/-- What the three stores of a point leave of the taps' accumulator. -/
theorem step12 (c : Dev nD) (t : Fin cfg0.N) (z0 z1 z2 : FVec Ideal S8x1024 .f32) (Z : Fin 24 → Fin 1024 → EReal)
    (h0' : ∀ a d, z0 (ix2 a d) = Z ⟨0 + a.val, by omega⟩ d) (h1' : ∀ a d, z1 (ix2 a d) = Z ⟨8 + a.val, by omega⟩ d)
    (h2' : ∀ a d, z2 (ix2 a d) = Z ⟨16 + a.val, by omega⟩ d) (k : Fin 3) (a : Fin 8) (d : Fin 1024) :
    View.canon (Val := Elt Ideal) (s := S24x1024) (e := .f32)
      [⟨Rect.unit ![16, 0] ![8, 1024] inb_S24x1024_S8x1024_16_0,
          k0_pay4 (k0_pay8 (iblk m c 4 t) (iblk m c 6 t)) (k0_pay16 (k0_pay7 (iblk m c 2 t)) (iblk m c 0 t)) z2⟩,
        ⟨Rect.unit ![8, 0] ![8, 1024] inb_S24x1024_S8x1024_8_0,
          k0_pay3 (k0_pay10 (grid0.coords t) (iblk m c 4 t) (iblk m c 6 t) (iblk m c 5 t) (iblk m c 7 t))
            (k0_pay16 (k0_pay7 (iblk m c 2 t)) (iblk m c 0 t)) z1⟩,
        ⟨Rect.unit ![0, 0] ![8, 1024] inb_S24x1024_S8x1024_0_0,
          k0_pay2
            (k0_pay13 (k0_pay9 (grid0.coords t) (iblk m c 5 t) (iblk m c 7 t))
              (k0_pay11 (grid0.coords t) (iblk m c 4 t) (iblk m c 6 t) (iblk m c 5 t) (iblk m c 7 t)) k0_pay12)
            (k0_pay16 (k0_pay7 (iblk m c 2 t)) (iblk m c 0 t)) z0⟩]
      (ix2 (⟨k.val * 8 + a.val, by omega⟩ : Fin 24) d)
        = Z ⟨k.val * 8 + a.val, by omega⟩ d + part' m c t (2 - k.val) a d := by
  have hk := k.isLt
  have ha := a.isLt
  canon_tiles x h
  · idx_vars x
    unfold k0_pay4
    pointwise
    obtain rfl : k = 2 := Fin.ext (by show k.val = 2; omega)
    obtain rfl : x0 = a := Fin.ext (by omega)
    obtain rfl : x1 = d := Fin.ext h1.symm
    rw [h2']
    exact congrArg (Z ⟨16 + x0.val, by omega⟩ x1 + ·) (Finset.sum_congr rfl fun x _ => by rw [dc, u0]; rfl)
  · idx_vars x
    unfold k0_pay3
    pointwise
    obtain rfl : k = 1 := Fin.ext (by show k.val = 1; omega)
    obtain rfl : x0 = a := Fin.ext (by omega)
    obtain rfl : x1 = d := Fin.ext h1.symm
    rw [h1']
    exact congrArg (Z ⟨8 + x0.val, by omega⟩ x1 + ·) (Finset.sum_congr rfl fun x _ => by rw [dc, u1]; rfl)
  · idx_vars x
    unfold k0_pay2
    pointwise
    obtain rfl : k = 0 := Fin.ext (by show k.val = 0; omega)
    obtain rfl : x0 = a := Fin.ext (by omega)
    obtain rfl : x1 = d := Fin.ext h1.symm
    rw [h0']
    exact congrArg (Z ⟨0 + x0.val, by omega⟩ x1 + ·) (Finset.sum_congr rfl fun x _ => by rw [dc, u2]; rfl)

theorem acc12 (c : Dev nD) (k : Fin 3) (a : Fin 8) (d : Fin 1024) :
    (outsAt0 m c t0_7.val t0_7.isLt).2.2 (ix2 (⟨k.val * 8 + a.val, by omega⟩ : Fin 24) d)
      = 0 + ∑ p : Fin cfg0.N, part' m c p (2 - k.val) a d := by
  refine Pipeline.eq_sum_fin_of_reset_step_apply_last
    (fun n h (_ : Unit) => (outsAt0 m c n h).2.2 (ix2 (⟨k.val * 8 + a.val, by omega⟩ : Fin 24) d)) 8 (fun _ => 0)
    (fun p _ => part' m c p (2 - k.val) a d)
    (fun t h _ => ?_) (fun t h _ => ?_) (le_of_eq N_0) t0_7 N_0.symm ()
  · rw [outsAt0_A m c t h]
    frame_open
    simp (disch := decide) only [↓ View.readCov_skip, ↓ View.readCov_cons_toLoadRect, ↓ View.readCov_fill]
    frame_out
    refine (Canon.canon_append [_] [_, _, _] _ (View.cover_of_tiled_head _ _ _ (by rfl) _)).trans ?_
    refine step12 m c t _ _ _ (fun _ _ => 0) ?_ ?_ ?_ k a d <;> intro a d <;> unfold k0_pay28 <;> pointwise
  · rw [outsAt0_B m c t h]
    frame_out
    refine step12 m c t _ _ _ (fun i j => (outsAt0 m c (t.val - 1) (by omega)).2.2 (ix2 i j)) ?_ ?_ ?_ k a d <;> intro a d <;> pointwise

/-- The three arrays the kernel leaves. -/
theorem arr10 (c : Dev nD) : (dats m 0 c).arrAt 10 cfg0.N = fun j => Conv.dproj (aP m c) (aW m c) (aB m c) (aC m c) (j 0) (j 1) := by
  refine (dats m 0 c).arrAt_eq_of_covers 10 _ (by decide +kernel) fun t hf y => ?_
  have e0 : ((((cfg0.win 10).blk t).view.emb y) 0 : ℕ) = t.val * 512 + (y 0).val := by blk_simp [(idx t).2.2.2.2.2.2.2.2.2.2.1]
  have e1 : ((((cfg0.win 10).blk t).view.emb y) 1 : ℕ) = (y 1).val := by blk_simp [(idx t).2.2.2.2.2.2.2.2.2.2.1]
  generalize ((cfg0.win 10).blk t).view.emb y = j at e0 e1
  blk_simp
  rw [after0_10]
  idx_vars y
  refine (out10 m c t y0 y1).trans ?_
  exact congrArg₂ (Conv.dproj (aP m c) (aW m c) (aB m c) (aC m c)) (Fin.ext e0.symm) (Fin.ext e1.symm)
@[inherit_doc arr10] theorem arr11 (c : Dev nD) : (dats m 0 c).arrAt 11 cfg0.N = fun j => ∑ p : Fin cfg0.N, part m c p (j 0) (j 1) := by
  refine (dats m 0 c).arrAt_eq_of_after_last 11 t0_7 (by decide +kernel) _ fun j => ?_
  blk_simp
  rw [after0_11]
  idx_vars j
  exact (acc11 m c j0 j1).trans (zero_add _)
@[inherit_doc arr10] theorem arr12 (c : Dev nD) (k : Fin 3) (a : Fin 8) (d : Fin 1024) :
    (dats m 0 c).arrAt 12 cfg0.N (ix2 (⟨k.val * 8 + a.val, by omega⟩ : Fin 24) d) = ∑ p : Fin cfg0.N, part' m c p (2 - k.val) a d := by
  rw [← zero_add (∑ p : Fin cfg0.N, part' m c p (2 - k.val) a d), ← acc12]
  refine congrFun ((dats m 0 c).arrAt_eq_of_after_last 12 t0_7 (by decide +kernel) _ fun j => ?_) _
  blk_simp
  rw [after0_12]

/-- A result's array is read, after the pipeline, as the pipeline left it. -/
theorem through (c : Dev nD) (w : Fin 13) : Pipeline.withArrays (cfgs 0).spec c (V0 m c) (fun w => (dats m 0 c).arrAt w (cfgs 0).N)
    (Proc.tc.devRef (Pipeline.arrRef spec0 w)) = (dats m 0 c).arrAt w cfg0.N :=
  Pipeline.withArrays_arr_shared _ c _ _ ((dats m 0 c).arrAt_sharedIn (by decide) (V0 m c) (A_eq m c) _) w

/-- The sums over the partial sums, after the pipeline. -/
theorem tail4 (c : Dev nD) (d : Fin 1024) : Pipeline.afterTail₀ cfgs (dats m) 0 (V0 m) [hostOps1] c main_v4 (ix1 d) = Conv.dbias (aP m c) (aC m c) d := by
  unfold Pipeline.afterTail₀
  simp only [hostOps1, List.flatten_cons, List.flatten_nil, List.append_nil, List.cons_append, List.nil_append]
  after_results
  erw [through m c 11]
  rw [arr11]
  pointwise
  exact Rows.sum_rows N_0 fun i => Conv.dconv (aP m c) (aC m c) i d

@[inherit_doc tail4] theorem tail6 (c : Dev nD) (k : Fin 3) (d : Fin 1024) : Pipeline.afterTail₀ cfgs (dats m) 0 (V0 m) [hostOps1] c main_v6 (ix2 k d) = Conv.dtaps (aP m c) (aC m c) k d := by
  unfold Pipeline.afterTail₀
  simp only [hostOps1, List.flatten_cons, List.flatten_nil, List.append_nil, List.cons_append, List.nil_append]
  after_results
  erw [through m c 12]
  pointwise
  simp only [arr12]
  exact Rows.sum_rows N_0 fun i => Conv.dconv (aP m c) (aC m c) i d * Conv.back (aP m c) (2 - k.val) i d

/-- The kernel's run: its three results as functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v3_0) = (fun j => Conv.dproj (aP m c) (aW m c) (aB m c) (aC m c) (j 0) (j 1))
    ∧ r.2.mem ((c.tc : Thread nD τ).loc main_v4) = (fun j => Conv.dbias (aP m c) (aC m c) (j 0))
    ∧ r.2.mem ((c.tc : Thread nD τ).loc main_v6) = (fun j => Conv.dtaps (aP m c) (aC m c) (j 0) (j 1))) := by
  run_from Gen.run_main m ρ
  · exact arr10 m c
  · funext j
    idx_vars j
    exact tail4 m c j0
  · funext j
    idx_vars j
    exact tail6 m c j0 j1

end Cert.KernelIdeal.Val
end
-- ==== Proof.Conv.Reference.lean ====
module

public import proofs.«01_k».proof.Proof.Gen.ReferenceIdeal.Run
public import proofs.«01_k».proof.Proof.Gen.ReferenceIdeal.Read
public import Idealize.ShloMosaic.Lib.Pointwise
public import Idealize.ShloMosaic.Lib.Claim
public import proofs.«01_k».proof.Proof.Conv.Spec

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.ReferenceIdeal.Read

variable (x0 : (⟨S4096x6144, .f32⟩ : BufTy).Contents (Elt Ideal)) (x1 : (⟨S3x1024, .f32⟩ : BufTy).Contents (Elt Ideal))
  (x2 : (⟨S1024, .f32⟩ : BufTy).Contents (Elt Ideal)) (x3 : (⟨S4096x1024, .f32⟩ : BufTy).Contents (Elt Ideal))

/-- The arguments, entry by entry. -/
abbrev fP (i : Fin 4096) (j : Fin 6144) : EReal := x0 (ix2 i j)
@[inherit_doc fP] abbrev fW (i : Fin 3) (j : Fin 1024) : EReal := x1 (ix2 i j)
@[inherit_doc fP] abbrev fB (j : Fin 1024) : EReal := x2 (ix1 j)
@[inherit_doc fP] abbrev fC (i : Fin 4096) (j : Fin 1024) : EReal := x3 (ix2 i j)

theorem v36 (i : Fin 4096) (d : Fin 1024) : val_main_v36 (F := Ideal) x0 x3 (ix2 i d) = Conv.dconv (fP x0) (fC x3) i d := by
  unfold val_main_v36 val_main_v3 Conv.dconv Conv.bg
  pointwise
  rw [mul_comm]

theorem v8 (i : Fin 4098) (d : Fin 1024) : val_main_v8 (F := Ideal) x0 (ix2 i d)
    = if h : 2 ≤ i.val then Conv.cg (fP x0) ⟨i.val - 2, by omega⟩ d * Conv.xc (fP x0) ⟨i.val - 2, by omega⟩ d else 0 := by
  unfold val_main_v8 val_main_v7 val_main_cst val_main_v6 val_main_v4 val_main_v5 Conv.cg Conv.xc
  pointwise
  by_cases h : i.val < 2
  · rw [dif_pos h, dif_neg (by omega)]
  · rw [dif_neg h, dif_pos (by omega)]

theorem v12 (i : Fin 4096) (d : Fin 1024) : val_main_v12 (F := Ideal) x0 (ix2 i d) = Conv.back (fP x0) 2 i d := by
  unfold val_main_v12 Conv.back
  pointwise
  rw [v8]
theorem v20 (i : Fin 4096) (d : Fin 1024) : val_main_v20 (F := Ideal) x0 (ix2 i d) = Conv.back (fP x0) 1 i d := by
  unfold val_main_v20
  pointwise
  rw [v8]
  unfold Conv.back
  by_cases h : 1 ≤ i.val
  · rw [dif_pos h, dif_pos (show 2 ≤ 1 + i.val by omega)]
    exact congrArg (fun j => Conv.cg (fP x0) j d * Conv.xc (fP x0) j d) (Fin.ext (by show 1 + i.val - 2 = i.val - 1; omega))
  · rw [dif_neg h, dif_neg (show ¬ 2 ≤ 1 + i.val by omega)]
theorem v27 (i : Fin 4096) (d : Fin 1024) : val_main_v27 (F := Ideal) x0 (ix2 i d) = Conv.back (fP x0) 0 i d := by
  unfold val_main_v27
  pointwise
  rw [v8]
  unfold Conv.back
  rw [dif_pos (Nat.zero_le _), dif_pos (show 2 ≤ 2 + i.val by omega)]
  exact congrArg (fun j => Conv.cg (fP x0) j d * Conv.xc (fP x0) j d) (Fin.ext (by show 2 + i.val - 2 = i.val - 0; omega))
theorem v34 (i : Fin 4096) (d : Fin 1024) : val_main_v34 (F := Ideal) x0 x1 x2 (ix2 i d) = Conv.conv (fP x0) (fW x1) (fB x2) i d := by
  unfold val_main_v34 val_main_v33 val_main_v32 val_main_v31 val_main_v24 val_main_v17 val_main_v16 val_main_cst_1 val_main_v15 val_main_v14 val_main_v13 val_main_v11 val_main_v10
    val_main_v23 val_main_v22 val_main_v21 val_main_v19 val_main_v18 val_main_v30 val_main_v29 val_main_v28 val_main_v26 val_main_v25 Conv.conv
  rw [← v12, ← v20, ← v27]
  pointwise
theorem v73 (i : Fin 4096) (d : Fin 1024) : val_main_v73 (F := Ideal) x0 x1 x3 (ix2 i d) = Conv.du (fP x0) (fW x1) (fC x3) i d := by
  unfold val_main_v73 val_main_v68 val_main_v67 val_main_v57 val_main_v56 val_main_v47 val_main_v42 val_main_v41 val_main_v62 val_main_v61 val_main_v51 val_main_v50
    val_main_v13 val_main_v11 val_main_v10 val_main_v21 val_main_v19 val_main_v18 val_main_v28 val_main_v26 val_main_v25
    val_main_cst_6 val_main_cst_10 val_main_cst_14
  pointwise
  simp only [v36]
  have e2 : Conv.ahead (fP x0) (fC x3) 0 i d = Conv.dconv (fP x0) (fC x3) i d := by
    unfold Conv.ahead
    rw [dif_pos (by omega)]
    rfl
  have e1 : (if h : 1 ≤ 2 + i.val ∧ 2 + i.val - 1 < 4096 then x1 (ix2 1 d) * Conv.dconv (fP x0) (fC x3) ⟨2 + i.val - 1, h.2⟩ d else 0)
      = fW x1 1 d * Conv.ahead (fP x0) (fC x3) 1 i d := by
    unfold Conv.ahead
    by_cases h : i.val + 1 < 4096
    · rw [dif_pos h, dif_pos ⟨by omega, by omega⟩]
      exact congrArg (fun j => fW x1 1 d * Conv.dconv (fP x0) (fC x3) j d) (Fin.ext (by show 2 + i.val - 1 = i.val + 1; omega))
    · rw [dif_neg h, dif_neg (by omega), mul_zero]
  have e0 : (if h : 2 + i.val < 4096 then x1 (ix2 0 d) * Conv.dconv (fP x0) (fC x3) ⟨2 + i.val, h⟩ d else 0)
      = fW x1 0 d * Conv.ahead (fP x0) (fC x3) 2 i d := by
    unfold Conv.ahead
    by_cases h : i.val + 2 < 4096
    · rw [dif_pos h, dif_pos (by omega)]
      exact congrArg (fun j => fW x1 0 d * Conv.dconv (fP x0) (fC x3) j d) (Fin.ext (by show 2 + i.val = i.val + 2; omega))
    · rw [dif_neg h, dif_neg (by omega), mul_zero]
  rw [e1, e0, ← e2]
  rfl
theorem v40 (d : Fin 1024) : val_main_v40 (F := Ideal) x0 x3 (ix1 d) = Conv.dbias (fP x0) (fC x3) d := by
  unfold val_main_v40 val_main_v39 val_main_v38 val_main_cst_2 val_main_cst_3 Conv.dbias
  pointwise
  simp only [v36]
  simp only [Finset.univ_unique, Finset.sum_singleton]
theorem v71 (k : Fin 3) (d : Fin 1024) : val_main_v71 (F := Ideal) x0 x3 (ix2 k d) = Conv.dtaps (fP x0) (fC x3) k d := by
  unfold val_main_v71 val_main_v70 val_main_v60 val_main_v59 val_main_v49 val_main_v69 val_main_v66 val_main_v65 val_main_v64 val_main_v63
    val_main_v58 val_main_v55 val_main_v54 val_main_v53 val_main_v52 val_main_v48 val_main_v46 val_main_v45 val_main_v44 val_main_v43
    val_main_cst_4 val_main_cst_5 val_main_cst_7 val_main_cst_8 val_main_cst_9 val_main_cst_11 val_main_cst_12 val_main_cst_13 val_main_cst_15 Conv.dtaps
  pointwise
  simp only [v36, v12, v20, v27]
  simp only [Finset.univ_unique, Finset.sum_singleton]
  match k with
  | 0 => simp
  | 1 => simp
  | 2 => simp
theorem v77 (i : Fin 4096) (e : Fin 3072) : val_main_v77 (F := Ideal) x0 x1 x2 x3 (ix2 i e) = Conv.dproj (fP x0) (fW x1) (fB x2) (fC x3) i e := by
  unfold val_main_v77 val_main_v76 val_main_v37 val_main_v75 val_main_v74 val_main_v4 val_main_v5 Conv.dproj
  pointwise
  simp only [v34, v73]
  by_cases h : e.val < 1024
  · rw [dif_pos h, dif_pos h]
  · rw [dif_neg h, dif_neg h]
    by_cases h' : e.val < 2048
    · rw [dif_pos (by omega), dif_pos h']
      rfl
    · rw [dif_neg (by omega), dif_neg h', mul_comm]
      congr 1

variable (m : (ℓ : Loc nD τ sig) → Buf (Elt Ideal) ℓ)

/-- The reference's run: its three results as the same functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v77) = (fun j => Conv.dproj (fP (m ((c.tc : Thread nD τ).loc main_arg0))) (fW (m ((c.tc : Thread nD τ).loc main_arg1)))
      (fB (m ((c.tc : Thread nD τ).loc main_arg2))) (fC (m ((c.tc : Thread nD τ).loc main_arg3))) (j 0) (j 1))
    ∧ r.2.mem ((c.tc : Thread nD τ).loc main_v40) = (fun j => Conv.dbias (fP (m ((c.tc : Thread nD τ).loc main_arg0))) (fC (m ((c.tc : Thread nD τ).loc main_arg3))) (j 0))
    ∧ r.2.mem ((c.tc : Thread nD τ).loc main_v71) = (fun j => Conv.dtaps (fP (m ((c.tc : Thread nD τ).loc main_arg0))) (fC (m ((c.tc : Thread nD τ).loc main_arg3))) (j 0) (j 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run _ _ _).mono (fun r h c => ⟨(h c).1.trans ?_, (h c).2.1.trans ?_, (h c).2.2.1.trans ?_, (h c).2.2.2⟩) (Cert.ReferenceIdeal.Value.run m ρ)
  · rw [val_main_v77_eq]
    funext j
    idx_vars j
    exact v77 _ _ _ _ j0 j1
  · rw [val_main_v40_eq]
    funext j
    idx_vars j
    exact v40 _ _ j0
  · rw [val_main_v71_eq]
    funext j
    idx_vars j
    exact v71 _ _ j0 j1

end Cert.ReferenceIdeal.Val
end
-- ==== Proof.Mix.Spec.lean ====
module

public import Mathlib.Data.EReal.Operations
public import Mathlib.Algebra.BigOperators.Fin
public import Idealize.ShloMosaic.PureOps.Ideal

@[expose] public section

noncomputable section

/-! The gradients of the gated merge of the two branches, entry by entry, over the extended reals. -/

namespace Cert.Mix

open scoped BigOperators
open Idealize.ShloMosaic

/-- A product of two matrices, the second as it is or transposed. -/
def mm {a b n : ℕ} (x : Fin a → Fin n → EReal) (y : Fin n → Fin b → EReal) (i : Fin a) (j : Fin b) : EReal := ∑ k, x i k * y k j
@[inherit_doc mm] def mt {a b n : ℕ} (x : Fin a → Fin n → EReal) (y : Fin b → Fin n → EReal) (i : Fin a) (j : Fin b) : EReal := ∑ k, x i k * y j k

/-- The gates. -/
def gate (H : Fin 4096 → Fin 1024 → EReal) (Wg : Fin 1024 → Fin 2048 → EReal) (b : Fin 2048 → EReal) (i : Fin 4096) (e : Fin 2048) : EReal :=
  Ideal.div 1 (1 + Ideal.exp (-(mm H Wg i e + b e)))

variable (G : Fin 4096 → Fin 2048 → EReal) (A B C : Fin 4096 → Fin 1024 → EReal) (Wo Wa : Fin 1024 → Fin 1024 → EReal)

/-- The gradients of the two branches: the cotangent through the output product, times the branch's gate. -/
def dya (i : Fin 4096) (d : Fin 1024) : EReal := mt C Wo i d * G i ⟨d.val, by omega⟩
@[inherit_doc dya] def dyc (i : Fin 4096) (d : Fin 1024) : EReal := mt C Wo i d * G i ⟨1024 + d.val, by omega⟩

/-- The gradient of what the gates are formed of. -/
def dgp (i : Fin 4096) (e : Fin 2048) : EReal :=
  if h : e.val < 1024 then mt C Wo i ⟨e.val, h⟩ * A i ⟨e.val, h⟩ * G i e * (1 - G i e)
  else mt C Wo i ⟨e.val - 1024, by omega⟩ * B i ⟨e.val - 1024, by omega⟩ * G i e * (1 - G i e)

theorem dgp_0 (i : Fin 4096) (d : Fin 1024) : dgp G A B C Wo i ⟨d.val, by omega⟩
    = mt C Wo i d * A i d * G i ⟨d.val, by omega⟩ * (1 - G i ⟨d.val, by omega⟩) := by
  unfold dgp
  rw [dif_pos d.isLt]
theorem dgp_1 (i : Fin 4096) (d : Fin 1024) : dgp G A B C Wo i ⟨1024 + d.val, by omega⟩
    = mt C Wo i d * B i d * G i ⟨1024 + d.val, by omega⟩ * (1 - G i ⟨1024 + d.val, by omega⟩) := by
  have e : (⟨1024 + d.val - 1024, by omega⟩ : Fin 1024) = d := Fin.ext (by show 1024 + d.val - 1024 = d.val; omega)
  unfold dgp
  rw [dif_neg (by show ¬ 1024 + d.val < 1024; omega), e]

/-- The gradient of the gates' bias. -/
def dbg (e : Fin 2048) : EReal := ∑ i, dgp G A B C Wo i e

/-- A sum over 2048 columns is the sum over the first 1024 and over the last. -/
theorem halves {M : Type*} [AddCommMonoid M] (f : Fin 2048 → M) :
    ∑ e, f e = ∑ d : Fin 1024, f ⟨d.val, by omega⟩ + ∑ d : Fin 1024, f ⟨1024 + d.val, by omega⟩ :=
  Fin.sum_univ_add (a := 1024) (b := 1024) f

end Cert.Mix
end
-- ==== Proof.Mix.Kernel.lean ====
module

public import proofs.«01_k».proof.Proof.Gen.Kernel2Ideal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
public import proofs.«01_k».proof.Proof.Mix.Spec
public import proofs.«01_k».proof.Proof.Rows
public import proofs.«01_k».proof.Proof.Canon

@[expose] public section

set_option maxRecDepth 16384

noncomputable section

namespace Cert.Kernel2Ideal.Val

open Idealize.ShloMosaic Idealize.ShloMosaic.TcCoe Idealize.SL.Sem
open Cert.Kernel2Ideal Cert.Kernel2Ideal.Gen

variable (m : (ℓ : Loc nD τ sig) → Buf (Elt Ideal) ℓ)

/-- The arguments and the saved values the results are functions of, entry by entry. -/
abbrev aG (c : Dev nD) (i : Fin 4096) (e : Fin 2048) : EReal :=
  Mix.gate (fun i k => m ((c : Thread nD τ).loc main_arg0) (ix2 i k)) (fun k e => m ((c : Thread nD τ).loc main_arg5) (ix2 k e))
    (fun e => m ((c : Thread nD τ).loc main_arg6) (ix1 e)) i e
@[inherit_doc aG] abbrev aA (c : Dev nD) (i : Fin 4096) (d : Fin 1024) : EReal :=
  Mix.mm (fun i k => m ((c : Thread nD τ).loc main_arg1) (ix2 i k)) (fun k e => m ((c : Thread nD τ).loc main_arg3) (ix2 k e)) i d
@[inherit_doc aG] abbrev aB (c : Dev nD) (i : Fin 4096) (d : Fin 1024) : EReal :=
  Mix.mm (fun i k => m ((c : Thread nD τ).loc main_arg2) (ix2 i k)) (fun k e => m ((c : Thread nD τ).loc main_arg4) (ix2 k e)) i d
@[inherit_doc aG] abbrev aC (c : Dev nD) (i : Fin 4096) (d : Fin 1024) : EReal := m ((c : Thread nD τ).loc main_arg8) (ix2 i d)
@[inherit_doc aG] abbrev aO (c : Dev nD) (i d : Fin 1024) : EReal := m ((c : Thread nD τ).loc main_arg7) (ix2 i d)
@[inherit_doc aG] abbrev aP (c : Dev nD) (i d : Fin 1024) : EReal := m ((c : Thread nD τ).loc main_arg3) (ix2 i d)
@[inherit_doc aG] abbrev aQ (c : Dev nD) (i d : Fin 1024) : EReal := m ((c : Thread nD τ).loc main_arg4) (ix2 i d)
@[inherit_doc aG] abbrev aW (c : Dev nD) (i : Fin 1024) (e : Fin 2048) : EReal := m ((c : Thread nD τ).loc main_arg5) (ix2 i e)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] :=
  (by decide +kernel : ∀ t : Fin grid0.N, _)

theorem tlt (t : Fin cfg0.N) : t.val < 8 := lt_of_lt_of_eq t.isLt N_0

/-- The row of the array that row `a` of block `t` is. -/
abbrev row (t : Fin cfg0.N) (a : Fin 512) : Fin 4096 := ⟨t.val * 512 + a.val, by have := tlt t; omega⟩

/-- What the pipelined arrays hold as the pipeline starts. -/
theorem entry0 (c : Dev nD) (i : Fin 4096) (d : Fin 1024) : V m c main_v15 (ix2 i d) = aC m c i d := by
  unfold V V0
  simp only [List.flatten_cons, List.flatten_nil, List.append_nil]
  unfold hostOps0
  after_reads_at
@[inherit_doc entry0] theorem entry1 (c : Dev nD) (i : Fin 4096) (d : Fin 2048) : V m c main_v10 (ix2 i d) = aG m c i d := by
  unfold V V0
  simp only [List.flatten_cons, List.flatten_nil, List.append_nil]
  unfold hostOps0
  after_reads_at
  rfl
@[inherit_doc entry0] theorem entry2 (c : Dev nD) (i : Fin 4096) (d : Fin 1024) : V m c main_v12 (ix2 i d) = aA m c i d := by
  unfold V V0
  simp only [List.flatten_cons, List.flatten_nil, List.append_nil]
  unfold hostOps0
  after_reads_at
  rfl
@[inherit_doc entry0] theorem entry3 (c : Dev nD) (i : Fin 4096) (d : Fin 1024) : V m c main_v14 (ix2 i d) = aB m c i d := by
  unfold V V0
  simp only [List.flatten_cons, List.flatten_nil, List.append_nil]
  unfold hostOps0
  after_reads_at
  rfl
@[inherit_doc entry0] theorem entry4 (c : Dev nD) (i d : Fin 1024) : V m c main_v16 (ix2 i d) = aO m c i d := by
  unfold V V0
  simp only [List.flatten_cons, List.flatten_nil, List.append_nil]
  unfold hostOps0
  after_reads_at
@[inherit_doc entry0] theorem entry5 (c : Dev nD) (i d : Fin 1024) : V m c main_v17 (ix2 i d) = aP m c i d := by
  unfold V V0
  simp only [List.flatten_cons, List.flatten_nil, List.append_nil]
  unfold hostOps0
  after_reads_at
@[inherit_doc entry0] theorem entry6 (c : Dev nD) (i d : Fin 1024) : V m c main_v18 (ix2 i d) = aQ m c i d := by
  unfold V V0
  simp only [List.flatten_cons, List.flatten_nil, List.append_nil]
  unfold hostOps0
  after_reads_at
@[inherit_doc entry0] theorem entry7 (c : Dev nD) (i : Fin 1024) (d : Fin 2048) : V m c main_v19 (ix2 i d) = aW m c i d := by
  unfold V V0
  simp only [List.flatten_cons, List.flatten_nil, List.append_nil]
  unfold hostOps0
  after_reads_at

/-- The blocks at a point, read in the arguments. -/
theorem blk0 (c : Dev nD) (t : Fin cfg0.N) (a : Fin 512) (d : Fin 1024) : iblk m c 0 t (ix2 a d) = aC m c (row t a) d := by
  rw [← entry0 m c]
  blk_ext [iblk, (idx t).1]
@[inherit_doc blk0] theorem blk1 (c : Dev nD) (t : Fin cfg0.N) (a : Fin 512) (d : Fin 2048) : iblk m c 1 t (ix2 a d) = aG m c (row t a) d := by
  rw [← entry1 m c]
  blk_ext [iblk, (idx t).2.1]
@[inherit_doc blk0] theorem blk2 (c : Dev nD) (t : Fin cfg0.N) (a : Fin 512) (d : Fin 1024) : iblk m c 2 t (ix2 a d) = aA m c (row t a) d := by
  rw [← entry2 m c]
  blk_ext [iblk, (idx t).2.2.1]
@[inherit_doc blk0] theorem blk3 (c : Dev nD) (t : Fin cfg0.N) (a : Fin 512) (d : Fin 1024) : iblk m c 3 t (ix2 a d) = aB m c (row t a) d := by
  rw [← entry3 m c]
  blk_ext [iblk, (idx t).2.2.2.1]
@[inherit_doc blk0] theorem blk4 (c : Dev nD) (t : Fin cfg0.N) (a d : Fin 1024) : iblk m c 4 t (ix2 a d) = aO m c a d := by
  rw [← entry4 m c]
  blk_ext [iblk, (idx t).2.2.2.2.1]
@[inherit_doc blk0] theorem blk5 (c : Dev nD) (t : Fin cfg0.N) (a d : Fin 1024) : iblk m c 5 t (ix2 a d) = aP m c a d := by
  rw [← entry5 m c]
  blk_ext [iblk, (idx t).2.2.2.2.2.1]
@[inherit_doc blk0] theorem blk6 (c : Dev nD) (t : Fin cfg0.N) (a d : Fin 1024) : iblk m c 6 t (ix2 a d) = aQ m c a d := by
  rw [← entry6 m c]
  blk_ext [iblk, (idx t).2.2.2.2.2.2.1]
@[inherit_doc blk0] theorem blk7 (c : Dev nD) (t : Fin cfg0.N) (a : Fin 1024) (d : Fin 2048) : iblk m c 7 t (ix2 a d) = aW m c a d := by
  rw [← entry7 m c]
  blk_ext [iblk, (idx t).2.2.2.2.2.2.2.1]

/-- The cotangent through the output product, as the kernel forms it. -/
theorem dm_eq (c : Dev nD) (t : Fin cfg0.N) (a : Fin 512) (d : Fin 1024) :
    k0_pay2 (iblk m c 0 t) (iblk m c 4 t) (ix2 a d) = Mix.mt (aC m c) (aO m c) (row t a) d := by
  unfold k0_pay2
  pointwise
  exact Finset.sum_congr rfl fun x _ => by rw [blk0, blk4]

/-- The two halves of the gates' gradient, as the kernel forms them. -/
theorem pay7 (c : Dev nD) (t : Fin cfg0.N) (a : Fin 512) (d : Fin 1024) :
    k0_pay7 (iblk m c 0 t) (iblk m c 4 t) (View.ld (iblk m c 1 t) (Rect.unit ![0, 0] ![512, 1024] inb_S512x2048_S512x1024_0_0))
      (iblk m c 2 t) (ix2 a d) = Mix.dgp (aG m c) (aA m c) (aB m c) (aC m c) (aO m c) (row t a) ⟨d.val, by omega⟩ := by
  rw [Mix.dgp_0, ← dm_eq, ← blk1, ← blk2]
  unfold k0_pay7 k0_pay3
  pointwise
@[inherit_doc pay7] theorem pay8 (c : Dev nD) (t : Fin cfg0.N) (a : Fin 512) (d : Fin 1024) :
    k0_pay8 (iblk m c 0 t) (iblk m c 4 t) (View.ld (iblk m c 1 t) (Rect.unit ![0, 1024] ![512, 1024] inb_S512x2048_S512x1024_0_1024))
      (iblk m c 3 t) (ix2 a d) = Mix.dgp (aG m c) (aA m c) (aB m c) (aC m c) (aO m c) (row t a) ⟨1024 + d.val, by omega⟩ := by
  rw [Mix.dgp_1, ← dm_eq, ← blk1, ← blk3]
  unfold k0_pay8 k0_pay4
  pointwise

/-- The branches' gradients, as the kernel forms them. -/
theorem pay5 (c : Dev nD) (t : Fin cfg0.N) (a : Fin 512) (d : Fin 1024) :
    k0_pay5 (iblk m c 0 t) (iblk m c 4 t) (View.ld (iblk m c 1 t) (Rect.unit ![0, 0] ![512, 1024] inb_S512x2048_S512x1024_0_0)) (ix2 a d)
      = Mix.dya (aG m c) (aC m c) (aO m c) (row t a) d := by
  unfold Mix.dya
  rw [← dm_eq, ← blk1]
  unfold k0_pay5 k0_pay3
  pointwise
@[inherit_doc pay5] theorem pay6 (c : Dev nD) (t : Fin cfg0.N) (a : Fin 512) (d : Fin 1024) :
    k0_pay6 (iblk m c 0 t) (iblk m c 4 t) (View.ld (iblk m c 1 t) (Rect.unit ![0, 1024] ![512, 1024] inb_S512x2048_S512x1024_0_1024)) (ix2 a d)
      = Mix.dyc (aG m c) (aC m c) (aO m c) (row t a) d := by
  unfold Mix.dyc
  rw [← dm_eq, ← blk1]
  unfold k0_pay6 k0_pay4
  pointwise

/-- The results' blocks. -/
theorem out8 (c : Dev nD) (t : Fin cfg0.N) (a : Fin 512) (e : Fin 2048) :
    (outsAt0 m c t.val t.isLt).1 (ix2 a e) = Mix.dgp (aG m c) (aA m c) (aB m c) (aC m c) (aO m c) (row t a) e := by
  by_cases h : t.val % 8 = 0
  all_goals
    first | rw [outsAt0_A m c t h] | rw [outsAt0_B m c t h]
    frame_out
    canon_tiles x h
    · idx_vars x
      refine (pay8 m c t x0 x1).trans ?_
      exact congrArg₂ _ (Fin.ext (congrArg (t.val * 512 + ·) h0.symm)) (Fin.ext h1.symm)
    · idx_vars x
      refine (pay7 m c t x0 x1).trans ?_
      exact congrArg₂ _ (Fin.ext (congrArg (t.val * 512 + ·) h0.symm)) (Fin.ext h1.symm)
@[inherit_doc out8] theorem out9 (c : Dev nD) (t : Fin cfg0.N) (a : Fin 512) (d : Fin 1024) :
    (outsAt0 m c t.val t.isLt).2.1 (ix2 a d) = Mix.dya (aG m c) (aC m c) (aO m c) (row t a) d := by
  by_cases h : t.val % 8 = 0
  all_goals
    first | rw [outsAt0_A m c t h] | rw [outsAt0_B m c t h]
    frame_out
    exact pay5 m c t a d
@[inherit_doc out8] theorem out10 (c : Dev nD) (t : Fin cfg0.N) (a : Fin 512) (d : Fin 1024) :
    (outsAt0 m c t.val t.isLt).2.2.1 (ix2 a d) = Mix.dyc (aG m c) (aC m c) (aO m c) (row t a) d := by
  by_cases h : t.val % 8 = 0
  all_goals
    first | rw [outsAt0_A m c t h] | rw [outsAt0_B m c t h]
    frame_out
    exact pay6 m c t a d
@[inherit_doc out8] theorem out11 (c : Dev nD) (t : Fin cfg0.N) (a : Fin 512) (d : Fin 1024) :
    (outsAt0 m c t.val t.isLt).2.2.2.1 (ix2 a d) = Mix.mt (Mix.dya (aG m c) (aC m c) (aO m c)) (aP m c) (row t a) d := by
  by_cases h : t.val % 8 = 0
  all_goals
    first | rw [outsAt0_A m c t h] | rw [outsAt0_B m c t h]
    frame_out
    unfold k0_pay14
    pointwise
    exact Finset.sum_congr rfl fun x _ => congrArg₂ (· * ·) (pay5 m c t a x) (blk5 m c t d x)
@[inherit_doc out8] theorem out12 (c : Dev nD) (t : Fin cfg0.N) (a : Fin 512) (d : Fin 1024) :
    (outsAt0 m c t.val t.isLt).2.2.2.2.1 (ix2 a d) = Mix.mt (Mix.dyc (aG m c) (aC m c) (aO m c)) (aQ m c) (row t a) d := by
  by_cases h : t.val % 8 = 0
  all_goals
    first | rw [outsAt0_A m c t h] | rw [outsAt0_B m c t h]
    frame_out
    unfold k0_pay15
    pointwise
    exact Finset.sum_congr rfl fun x _ => congrArg₂ (· * ·) (pay6 m c t a x) (blk6 m c t d x)
@[inherit_doc out8] theorem out13 (c : Dev nD) (t : Fin cfg0.N) (a : Fin 512) (d : Fin 1024) :
    (outsAt0 m c t.val t.isLt).2.2.2.2.2.1 (ix2 a d)
      = Mix.mt (Mix.dgp (aG m c) (aA m c) (aB m c) (aC m c) (aO m c)) (aW m c) (row t a) d := by
  unfold Mix.mt
  rw [Mix.halves]
  by_cases h : t.val % 8 = 0
  all_goals
    first | rw [outsAt0_A m c t h] | rw [outsAt0_B m c t h]
    frame_out
    unfold k0_pay1 k0_pay12 k0_pay13
    pointwise
    exact congrArg₂ (· + ·) (Finset.sum_congr rfl fun x _ => congrArg₂ (· * ·) (pay7 m c t a x) (blk7 m c t d _))
      (Finset.sum_congr rfl fun x _ => congrArg₂ (· * ·) (pay8 m c t a x) (blk7 m c t d _))

/-- One block's part of the bias gradient, rows of one residue modulo 8. -/
def part (c : Dev nD) (p : Fin cfg0.N) (a : Fin 8) (e : Fin 2048) : EReal :=
  ∑ x : Fin 64, Mix.dgp (aG m c) (aA m c) (aB m c) (aC m c) (aO m c) (row p ⟨x.val * 8 + a.val, by omega⟩) e

/-- What the two stores of a point leave of the bias's accumulator. -/
theorem step14 (c : Dev nD) (t : Fin cfg0.N) (z0 z1 : FVec Ideal S8x1024 .f32) (Z : Fin 8 → Fin 2048 → EReal)
    (h0' : ∀ a d, z0 (ix2 a d) = Z a ⟨0 + d.val, by omega⟩) (h1' : ∀ a d, z1 (ix2 a d) = Z a ⟨1024 + d.val, by omega⟩)
    (a : Fin 8) (e : Fin 2048) :
    View.canon (Val := Elt Ideal) (s := S8x2048) (e := .f32)
      [⟨Rect.unit ![0, 1024] ![8, 1024] inb_S8x2048_S8x1024_0_1024,
          k0_pay11
            (k0_pay8 (iblk m c 0 t) (iblk m c 4 t)
              (View.ld (iblk m c 1 t) (Rect.unit ![0, 1024] ![512, 1024] inb_S512x2048_S512x1024_0_1024))
              (iblk m c 3 t)) z1⟩,
        ⟨Rect.unit ![0, 0] ![8, 1024] inb_S8x2048_S8x1024_0_0,
          k0_pay10
            (k0_pay7 (iblk m c 0 t) (iblk m c 4 t)
              (View.ld (iblk m c 1 t) (Rect.unit ![0, 0] ![512, 1024] inb_S512x2048_S512x1024_0_0)) (iblk m c 2 t)) z0⟩]
      (ix2 a e) = Z a e + part m c t a e := by
  canon_tiles x h
  · idx_vars x
    unfold k0_pay11
    pointwise
    obtain rfl : x0 = a := Fin.ext h0.symm
    obtain ⟨e, he⟩ := e
    obtain rfl : e = 1024 + x1.val := h1
    rw [h1']
    exact congrArg (Z x0 ⟨1024 + x1.val, by omega⟩ + ·) (Finset.sum_congr rfl fun x _ => by rw [pay8])
  · idx_vars x
    unfold k0_pay10
    pointwise
    obtain rfl : x0 = a := Fin.ext h0.symm
    obtain ⟨e, he⟩ := e
    obtain rfl : e = 0 + x1.val := h1.trans (Nat.zero_add _).symm
    rw [h0']
    refine congrArg (Z x0 ⟨0 + x1.val, by omega⟩ + ·) (Finset.sum_congr rfl fun x _ => ?_)
    rw [pay7]
    exact congrArg _ (Fin.ext (Nat.zero_add _).symm)

theorem acc14 (c : Dev nD) (a : Fin 8) (e : Fin 2048) :
    (outsAt0 m c t0_7.val t0_7.isLt).2.2.2.2.2.2 (ix2 a e) = 0 + ∑ p : Fin cfg0.N, part m c p a e := by
  refine Pipeline.eq_sum_fin_of_reset_step_apply_last
    (fun n h (_ : Unit) => (outsAt0 m c n h).2.2.2.2.2.2 (ix2 a e)) 8 (fun _ => 0)
    (fun p _ => part m c p a e)
    (fun t h _ => ?_) (fun t h _ => ?_) (le_of_eq N_0) t0_7 N_0.symm ()
  · rw [outsAt0_A m c t h]
    frame_open
    simp (disch := decide) only [↓ View.readCov_skip, ↓ View.readCov_cons_toLoadRect, ↓ View.readCov_fill]
    frame_out
    refine (Canon.canon_append [_] [_, _] _ (View.cover_of_tiled_head _ _ _ (by rfl) _)).trans ?_
    refine step14 m c t _ _ (fun _ _ => 0) ?_ ?_ a e <;> intro a d <;> unfold k0_pay9 <;> pointwise
  · rw [outsAt0_B m c t h]
    frame_out
    refine step14 m c t _ _ (fun i j => (outsAt0 m c (t.val - 1) (by omega)).2.2.2.2.2.2 (ix2 i j)) ?_ ?_ a e <;> intro a d <;> pointwise
/-- The results' arrays. -/
theorem arr8 (c : Dev nD) : (dats m 0 c).arrAt 8 cfg0.N = fun j => (Mix.dgp (aG m c) (aA m c) (aB m c) (aC m c) (aO m c)) (j 0) (j 1) := by
  refine (dats m 0 c).arrAt_eq_of_covers 8 _ (by decide +kernel) fun t hf y => ?_
  have e0 : ((((cfg0.win 8).blk t).view.emb y) 0 : ℕ) = t.val * 512 + (y 0).val := by blk_simp [(idx t).2.2.2.2.2.2.2.2.1]
  have e1 : ((((cfg0.win 8).blk t).view.emb y) 1 : ℕ) = (y 1).val := by blk_simp [(idx t).2.2.2.2.2.2.2.2.1]
  generalize ((cfg0.win 8).blk t).view.emb y = j at e0 e1
  blk_simp
  rw [after0_8]
  idx_vars y
  refine (out8 m c t y0 y1).trans ?_
  exact congrArg₂ (Mix.dgp (aG m c) (aA m c) (aB m c) (aC m c) (aO m c)) (Fin.ext e0.symm) (Fin.ext e1.symm)
@[inherit_doc arr8] theorem arr9 (c : Dev nD) : (dats m 0 c).arrAt 9 cfg0.N = fun j => (Mix.dya (aG m c) (aC m c) (aO m c)) (j 0) (j 1) := by
  refine (dats m 0 c).arrAt_eq_of_covers 9 _ (by decide +kernel) fun t hf y => ?_
  have e0 : ((((cfg0.win 9).blk t).view.emb y) 0 : ℕ) = t.val * 512 + (y 0).val := by blk_simp [(idx t).2.2.2.2.2.2.2.2.2.1]
  have e1 : ((((cfg0.win 9).blk t).view.emb y) 1 : ℕ) = (y 1).val := by blk_simp [(idx t).2.2.2.2.2.2.2.2.2.1]
  generalize ((cfg0.win 9).blk t).view.emb y = j at e0 e1
  blk_simp
  rw [after0_9]
  idx_vars y
  refine (out9 m c t y0 y1).trans ?_
  exact congrArg₂ (Mix.dya (aG m c) (aC m c) (aO m c)) (Fin.ext e0.symm) (Fin.ext e1.symm)
@[inherit_doc arr8] theorem arr10 (c : Dev nD) : (dats m 0 c).arrAt 10 cfg0.N = fun j => (Mix.dyc (aG m c) (aC m c) (aO m c)) (j 0) (j 1) := by
  refine (dats m 0 c).arrAt_eq_of_covers 10 _ (by decide +kernel) fun t hf y => ?_
  have e0 : ((((cfg0.win 10).blk t).view.emb y) 0 : ℕ) = t.val * 512 + (y 0).val := by blk_simp [(idx t).2.2.2.2.2.2.2.2.2.2.1]
  have e1 : ((((cfg0.win 10).blk t).view.emb y) 1 : ℕ) = (y 1).val := by blk_simp [(idx t).2.2.2.2.2.2.2.2.2.2.1]
  generalize ((cfg0.win 10).blk t).view.emb y = j at e0 e1
  blk_simp
  rw [after0_10]
  idx_vars y
  refine (out10 m c t y0 y1).trans ?_
  exact congrArg₂ (Mix.dyc (aG m c) (aC m c) (aO m c)) (Fin.ext e0.symm) (Fin.ext e1.symm)
@[inherit_doc arr8] theorem arr11 (c : Dev nD) : (dats m 0 c).arrAt 11 cfg0.N = fun j => (Mix.mt (Mix.dya (aG m c) (aC m c) (aO m c)) (aP m c)) (j 0) (j 1) := by
  refine (dats m 0 c).arrAt_eq_of_covers 11 _ (by decide +kernel) fun t hf y => ?_
  have e0 : ((((cfg0.win 11).blk t).view.emb y) 0 : ℕ) = t.val * 512 + (y 0).val := by blk_simp [(idx t).2.2.2.2.2.2.2.2.2.2.2.1]
  have e1 : ((((cfg0.win 11).blk t).view.emb y) 1 : ℕ) = (y 1).val := by blk_simp [(idx t).2.2.2.2.2.2.2.2.2.2.2.1]
  generalize ((cfg0.win 11).blk t).view.emb y = j at e0 e1
  blk_simp
  rw [after0_11]
  idx_vars y
  refine (out11 m c t y0 y1).trans ?_
  exact congrArg₂ (Mix.mt (Mix.dya (aG m c) (aC m c) (aO m c)) (aP m c)) (Fin.ext e0.symm) (Fin.ext e1.symm)
@[inherit_doc arr8] theorem arr12 (c : Dev nD) : (dats m 0 c).arrAt 12 cfg0.N = fun j => (Mix.mt (Mix.dyc (aG m c) (aC m c) (aO m c)) (aQ m c)) (j 0) (j 1) := by
  refine (dats m 0 c).arrAt_eq_of_covers 12 _ (by decide +kernel) fun t hf y => ?_
  have e0 : ((((cfg0.win 12).blk t).view.emb y) 0 : ℕ) = t.val * 512 + (y 0).val := by blk_simp [(idx t).2.2.2.2.2.2.2.2.2.2.2.2.1]
  have e1 : ((((cfg0.win 12).blk t).view.emb y) 1 : ℕ) = (y 1).val := by blk_simp [(idx t).2.2.2.2.2.2.2.2.2.2.2.2.1]
  generalize ((cfg0.win 12).blk t).view.emb y = j at e0 e1
  blk_simp
  rw [after0_12]
  idx_vars y
  refine (out12 m c t y0 y1).trans ?_
  exact congrArg₂ (Mix.mt (Mix.dyc (aG m c) (aC m c) (aO m c)) (aQ m c)) (Fin.ext e0.symm) (Fin.ext e1.symm)
@[inherit_doc arr8] theorem arr13 (c : Dev nD) : (dats m 0 c).arrAt 13 cfg0.N = fun j => (Mix.mt (Mix.dgp (aG m c) (aA m c) (aB m c) (aC m c) (aO m c)) (aW m c)) (j 0) (j 1) := by
  refine (dats m 0 c).arrAt_eq_of_covers 13 _ (by decide +kernel) fun t hf y => ?_
  have e0 : ((((cfg0.win 13).blk t).view.emb y) 0 : ℕ) = t.val * 512 + (y 0).val := by blk_simp [(idx t).2.2.2.2.2.2.2.2.2.2.2.2.2]
  have e1 : ((((cfg0.win 13).blk t).view.emb y) 1 : ℕ) = (y 1).val := by blk_simp [(idx t).2.2.2.2.2.2.2.2.2.2.2.2.2]
  generalize ((cfg0.win 13).blk t).view.emb y = j at e0 e1
  blk_simp
  rw [after0_13]
  idx_vars y
  refine (out13 m c t y0 y1).trans ?_
  exact congrArg₂ (Mix.mt (Mix.dgp (aG m c) (aA m c) (aB m c) (aC m c) (aO m c)) (aW m c)) (Fin.ext e0.symm) (Fin.ext e1.symm)
@[inherit_doc arr8] theorem arr14 (c : Dev nD) : (dats m 0 c).arrAt 14 cfg0.N = fun j => ∑ p : Fin cfg0.N, part m c p (j 0) (j 1) := by
  refine (dats m 0 c).arrAt_eq_of_after_last 14 t0_7 (by decide +kernel) _ fun j => ?_
  blk_simp
  rw [after0_14]
  idx_vars j
  exact (acc14 m c j0 j1).trans (zero_add _)

/-- A result's array is read, after the pipeline, as the pipeline left it. -/
theorem through (c : Dev nD) (w : Fin 15) : Pipeline.withArrays (cfgs 0).spec c (V0 m c) (fun w => (dats m 0 c).arrAt w (cfgs 0).N)
    (Proc.tc.devRef (Pipeline.arrRef spec0 w)) = (dats m 0 c).arrAt w cfg0.N :=
  Pipeline.withArrays_arr_shared _ c _ _ ((dats m 0 c).arrAt_sharedIn (by decide) (V0 m c) (A_eq m c) _) w

/-- The sum over the partial sums, after the pipeline. -/
theorem tail21 (c : Dev nD) (e : Fin 2048) : Pipeline.afterTail₀ cfgs (dats m) 0 (V0 m) [hostOps1] c main_v21 (ix1 e)
    = Mix.dbg (aG m c) (aA m c) (aB m c) (aC m c) (aO m c) e := by
  unfold Pipeline.afterTail₀
  simp only [hostOps1, List.flatten_cons, List.flatten_nil, List.append_nil, List.cons_append, List.nil_append]
  after_results
  erw [through m c 14]
  rw [arr14]
  pointwise
  exact Rows.sum_rows N_0 fun i => Mix.dgp (aG m c) (aA m c) (aB m c) (aC m c) (aO m c) i e

set_option maxHeartbeats 1600000 in
/-- The kernel's run: its seven results as functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v20_0) = (fun j => (Mix.dgp (aG m c) (aA m c) (aB m c) (aC m c) (aO m c)) (j 0) (j 1))
    ∧ r.2.mem ((c.tc : Thread nD τ).loc main_v20_1) = (fun j => (Mix.dya (aG m c) (aC m c) (aO m c)) (j 0) (j 1))
    ∧ r.2.mem ((c.tc : Thread nD τ).loc main_v20_2) = (fun j => (Mix.dyc (aG m c) (aC m c) (aO m c)) (j 0) (j 1))
    ∧ r.2.mem ((c.tc : Thread nD τ).loc main_v20_3) = (fun j => (Mix.mt (Mix.dya (aG m c) (aC m c) (aO m c)) (aP m c)) (j 0) (j 1))
    ∧ r.2.mem ((c.tc : Thread nD τ).loc main_v20_4) = (fun j => (Mix.mt (Mix.dyc (aG m c) (aC m c) (aO m c)) (aQ m c)) (j 0) (j 1))
    ∧ r.2.mem ((c.tc : Thread nD τ).loc main_v20_5) = (fun j => (Mix.mt (Mix.dgp (aG m c) (aA m c) (aB m c) (aC m c) (aO m c)) (aW m c)) (j 0) (j 1))
    ∧ r.2.mem ((c.tc : Thread nD τ).loc main_v21) = (fun j => Mix.dbg (aG m c) (aA m c) (aB m c) (aC m c) (aO m c) (j 0))) := by
  run_from Gen.run_main m ρ
  · exact arr8 m c
  · exact arr9 m c
  · exact arr10 m c
  · exact arr11 m c
  · exact arr12 m c
  · exact arr13 m c
  · funext j
    idx_vars j
    exact tail21 m c j0

end Cert.Kernel2Ideal.Val
end
-- ==== Proof.Mix.Reference.lean ====
module

public import proofs.«01_k».proof.Proof.Gen.Reference2Ideal.Run
public import proofs.«01_k».proof.Proof.Gen.Reference2Ideal.Read
public import Idealize.ShloMosaic.Lib.Pointwise
public import Idealize.ShloMosaic.Lib.Claim
public import proofs.«01_k».proof.Proof.Mix.Spec

@[expose] public section

set_option maxRecDepth 16384

noncomputable section

namespace Cert.Reference2Ideal.Val

open Idealize.ShloMosaic Idealize.ShloMosaic.TcCoe Idealize.SL.Sem
open Cert.Reference2Ideal Cert.Reference2Ideal.Gen Cert.Reference2Ideal.Read

variable (x0 x1 x2 x8 : (⟨S4096x1024, .f32⟩ : BufTy).Contents (Elt Ideal)) (x3 x4 x7 : (⟨S1024x1024, .f32⟩ : BufTy).Contents (Elt Ideal))
  (x5 : (⟨S1024x2048, .f32⟩ : BufTy).Contents (Elt Ideal)) (x6 : (⟨S2048, .f32⟩ : BufTy).Contents (Elt Ideal))

/-- The arguments and the values the results are functions of, entry by entry. -/
abbrev fG (i : Fin 4096) (e : Fin 2048) : EReal := Mix.gate (fun i k => x0 (ix2 i k)) (fun k e => x5 (ix2 k e)) (fun e => x6 (ix1 e)) i e
@[inherit_doc fG] abbrev fY (i : Fin 4096) (d : Fin 1024) : EReal := Mix.mm (fun i k => x1 (ix2 i k)) (fun k e => x3 (ix2 k e)) i d
@[inherit_doc fG] abbrev fC (i : Fin 4096) (d : Fin 1024) : EReal := x8 (ix2 i d)
@[inherit_doc fG] abbrev fS (i d : Fin 1024) : EReal := x7 (ix2 i d)
@[inherit_doc fG] abbrev fW (i : Fin 1024) (e : Fin 2048) : EReal := x5 (ix2 i e)

theorem v11 (i : Fin 4096) (e : Fin 2048) : val_main_v11 (F := Ideal) x0 x5 x6 (ix2 i e) = fG x0 x5 x6 i e := by
  unfold val_main_v11 val_main_v10 val_main_v9 val_main_v8 val_main_v7 val_main_v6 val_main_v3 val_main_v2 val_main_v1 val_main_v0 val_main_cst val_main_cst_0 fG Mix.gate Mix.mm
  pointwise
theorem v4 (i : Fin 4096) (d : Fin 1024) : val_main_v4 (F := Ideal) x1 x3 (ix2 i d) = fY x1 x3 i d := by
  unfold val_main_v4 fY Mix.mm
  pointwise
theorem v5 (i : Fin 4096) (d : Fin 1024) : val_main_v5 (F := Ideal) x2 x4 (ix2 i d) = fY x2 x4 i d := by
  unfold val_main_v5 fY Mix.mm
  pointwise
theorem v21 (i : Fin 4096) (d : Fin 1024) : val_main_v21 (F := Ideal) x7 x8 (ix2 i d) = Mix.mt (fC x8) (fS x7) i d := by
  unfold val_main_v21 Mix.mt
  pointwise
theorem v24 (i : Fin 4096) (d : Fin 1024) : val_main_v24 (F := Ideal) x0 x5 x6 x7 x8 (ix2 i d) = Mix.dya (fG x0 x5 x6) (fC x8) (fS x7) i d := by
  unfold val_main_v24 val_main_v15 Mix.dya
  rw [← v21, ← v11]
  pointwise
  exact mul_comm _ _
theorem v22 (i : Fin 4096) (d : Fin 1024) : val_main_v22 (F := Ideal) x0 x5 x6 x7 x8 (ix2 i d) = Mix.dyc (fG x0 x5 x6) (fC x8) (fS x7) i d := by
  unfold val_main_v22 val_main_v16 Mix.dyc
  rw [← v21, ← v11]
  pointwise
  exact mul_comm _ _
theorem v27 (i : Fin 4096) (e : Fin 2048) : val_main_v27 (F := Ideal) x0 x1 x2 x3 x4 x5 x6 x7 x8 (ix2 i e)
    = Mix.dgp (fG x0 x5 x6) (fY x1 x3) (fY x2 x4) (fC x8) (fS x7) i e := by
  unfold val_main_v27 val_main_v26 val_main_v25 val_main_v23 val_main_v14 val_main_v13 val_main_v12 val_main_cst_1 Mix.dgp
  pointwise
  simp only [v21, v11, v4, v5]
  by_cases h : e.val < 1024
  · rw [dif_pos h, dif_pos h, mul_assoc, mul_assoc, mul_assoc]
  · rw [dif_neg h, dif_neg h, mul_assoc, mul_assoc, mul_assoc]
theorem v30 (e : Fin 2048) : val_main_v30 (F := Ideal) x0 x1 x2 x3 x4 x5 x6 x7 x8 (ix1 e)
    = Mix.dbg (fG x0 x5 x6) (fY x1 x3) (fY x2 x4) (fC x8) (fS x7) e := by
  unfold val_main_v30 val_main_v29 val_main_v28 val_main_cst_2 val_main_cst_3 Mix.dbg
  pointwise
  simp only [v27]
  simp only [Finset.univ_unique, Finset.sum_singleton]
theorem v31 (i : Fin 4096) (d : Fin 1024) : val_main_v31 (F := Ideal) x0 x1 x2 x3 x4 x5 x6 x7 x8 (ix2 i d)
    = Mix.mt (Mix.dgp (fG x0 x5 x6) (fY x1 x3) (fY x2 x4) (fC x8) (fS x7)) (fW x5) i d := by
  unfold val_main_v31 Mix.mt
  pointwise
  simp only [v27]
theorem v37 (i : Fin 4096) (d : Fin 1024) : val_main_v37 (F := Ideal) x0 x3 x5 x6 x7 x8 (ix2 i d)
    = Mix.mt (Mix.dya (fG x0 x5 x6) (fC x8) (fS x7)) (fS x3) i d := by
  unfold val_main_v37 val_main_v32 Mix.mt
  pointwise
  simp only [v24]
theorem v38 (i : Fin 4096) (d : Fin 1024) : val_main_v38 (F := Ideal) x0 x4 x5 x6 x7 x8 (ix2 i d)
    = Mix.mt (Mix.dyc (fG x0 x5 x6) (fC x8) (fS x7)) (fS x4) i d := by
  unfold val_main_v38 val_main_v33 Mix.mt
  pointwise
  simp only [v22]
theorem v34 (i : Fin 4096) (e : Fin 2048) : val_main_v34 (F := Ideal) x0 x1 x2 x3 x4 x5 x6 x7 x8 (ix2 i e)
    = Mix.dgp (fG x0 x5 x6) (fY x1 x3) (fY x2 x4) (fC x8) (fS x7) i e := by
  unfold val_main_v34
  pointwise
  rw [v27]
theorem v35 (i : Fin 4096) (d : Fin 1024) : val_main_v35 (F := Ideal) x0 x5 x6 x7 x8 (ix2 i d) = Mix.dya (fG x0 x5 x6) (fC x8) (fS x7) i d := by
  unfold val_main_v35
  pointwise
  rw [v24]
theorem v36 (i : Fin 4096) (d : Fin 1024) : val_main_v36 (F := Ideal) x0 x5 x6 x7 x8 (ix2 i d) = Mix.dyc (fG x0 x5 x6) (fC x8) (fS x7) i d := by
  unfold val_main_v36
  pointwise
  rw [v22]

variable (m : (ℓ : Loc nD τ sig) → Buf (Elt Ideal) ℓ)

/-- The reference's run: its seven results as the same functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v34) = (fun j => (Mix.dgp (fG (m ((c.tc : Thread nD τ).loc main_arg0)) (m ((c.tc : Thread nD τ).loc main_arg5)) (m ((c.tc : Thread nD τ).loc main_arg6))) (fY (m ((c.tc : Thread nD τ).loc main_arg1)) (m ((c.tc : Thread nD τ).loc main_arg3))) (fY (m ((c.tc : Thread nD τ).loc main_arg2)) (m ((c.tc : Thread nD τ).loc main_arg4))) (fC (m ((c.tc : Thread nD τ).loc main_arg8))) (fS (m ((c.tc : Thread nD τ).loc main_arg7)))) (j 0) (j 1))
    ∧ r.2.mem ((c.tc : Thread nD τ).loc main_v35) = (fun j => (Mix.dya (fG (m ((c.tc : Thread nD τ).loc main_arg0)) (m ((c.tc : Thread nD τ).loc main_arg5)) (m ((c.tc : Thread nD τ).loc main_arg6))) (fC (m ((c.tc : Thread nD τ).loc main_arg8))) (fS (m ((c.tc : Thread nD τ).loc main_arg7)))) (j 0) (j 1))
    ∧ r.2.mem ((c.tc : Thread nD τ).loc main_v36) = (fun j => (Mix.dyc (fG (m ((c.tc : Thread nD τ).loc main_arg0)) (m ((c.tc : Thread nD τ).loc main_arg5)) (m ((c.tc : Thread nD τ).loc main_arg6))) (fC (m ((c.tc : Thread nD τ).loc main_arg8))) (fS (m ((c.tc : Thread nD τ).loc main_arg7)))) (j 0) (j 1))
    ∧ r.2.mem ((c.tc : Thread nD τ).loc main_v37) = (fun j => (Mix.mt (Mix.dya (fG (m ((c.tc : Thread nD τ).loc main_arg0)) (m ((c.tc : Thread nD τ).loc main_arg5)) (m ((c.tc : Thread nD τ).loc main_arg6))) (fC (m ((c.tc : Thread nD τ).loc main_arg8))) (fS (m ((c.tc : Thread nD τ).loc main_arg7)))) (fS (m ((c.tc : Thread nD τ).loc main_arg3)))) (j 0) (j 1))
    ∧ r.2.mem ((c.tc : Thread nD τ).loc main_v38) = (fun j => (Mix.mt (Mix.dyc (fG (m ((c.tc : Thread nD τ).loc main_arg0)) (m ((c.tc : Thread nD τ).loc main_arg5)) (m ((c.tc : Thread nD τ).loc main_arg6))) (fC (m ((c.tc : Thread nD τ).loc main_arg8))) (fS (m ((c.tc : Thread nD τ).loc main_arg7)))) (fS (m ((c.tc : Thread nD τ).loc main_arg4)))) (j 0) (j 1))
    ∧ r.2.mem ((c.tc : Thread nD τ).loc main_v31) = (fun j => (Mix.mt (Mix.dgp (fG (m ((c.tc : Thread nD τ).loc main_arg0)) (m ((c.tc : Thread nD τ).loc main_arg5)) (m ((c.tc : Thread nD τ).loc main_arg6))) (fY (m ((c.tc : Thread nD τ).loc main_arg1)) (m ((c.tc : Thread nD τ).loc main_arg3))) (fY (m ((c.tc : Thread nD τ).loc main_arg2)) (m ((c.tc : Thread nD τ).loc main_arg4))) (fC (m ((c.tc : Thread nD τ).loc main_arg8))) (fS (m ((c.tc : Thread nD τ).loc main_arg7)))) (fW (m ((c.tc : Thread nD τ).loc main_arg5)))) (j 0) (j 1))
    ∧ r.2.mem ((c.tc : Thread nD τ).loc main_v30) = (fun j => (Mix.dbg (fG (m ((c.tc : Thread nD τ).loc main_arg0)) (m ((c.tc : Thread nD τ).loc main_arg5)) (m ((c.tc : Thread nD τ).loc main_arg6))) (fY (m ((c.tc : Thread nD τ).loc main_arg1)) (m ((c.tc : Thread nD τ).loc main_arg3))) (fY (m ((c.tc : Thread nD τ).loc main_arg2)) (m ((c.tc : Thread nD τ).loc main_arg4))) (fC (m ((c.tc : Thread nD τ).loc main_arg8))) (fS (m ((c.tc : Thread nD τ).loc main_arg7)))) (j 0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) := by
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.Reference2Ideal.Value.run m ρ)
  · rw [val_main_v34_eq]
    funext j
    idx_vars j
    apply v34
  · rw [val_main_v35_eq]
    funext j
    idx_vars j
    apply v35
  · rw [val_main_v36_eq]
    funext j
    idx_vars j
    apply v36
  · rw [val_main_v37_eq]
    funext j
    idx_vars j
    apply v37
  · rw [val_main_v38_eq]
    funext j
    idx_vars j
    apply v38
  · rw [val_main_v31_eq]
    funext j
    idx_vars j
    apply v31
  · rw [val_main_v30_eq]
    funext j
    idx_vars j
    apply v30

end Cert.Reference2Ideal.Val
end
-- ==== Proof.Loss.Spec.lean ====
module

public import Mathlib.Data.EReal.Operations
public import Mathlib.Algebra.BigOperators.Fin
public import Idealize.ShloMosaic.PureOps.Ideal

@[expose] public section

noncomputable section

/-! The squared-activation network's forward half, the loss and the loss's gradient, entry by entry, over the extended reals. -/

namespace Cert.Loss

open scoped BigOperators

variable (H : Fin 4096 → Fin 1024 → EReal) (U : Fin 1024 → Fin 4096 → EReal) (D : Fin 4096 → Fin 1024 → EReal) (X T : Fin 4096 → Fin 1024 → EReal)

/-- The inner values before the activation. -/
def act (i k : Fin 4096) : EReal := ∑ x, H i x * U x k

/-- The square of the positive part. -/
def sq (a : EReal) : EReal := max a 0 * max a 0

/-- The difference from the target. -/
def err (i : Fin 4096) (d : Fin 1024) : EReal := X i d + ∑ k, sq (act H U i k) * D k d - T i d

/-- The loss's gradient. -/
def dy (i : Fin 4096) (d : Fin 1024) : EReal := err H U D X T i d * ((1 / 1024 : ℝ) : EReal)

/-- The sum of the squared differences. -/
def total : EReal := ∑ i, ∑ d, err H U D X T i d * err H U D X T i d

/-- A sum over 4096 columns, a quarter at a time. -/
theorem quarters {M : Type*} [AddCommMonoid M] (f : Fin 4096 → M) :
    ∑ e, f e = ∑ d : Fin 1024, f ⟨d.val, by omega⟩ + ∑ d : Fin 1024, f ⟨1024 + d.val, by omega⟩
      + ∑ d : Fin 1024, f ⟨2048 + d.val, by omega⟩ + ∑ d : Fin 1024, f ⟨3072 + d.val, by omega⟩ := by
  refine (Fin.sum_univ_add (a := 3072) (b := 1024) f).trans (congrArg₂ (· + ·) ?_ rfl)
  refine (Fin.sum_univ_add (a := 2048) (b := 1024) fun k : Fin 3072 => f ⟨k.val, by omega⟩).trans (congrArg₂ (· + ·) ?_ rfl)
  exact Fin.sum_univ_add (a := 1024) (b := 1024) fun k : Fin 2048 => f ⟨k.val, by omega⟩

/-- A positive finite factor goes through a sum. -/
theorem scale_sum {ι : Type*} (s : Finset ι) (f : ι → EReal) (c : ℝ) (hc : 0 ≤ c) : ∑ i ∈ s, (c : EReal) * f i = (c : EReal) * ∑ i ∈ s, f i := by
  classical
  induction s using Finset.induction_on with
  | empty => simp
  | insert a s ha ih =>
    rw [Finset.sum_insert ha, Finset.sum_insert ha, ih]
    exact (EReal.left_distrib_of_nonneg_of_ne_top (EReal.coe_nonneg.mpr hc) (EReal.coe_ne_top c) _ _).symm

end Cert.Loss
end
-- ==== Proof.Consts.lean ====
module

public import Idealize.ShloMosaic.PureOps.Ideal
public import Idealize.ShloMosaic.Lib.IdealHost

@[expose] public section

noncomputable section

/-! The float constants of the programs, and division by a finite one, as extended reals. -/

namespace Cert.Consts

open Idealize.ShloMosaic

theorem c_1024th : Ideal.ofBits .f32 0x3A800000#32 = ((1 / 1024 : ℝ) : EReal) := by
  simp [Ideal.ofBits, Ideal.ieee, -EReal.coe_mul]; norm_num
theorem c_2048th : Ideal.ofBits .f32 0x3A000000#32 = ((1 / 2048 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_2 : Ideal.ofBits .f32 0x40000000#32 = ((2 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num

theorem c_eps : Ideal.ofBits .f32 0x358637BD#32 = ((8796093 / 2 ^ 43 : ℝ) : EReal) := by
  simp [Ideal.ofBits, Ideal.ieee, -EReal.coe_mul]; norm_num
theorem c_neg_half : Ideal.ofBits .f32 0xBF000000#32 = ((-(1 / 2) : ℝ) : EReal) := by
  simp [Ideal.ofBits, Ideal.ieee, -EReal.coe_mul, -EReal.coe_neg]; norm_num

end Cert.Consts
end
-- ==== Proof.Loss.Kernel.lean ====
module

public import proofs.«01_k».proof.Proof.Gen.Kernel3Ideal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
public import proofs.«01_k».proof.Proof.Loss.Spec
public import proofs.«01_k».proof.Proof.Rows
public import proofs.«01_k».proof.Proof.Consts

@[expose] public section

set_option maxRecDepth 16384

noncomputable section

namespace Cert.Kernel3Ideal.Val

open Idealize.ShloMosaic Idealize.ShloMosaic.TcCoe Idealize.SL.Sem
open Cert.Kernel3Ideal Cert.Kernel3Ideal.Gen

variable (m : (ℓ : Loc nD τ sig) → Buf (Elt Ideal) ℓ)

/-- The arguments, entry by entry. -/
abbrev aH (c : Dev nD) (i : Fin 4096) (d : Fin 1024) : EReal := m ((c : Thread nD τ).loc main_arg0) (ix2 i d)
@[inherit_doc aH] abbrev aU (c : Dev nD) (i : Fin 1024) (d : Fin 4096) : EReal := m ((c : Thread nD τ).loc main_arg1) (ix2 i d)
@[inherit_doc aH] abbrev aD (c : Dev nD) (i : Fin 4096) (d : Fin 1024) : EReal := m ((c : Thread nD τ).loc main_arg2) (ix2 i d)
@[inherit_doc aH] abbrev aX (c : Dev nD) (i : Fin 4096) (d : Fin 1024) : EReal := m ((c : Thread nD τ).loc main_arg3) (ix2 i d)
@[inherit_doc aH] abbrev aT (c : Dev nD) (i : Fin 4096) (d : Fin 1024) : EReal := m ((c : Thread nD τ).loc main_arg4) (ix2 i d)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem tlt (t : Fin cfg0.N) : t.val < 8 := lt_of_lt_of_eq t.isLt N_0

/-- The row of the array that row `a` of block `t` is. -/
abbrev row (t : Fin cfg0.N) (a : Fin 512) : Fin 4096 := ⟨t.val * 512 + a.val, by have := tlt t; omega⟩

/-- What the pipelined arrays hold as the pipeline starts. -/
theorem entry0 (c : Dev nD) (i : Fin 4096) (d : Fin 1024) : V m c main_v0 (ix2 i d) = aH m c i d := by
  unfold V V0
  simp only [List.flatten_cons, List.flatten_nil, List.append_nil]
  unfold hostOps0
  after_reads_at
@[inherit_doc entry0] theorem entry1 (c : Dev nD) (i : Fin 1024) (d : Fin 4096) : V m c main_v1 (ix2 i d) = aU m c i d := by
  unfold V V0
  simp only [List.flatten_cons, List.flatten_nil, List.append_nil]
  unfold hostOps0
  after_reads_at
@[inherit_doc entry0] theorem entry2 (c : Dev nD) (i : Fin 4096) (d : Fin 1024) : V m c main_v2 (ix2 i d) = aD m c i d := by
  unfold V V0
  simp only [List.flatten_cons, List.flatten_nil, List.append_nil]
  unfold hostOps0
  after_reads_at

/-- The blocks at a point, read in the arguments. -/
theorem blk0 (c : Dev nD) (t : Fin cfg0.N) (a : Fin 512) (d : Fin 1024) : iblk m c 0 t (ix2 a d) = aH m c (row t a) d := by
  rw [← entry0 m c]
  blk_ext [iblk, (idx t).1]
@[inherit_doc blk0] theorem blk1 (c : Dev nD) (t : Fin cfg0.N) (a : Fin 1024) (d : Fin 4096) : iblk m c 1 t (ix2 a d) = aU m c a d := by
  rw [← entry1 m c]
  blk_ext [iblk, (idx t).2.1]
@[inherit_doc blk0] theorem blk2 (c : Dev nD) (t : Fin cfg0.N) (a : Fin 4096) (d : Fin 1024) : iblk m c 2 t (ix2 a d) = aD m c a d := by
  rw [← entry2 m c]
  blk_ext [iblk, (idx t).2.2.1]
@[inherit_doc blk0] theorem blk3 (c : Dev nD) (t : Fin cfg0.N) (a : Fin 512) (d : Fin 1024) : iblk m c 3 t (ix2 a d) = aX m c (row t a) d := by
  unfold aX
  rw [← V_main_arg3 m c]
  blk_ext [iblk, (idx t).2.2.2.1]
@[inherit_doc blk0] theorem blk4 (c : Dev nD) (t : Fin cfg0.N) (a : Fin 512) (d : Fin 1024) : iblk m c 4 t (ix2 a d) = aT m c (row t a) d := by
  unfold aT
  rw [← V_main_arg4 m c]
  blk_ext [iblk, (idx t).2.2.2.2.1]

/-- The quarters of the inner values, as the kernel forms them. -/
theorem pay4 (c : Dev nD) (t : Fin cfg0.N) (a : Fin 512) (d : Fin 1024) :
    k0_pay4 (iblk m c 0 t) (View.ld (iblk m c 1 t) (Rect.unit ![0, 0] ![1024, 1024] inb_S1024x4096_S1024x1024_0_0)) (ix2 a d)
      = Loss.act (aH m c) (aU m c) (row t a) ⟨d.val, by omega⟩ := by
  unfold k0_pay4 k0_pay3
  pointwise
  exact Finset.sum_congr rfl fun x _ => congrArg₂ (· * ·) (blk0 m c t a x) (blk1 m c t x _)
@[inherit_doc pay4] theorem pay5 (c : Dev nD) (t : Fin cfg0.N) (a : Fin 512) (d : Fin 1024) :
    k0_pay5 (iblk m c 0 t) (View.ld (iblk m c 1 t) (Rect.unit ![0, 1024] ![1024, 1024] inb_S1024x4096_S1024x1024_0_1024)) (ix2 a d)
      = Loss.act (aH m c) (aU m c) (row t a) ⟨1024 + d.val, by omega⟩ := by
  unfold k0_pay5 k0_pay3
  pointwise
  exact Finset.sum_congr rfl fun x _ => congrArg₂ (· * ·) (blk0 m c t a x) (blk1 m c t x _)
@[inherit_doc pay4] theorem pay7 (c : Dev nD) (t : Fin cfg0.N) (a : Fin 512) (d : Fin 1024) :
    k0_pay7 (iblk m c 0 t) (View.ld (iblk m c 1 t) (Rect.unit ![0, 2048] ![1024, 1024] inb_S1024x4096_S1024x1024_0_2048)) (ix2 a d)
      = Loss.act (aH m c) (aU m c) (row t a) ⟨2048 + d.val, by omega⟩ := by
  unfold k0_pay7 k0_pay3
  pointwise
  exact Finset.sum_congr rfl fun x _ => congrArg₂ (· * ·) (blk0 m c t a x) (blk1 m c t x _)
@[inherit_doc pay4] theorem pay11 (c : Dev nD) (t : Fin cfg0.N) (a : Fin 512) (d : Fin 1024) :
    k0_pay11 (k0_pay3 (iblk m c 0 t)) (k0_pay10 (View.ld (iblk m c 1 t) (Rect.unit ![0, 3072] ![1024, 1024] inb_S1024x4096_S1024x1024_0_3072))) (ix2 a d)
      = Loss.act (aH m c) (aU m c) (row t a) ⟨3072 + d.val, by omega⟩ := by
  unfold k0_pay11 k0_pay10 k0_pay3
  pointwise
  exact Finset.sum_congr rfl fun x _ => congrArg₂ (· * ·) (blk0 m c t a x) (blk1 m c t x _)

/-- The difference from the target on a block, in the blocks read. -/
abbrev kerr (c : Dev nD) (t : Fin cfg0.N) : FVec Ideal S512x1024 .f32 :=
  k0_pay15 (k0_pay3 (iblk m c 0 t))
    (k0_pay7 (iblk m c 0 t) (View.ld (iblk m c 1 t) (Rect.unit ![0, 2048] ![1024, 1024] inb_S1024x4096_S1024x1024_0_2048)))
    (k0_pay9 (iblk m c 0 t) (View.ld (iblk m c 1 t) (Rect.unit ![0, 0] ![1024, 1024] inb_S1024x4096_S1024x1024_0_0))
      (View.ld (iblk m c 1 t) (Rect.unit ![0, 1024] ![1024, 1024] inb_S1024x4096_S1024x1024_0_1024))
      (View.ld (iblk m c 2 t) (Rect.unit ![0, 0] ![1024, 1024] inb_S4096x1024_S1024x1024_0_0))
      (View.ld (iblk m c 2 t) (Rect.unit ![1024, 0] ![1024, 1024] inb_S4096x1024_S1024x1024_1024_0)))
    (k0_pay10 (View.ld (iblk m c 1 t) (Rect.unit ![0, 3072] ![1024, 1024] inb_S1024x4096_S1024x1024_0_3072)))
    (View.ld (iblk m c 2 t) (Rect.unit ![2048, 0] ![1024, 1024] inb_S4096x1024_S1024x1024_2048_0))
    (View.ld (iblk m c 2 t) (Rect.unit ![3072, 0] ![1024, 1024] inb_S4096x1024_S1024x1024_3072_0)) (iblk m c 3 t)
    (iblk m c 4 t)

theorem err_eq (c : Dev nD) (t : Fin cfg0.N) (a : Fin 512) (d : Fin 1024) :
    kerr m c t (ix2 a d) = Loss.err (aH m c) (aU m c) (aD m c) (aX m c) (aT m c) (row t a) d := by
  unfold Loss.err
  rw [Loss.quarters]
  unfold kerr k0_pay15 k0_pay9
  pointwise
  simp only [pay4, pay5, pay7, pay11]
  refine congrArg₂ (· - ·) (congrArg₂ (· + ·) (blk3 m c t a d) (congrArg₂ (· + ·) (congrArg₂ (· + ·) (congrArg₂ (· + ·) ?_ ?_) ?_) ?_)) (blk4 m c t a d)
  all_goals exact Finset.sum_congr rfl fun x _ => congrArg₂ (· * ·) rfl (blk2 m c t _ d)

/-- The results' blocks. -/
theorem out5 (c : Dev nD) (t : Fin cfg0.N) (a : Fin 512) (k : Fin 4096) :
    (outsAt0 m c t.val t.isLt).1 (ix2 a k) = Loss.act (aH m c) (aU m c) (row t a) k := by
  by_cases h : t.val % 8 = 0
  all_goals
    first | rw [outsAt0_A m c t h] | rw [outsAt0_B m c t h]
    frame_out
    canon_tiles x h
    · idx_vars x
      unfold k0_pay13
      pointwise
      refine (pay11 m c t x0 x1).trans ?_
      exact congrArg₂ (Loss.act (aH m c) (aU m c)) (Fin.ext (congrArg (t.val * 512 + ·) h0.symm)) (Fin.ext h1.symm)
    · idx_vars x
      unfold k0_pay12
      pointwise
      refine (pay7 m c t x0 x1).trans ?_
      exact congrArg₂ (Loss.act (aH m c) (aU m c)) (Fin.ext (congrArg (t.val * 512 + ·) h0.symm)) (Fin.ext h1.symm)
    · idx_vars x
      unfold k0_pay8
      pointwise
      refine (pay5 m c t x0 x1).trans ?_
      exact congrArg₂ (Loss.act (aH m c) (aU m c)) (Fin.ext (congrArg (t.val * 512 + ·) h0.symm)) (Fin.ext h1.symm)
    · idx_vars x
      unfold k0_pay6
      pointwise
      refine (pay4 m c t x0 x1).trans ?_
      exact congrArg₂ (Loss.act (aH m c) (aU m c)) (Fin.ext (congrArg (t.val * 512 + ·) h0.symm)) (Fin.ext h1.symm)
@[inherit_doc out5] theorem out6 (c : Dev nD) (t : Fin cfg0.N) (a : Fin 512) (d : Fin 1024) :
    (outsAt0 m c t.val t.isLt).2.1 (ix2 a d) = Loss.dy (aH m c) (aU m c) (aD m c) (aX m c) (aT m c) (row t a) d := by
  unfold Loss.dy
  rw [← err_eq]
  by_cases h : t.val % 8 = 0
  all_goals
    first | rw [outsAt0_A m c t h] | rw [outsAt0_B m c t h]
    frame_out
    unfold k0_pay1
    pointwise
    rw [Consts.c_1024th]
    rfl
@[inherit_doc out5] theorem out7 (c : Dev nD) (t : Fin cfg0.N) (a : Fin 512) (d : Fin 1024) :
    (outsAt0 m c t.val t.isLt).2.2.1 (ix2 a d) = Loss.dy (aH m c) (aU m c) (aD m c) (aX m c) (aT m c) (row t a) d := by
  rw [← out6]
  by_cases h : t.val % 8 = 0
  all_goals
    first | rw [outsAt0_A m c t h] | rw [outsAt0_B m c t h]
    frame_out
    unfold k0_pay2
    pointwise

/-- One block's part of the sum of squares, rows of one residue modulo 8. -/
def part (c : Dev nD) (p : Fin cfg0.N) (a : Fin 8) (d : Fin 1024) : EReal :=
  ∑ x : Fin 64, Loss.err (aH m c) (aU m c) (aD m c) (aX m c) (aT m c) (row p ⟨x.val * 8 + a.val, by omega⟩) d
    * Loss.err (aH m c) (aU m c) (aD m c) (aX m c) (aT m c) (row p ⟨x.val * 8 + a.val, by omega⟩) d

theorem acc8 (c : Dev nD) (a : Fin 8) (d : Fin 1024) :
    (outsAt0 m c t0_7.val t0_7.isLt).2.2.2 (ix2 a d) = 0 + ∑ p : Fin cfg0.N, part m c p a d := by
  refine Pipeline.eq_sum_fin_of_reset_step_apply_last
    (fun n h (_ : Unit) => (outsAt0 m c n h).2.2.2 (ix2 a d)) 8 (fun _ => 0)
    (fun p _ => part m c p a d)
    (fun t h _ => ?_) (fun t h _ => ?_) (le_of_eq N_0) t0_7 N_0.symm ()
  · rw [outsAt0_A m c t h]
    frame_out
    unfold k0_pay16 k0_pay14
    pointwise
    exact Finset.sum_congr rfl fun x _ => congrArg₂ (· * ·) (err_eq m c t _ d) (err_eq m c t _ d)
  · rw [outsAt0_B m c t h]
    frame_out
    unfold k0_pay16
    pointwise
    exact congrArg (_ + ·) (Finset.sum_congr rfl fun x _ => congrArg₂ (· * ·) (err_eq m c t _ d) (err_eq m c t _ d))

/-- The results' arrays. -/
theorem arr5 (c : Dev nD) : (dats m 0 c).arrAt 5 cfg0.N = fun j => (Loss.act (aH m c) (aU m c)) (j 0) (j 1) := by
  refine (dats m 0 c).arrAt_eq_of_covers 5 _ (by decide +kernel) fun t hf y => ?_
  have e0 : ((((cfg0.win 5).blk t).view.emb y) 0 : ℕ) = t.val * 512 + (y 0).val := by blk_simp [(idx t).2.2.2.2.2.1]
  have e1 : ((((cfg0.win 5).blk t).view.emb y) 1 : ℕ) = (y 1).val := by blk_simp [(idx t).2.2.2.2.2.1]
  generalize ((cfg0.win 5).blk t).view.emb y = j at e0 e1
  blk_simp
  rw [after0_5]
  idx_vars y
  refine (out5 m c t y0 y1).trans ?_
  exact congrArg₂ (Loss.act (aH m c) (aU m c)) (Fin.ext e0.symm) (Fin.ext e1.symm)
@[inherit_doc arr5] theorem arr6 (c : Dev nD) : (dats m 0 c).arrAt 6 cfg0.N = fun j => (Loss.dy (aH m c) (aU m c) (aD m c) (aX m c) (aT m c)) (j 0) (j 1) := by
  refine (dats m 0 c).arrAt_eq_of_covers 6 _ (by decide +kernel) fun t hf y => ?_
  have e0 : ((((cfg0.win 6).blk t).view.emb y) 0 : ℕ) = t.val * 512 + (y 0).val := by blk_simp [(idx t).2.2.2.2.2.2.1]
  have e1 : ((((cfg0.win 6).blk t).view.emb y) 1 : ℕ) = (y 1).val := by blk_simp [(idx t).2.2.2.2.2.2.1]
  generalize ((cfg0.win 6).blk t).view.emb y = j at e0 e1
  blk_simp
  rw [after0_6]
  idx_vars y
  refine (out6 m c t y0 y1).trans ?_
  exact congrArg₂ (Loss.dy (aH m c) (aU m c) (aD m c) (aX m c) (aT m c)) (Fin.ext e0.symm) (Fin.ext e1.symm)
@[inherit_doc arr5] theorem arr7 (c : Dev nD) : (dats m 0 c).arrAt 7 cfg0.N = fun j => (Loss.dy (aH m c) (aU m c) (aD m c) (aX m c) (aT m c)) (j 0) (j 1) := by
  refine (dats m 0 c).arrAt_eq_of_covers 7 _ (by decide +kernel) fun t hf y => ?_
  have e0 : ((((cfg0.win 7).blk t).view.emb y) 0 : ℕ) = t.val * 512 + (y 0).val := by blk_simp [(idx t).2.2.2.2.2.2.2]
  have e1 : ((((cfg0.win 7).blk t).view.emb y) 1 : ℕ) = (y 1).val := by blk_simp [(idx t).2.2.2.2.2.2.2]
  generalize ((cfg0.win 7).blk t).view.emb y = j at e0 e1
  blk_simp
  rw [after0_7]
  idx_vars y
  refine (out7 m c t y0 y1).trans ?_
  exact congrArg₂ (Loss.dy (aH m c) (aU m c) (aD m c) (aX m c) (aT m c)) (Fin.ext e0.symm) (Fin.ext e1.symm)
@[inherit_doc arr5] theorem arr8 (c : Dev nD) : (dats m 0 c).arrAt 8 cfg0.N = fun j => ∑ p : Fin cfg0.N, part m c p (j 0) (j 1) := by
  refine (dats m 0 c).arrAt_eq_of_after_last 8 t0_7 (by decide +kernel) _ fun j => ?_
  blk_simp
  rw [after0_8]
  idx_vars j
  exact (acc8 m c j0 j1).trans (zero_add _)

/-- A result's array is read, after the pipeline, as the pipeline left it. -/
theorem through (c : Dev nD) (w : Fin 9) : Pipeline.withArrays (cfgs 0).spec c (V0 m c) (fun w => (dats m 0 c).arrAt w (cfgs 0).N)
    (Proc.tc.devRef (Pipeline.arrRef spec0 w)) = (dats m 0 c).arrAt w cfg0.N :=
  Pipeline.withArrays_arr_shared _ c _ _ ((dats m 0 c).arrAt_sharedIn (by decide) (V0 m c) (A_eq m c) _) w

/-- The loss: the scaled sum over the tile of partial sums, after the pipeline. -/
theorem tail5 (c : Dev nD) (j) : Pipeline.afterTail₀ cfgs (dats m) 0 (V0 m) [hostOps1] c main_v5 j
    = ((1 / 2048 : ℝ) : EReal) * Loss.total (aH m c) (aU m c) (aD m c) (aX m c) (aT m c) := by
  unfold Pipeline.afterTail₀
  simp only [hostOps1, List.flatten_cons, List.flatten_nil, List.append_nil, List.cons_append, List.nil_append]
  after_results
  erw [through m c 8]
  rw [arr8]
  pointwise
  rw [Consts.c_2048th]
  refine congrArg (((1 / 2048 : ℝ) : EReal) * ·) (Eq.trans ?_ (Rows.sum_rows N_0 fun i => ∑ d, Loss.err (aH m c) (aU m c) (aD m c) (aX m c) (aT m c) i d
    * Loss.err (aH m c) (aU m c) (aD m c) (aX m c) (aT m c) i d))
  exact Finset.sum_congr rfl fun a _ => Finset.sum_comm.trans (Finset.sum_congr rfl fun p _ => Finset.sum_comm)

/-- The kernel's run: its four results as functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v3_0) = (fun j => (Loss.act (aH m c) (aU m c)) (j 0) (j 1))
    ∧ r.2.mem ((c.tc : Thread nD τ).loc main_v3_1) = (fun j => (Loss.dy (aH m c) (aU m c) (aD m c) (aX m c) (aT m c)) (j 0) (j 1))
    ∧ r.2.mem ((c.tc : Thread nD τ).loc main_v3_2) = (fun j => (Loss.dy (aH m c) (aU m c) (aD m c) (aX m c) (aT m c)) (j 0) (j 1))
    ∧ r.2.mem ((c.tc : Thread nD τ).loc main_v5) = (fun _ => ((1 / 2048 : ℝ) : EReal) * Loss.total (aH m c) (aU m c) (aD m c) (aX m c) (aT m c))) := by
  run_from Gen.run_main m ρ
  · exact arr5 m c
  · exact arr6 m c
  · exact arr7 m c
  · funext j
    exact tail5 m c j

end Cert.Kernel3Ideal.Val
end
-- ==== Proof.Loss.Reference.lean ====
module

public import proofs.«01_k».proof.Proof.Gen.Reference3Ideal.Run
public import proofs.«01_k».proof.Proof.Gen.Reference3Ideal.Read
public import Idealize.ShloMosaic.Lib.Pointwise
public import Idealize.ShloMosaic.Lib.Claim
public import proofs.«01_k».proof.Proof.Loss.Spec
public import proofs.«01_k».proof.Proof.Consts

@[expose] public section

set_option maxRecDepth 16384

noncomputable section

namespace Cert.Reference3Ideal.Val

open Idealize.ShloMosaic Idealize.ShloMosaic.TcCoe Idealize.SL.Sem
open Cert.Reference3Ideal Cert.Reference3Ideal.Gen Cert.Reference3Ideal.Read

variable (x0 x2 x3 x4 : (⟨S4096x1024, .f32⟩ : BufTy).Contents (Elt Ideal)) (x1 : (⟨S1024x4096, .f32⟩ : BufTy).Contents (Elt Ideal))

/-- An argument, entry by entry. -/
abbrev fD (i : Fin 4096) (d : Fin 1024) : EReal := x0 (ix2 i d)
@[inherit_doc fD] abbrev fU (i : Fin 1024) (k : Fin 4096) : EReal := x1 (ix2 i k)

theorem v0 (i k : Fin 4096) : val_main_v0 (F := Ideal) x0 x1 (ix2 i k) = Loss.act (fD x0) (fU x1) i k := by
  unfold val_main_v0 Loss.act
  pointwise
theorem v5 (i : Fin 4096) (d : Fin 1024) : val_main_v5 (F := Ideal) x0 x1 x2 x3 x4 (ix2 i d) = Loss.err (fD x0) (fU x1) (fD x2) (fD x3) (fD x4) i d := by
  unfold val_main_v5 val_main_v4 val_main_v3 val_main_v2 val_main_v1 val_main_call0_v0 val_main_call0_cst Loss.err Loss.sq
  pointwise
  simp only [v0]
theorem v19 (i : Fin 4096) (d : Fin 1024) : val_main_v19 (F := Ideal) x0 x1 x2 x3 x4 (ix2 i d) = Loss.dy (fD x0) (fU x1) (fD x2) (fD x3) (fD x4) i d := by
  unfold val_main_v19 val_main_v18 val_main_v17 val_main_v16 val_main_v15 val_main_v14 val_main_v8 val_main_v7 val_main_cst val_main_cst_4 val_main_cst_5 val_main_cst_6 Loss.dy
  pointwise
  rw [v5, Consts.c_half, Consts.c_1024, Consts.c_2]
  rw [Ideal.div_coe (by norm_num), ← EReal.coe_mul, ← mul_assoc, ← EReal.coe_mul, mul_comm]
  congr 2
  norm_num
theorem v13 (j) : val_main_v13 (F := Ideal) x0 x1 x2 x3 x4 j = ((1 / 2048 : ℝ) : EReal) * Loss.total (fD x0) (fU x1) (fD x2) (fD x3) (fD x4) := by
  unfold val_main_v13 val_main_v12 val_main_v11 val_main_v10 val_main_v9 val_main_v6 val_main_cst_0 val_main_cst_1 val_main_cst_2 val_main_cst_3 Loss.total
  pointwise
  simp only [v5]
  rw [Consts.c_half, Consts.c_1024]
  simp only [Ideal.div_coe (show (1024 : ℝ) ≠ 0 by norm_num), mul_comm _ ((1 / 1024 : ℝ) : EReal)]
  rw [Loss.scale_sum _ _ _ (by norm_num), ← mul_assoc, ← EReal.coe_mul]
  congr 2
  norm_num
theorem v20 (i k : Fin 4096) : val_main_v20 (F := Ideal) x0 x1 (ix2 i k) = Loss.act (fD x0) (fU x1) i k := by
  unfold val_main_v20
  pointwise
  rw [v0]
theorem v21 (i : Fin 4096) (d : Fin 1024) : val_main_v21 (F := Ideal) x0 x1 x2 x3 x4 (ix2 i d) = Loss.dy (fD x0) (fU x1) (fD x2) (fD x3) (fD x4) i d := by
  unfold val_main_v21
  pointwise
  rw [v19]

variable (m : (ℓ : Loc nD τ sig) → Buf (Elt Ideal) ℓ)

/-- The reference's run: its four results as the same functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v20) = (fun j => Loss.act (fD (m ((c.tc : Thread nD τ).loc main_arg0))) (fU (m ((c.tc : Thread nD τ).loc main_arg1))) (j 0) (j 1))
    ∧ r.2.mem ((c.tc : Thread nD τ).loc main_v19) = (fun j => Loss.dy (fD (m ((c.tc : Thread nD τ).loc main_arg0))) (fU (m ((c.tc : Thread nD τ).loc main_arg1))) (fD (m ((c.tc : Thread nD τ).loc main_arg2))) (fD (m ((c.tc : Thread nD τ).loc main_arg3))) (fD (m ((c.tc : Thread nD τ).loc main_arg4))) (j 0) (j 1))
    ∧ r.2.mem ((c.tc : Thread nD τ).loc main_v21) = (fun j => Loss.dy (fD (m ((c.tc : Thread nD τ).loc main_arg0))) (fU (m ((c.tc : Thread nD τ).loc main_arg1))) (fD (m ((c.tc : Thread nD τ).loc main_arg2))) (fD (m ((c.tc : Thread nD τ).loc main_arg3))) (fD (m ((c.tc : Thread nD τ).loc main_arg4))) (j 0) (j 1))
    ∧ r.2.mem ((c.tc : Thread nD τ).loc main_v13) = (fun _ => ((1 / 2048 : ℝ) : EReal) * Loss.total (fD (m ((c.tc : Thread nD τ).loc main_arg0))) (fU (m ((c.tc : Thread nD τ).loc main_arg1))) (fD (m ((c.tc : Thread nD τ).loc main_arg2))) (fD (m ((c.tc : Thread nD τ).loc main_arg3))) (fD (m ((c.tc : Thread nD τ).loc main_arg4))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run _ _ _).mono (fun r h c => ⟨(h c).1.trans ?_, (h c).2.1.trans ?_, (h c).2.2.1.trans ?_, (h c).2.2.2.1.trans ?_, (h c).2.2.2.2⟩) (Cert.Reference3Ideal.Value.run m ρ)
  · rw [val_main_v20_eq]
    funext j
    idx_vars j
    apply v20
  · rw [val_main_v19_eq]
    funext j
    idx_vars j
    apply v19
  · rw [val_main_v21_eq]
    funext j
    idx_vars j
    apply v21
  · rw [val_main_v13_eq]
    funext j
    apply v13

end Cert.Reference3Ideal.Val
end
-- ==== Proof.Rms.lean ====
module

public import Mathlib.Data.EReal.Operations
public import Mathlib.Data.EReal.Inv
public import Mathlib.Algebra.BigOperators.Fin
public import Idealize.ShloMosaic.PureOps.Ideal
public import proofs.«01_k».proof.Proof.Loss.Spec

@[expose] public section

noncomputable section

/-! The gradient of a root-mean-square normalisation with respect to its input, over the extended reals, in the closed form
    a kernel uses and in the form that differentiating the forward lines gives. The two agree at every input, the infinite
    ones among them. -/

namespace Cert.Rms

open scoped BigOperators
open Idealize.ShloMosaic

variable {n : ℕ}

/-- The mean of the squares, raised by a small positive amount. -/
def var (N e : EReal) (x : Fin n → EReal) : EReal := Ideal.div (∑ k, x k * x k) N + e

/-- The normalised input. -/
def hat (N e : EReal) (x : Fin n → EReal) (d : Fin n) : EReal := x d * Ideal.rsqrt (var N e x)

/-- The gradient in closed form; `u` is the cotangent times the weights. -/
def dx (N e : EReal) (x u : Fin n → EReal) (d : Fin n) : EReal :=
  Ideal.rsqrt (var N e x) * (u d - hat N e x d * Ideal.div (∑ k, u k * hat N e x k) N)

/-- The coefficient with which the input enters the differentiated form. -/
def coef (N e h : EReal) (x u : Fin n → EReal) : EReal :=
  Ideal.div ((∑ k, x k * u k) * (h * Ideal.div (Ideal.rsqrt (var N e x)) (var N e x))) N

theorem double (w : EReal) : w + w = ((2 : ℝ) : EReal) * w := by
  induction w with
  | bot => rw [EReal.coe_mul_bot_of_pos (by norm_num)]; rfl
  | top => rw [EReal.coe_mul_top_of_pos (by norm_num)]; rfl
  | coe w => norm_cast; ring

theorem sq_nonneg (w : EReal) : 0 ≤ w * w := by
  induction w with
  | bot => rw [EReal.bot_mul_bot]; exact le_top
  | top => rw [EReal.top_mul_top]; exact le_top
  | coe w => exact_mod_cast mul_self_nonneg w

/-- Where the sum of the squares is finite, so is every entry. -/
theorem finite_of_sum {ι : Type*} (s : Finset ι) (x : ι → EReal) (h : ∑ k ∈ s, x k * x k ≠ ⊤) {k : ι} (hk : k ∈ s) : ((x k).toReal : EReal) = x k := by
  have hle : x k * x k ≤ ∑ k ∈ s, x k * x k := Finset.single_le_sum (f := fun k => x k * x k) (fun k _ => sq_nonneg _) hk
  have hx : x k * x k ≠ ⊤ := fun e => h (top_le_iff.mp (e ▸ hle))
  refine EReal.coe_toReal (fun e => hx ?_) (fun e => hx ?_)
  · rw [e, EReal.top_mul_top]
  · rw [e, EReal.bot_mul_bot]

/-- The raised mean of the squares is infinite, or it is a positive number and every entry of the input is finite. -/
theorem var_cases (N e : ℝ) (hN : 0 < N) (he : 0 < e) (x : Fin n → EReal) :
    var (N : EReal) (e : EReal) x = ⊤ ∨ ∃ v : ℝ, 0 < v ∧ var (N : EReal) (e : EReal) x = (v : EReal) ∧ ∀ k, ((x k).toReal : EReal) = x k := by
  unfold var
  rw [Ideal.div_coe hN.ne']
  have h0 : 0 ≤ ∑ k, x k * x k := Finset.sum_nonneg fun k _ => sq_nonneg _
  rcases eq_or_ne (∑ k, x k * x k) ⊤ with h | h
  · left
    rw [h, EReal.top_mul_coe_of_pos (by positivity), EReal.top_add_coe]
  · right
    have hs : (((∑ k, x k * x k).toReal : ℝ) : EReal) = ∑ k, x k * x k :=
      EReal.coe_toReal h (ne_of_gt (lt_of_lt_of_le EReal.bot_lt_zero h0))
    refine ⟨(∑ k, x k * x k).toReal * (1 / N) + e, ?_, ?_, fun k => finite_of_sum _ x h (Finset.mem_univ k)⟩
    · have := EReal.toReal_nonneg h0
      positivity
    · rw [← hs]
      norm_cast

/-- The differentiated form is the closed form. -/
theorem dx_eq (N e : ℝ) (hN : 0 < N) (he : 0 < e) (x u : Fin n → EReal) (d : Fin n) :
    u d * Ideal.rsqrt (var (N : EReal) (e : EReal) x) + x d * coef (N : EReal) (e : EReal) ((-(1 / 2) : ℝ) : EReal) x u
      + coef (N : EReal) (e : EReal) ((-(1 / 2) : ℝ) : EReal) x u * x d = dx (N : EReal) (e : EReal) x u d := by
  rcases var_cases N e hN he x with h | ⟨v, hv, h, hx⟩
  · unfold coef dx hat
    rw [h, show Ideal.rsqrt ⊤ = 0 from rfl]
    simp [Ideal.div, hN.ne']
  · have hr : Ideal.rsqrt (var (N : EReal) (e : EReal) x) = (((Real.sqrt v)⁻¹ : ℝ) : EReal) := by
      rw [h]
      show (if v < 0 then (⊥ : EReal) else if v = 0 then ⊤ else (((Real.sqrt v)⁻¹ : ℝ) : EReal)) = _
      rw [if_neg (not_lt.mpr hv.le), if_neg hv.ne']
    have hρ : 0 < (Real.sqrt v)⁻¹ := inv_pos.mpr (Real.sqrt_pos.mpr hv)
    have hρ2 : (Real.sqrt v)⁻¹ * (Real.sqrt v)⁻¹ = 1 / v := by
      rw [← mul_inv, Real.mul_self_sqrt hv.le, one_div]
    have hsum : ∑ k, u k * hat (N : EReal) (e : EReal) x k = (((Real.sqrt v)⁻¹ : ℝ) : EReal) * ∑ k, x k * u k := by
      rw [← Loss.scale_sum _ _ _ hρ.le]
      refine Finset.sum_congr rfl fun k _ => ?_
      unfold hat
      rw [hr, mul_comm (u k), mul_comm (x k) (((Real.sqrt v)⁻¹ : ℝ) : EReal), mul_assoc]
    unfold coef dx
    rw [hsum, hat, hr, h, Ideal.div_coe hN.ne', Ideal.div_coe hN.ne', Ideal.div_coe hv.ne', ← hx d]
    generalize (∑ k, x k * u k) = S
    generalize (x d).toReal = y
    generalize u d = w
    generalize (Real.sqrt v)⁻¹ = ρ at *
    have e1 : ((y : EReal) * (ρ : EReal)) * (((ρ : EReal) * S) * ((1 / N : ℝ) : EReal)) = ((y * ρ * ρ * (1 / N) : ℝ) : EReal) * S := by
      simp only [EReal.coe_mul]
      ac_rfl
    have e2 : (y : EReal) * ((S * (((-(1 / 2) : ℝ) : EReal) * ((ρ : EReal) * ((1 / v : ℝ) : EReal)))) * ((1 / N : ℝ) : EReal))
        = ((y * -(1 / 2) * ρ * (1 / v) * (1 / N) : ℝ) : EReal) * S := by
      simp only [EReal.coe_mul]
      ac_rfl
    rw [mul_comm _ (y : EReal), e1, e2, add_assoc, double, ← mul_assoc, ← EReal.coe_mul, sub_eq_add_neg,
      EReal.left_distrib_of_nonneg_of_ne_top (EReal.coe_nonneg.mpr hρ.le) (EReal.coe_ne_top _), mul_comm w, ← EReal.neg_mul, ← EReal.coe_neg,
      ← mul_assoc (ρ : EReal), ← EReal.coe_mul]
    congr 3
    rw [← hρ2]
    ring

end Cert.Rms
end
-- ==== Proof.Mlp.Spec.lean ====
module

public import proofs.«01_k».proof.Proof.Rms
public import proofs.«01_k».proof.Proof.Consts

@[expose] public section

noncomputable section

/-! The gradients of the squared-activation network behind its normalisation, entry by entry, over the extended reals. -/

namespace Cert.Mlp

open scoped BigOperators
open Idealize.ShloMosaic

/-- The row length and the small amount that raises the mean of the squares. -/
abbrev N : EReal := Ideal.ofBits .f32 0x44800000#32
@[inherit_doc N] abbrev eps : EReal := Ideal.ofBits .f32 0x358637BD#32

variable (X : Fin 4096 → Fin 1024 → EReal) (g : Fin 1024 → EReal) (U : Fin 1024 → Fin 4096 → EReal) (D Y : Fin 4096 → Fin 1024 → EReal)

/-- The inner values before the activation. -/
def act (i k : Fin 4096) : EReal := Loss.act (fun i d => Rms.hat N eps (X i) d * g d) U i k

/-- Their gradient. -/
def da (i k : Fin 4096) : EReal := (∑ d, Y i d * D k d) * (Ideal.ofBits .f32 0x40000000#32 * max (act X g U i k) 0)

/-- The gradient of the normalised and weighted rows. -/
def dh (i : Fin 4096) (d : Fin 1024) : EReal := ∑ k, da X g U D Y i k * U d k

/-- The rows' gradient: the residual path and the path through the normalisation. -/
def dx (i : Fin 4096) (d : Fin 1024) : EReal := Y i d + Rms.dx N eps (X i) (fun d => dh X g U D Y i d * g d) d

/-- The gradient of the normalisation's weights. -/
def dg (d : Fin 1024) : EReal := ∑ i, dh X g U D Y i d * Rms.hat N eps (X i) d

end Cert.Mlp
end
-- ==== Proof.Mlp.Kernel.lean ====
module

public import proofs.«01_k».proof.Proof.Gen.Kernel4Ideal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
public import proofs.«01_k».proof.Proof.Mlp.Spec
public import proofs.«01_k».proof.Proof.Rows

@[expose] public section

set_option maxRecDepth 16384

noncomputable section

namespace Cert.Kernel4Ideal.Val

open Idealize.ShloMosaic Idealize.ShloMosaic.TcCoe Idealize.SL.Sem
open Cert.Kernel4Ideal Cert.Kernel4Ideal.Gen

variable (m : (ℓ : Loc nD τ sig) → Buf (Elt Ideal) ℓ)

/-- The arguments, entry by entry. -/
abbrev aX (c : Dev nD) (i0 : Fin 4096) (i1 : Fin 1024) : EReal := m ((c : Thread nD τ).loc main_arg0) (ix2 i0 i1)
@[inherit_doc aX] abbrev aG (c : Dev nD) (i0 : Fin 1024) : EReal := m ((c : Thread nD τ).loc main_arg1) (ix1 i0)
@[inherit_doc aX] abbrev aU (c : Dev nD) (i0 : Fin 1024) (i1 : Fin 4096) : EReal := m ((c : Thread nD τ).loc main_arg2) (ix2 i0 i1)
@[inherit_doc aX] abbrev aD (c : Dev nD) (i0 : Fin 4096) (i1 : Fin 1024) : EReal := m ((c : Thread nD τ).loc main_arg3) (ix2 i0 i1)
@[inherit_doc aX] abbrev aY (c : Dev nD) (i0 : Fin 4096) (i1 : Fin 1024) : EReal := m ((c : Thread nD τ).loc main_arg4) (ix2 i0 i1)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] ∧ win0_9.index t = ![t.val, 0] :=
  (by decide +kernel : ∀ t : Fin grid0.N, _)

theorem tlt (t : Fin cfg0.N) : t.val < 8 := lt_of_lt_of_eq t.isLt N_0

/-- The row of the array that row `a` of block `t` is. -/
abbrev row (t : Fin cfg0.N) (a : Fin 512) : Fin 4096 := ⟨t.val * 512 + a.val, by have := tlt t; omega⟩

/-- What the pipelined arrays hold as the pipeline starts. -/
theorem entry0 (c : Dev nD) (i0 : Fin 4096) (i1 : Fin 1024) : V m c main_v15 (ix2 i0 i1) = (aY m c i0 i1 : EReal) := by
  unfold V V0
  simp only [List.flatten_cons, List.flatten_nil, List.append_nil]
  unfold hostOps0
  after_reads_at
@[inherit_doc entry0] theorem entry1 (c : Dev nD) (i0 : Fin 4096) (i1 : Fin 4096) : V m c main_v14 (ix2 i0 i1) = (Mlp.act (aX m c) (aG m c) (aU m c) i0 i1 : EReal) := by
  unfold V V0
  simp only [List.flatten_cons, List.flatten_nil, List.append_nil]
  unfold hostOps0
  after_reads_at
  rfl
@[inherit_doc entry0] theorem entry2 (c : Dev nD) (i0 : Fin 4096) (i1 : Fin 1024) : V m c main_v16 (ix2 i0 i1) = (aD m c i0 i1 : EReal) := by
  unfold V V0
  simp only [List.flatten_cons, List.flatten_nil, List.append_nil]
  unfold hostOps0
  after_reads_at
@[inherit_doc entry0] theorem entry3 (c : Dev nD) (i0 : Fin 1024) (i1 : Fin 4096) : V m c main_v17 (ix2 i0 i1) = (aU m c i0 i1 : EReal) := by
  unfold V V0
  simp only [List.flatten_cons, List.flatten_nil, List.append_nil]
  unfold hostOps0
  after_reads_at
@[inherit_doc entry0] theorem entry6 (c : Dev nD) (i0 : Fin 1) (i1 : Fin 1024) : V m c main_v18 (ix2 i0 i1) = (aG m c i1 : EReal) := by
  unfold V V0
  simp only [List.flatten_cons, List.flatten_nil, List.append_nil]
  unfold hostOps0
  after_reads_at
/-- The blocks at a point, read in the arguments. -/
theorem blk0 (c : Dev nD) (t : Fin cfg0.N) (a : Fin 512) (d : Fin 1024) : iblk m c 0 t (ix2 a d) = aY m c (row t a) d := by
  rw [← entry0 m c]
  blk_ext [iblk, (idx t).1]
@[inherit_doc blk0] theorem blk1 (c : Dev nD) (t : Fin cfg0.N) (a : Fin 512) (d : Fin 4096) : iblk m c 1 t (ix2 a d) = Mlp.act (aX m c) (aG m c) (aU m c) (row t a) d := by
  rw [← entry1 m c]
  blk_ext [iblk, (idx t).2.1]
@[inherit_doc blk0] theorem blk2 (c : Dev nD) (t : Fin cfg0.N) (a : Fin 4096) (d : Fin 1024) : iblk m c 2 t (ix2 a d) = aD m c a d := by
  rw [← entry2 m c]
  blk_ext [iblk, (idx t).2.2.1]
@[inherit_doc blk0] theorem blk3 (c : Dev nD) (t : Fin cfg0.N) (a : Fin 1024) (d : Fin 4096) : iblk m c 3 t (ix2 a d) = aU m c a d := by
  rw [← entry3 m c]
  blk_ext [iblk, (idx t).2.2.2.1]
@[inherit_doc blk0] theorem blk4 (c : Dev nD) (t : Fin cfg0.N) (a : Fin 512) (d : Fin 1024) : iblk m c 4 t (ix2 a d) = aX m c (row t a) d := by
  unfold aX
  rw [← V_main_arg0 m c]
  blk_ext [iblk, (idx t).2.2.2.2.1]
@[inherit_doc blk0] theorem blk5 (c : Dev nD) (t : Fin cfg0.N) (a : Fin 512) (d : Fin 1024) : iblk m c 5 t (ix2 a d) = aY m c (row t a) d := by
  unfold aY
  rw [← V_main_arg4 m c]
  blk_ext [iblk, (idx t).2.2.2.2.2.1]
@[inherit_doc blk0] theorem blk6 (c : Dev nD) (t : Fin cfg0.N) (a : Fin 1) (d : Fin 1024) : iblk m c 6 t (ix2 a d) = aG m c d := by
  rw [← entry6 m c a d]
  blk_ext [iblk, (idx t).2.2.2.2.2.2.1]
/-- The quarters of the inner gradient, as the kernel forms them. -/
theorem da0 (c : Dev nD) (t : Fin cfg0.N) (a : Fin 512) (d : Fin 1024) :
    k0_pay3 (iblk m c 0 t) (View.ld (iblk m c 2 t) (Rect.unit ![0, 0] ![1024, 1024] inb_S4096x1024_S1024x1024_0_0)) (View.ld (iblk m c 1 t) (Rect.unit ![0, 0] ![512, 1024] inb_S512x4096_S512x1024_0_0)) (ix2 a d)
      = Mlp.da (aX m c) (aG m c) (aU m c) (aD m c) (aY m c) (row t a) ⟨d.val, by omega⟩ := by
  unfold Mlp.da
  unfold k0_pay3 k0_pay2
  pointwise
  exact congrArg₂ (· * ·) (Finset.sum_congr rfl fun x _ => congrArg₂ (· * ·) (blk0 m c t a x) (blk2 m c t _ x))
    (congrArg (Ideal.ofBits .f32 0x40000000#32 * max · 0) (blk1 m c t a _))
@[inherit_doc da0] theorem da1024 (c : Dev nD) (t : Fin cfg0.N) (a : Fin 512) (d : Fin 1024) :
    k0_pay6 (iblk m c 0 t) (View.ld (iblk m c 2 t) (Rect.unit ![1024, 0] ![1024, 1024] inb_S4096x1024_S1024x1024_1024_0)) (View.ld (iblk m c 1 t) (Rect.unit ![0, 1024] ![512, 1024] inb_S512x4096_S512x1024_0_1024)) (ix2 a d)
      = Mlp.da (aX m c) (aG m c) (aU m c) (aD m c) (aY m c) (row t a) ⟨1024 + d.val, by omega⟩ := by
  unfold Mlp.da
  unfold k0_pay6 k0_pay2
  pointwise
  exact congrArg₂ (· * ·) (Finset.sum_congr rfl fun x _ => congrArg₂ (· * ·) (blk0 m c t a x) (blk2 m c t _ x))
    (congrArg (Ideal.ofBits .f32 0x40000000#32 * max · 0) (blk1 m c t a _))
@[inherit_doc da0] theorem da2048 (c : Dev nD) (t : Fin cfg0.N) (a : Fin 512) (d : Fin 1024) :
    k0_pay7 (k0_pay5 (iblk m c 0 t) (View.ld (iblk m c 2 t) (Rect.unit ![2048, 0] ![1024, 1024] inb_S4096x1024_S1024x1024_2048_0))) (View.ld (iblk m c 1 t) (Rect.unit ![0, 2048] ![512, 1024] inb_S512x4096_S512x1024_0_2048)) (ix2 a d)
      = Mlp.da (aX m c) (aG m c) (aU m c) (aD m c) (aY m c) (row t a) ⟨2048 + d.val, by omega⟩ := by
  unfold Mlp.da
  unfold k0_pay7 k0_pay5 k0_pay2
  pointwise
  exact congrArg₂ (· * ·) (Finset.sum_congr rfl fun x _ => congrArg₂ (· * ·) (blk0 m c t a x) (blk2 m c t _ x))
    (congrArg (Ideal.ofBits .f32 0x40000000#32 * max · 0) (blk1 m c t a _))
@[inherit_doc da0] theorem da3072 (c : Dev nD) (t : Fin cfg0.N) (a : Fin 512) (d : Fin 1024) :
    k0_pay9 (k0_pay2 (iblk m c 0 t)) (View.ld (iblk m c 2 t) (Rect.unit ![3072, 0] ![1024, 1024] inb_S4096x1024_S1024x1024_3072_0)) (View.ld (iblk m c 1 t) (Rect.unit ![0, 3072] ![512, 1024] inb_S512x4096_S512x1024_0_3072)) (ix2 a d)
      = Mlp.da (aX m c) (aG m c) (aU m c) (aD m c) (aY m c) (row t a) ⟨3072 + d.val, by omega⟩ := by
  unfold Mlp.da
  unfold k0_pay9 k0_pay2
  pointwise
  exact congrArg₂ (· * ·) (Finset.sum_congr rfl fun x _ => congrArg₂ (· * ·) (blk0 m c t a x) (blk2 m c t _ x))
    (congrArg (Ideal.ofBits .f32 0x40000000#32 * max · 0) (blk1 m c t a _))

/-- The gradient of the normalised and weighted rows, as the kernel forms it. -/
theorem dh_eq (c : Dev nD) (t : Fin cfg0.N) (a : Fin 512) (d : Fin 1024) :
    k0_pay10 (k0_pay8 (k0_pay4 (iblk m c 0 t) (View.ld (iblk m c 2 t) (Rect.unit ![0, 0] ![1024, 1024] inb_S4096x1024_S1024x1024_0_0)) (View.ld (iblk m c 1 t) (Rect.unit ![0, 0] ![512, 1024] inb_S512x4096_S512x1024_0_0)) (View.ld (iblk m c 3 t) (Rect.unit ![0, 0] ![1024, 1024] inb_S1024x4096_S1024x1024_0_0))) (k0_pay5 (iblk m c 0 t) (View.ld (iblk m c 2 t) (Rect.unit ![2048, 0] ![1024, 1024] inb_S4096x1024_S1024x1024_2048_0))) (k0_pay6 (iblk m c 0 t) (View.ld (iblk m c 2 t) (Rect.unit ![1024, 0] ![1024, 1024] inb_S4096x1024_S1024x1024_1024_0)) (View.ld (iblk m c 1 t) (Rect.unit ![0, 1024] ![512, 1024] inb_S512x4096_S512x1024_0_1024))) (View.ld (iblk m c 3 t) (Rect.unit ![0, 1024] ![1024, 1024] inb_S1024x4096_S1024x1024_0_1024)) (View.ld (iblk m c 1 t) (Rect.unit ![0, 2048] ![512, 1024] inb_S512x4096_S512x1024_0_2048)) (View.ld (iblk m c 3 t) (Rect.unit ![0, 2048] ![1024, 1024] inb_S1024x4096_S1024x1024_0_2048)))
      (k0_pay9 (k0_pay2 (iblk m c 0 t)) (View.ld (iblk m c 2 t) (Rect.unit ![3072, 0] ![1024, 1024] inb_S4096x1024_S1024x1024_3072_0)) (View.ld (iblk m c 1 t) (Rect.unit ![0, 3072] ![512, 1024] inb_S512x4096_S512x1024_0_3072))) (View.ld (iblk m c 3 t) (Rect.unit ![0, 3072] ![1024, 1024] inb_S1024x4096_S1024x1024_0_3072)) (ix2 a d) = Mlp.dh (aX m c) (aG m c) (aU m c) (aD m c) (aY m c) (row t a) d := by
  unfold Mlp.dh
  rw [Loss.quarters]
  unfold k0_pay10 k0_pay8 k0_pay4
  pointwise
  simp only [da0, da1024, da2048, da3072]
  refine congrArg₂ (· + ·) (congrArg₂ (· + ·) (congrArg₂ (· + ·) ?_ ?_) ?_) ?_
  all_goals exact Finset.sum_congr rfl fun x _ => congrArg₂ (· * ·) rfl (blk3 m c t d _)

/-- The normalisation's factor and the normalised rows, as the kernel forms them. -/
theorem pay12 (c : Dev nD) (t : Fin cfg0.N) (a : Fin 512) (d : Fin 1) :
    k0_pay12 (iblk m c 4 t) (ix2 a d) = Ideal.rsqrt (Rms.var Mlp.N Mlp.eps (aX m c (row t a))) := by
  unfold k0_pay12 Rms.var
  pointwise
  exact congrArg (fun s => Ideal.rsqrt (Ideal.div s Mlp.N + Mlp.eps)) (Finset.sum_congr rfl fun x _ => congrArg₂ (· * ·) (blk4 m c t a x) (blk4 m c t a x))
@[inherit_doc pay12] theorem pay13 (c : Dev nD) (t : Fin cfg0.N) (a : Fin 512) (d : Fin 1024) :
    k0_pay13 (iblk m c 4 t) (ix2 a d) = Rms.hat Mlp.N Mlp.eps (aX m c (row t a)) d := by
  unfold k0_pay13 Rms.hat
  pointwise
  exact congrArg₂ (· * ·) (blk4 m c t a d) (pay12 m c t a _)

/-- The rows' gradient, as the kernel forms it. -/
theorem pay15 (c : Dev nD) (t : Fin cfg0.N) (a : Fin 512) (d : Fin 1024) :
    k0_pay15 (k0_pay8 (k0_pay4 (iblk m c 0 t) (View.ld (iblk m c 2 t) (Rect.unit ![0, 0] ![1024, 1024] inb_S4096x1024_S1024x1024_0_0)) (View.ld (iblk m c 1 t) (Rect.unit ![0, 0] ![512, 1024] inb_S512x4096_S512x1024_0_0)) (View.ld (iblk m c 3 t) (Rect.unit ![0, 0] ![1024, 1024] inb_S1024x4096_S1024x1024_0_0))) (k0_pay5 (iblk m c 0 t) (View.ld (iblk m c 2 t) (Rect.unit ![2048, 0] ![1024, 1024] inb_S4096x1024_S1024x1024_2048_0))) (k0_pay6 (iblk m c 0 t) (View.ld (iblk m c 2 t) (Rect.unit ![1024, 0] ![1024, 1024] inb_S4096x1024_S1024x1024_1024_0)) (View.ld (iblk m c 1 t) (Rect.unit ![0, 1024] ![512, 1024] inb_S512x4096_S512x1024_0_1024))) (View.ld (iblk m c 3 t) (Rect.unit ![0, 1024] ![1024, 1024] inb_S1024x4096_S1024x1024_0_1024)) (View.ld (iblk m c 1 t) (Rect.unit ![0, 2048] ![512, 1024] inb_S512x4096_S512x1024_0_2048)) (View.ld (iblk m c 3 t) (Rect.unit ![0, 2048] ![1024, 1024] inb_S1024x4096_S1024x1024_0_2048)))
      (k0_pay9 (k0_pay2 (iblk m c 0 t)) (View.ld (iblk m c 2 t) (Rect.unit ![3072, 0] ![1024, 1024] inb_S4096x1024_S1024x1024_3072_0)) (View.ld (iblk m c 1 t) (Rect.unit ![0, 3072] ![512, 1024] inb_S512x4096_S512x1024_0_3072))) (View.ld (iblk m c 3 t) (Rect.unit ![0, 3072] ![1024, 1024] inb_S1024x4096_S1024x1024_0_3072)) (iblk m c 4 t) (iblk m c 6 t) (iblk m c 5 t) (ix2 a d) = Mlp.dx (aX m c) (aG m c) (aU m c) (aD m c) (aY m c) (row t a) d := by
  have e : ∀ d, k0_pay10 (k0_pay8 (k0_pay4 (iblk m c 0 t) (View.ld (iblk m c 2 t) (Rect.unit ![0, 0] ![1024, 1024] inb_S4096x1024_S1024x1024_0_0)) (View.ld (iblk m c 1 t) (Rect.unit ![0, 0] ![512, 1024] inb_S512x4096_S512x1024_0_0)) (View.ld (iblk m c 3 t) (Rect.unit ![0, 0] ![1024, 1024] inb_S1024x4096_S1024x1024_0_0))) (k0_pay5 (iblk m c 0 t) (View.ld (iblk m c 2 t) (Rect.unit ![2048, 0] ![1024, 1024] inb_S4096x1024_S1024x1024_2048_0))) (k0_pay6 (iblk m c 0 t) (View.ld (iblk m c 2 t) (Rect.unit ![1024, 0] ![1024, 1024] inb_S4096x1024_S1024x1024_1024_0)) (View.ld (iblk m c 1 t) (Rect.unit ![0, 1024] ![512, 1024] inb_S512x4096_S512x1024_0_1024))) (View.ld (iblk m c 3 t) (Rect.unit ![0, 1024] ![1024, 1024] inb_S1024x4096_S1024x1024_0_1024)) (View.ld (iblk m c 1 t) (Rect.unit ![0, 2048] ![512, 1024] inb_S512x4096_S512x1024_0_2048)) (View.ld (iblk m c 3 t) (Rect.unit ![0, 2048] ![1024, 1024] inb_S1024x4096_S1024x1024_0_2048)))
      (k0_pay9 (k0_pay2 (iblk m c 0 t)) (View.ld (iblk m c 2 t) (Rect.unit ![3072, 0] ![1024, 1024] inb_S4096x1024_S1024x1024_3072_0)) (View.ld (iblk m c 1 t) (Rect.unit ![0, 3072] ![512, 1024] inb_S512x4096_S512x1024_0_3072))) (View.ld (iblk m c 3 t) (Rect.unit ![0, 3072] ![1024, 1024] inb_S1024x4096_S1024x1024_0_3072)) (ix2 a d) * iblk m c 6 t (ix2 0 d) = Mlp.dh (aX m c) (aG m c) (aU m c) (aD m c) (aY m c) (row t a) d * aG m c d :=
    fun d => congrArg₂ (· * ·) (dh_eq m c t a d) (blk6 m c t 0 d)
  unfold Mlp.dx Rms.dx
  unfold k0_pay15
  pointwise
  refine congrArg₂ (· + ·) (blk5 m c t a d) (congrArg₂ (· * ·) (pay12 m c t a _) (congrArg₂ (· - ·) (e d) (congrArg₂ (· * ·) (pay13 m c t a d) ?_)))
  exact congrArg (Ideal.div · Mlp.N) (Finset.sum_congr rfl fun x _ => congrArg₂ (· * ·) (e x) (pay13 m c t a x))

/-- The results' blocks. -/
theorem out7 (c : Dev nD) (t : Fin cfg0.N) (a : Fin 512) (k : Fin 4096) :
    (outsAt0 m c t.val t.isLt).1 (ix2 a k) = Mlp.da (aX m c) (aG m c) (aU m c) (aD m c) (aY m c) (row t a) k := by
  by_cases h : t.val % 8 = 0
  all_goals
    first | rw [outsAt0_A m c t h] | rw [outsAt0_B m c t h]
    frame_out
    canon_tiles x h
    · idx_vars x
      refine (da3072 m c t x0 x1).trans ?_
      exact congrArg₂ (Mlp.da (aX m c) (aG m c) (aU m c) (aD m c) (aY m c)) (Fin.ext (congrArg (t.val * 512 + ·) h0.symm)) (Fin.ext h1.symm)
    · idx_vars x
      refine (da2048 m c t x0 x1).trans ?_
      exact congrArg₂ (Mlp.da (aX m c) (aG m c) (aU m c) (aD m c) (aY m c)) (Fin.ext (congrArg (t.val * 512 + ·) h0.symm)) (Fin.ext h1.symm)
    · idx_vars x
      refine (da1024 m c t x0 x1).trans ?_
      exact congrArg₂ (Mlp.da (aX m c) (aG m c) (aU m c) (aD m c) (aY m c)) (Fin.ext (congrArg (t.val * 512 + ·) h0.symm)) (Fin.ext h1.symm)
    · idx_vars x
      refine (da0 m c t x0 x1).trans ?_
      exact congrArg₂ (Mlp.da (aX m c) (aG m c) (aU m c) (aD m c) (aY m c)) (Fin.ext (congrArg (t.val * 512 + ·) h0.symm)) (Fin.ext h1.symm)
@[inherit_doc out7] theorem out8 (c : Dev nD) (t : Fin cfg0.N) (a : Fin 512) (d : Fin 1024) :
    (outsAt0 m c t.val t.isLt).2.1 (ix2 a d) = Mlp.dx (aX m c) (aG m c) (aU m c) (aD m c) (aY m c) (row t a) d := by
  by_cases h : t.val % 8 = 0
  all_goals
    first | rw [outsAt0_A m c t h] | rw [outsAt0_B m c t h]
    frame_out
    exact pay15 m c t a d
@[inherit_doc out7] theorem out9 (c : Dev nD) (t : Fin cfg0.N) (a : Fin 512) (d : Fin 1024) :
    (outsAt0 m c t.val t.isLt).2.2.1 (ix2 a d) = Mlp.dx (aX m c) (aG m c) (aU m c) (aD m c) (aY m c) (row t a) d := by
  by_cases h : t.val % 8 = 0
  all_goals
    first | rw [outsAt0_A m c t h] | rw [outsAt0_B m c t h]
    frame_out
    unfold k0_pay16
    pointwise
    exact pay15 m c t a d

/-- One block's part of the weights' gradient, rows of one residue modulo 8. -/
def part (c : Dev nD) (p : Fin cfg0.N) (a : Fin 8) (d : Fin 1024) : EReal :=
  ∑ x : Fin 64, Mlp.dh (aX m c) (aG m c) (aU m c) (aD m c) (aY m c) (row p ⟨x.val * 8 + a.val, by omega⟩) d
    * Rms.hat Mlp.N Mlp.eps (aX m c (row p ⟨x.val * 8 + a.val, by omega⟩)) d

theorem acc10 (c : Dev nD) (a : Fin 8) (d : Fin 1024) :
    (outsAt0 m c t0_7.val t0_7.isLt).2.2.2 (ix2 a d) = 0 + ∑ p : Fin cfg0.N, part m c p a d := by
  refine Pipeline.eq_sum_fin_of_reset_step_apply_last
    (fun n h (_ : Unit) => (outsAt0 m c n h).2.2.2 (ix2 a d)) 8 (fun _ => 0)
    (fun p _ => part m c p a d)
    (fun t h _ => ?_) (fun t h _ => ?_) (le_of_eq N_0) t0_7 N_0.symm ()
  · rw [outsAt0_A m c t h]
    frame_out
    unfold k0_pay1 k0_pay11 k0_pay14
    pointwise
    exact Finset.sum_congr rfl fun x _ => congrArg₂ (· * ·) (dh_eq m c t _ d) (pay13 m c t _ d)
  · rw [outsAt0_B m c t h]
    frame_out
    unfold k0_pay1 k0_pay14
    pointwise
    exact congrArg (_ + ·) (Finset.sum_congr rfl fun x _ => congrArg₂ (· * ·) (dh_eq m c t _ d) (pay13 m c t _ d))

/-- The results' arrays. -/
theorem arr7 (c : Dev nD) : (dats m 0 c).arrAt 7 cfg0.N = fun j => (Mlp.da (aX m c) (aG m c) (aU m c) (aD m c) (aY m c)) (j 0) (j 1) := by
  refine (dats m 0 c).arrAt_eq_of_covers 7 _ (by decide +kernel) fun t hf y => ?_
  have e0 : ((((cfg0.win 7).blk t).view.emb y) 0 : ℕ) = t.val * 512 + (y 0).val := by blk_simp [(idx t).2.2.2.2.2.2.2.1]
  have e1 : ((((cfg0.win 7).blk t).view.emb y) 1 : ℕ) = (y 1).val := by blk_simp [(idx t).2.2.2.2.2.2.2.1]
  generalize ((cfg0.win 7).blk t).view.emb y = j at e0 e1
  blk_simp
  rw [after0_7]
  idx_vars y
  refine (out7 m c t y0 y1).trans ?_
  exact congrArg₂ (Mlp.da (aX m c) (aG m c) (aU m c) (aD m c) (aY m c)) (Fin.ext e0.symm) (Fin.ext e1.symm)
@[inherit_doc arr7] theorem arr8 (c : Dev nD) : (dats m 0 c).arrAt 8 cfg0.N = fun j => (Mlp.dx (aX m c) (aG m c) (aU m c) (aD m c) (aY m c)) (j 0) (j 1) := by
  refine (dats m 0 c).arrAt_eq_of_covers 8 _ (by decide +kernel) fun t hf y => ?_
  have e0 : ((((cfg0.win 8).blk t).view.emb y) 0 : ℕ) = t.val * 512 + (y 0).val := by blk_simp [(idx t).2.2.2.2.2.2.2.2.1]
  have e1 : ((((cfg0.win 8).blk t).view.emb y) 1 : ℕ) = (y 1).val := by blk_simp [(idx t).2.2.2.2.2.2.2.2.1]
  generalize ((cfg0.win 8).blk t).view.emb y = j at e0 e1
  blk_simp
  rw [after0_8]
  idx_vars y
  refine (out8 m c t y0 y1).trans ?_
  exact congrArg₂ (Mlp.dx (aX m c) (aG m c) (aU m c) (aD m c) (aY m c)) (Fin.ext e0.symm) (Fin.ext e1.symm)
@[inherit_doc arr7] theorem arr9 (c : Dev nD) : (dats m 0 c).arrAt 9 cfg0.N = fun j => (Mlp.dx (aX m c) (aG m c) (aU m c) (aD m c) (aY m c)) (j 0) (j 1) := by
  refine (dats m 0 c).arrAt_eq_of_covers 9 _ (by decide +kernel) fun t hf y => ?_
  have e0 : ((((cfg0.win 9).blk t).view.emb y) 0 : ℕ) = t.val * 512 + (y 0).val := by blk_simp [(idx t).2.2.2.2.2.2.2.2.2]
  have e1 : ((((cfg0.win 9).blk t).view.emb y) 1 : ℕ) = (y 1).val := by blk_simp [(idx t).2.2.2.2.2.2.2.2.2]
  generalize ((cfg0.win 9).blk t).view.emb y = j at e0 e1
  blk_simp
  rw [after0_9]
  idx_vars y
  refine (out9 m c t y0 y1).trans ?_
  exact congrArg₂ (Mlp.dx (aX m c) (aG m c) (aU m c) (aD m c) (aY m c)) (Fin.ext e0.symm) (Fin.ext e1.symm)
@[inherit_doc arr7] theorem arr10 (c : Dev nD) : (dats m 0 c).arrAt 10 cfg0.N = fun j => ∑ p : Fin cfg0.N, part m c p (j 0) (j 1) := by
  refine (dats m 0 c).arrAt_eq_of_after_last 10 t0_7 (by decide +kernel) _ fun j => ?_
  blk_simp
  rw [after0_10]
  idx_vars j
  exact (acc10 m c j0 j1).trans (zero_add _)

/-- A result's array is read, after the pipeline, as the pipeline left it. -/
theorem through (c : Dev nD) (w : Fin 11) : Pipeline.withArrays (cfgs 0).spec c (V0 m c) (fun w => (dats m 0 c).arrAt w (cfgs 0).N)
    (Proc.tc.devRef (Pipeline.arrRef spec0 w)) = (dats m 0 c).arrAt w cfg0.N :=
  Pipeline.withArrays_arr_shared _ c _ _ ((dats m 0 c).arrAt_sharedIn (by decide) (V0 m c) (A_eq m c) _) w

/-- The sum over the partial sums, after the pipeline. -/
theorem tail20 (c : Dev nD) (d : Fin 1024) : Pipeline.afterTail₀ cfgs (dats m) 0 (V0 m) [hostOps1] c main_v20 (ix1 d) = Mlp.dg (aX m c) (aG m c) (aU m c) (aD m c) (aY m c) d := by
  unfold Pipeline.afterTail₀
  simp only [hostOps1, List.flatten_cons, List.flatten_nil, List.append_nil, List.cons_append, List.nil_append]
  after_results
  erw [through m c 10]
  rw [arr10]
  pointwise
  exact Rows.sum_rows N_0 fun i => Mlp.dh (aX m c) (aG m c) (aU m c) (aD m c) (aY m c) i d * Rms.hat Mlp.N Mlp.eps (aX m c i) d

/-- The kernel's run: its four results as functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v19_0) = (fun j => Mlp.da (aX m c) (aG m c) (aU m c) (aD m c) (aY m c) (j 0) (j 1))
    ∧ r.2.mem ((c.tc : Thread nD τ).loc main_v19_1) = (fun j => Mlp.dx (aX m c) (aG m c) (aU m c) (aD m c) (aY m c) (j 0) (j 1))
    ∧ r.2.mem ((c.tc : Thread nD τ).loc main_v19_2) = (fun j => Mlp.dx (aX m c) (aG m c) (aU m c) (aD m c) (aY m c) (j 0) (j 1))
    ∧ r.2.mem ((c.tc : Thread nD τ).loc main_v20) = (fun j => Mlp.dg (aX m c) (aG m c) (aU m c) (aD m c) (aY m c) (j 0))) := by
  run_from Gen.run_main m ρ
  · exact arr7 m c
  · exact arr8 m c
  · exact arr9 m c
  · funext j
    idx_vars j
    exact tail20 m c j0

end Cert.Kernel4Ideal.Val
end
-- ==== Proof.Mlp.Reference.lean ====
module

public import proofs.«01_k».proof.Proof.Gen.Reference4Ideal.Run
public import proofs.«01_k».proof.Proof.Gen.Reference4Ideal.Read
public import Idealize.ShloMosaic.Lib.Pointwise
public import Idealize.ShloMosaic.Lib.Claim
public import proofs.«01_k».proof.Proof.Mlp.Spec

@[expose] public section

set_option maxRecDepth 16384

noncomputable section

namespace Cert.Reference4Ideal.Val

open Idealize.ShloMosaic Idealize.ShloMosaic.TcCoe Idealize.SL.Sem
open Cert.Reference4Ideal Cert.Reference4Ideal.Gen Cert.Reference4Ideal.Read

variable (x0 x3 x4 : (⟨S4096x1024, .f32⟩ : BufTy).Contents (Elt Ideal)) (x1 : (⟨S1024, .f32⟩ : BufTy).Contents (Elt Ideal)) (x2 : (⟨S1024x4096, .f32⟩ : BufTy).Contents (Elt Ideal))

/-- An argument, entry by entry. -/
abbrev fX (i : Fin 4096) (d : Fin 1024) : EReal := x0 (ix2 i d)
@[inherit_doc fX] abbrev fG (d : Fin 1024) : EReal := x1 (ix1 d)
@[inherit_doc fX] abbrev fU (i : Fin 1024) (k : Fin 4096) : EReal := x2 (ix2 i k)

theorem v6 (i : Fin 4096) (z : Fin 1) : val_main_v6 (F := Ideal) x0 (ix2 i z) = Rms.var Mlp.N Mlp.eps (fX x0 i) := by
  unfold val_main_v6 val_main_v5 val_main_v4 val_main_v3 val_main_v2 val_main_v1 val_main_v0 val_main_cst val_main_cst_0 val_main_cst_1 Rms.var
  pointwise
theorem v7 (i : Fin 4096) (z : Fin 1) : val_main_v7 (F := Ideal) x0 (ix2 i z) = Ideal.rsqrt (Rms.var Mlp.N Mlp.eps (fX x0 i)) := by
  unfold val_main_v7
  pointwise
  rw [v6]
theorem v12 (i : Fin 4096) (d : Fin 1024) : val_main_v12 (F := Ideal) x0 (ix2 i d) = Rms.hat Mlp.N Mlp.eps (fX x0 i) d := by
  unfold val_main_v12 val_main_v11 Rms.hat
  pointwise
  rw [v7]
theorem v16 (i k : Fin 4096) : val_main_v16 (F := Ideal) x0 x1 x2 (ix2 i k) = Mlp.act (fX x0) (fG x1) (fU x2) i k := by
  unfold val_main_v16 val_main_v15 val_main_v14 val_main_v13 Mlp.act Loss.act
  pointwise
  simp only [v12]
/-- Where the activation is flat, its gradient's factor is zero. -/
theorem flat (w a : EReal) : (if 0 < a then w * (Ideal.ofBits .f32 0x40000000#32 * max a 0) else 0)
    = w * (Ideal.ofBits .f32 0x40000000#32 * max a 0) := by
  split_ifs with h
  · rfl
  · rw [max_eq_right (not_lt.mp h), mul_zero, mul_zero]
theorem v28 (i k : Fin 4096) : val_main_v28 (F := Ideal) x0 x1 x2 x3 x4 (ix2 i k) = Mlp.da (fX x0) (fG x1) (fU x2) (fX x3) (fX x4) i k := by
  unfold val_main_v28 val_main_v27 val_main_v26 val_main_v25 val_main_v23 val_main_v22 val_main_v19 val_main_v18 val_main_v17 val_main_call0_v0 val_main_call0_cst val_main_cst_3 val_main_cst_5 val_main_cst_6 Mlp.da
  pointwise
  rw [v16]
  exact flat _ _
theorem v29 (i : Fin 4096) (d : Fin 1024) : val_main_v29 (F := Ideal) x0 x1 x2 x3 x4 (ix2 i d) = Mlp.dh (fX x0) (fG x1) (fU x2) (fX x3) (fX x4) i d := by
  unfold val_main_v29 Mlp.dh
  pointwise
  simp only [v28]
theorem v34 (i : Fin 4096) (d : Fin 1024) : val_main_v34 (F := Ideal) x0 x1 x2 x3 x4 (ix2 i d) = Mlp.dh (fX x0) (fG x1) (fU x2) (fX x3) (fX x4) i d * fG x1 d := by
  unfold val_main_v34 val_main_v33 val_main_v13
  pointwise
  rw [v29]
theorem v45 (i : Fin 4096) (d : Fin 1024) : val_main_v45 (F := Ideal) x0 x1 x2 x3 x4 (ix2 i d)
    = Rms.coef Mlp.N Mlp.eps (Ideal.ofBits .f32 0xBF000000#32) (fX x0 i) (fun d => Mlp.dh (fX x0) (fG x1) (fU x2) (fX x3) (fX x4) i d * fG x1 d) := by
  unfold val_main_v45 val_main_v44 val_main_v43 val_main_v42 val_main_v41 val_main_v38 val_main_v37 val_main_v36 val_main_v10 val_main_v9 val_main_v8 val_main_cst_2 val_main_cst_9 val_main_cst_10 val_main_cst_11 Rms.coef
  pointwise
  simp only [Finset.univ_unique, Finset.sum_singleton, v34, v7, v6]
theorem v50 (i : Fin 4096) (d : Fin 1024) : val_main_v50 (F := Ideal) x0 x1 x2 x3 x4 (ix2 i d) = Mlp.dx (fX x0) (fG x1) (fU x2) (fX x3) (fX x4) i d := by
  unfold val_main_v50 val_main_v49 val_main_v48 val_main_v47 val_main_v46 val_main_v40 val_main_v39 Mlp.dx
  pointwise
  rw [v45, v34, v7]
  refine congrArg (_ + ·) ?_
  simp only [Mlp.N, Mlp.eps, Consts.c_1024, Consts.c_eps, Consts.c_neg_half]
  exact Rms.dx_eq 1024 (8796093 / 2 ^ 43) (by norm_num) (by norm_num) (fX x0 i) (fun d => Mlp.dh (fX x0) (fG x1) (fU x2) (fX x3) (fX x4) i d * fG x1 d) d
theorem v35 (d : Fin 1024) : val_main_v35 (F := Ideal) x0 x1 x2 x3 x4 (ix1 d) = Mlp.dg (fX x0) (fG x1) (fU x2) (fX x3) (fX x4) d := by
  unfold val_main_v35 val_main_v32 val_main_v31 val_main_v30 val_main_cst_7 val_main_cst_8 Mlp.dg
  pointwise
  simp only [Finset.univ_unique, Finset.sum_singleton, v12, v29, mul_comm]
theorem v51 (i k : Fin 4096) : val_main_v51 (F := Ideal) x0 x1 x2 x3 x4 (ix2 i k) = Mlp.da (fX x0) (fG x1) (fU x2) (fX x3) (fX x4) i k := by
  unfold val_main_v51
  pointwise
  rw [v28]
theorem v52 (i : Fin 4096) (d : Fin 1024) : val_main_v52 (F := Ideal) x0 x1 x2 x3 x4 (ix2 i d) = Mlp.dx (fX x0) (fG x1) (fU x2) (fX x3) (fX x4) i d := by
  unfold val_main_v52
  pointwise
  rw [v50]

variable (m : (ℓ : Loc nD τ sig) → Buf (Elt Ideal) ℓ)

/-- The reference's run: its four results as the same functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v51) = (fun j => Mlp.da (fX (m ((c.tc : Thread nD τ).loc main_arg0))) (fG (m ((c.tc : Thread nD τ).loc main_arg1))) (fU (m ((c.tc : Thread nD τ).loc main_arg2))) (fX (m ((c.tc : Thread nD τ).loc main_arg3))) (fX (m ((c.tc : Thread nD τ).loc main_arg4))) (j 0) (j 1))
    ∧ r.2.mem ((c.tc : Thread nD τ).loc main_v50) = (fun j => Mlp.dx (fX (m ((c.tc : Thread nD τ).loc main_arg0))) (fG (m ((c.tc : Thread nD τ).loc main_arg1))) (fU (m ((c.tc : Thread nD τ).loc main_arg2))) (fX (m ((c.tc : Thread nD τ).loc main_arg3))) (fX (m ((c.tc : Thread nD τ).loc main_arg4))) (j 0) (j 1))
    ∧ r.2.mem ((c.tc : Thread nD τ).loc main_v52) = (fun j => Mlp.dx (fX (m ((c.tc : Thread nD τ).loc main_arg0))) (fG (m ((c.tc : Thread nD τ).loc main_arg1))) (fU (m ((c.tc : Thread nD τ).loc main_arg2))) (fX (m ((c.tc : Thread nD τ).loc main_arg3))) (fX (m ((c.tc : Thread nD τ).loc main_arg4))) (j 0) (j 1))
    ∧ r.2.mem ((c.tc : Thread nD τ).loc main_v35) = (fun j => Mlp.dg (fX (m ((c.tc : Thread nD τ).loc main_arg0))) (fG (m ((c.tc : Thread nD τ).loc main_arg1))) (fU (m ((c.tc : Thread nD τ).loc main_arg2))) (fX (m ((c.tc : Thread nD τ).loc main_arg3))) (fX (m ((c.tc : Thread nD τ).loc main_arg4))) (j 0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run _ _ _).mono (fun r h c => ⟨(h c).1.trans ?_, (h c).2.1.trans ?_, (h c).2.2.1.trans ?_, (h c).2.2.2.1.trans ?_, (h c).2.2.2.2⟩) (Cert.Reference4Ideal.Value.run m ρ)
  · rw [val_main_v51_eq]
    funext j
    idx_vars j
    apply v51
  · rw [val_main_v50_eq]
    funext j
    idx_vars j
    apply v50
  · rw [val_main_v52_eq]
    funext j
    idx_vars j
    apply v52
  · rw [val_main_v35_eq]
    funext j
    idx_vars j
    apply v35

end Cert.Reference4Ideal.Val
end
-- ==== Proof.Inb.Spec.lean ====
module

public import proofs.«01_k».proof.Proof.Rms
public import proofs.«01_k».proof.Proof.Mlp.Spec

@[expose] public section

set_option maxRecDepth 16384

noncomputable section

/-! The gradients of the block's first normalisation, entry by entry, over the extended reals: the gradient of the projected
    rows comes back through the projection, joins the gradient of the gates' path and goes through the normalisation. -/

namespace Cert.Inb

open scoped BigOperators
open Idealize.ShloMosaic

variable (X : Fin 4096 → Fin 1024 → EReal) (g : Fin 1024 → EReal) (W : Fin 1024 → Fin 6144 → EReal)
  (P : Fin 4096 → Fin 6144 → EReal) (H Y : Fin 4096 → Fin 1024 → EReal)

/-- The gradient of the normalised and weighted rows. -/
def dh (i : Fin 4096) (d : Fin 1024) : EReal := H i d + ∑ k, P i k * W d k

/-- The rows' gradient: the residual path and the path through the normalisation. -/
def dx (i : Fin 4096) (d : Fin 1024) : EReal := Y i d + Rms.dx Mlp.N Mlp.eps (X i) (fun d => dh W P H i d * g d) d

/-- The gradient of the normalisation's weights. -/
def dg (d : Fin 1024) : EReal := ∑ i, dh W P H i d * Rms.hat Mlp.N Mlp.eps (X i) d

/-- A sum over the projected columns, cut into its six blocks, the last three counted from the third on. -/
theorem sixths {M : Type*} [AddCommMonoid M] (h : M) (f : Fin 6144 → M) :
    h + ∑ e, f e = h + ∑ d : Fin 1024, f ⟨d.val, by omega⟩ + ∑ d : Fin 1024, f ⟨1024 + d.val, by omega⟩
      + ∑ d : Fin 1024, f ⟨2048 + d.val, by omega⟩ + ∑ d : Fin 1024, f ⟨3072 + d.val, by omega⟩
      + ∑ d : Fin 1024, f ⟨3072 + (1024 + d.val), by omega⟩ + ∑ d : Fin 1024, f ⟨3072 + (2048 + d.val), by omega⟩ := by
  have f1 : ∀ d : Fin 1024, f ⟨3072 + (1024 + d.val), by omega⟩ = f ⟨4096 + d.val, by omega⟩ := fun d => congrArg f (Fin.ext (Nat.add_assoc 3072 1024 d.val).symm)
  have f2 : ∀ d : Fin 1024, f ⟨3072 + (2048 + d.val), by omega⟩ = f ⟨5120 + d.val, by omega⟩ := fun d => congrArg f (Fin.ext (Nat.add_assoc 3072 2048 d.val).symm)
  simp only [f1, f2]
  rw [Fin.sum_univ_add (a := 5120) (b := 1024) f, ← add_assoc]
  refine congrArg₂ (· + ·) ?_ rfl
  refine (congrArg (h + ·) (Fin.sum_univ_add (a := 4096) (b := 1024) fun k : Fin 5120 => f ⟨k.val, by omega⟩)).trans ?_
  rw [← add_assoc]
  refine congrArg₂ (· + ·) ?_ rfl
  refine (congrArg (h + ·) (Loss.quarters fun k : Fin 4096 => f ⟨k.val, by omega⟩)).trans ?_
  rw [← add_assoc, ← add_assoc, ← add_assoc]

end Cert.Inb
end
-- ==== Proof.Inb.Kernel.lean ====
module

public import proofs.«01_k».proof.Proof.Gen.Kernel5Ideal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
public import proofs.«01_k».proof.Proof.Inb.Spec
public import proofs.«01_k».proof.Proof.Rows

@[expose] public section

set_option maxRecDepth 16384

noncomputable section

namespace Cert.Kernel5Ideal.Val

open Idealize.ShloMosaic Idealize.ShloMosaic.TcCoe Idealize.SL.Sem
open Cert.Kernel5Ideal Cert.Kernel5Ideal.Gen

variable (m : (ℓ : Loc nD τ sig) → Buf (Elt Ideal) ℓ)

/-- The arguments, entry by entry. -/
abbrev aX (c : Dev nD) (i0 : Fin 4096) (i1 : Fin 1024) : EReal := m ((c : Thread nD τ).loc main_arg0) (ix2 i0 i1)
@[inherit_doc aX] abbrev aG (c : Dev nD) (i0 : Fin 1024) : EReal := m ((c : Thread nD τ).loc main_arg1) (ix1 i0)
@[inherit_doc aX] abbrev aW (c : Dev nD) (i0 : Fin 1024) (i1 : Fin 6144) : EReal := m ((c : Thread nD τ).loc main_arg2) (ix2 i0 i1)
@[inherit_doc aX] abbrev aP (c : Dev nD) (i0 : Fin 4096) (i1 : Fin 6144) : EReal := m ((c : Thread nD τ).loc main_arg3) (ix2 i0 i1)
@[inherit_doc aX] abbrev aH (c : Dev nD) (i0 : Fin 4096) (i1 : Fin 1024) : EReal := m ((c : Thread nD τ).loc main_arg4) (ix2 i0 i1)
@[inherit_doc aX] abbrev aY (c : Dev nD) (i0 : Fin 4096) (i1 : Fin 1024) : EReal := m ((c : Thread nD τ).loc main_arg5) (ix2 i0 i1)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] :=
  (by decide +kernel : ∀ t : Fin grid0.N, _)

theorem tlt (t : Fin cfg0.N) : t.val < 8 := lt_of_lt_of_eq t.isLt N_0

/-- The row of the array that row `a` of block `t` is. -/
abbrev row (t : Fin cfg0.N) (a : Fin 512) : Fin 4096 := ⟨t.val * 512 + a.val, by have := tlt t; omega⟩

/-- What the pipelined arrays hold as the pipeline starts. -/
theorem entry0 (c : Dev nD) (i0 : Fin 4096) (i1 : Fin 2048) : V m c main_v1 (ix2 i0 i1) = (aP m c i0 ⟨i1.val, by omega⟩ : EReal) := by
  unfold V V0
  simp only [List.flatten_cons, List.flatten_nil, List.append_nil]
  unfold hostOps0
  after_reads_at
@[inherit_doc entry0] theorem entry1 (c : Dev nD) (i0 : Fin 4096) (i1 : Fin 1024) : V m c main_v2 (ix2 i0 i1) = (aP m c i0 ⟨2048 + i1.val, by omega⟩ : EReal) := by
  unfold V V0
  simp only [List.flatten_cons, List.flatten_nil, List.append_nil]
  unfold hostOps0
  after_reads_at
@[inherit_doc entry0] theorem entry2 (c : Dev nD) (i0 : Fin 4096) (i1 : Fin 3072) : V m c main_v3 (ix2 i0 i1) = (aP m c i0 ⟨3072 + i1.val, by omega⟩ : EReal) := by
  unfold V V0
  simp only [List.flatten_cons, List.flatten_nil, List.append_nil]
  unfold hostOps0
  after_reads_at
@[inherit_doc entry0] theorem entry3 (c : Dev nD) (i0 : Fin 1024) (i1 : Fin 6144) : V m c main_v4 (ix2 i0 i1) = (aW m c i0 i1 : EReal) := by
  unfold V V0
  simp only [List.flatten_cons, List.flatten_nil, List.append_nil]
  unfold hostOps0
  after_reads_at
@[inherit_doc entry0] theorem entry6 (c : Dev nD) (i0 : Fin 1) (i1 : Fin 1024) : V m c main_v5 (ix2 i0 i1) = (aG m c i1 : EReal) := by
  unfold V V0
  simp only [List.flatten_cons, List.flatten_nil, List.append_nil]
  unfold hostOps0
  after_reads_at
/-- The blocks at a point, read in the arguments. -/
theorem blk0 (c : Dev nD) (t : Fin cfg0.N) (a : Fin 512) (d : Fin 2048) : iblk m c 0 t (ix2 a d) = aP m c (row t a) ⟨d.val, by omega⟩ := by
  rw [← entry0 m c]
  blk_ext [iblk, (idx t).1]
@[inherit_doc blk0] theorem blk1 (c : Dev nD) (t : Fin cfg0.N) (a : Fin 512) (d : Fin 1024) : iblk m c 1 t (ix2 a d) = aP m c (row t a) ⟨2048 + d.val, by omega⟩ := by
  rw [← entry1 m c]
  blk_ext [iblk, (idx t).2.1]
@[inherit_doc blk0] theorem blk2 (c : Dev nD) (t : Fin cfg0.N) (a : Fin 512) (d : Fin 3072) : iblk m c 2 t (ix2 a d) = aP m c (row t a) ⟨3072 + d.val, by omega⟩ := by
  rw [← entry2 m c]
  blk_ext [iblk, (idx t).2.2.1]
@[inherit_doc blk0] theorem blk3 (c : Dev nD) (t : Fin cfg0.N) (a : Fin 1024) (d : Fin 6144) : iblk m c 3 t (ix2 a d) = aW m c a d := by
  rw [← entry3 m c]
  blk_ext [iblk, (idx t).2.2.2.1]
@[inherit_doc blk0] theorem blk4 (c : Dev nD) (t : Fin cfg0.N) (a : Fin 512) (d : Fin 1024) : iblk m c 4 t (ix2 a d) = aH m c (row t a) d := by
  unfold aH
  rw [← V_main_arg4 m c]
  blk_ext [iblk, (idx t).2.2.2.2.1]
@[inherit_doc blk0] theorem blk5 (c : Dev nD) (t : Fin cfg0.N) (a : Fin 512) (d : Fin 1024) : iblk m c 5 t (ix2 a d) = aX m c (row t a) d := by
  unfold aX
  rw [← V_main_arg0 m c]
  blk_ext [iblk, (idx t).2.2.2.2.2.1]
@[inherit_doc blk0] theorem blk6 (c : Dev nD) (t : Fin cfg0.N) (a : Fin 1) (d : Fin 1024) : iblk m c 6 t (ix2 a d) = aG m c d := by
  rw [← entry6 m c a d]
  blk_ext [iblk, (idx t).2.2.2.2.2.2.1]
@[inherit_doc blk0] theorem blk7 (c : Dev nD) (t : Fin cfg0.N) (a : Fin 512) (d : Fin 1024) : iblk m c 7 t (ix2 a d) = aY m c (row t a) d := by
  unfold aY
  rw [← V_main_arg5 m c]
  blk_ext [iblk, (idx t).2.2.2.2.2.2.2.1]

/-- The gradient of the normalised and weighted rows, as the kernel forms it. -/
theorem dh_eq (c : Dev nD) (t : Fin cfg0.N) (a : Fin 512) (d : Fin 1024) :
    k0_pay3 (k0_pay2 (iblk m c 4 t) (View.ld (iblk m c 0 t) (Rect.unit ![0, 0] ![512, 1024] inb_S512x2048_S512x1024_0_0)) (View.ld (iblk m c 3 t) (Rect.unit ![0, 0] ![1024, 1024] inb_S1024x6144_S1024x1024_0_0)) (View.ld (iblk m c 0 t) (Rect.unit ![0, 1024] ![512, 1024] inb_S512x2048_S512x1024_0_1024)) (View.ld (iblk m c 3 t) (Rect.unit ![0, 1024] ![1024, 1024] inb_S1024x6144_S1024x1024_0_1024)) (iblk m c 1 t) (View.ld (iblk m c 3 t) (Rect.unit ![0, 2048] ![1024, 1024] inb_S1024x6144_S1024x1024_0_2048)) (View.ld (iblk m c 2 t) (Rect.unit ![0, 0] ![512, 1024] inb_S512x3072_S512x1024_0_0)) (View.ld (iblk m c 3 t) (Rect.unit ![0, 3072] ![1024, 1024] inb_S1024x6144_S1024x1024_0_3072)) (View.ld (iblk m c 2 t) (Rect.unit ![0, 1024] ![512, 1024] inb_S512x3072_S512x1024_0_1024)) (View.ld (iblk m c 3 t) (Rect.unit ![0, 4096] ![1024, 1024] inb_S1024x6144_S1024x1024_0_4096)))
      (View.ld (iblk m c 2 t) (Rect.unit ![0, 2048] ![512, 1024] inb_S512x3072_S512x1024_0_2048)) (View.ld (iblk m c 3 t) (Rect.unit ![0, 5120] ![1024, 1024] inb_S1024x6144_S1024x1024_0_5120)) (ix2 a d) = Inb.dh (aW m c) (aP m c) (aH m c) (row t a) d := by
  unfold Inb.dh
  rw [Inb.sixths]
  unfold k0_pay3 k0_pay2
  pointwise
  refine congrArg₂ (· + ·) (congrArg₂ (· + ·) (congrArg₂ (· + ·) (congrArg₂ (· + ·) (congrArg₂ (· + ·) (congrArg₂ (· + ·) (blk4 m c t a d) ?_) ?_) ?_) ?_) ?_) ?_
  · exact Finset.sum_congr rfl fun x _ => congrArg₂ (· * ·) (blk0 m c t a _) (blk3 m c t d _)
  · exact Finset.sum_congr rfl fun x _ => congrArg₂ (· * ·) (blk0 m c t a _) (blk3 m c t d _)
  · exact Finset.sum_congr rfl fun x _ => congrArg₂ (· * ·) (blk1 m c t a _) (blk3 m c t d _)
  · exact Finset.sum_congr rfl fun x _ => congrArg₂ (· * ·) (blk2 m c t a _) (blk3 m c t d _)
  · exact Finset.sum_congr rfl fun x _ => congrArg₂ (· * ·) (blk2 m c t a _) ((blk3 m c t d _).trans (congrArg (aW m c d) (Fin.ext (Nat.add_assoc 3072 1024 x.val))))
  · exact Finset.sum_congr rfl fun x _ => congrArg₂ (· * ·) (blk2 m c t a _) ((blk3 m c t d _).trans (congrArg (aW m c d) (Fin.ext (Nat.add_assoc 3072 2048 x.val))))

/-- The normalisation's factor and the normalised rows, as the kernel forms them. -/
theorem pay5 (c : Dev nD) (t : Fin cfg0.N) (a : Fin 512) (d : Fin 1) :
    k0_pay5 (iblk m c 5 t) (ix2 a d) = Ideal.rsqrt (Rms.var Mlp.N Mlp.eps (aX m c (row t a))) := by
  unfold k0_pay5 Rms.var
  pointwise
  exact congrArg (fun s => Ideal.rsqrt (Ideal.div s Mlp.N + Mlp.eps)) (Finset.sum_congr rfl fun x _ => congrArg₂ (· * ·) (blk5 m c t a x) (blk5 m c t a x))
@[inherit_doc pay5] theorem pay6 (c : Dev nD) (t : Fin cfg0.N) (a : Fin 512) (d : Fin 1024) :
    k0_pay6 (iblk m c 5 t) (ix2 a d) = Rms.hat Mlp.N Mlp.eps (aX m c (row t a)) d := by
  unfold k0_pay6 Rms.hat
  pointwise
  exact congrArg₂ (· * ·) (blk5 m c t a d) (pay5 m c t a _)

/-- The rows' gradient, as the kernel forms it. -/
theorem pay8 (c : Dev nD) (t : Fin cfg0.N) (a : Fin 512) (d : Fin 1024) :
    k0_pay8 (k0_pay2 (iblk m c 4 t) (View.ld (iblk m c 0 t) (Rect.unit ![0, 0] ![512, 1024] inb_S512x2048_S512x1024_0_0)) (View.ld (iblk m c 3 t) (Rect.unit ![0, 0] ![1024, 1024] inb_S1024x6144_S1024x1024_0_0)) (View.ld (iblk m c 0 t) (Rect.unit ![0, 1024] ![512, 1024] inb_S512x2048_S512x1024_0_1024)) (View.ld (iblk m c 3 t) (Rect.unit ![0, 1024] ![1024, 1024] inb_S1024x6144_S1024x1024_0_1024)) (iblk m c 1 t) (View.ld (iblk m c 3 t) (Rect.unit ![0, 2048] ![1024, 1024] inb_S1024x6144_S1024x1024_0_2048)) (View.ld (iblk m c 2 t) (Rect.unit ![0, 0] ![512, 1024] inb_S512x3072_S512x1024_0_0)) (View.ld (iblk m c 3 t) (Rect.unit ![0, 3072] ![1024, 1024] inb_S1024x6144_S1024x1024_0_3072)) (View.ld (iblk m c 2 t) (Rect.unit ![0, 1024] ![512, 1024] inb_S512x3072_S512x1024_0_1024)) (View.ld (iblk m c 3 t) (Rect.unit ![0, 4096] ![1024, 1024] inb_S1024x6144_S1024x1024_0_4096)))
      (View.ld (iblk m c 2 t) (Rect.unit ![0, 2048] ![512, 1024] inb_S512x3072_S512x1024_0_2048)) (View.ld (iblk m c 3 t) (Rect.unit ![0, 5120] ![1024, 1024] inb_S1024x6144_S1024x1024_0_5120)) (iblk m c 5 t) (iblk m c 6 t) (iblk m c 7 t) (ix2 a d) = Inb.dx (aX m c) (aG m c) (aW m c) (aP m c) (aH m c) (aY m c) (row t a) d := by
  have e : ∀ d, k0_pay3 (k0_pay2 (iblk m c 4 t) (View.ld (iblk m c 0 t) (Rect.unit ![0, 0] ![512, 1024] inb_S512x2048_S512x1024_0_0)) (View.ld (iblk m c 3 t) (Rect.unit ![0, 0] ![1024, 1024] inb_S1024x6144_S1024x1024_0_0)) (View.ld (iblk m c 0 t) (Rect.unit ![0, 1024] ![512, 1024] inb_S512x2048_S512x1024_0_1024)) (View.ld (iblk m c 3 t) (Rect.unit ![0, 1024] ![1024, 1024] inb_S1024x6144_S1024x1024_0_1024)) (iblk m c 1 t) (View.ld (iblk m c 3 t) (Rect.unit ![0, 2048] ![1024, 1024] inb_S1024x6144_S1024x1024_0_2048)) (View.ld (iblk m c 2 t) (Rect.unit ![0, 0] ![512, 1024] inb_S512x3072_S512x1024_0_0)) (View.ld (iblk m c 3 t) (Rect.unit ![0, 3072] ![1024, 1024] inb_S1024x6144_S1024x1024_0_3072)) (View.ld (iblk m c 2 t) (Rect.unit ![0, 1024] ![512, 1024] inb_S512x3072_S512x1024_0_1024)) (View.ld (iblk m c 3 t) (Rect.unit ![0, 4096] ![1024, 1024] inb_S1024x6144_S1024x1024_0_4096)))
      (View.ld (iblk m c 2 t) (Rect.unit ![0, 2048] ![512, 1024] inb_S512x3072_S512x1024_0_2048)) (View.ld (iblk m c 3 t) (Rect.unit ![0, 5120] ![1024, 1024] inb_S1024x6144_S1024x1024_0_5120)) (ix2 a d) * iblk m c 6 t (ix2 0 d) = Inb.dh (aW m c) (aP m c) (aH m c) (row t a) d * aG m c d :=
    fun d => congrArg₂ (· * ·) (dh_eq m c t a d) (blk6 m c t 0 d)
  unfold Inb.dx Rms.dx
  unfold k0_pay8
  pointwise
  refine congrArg₂ (· + ·) (blk7 m c t a d) (congrArg₂ (· * ·) (pay5 m c t a _) (congrArg₂ (· - ·) (e d) (congrArg₂ (· * ·) (pay6 m c t a d) ?_)))
  exact congrArg (Ideal.div · Mlp.N) (Finset.sum_congr rfl fun x _ => congrArg₂ (· * ·) (e x) (pay6 m c t a x))

/-- The rows' block. -/
theorem out8 (c : Dev nD) (t : Fin cfg0.N) (a : Fin 512) (d : Fin 1024) :
    (outsAt0 m c t.val t.isLt).1 (ix2 a d) = Inb.dx (aX m c) (aG m c) (aW m c) (aP m c) (aH m c) (aY m c) (row t a) d := by
  by_cases h : t.val % 8 = 0
  all_goals
    first | rw [outsAt0_A m c t h] | rw [outsAt0_B m c t h]
    frame_out
    exact pay8 m c t a d

/-- One block's part of the weights' gradient, rows of one residue modulo 8. -/
def part (c : Dev nD) (p : Fin cfg0.N) (a : Fin 8) (d : Fin 1024) : EReal :=
  ∑ x : Fin 64, Inb.dh (aW m c) (aP m c) (aH m c) (row p ⟨x.val * 8 + a.val, by omega⟩) d
    * Rms.hat Mlp.N Mlp.eps (aX m c (row p ⟨x.val * 8 + a.val, by omega⟩)) d

theorem acc9 (c : Dev nD) (a : Fin 8) (d : Fin 1024) :
    (outsAt0 m c t0_7.val t0_7.isLt).2 (ix2 a d) = 0 + ∑ p : Fin cfg0.N, part m c p a d := by
  refine Pipeline.eq_sum_fin_of_reset_step_apply_last
    (fun n h (_ : Unit) => (outsAt0 m c n h).2 (ix2 a d)) 8 (fun _ => 0)
    (fun p _ => part m c p a d)
    (fun t h _ => ?_) (fun t h _ => ?_) (le_of_eq N_0) t0_7 N_0.symm ()
  · rw [outsAt0_A m c t h]
    frame_out
    unfold k0_pay1 k0_pay4 k0_pay7
    pointwise
    exact Finset.sum_congr rfl fun x _ => congrArg₂ (· * ·) (dh_eq m c t _ d) (pay6 m c t _ d)
  · rw [outsAt0_B m c t h]
    frame_out
    unfold k0_pay1 k0_pay7
    pointwise
    exact congrArg (_ + ·) (Finset.sum_congr rfl fun x _ => congrArg₂ (· * ·) (dh_eq m c t _ d) (pay6 m c t _ d))

/-- The results' arrays. -/
theorem arr8 (c : Dev nD) : (dats m 0 c).arrAt 8 cfg0.N = fun j => (Inb.dx (aX m c) (aG m c) (aW m c) (aP m c) (aH m c) (aY m c)) (j 0) (j 1) := by
  refine (dats m 0 c).arrAt_eq_of_covers 8 _ (by decide +kernel) fun t hf y => ?_
  have e0 : ((((cfg0.win 8).blk t).view.emb y) 0 : ℕ) = t.val * 512 + (y 0).val := by blk_simp [(idx t).2.2.2.2.2.2.2.2]
  have e1 : ((((cfg0.win 8).blk t).view.emb y) 1 : ℕ) = (y 1).val := by blk_simp [(idx t).2.2.2.2.2.2.2.2]
  generalize ((cfg0.win 8).blk t).view.emb y = j at e0 e1
  blk_simp
  rw [after0_8]
  idx_vars y
  refine (out8 m c t y0 y1).trans ?_
  exact congrArg₂ (Inb.dx (aX m c) (aG m c) (aW m c) (aP m c) (aH m c) (aY m c)) (Fin.ext e0.symm) (Fin.ext e1.symm)
@[inherit_doc arr8] theorem arr9 (c : Dev nD) : (dats m 0 c).arrAt 9 cfg0.N = fun j => ∑ p : Fin cfg0.N, part m c p (j 0) (j 1) := by
  refine (dats m 0 c).arrAt_eq_of_after_last 9 t0_7 (by decide +kernel) _ fun j => ?_
  blk_simp
  rw [after0_9]
  idx_vars j
  exact (acc9 m c j0 j1).trans (zero_add _)

/-- A result's array is read, after the pipeline, as the pipeline left it. -/
theorem through (c : Dev nD) (w : Fin 10) : Pipeline.withArrays (cfgs 0).spec c (V0 m c) (fun w => (dats m 0 c).arrAt w (cfgs 0).N)
    (Proc.tc.devRef (Pipeline.arrRef spec0 w)) = (dats m 0 c).arrAt w cfg0.N :=
  Pipeline.withArrays_arr_shared _ c _ _ ((dats m 0 c).arrAt_sharedIn (by decide) (V0 m c) (A_eq m c) _) w

/-- The sum over the partial sums, after the pipeline. -/
theorem tail7 (c : Dev nD) (d : Fin 1024) : Pipeline.afterTail₀ cfgs (dats m) 0 (V0 m) [hostOps1] c main_v7 (ix1 d) = Inb.dg (aX m c) (aW m c) (aP m c) (aH m c) d := by
  unfold Pipeline.afterTail₀
  simp only [hostOps1, List.flatten_cons, List.flatten_nil, List.append_nil, List.cons_append, List.nil_append]
  after_results
  erw [through m c 9]
  rw [arr9]
  pointwise
  exact Rows.sum_rows N_0 fun i => Inb.dh (aW m c) (aP m c) (aH m c) i d * Rms.hat Mlp.N Mlp.eps (aX m c i) d

/-- The kernel's run: its two results as functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v6_0) = (fun j => Inb.dx (aX m c) (aG m c) (aW m c) (aP m c) (aH m c) (aY m c) (j 0) (j 1))
    ∧ r.2.mem ((c.tc : Thread nD τ).loc main_v7) = (fun j => Inb.dg (aX m c) (aW m c) (aP m c) (aH m c) (j 0))) := by
  run_from Gen.run_main m ρ
  · exact arr8 m c
  · funext j
    idx_vars j
    exact tail7 m c j0

end Cert.Kernel5Ideal.Val
end
-- ==== Proof.Inb.Reference.lean ====
module

public import proofs.«01_k».proof.Proof.Gen.Reference5Ideal.Run
public import proofs.«01_k».proof.Proof.Gen.Reference5Ideal.Read
public import Idealize.ShloMosaic.Lib.Pointwise
public import Idealize.ShloMosaic.Lib.Claim
public import proofs.«01_k».proof.Proof.Inb.Spec

@[expose] public section

set_option maxRecDepth 16384

noncomputable section

namespace Cert.Reference5Ideal.Val

open Idealize.ShloMosaic Idealize.ShloMosaic.TcCoe Idealize.SL.Sem
open Cert.Reference5Ideal Cert.Reference5Ideal.Gen Cert.Reference5Ideal.Read

variable (x0 x4 x5 : (⟨S4096x1024, .f32⟩ : BufTy).Contents (Elt Ideal)) (x1 : (⟨S1024, .f32⟩ : BufTy).Contents (Elt Ideal)) (x2 : (⟨S1024x6144, .f32⟩ : BufTy).Contents (Elt Ideal)) (x3 : (⟨S4096x6144, .f32⟩ : BufTy).Contents (Elt Ideal))

/-- An argument, entry by entry. -/
abbrev fX (i : Fin 4096) (d : Fin 1024) : EReal := x0 (ix2 i d)
@[inherit_doc fX] abbrev fG (d : Fin 1024) : EReal := x1 (ix1 d)
@[inherit_doc fX] abbrev fW (i : Fin 1024) (k : Fin 6144) : EReal := x2 (ix2 i k)
@[inherit_doc fX] abbrev fP (i : Fin 4096) (k : Fin 6144) : EReal := x3 (ix2 i k)

theorem v6 (i : Fin 4096) (z : Fin 1) : val_main_v6 (F := Ideal) x0 (ix2 i z) = Rms.var Mlp.N Mlp.eps (fX x0 i) := by
  unfold val_main_v6 val_main_v5 val_main_v4 val_main_v3 val_main_v2 val_main_v1 val_main_v0 val_main_cst val_main_cst_0 val_main_cst_1 Rms.var
  pointwise
theorem v7 (i : Fin 4096) (z : Fin 1) : val_main_v7 (F := Ideal) x0 (ix2 i z) = Ideal.rsqrt (Rms.var Mlp.N Mlp.eps (fX x0 i)) := by
  unfold val_main_v7
  pointwise
  rw [v6]
theorem v12 (i : Fin 4096) (d : Fin 1024) : val_main_v12 (F := Ideal) x0 (ix2 i d) = Rms.hat Mlp.N Mlp.eps (fX x0 i) d := by
  unfold val_main_v12 val_main_v11 Rms.hat
  pointwise
  rw [v7]
theorem v18 (i : Fin 4096) (d : Fin 1024) : val_main_v18 (F := Ideal) x2 x3 x4 (ix2 i d) = Inb.dh (fW x2) (fP x3) (fX x4) i d := by
  unfold val_main_v18 val_main_v17 Inb.dh
  pointwise
theorem v23 (i : Fin 4096) (d : Fin 1024) : val_main_v23 (F := Ideal) x1 x2 x3 x4 (ix2 i d) = Inb.dh (fW x2) (fP x3) (fX x4) i d * fG x1 d := by
  unfold val_main_v23 val_main_v22 val_main_v13
  pointwise
  rw [v18]
theorem v35 (i : Fin 4096) (d : Fin 1024) : val_main_v35 (F := Ideal) x0 x1 x2 x3 x4 (ix2 i d)
    = Rms.coef Mlp.N Mlp.eps (Ideal.ofBits .f32 0xBF000000#32) (fX x0 i) (fun d => Inb.dh (fW x2) (fP x3) (fX x4) i d * fG x1 d) := by
  unfold val_main_v35 val_main_v34 val_main_v33 val_main_v32 val_main_v31 val_main_v27 val_main_v26 val_main_v25 val_main_v10 val_main_v9 val_main_v8 val_main_cst_2 val_main_cst_5 val_main_cst_6 val_main_cst_7 Rms.coef
  pointwise
  simp only [Finset.univ_unique, Finset.sum_singleton, v23, v7, v6]
theorem v39 (i : Fin 4096) (d : Fin 1024) : val_main_v39 (F := Ideal) x0 x1 x2 x3 x4 x5 (ix2 i d) = Inb.dx (fX x0) (fG x1) (fW x2) (fP x3) (fX x4) (fX x5) i d := by
  unfold val_main_v39 val_main_v38 val_main_v37 val_main_v36 val_main_v30 val_main_v29 val_main_v28 Inb.dx
  pointwise
  rw [v35, v23, v7, add_assoc, add_assoc, ← add_assoc (_ * _)]
  refine congrArg (_ + ·) ?_
  simp only [Mlp.N, Mlp.eps, Consts.c_1024, Consts.c_eps, Consts.c_neg_half]
  exact Rms.dx_eq 1024 (8796093 / 2 ^ 43) (by norm_num) (by norm_num) (fX x0 i) (fun d => Inb.dh (fW x2) (fP x3) (fX x4) i d * fG x1 d) d
theorem v24 (d : Fin 1024) : val_main_v24 (F := Ideal) x0 x2 x3 x4 (ix1 d) = Inb.dg (fX x0) (fW x2) (fP x3) (fX x4) d := by
  unfold val_main_v24 val_main_v21 val_main_v20 val_main_v19 val_main_cst_3 val_main_cst_4 Inb.dg
  pointwise
  simp only [Finset.univ_unique, Finset.sum_singleton, v12, v18, mul_comm]

variable (m : (ℓ : Loc nD τ sig) → Buf (Elt Ideal) ℓ)

/-- The reference's run: its two results as the same functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v39) = (fun j => Inb.dx (fX (m ((c.tc : Thread nD τ).loc main_arg0))) (fG (m ((c.tc : Thread nD τ).loc main_arg1))) (fW (m ((c.tc : Thread nD τ).loc main_arg2))) (fP (m ((c.tc : Thread nD τ).loc main_arg3))) (fX (m ((c.tc : Thread nD τ).loc main_arg4))) (fX (m ((c.tc : Thread nD τ).loc main_arg5))) (j 0) (j 1))
    ∧ r.2.mem ((c.tc : Thread nD τ).loc main_v24) = (fun j => Inb.dg (fX (m ((c.tc : Thread nD τ).loc main_arg0))) (fW (m ((c.tc : Thread nD τ).loc main_arg2))) (fP (m ((c.tc : Thread nD τ).loc main_arg3))) (fX (m ((c.tc : Thread nD τ).loc main_arg4))) (j 0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) := by
  refine (θ_run _ _ _).mono (fun r h c => ⟨(h c).1.trans ?_, (h c).2.1.trans ?_, (h c).2.2⟩) (Cert.Reference5Ideal.Value.run m ρ)
  · rw [val_main_v39_eq]
    funext j
    idx_vars j
    apply v39
  · rw [val_main_v24_eq]
    funext j
    idx_vars j
    apply v24

end Cert.Reference5Ideal.Val
end
-- ==== Proof.Qk.Spec.lean ====
module

public import proofs.«01_k».proof.Proof.Rms
public import proofs.«01_k».proof.Proof.Consts
public import proofs.«01_k».proof.Proof.Rows

@[expose] public section

set_option maxRecDepth 16384

noncomputable section

/-! The gradient of the normalisation of every head's queries and keys, as functions of the entries: the projection's columns
    `X`, the cotangent `Y`, the factor `s` on the normalised rows, and the weights `g` that all heads share. -/

namespace Cert.Qk

open scoped BigOperators
open Idealize.ShloMosaic

abbrev N : EReal := ((64 : ℝ) : EReal)
abbrev eps : EReal := ((8796093 / 2 ^ 43 : ℝ) : EReal)

/-- The head that holds column `d`, as a row of its own. -/
def hd (X : Fin 4096 → Fin 1024 → EReal) (i : Fin 4096) (d : Fin 1024) : Fin 64 → EReal := fun j => X i ⟨d.val / 64 * 64 + j.val, by omega⟩

/-- The place of a column in its head. -/
abbrev lane (d : Fin 1024) : Fin 64 := ⟨d.val % 64, Nat.mod_lt _ (by norm_num)⟩

/-- The normalised rows. -/
def hat (X : Fin 4096 → Fin 1024 → EReal) (i : Fin 4096) (d : Fin 1024) : EReal := X i d * Ideal.rsqrt (Rms.var N eps (hd X i d))

/-- The gradient with respect to the columns. -/
def dx (X Y : Fin 4096 → Fin 1024 → EReal) (s : EReal) (g : Fin 64 → EReal) (i : Fin 4096) (d : Fin 1024) : EReal :=
  Rms.dx N eps (hd X i d) (fun j => hd Y i d j * s * g j) (lane d)

/-- The gradient with respect to the weights. -/
def dg (X Y : Fin 4096 → Fin 1024 → EReal) (s : EReal) (j : Fin 64) : EReal :=
  ∑ i : Fin 4096, ∑ h : Fin 16, Y i ⟨h.val * 64 + j.val, by omega⟩ * s * hat X i ⟨h.val * 64 + j.val, by omega⟩

/-- Two blocks of columns side by side. -/
def cat (A B : Fin 4096 → Fin 1024 → EReal) (i : Fin 4096) (e : Fin 2048) : EReal :=
  if h : e.val < 1024 then A i ⟨e.val, h⟩ else B i ⟨e.val - 1024, by omega⟩

theorem cat_lo (A B : Fin 4096 → Fin 1024 → EReal) (i : Fin 4096) (e : Fin 2048) (d : Fin 1024) (h : e.val = d.val) : A i d = cat A B i e := by
  unfold cat
  rw [dif_pos (by omega)]
  exact congrArg (A i) (Fin.ext h.symm)
theorem cat_hi (A B : Fin 4096 → Fin 1024 → EReal) (i : Fin 4096) (e : Fin 2048) (d : Fin 1024) (h : e.val = 1024 + d.val) : B i d = cat A B i e := by
  unfold cat
  rw [dif_neg (by omega)]
  exact congrArg (B i) (Fin.ext (by show d.val = e.val - 1024; omega))

/-- The kernel's sums over 128 rows of partial sums, eight residues of the row and sixteen heads, are the sums over all rows and heads. -/
theorem sum_parts {n : ℕ} (hn : n = 8) (f : Fin 4096 → Fin 16 → EReal) :
    ∑ r : Fin 128, ∑ p : Fin n, ∑ x : Fin 64, f ⟨p.val * 512 + (x.val * 8 + r.val / 16), by omega⟩ ⟨r.val % 16, Nat.mod_lt _ (by norm_num)⟩
      = ∑ i, ∑ h, f i h := by
  have e : ∀ g : Fin 8 → Fin 16 → EReal, ∑ r : Fin 128, g ⟨r.val / 16, by omega⟩ ⟨r.val % 16, Nat.mod_lt _ (by norm_num)⟩ = ∑ a, ∑ h, g a h := by
    intro g
    rw [← Fintype.sum_prod_type']
    refine Fintype.sum_bijective (fun r : Fin 128 => ((⟨r.val / 16, by omega⟩, ⟨r.val % 16, Nat.mod_lt _ (by norm_num)⟩) : Fin 8 × Fin 16)) ⟨?_, ?_⟩ _ _ fun r => rfl
    · intro r r' h
      simp only [Prod.mk.injEq, Fin.mk.injEq] at h
      exact Fin.ext (by omega)
    · rintro ⟨a, h⟩
      refine ⟨⟨a.val * 16 + h.val, by omega⟩, ?_⟩
      simp only [Prod.mk.injEq, Fin.ext_iff]
      omega
  rw [e fun a h => ∑ p : Fin n, ∑ x : Fin 64, f ⟨p.val * 512 + (x.val * 8 + a.val), by omega⟩ h, Finset.sum_comm, Finset.sum_comm (s := Finset.univ (α := Fin 4096))]
  exact Finset.sum_congr rfl fun h _ => Rows.sum_rows hn fun i => f i h

/-- An entry is a number. -/
def IsReal (v : EReal) : Prop := ∃ r : ℝ, v = (r : EReal)

theorem IsReal.mul {v w : EReal} (hv : IsReal v) (hw : IsReal w) : IsReal (v * w) := by
  obtain ⟨a, rfl⟩ := hv
  obtain ⟨b, rfl⟩ := hw
  exact ⟨a * b, (EReal.coe_mul a b).symm⟩

theorem IsReal.sub_self {v : EReal} (hv : IsReal v) : v - v = 0 := by
  obtain ⟨a, rfl⟩ := hv
  rw [← EReal.coe_sub, _root_.sub_self, EReal.coe_zero]

theorem IsReal.rsqrt_var {n : ℕ} (x : Fin n → EReal) : IsReal (Ideal.rsqrt (Rms.var N eps x)) := by
  rcases Rms.var_cases 64 (8796093 / 2 ^ 43) (by norm_num) (by norm_num) x with h | ⟨v, hv, h, -⟩
  · rw [h]
    exact ⟨0, rfl⟩
  · rw [h]
    refine ⟨(Real.sqrt v)⁻¹, ?_⟩
    show (if v < 0 then (⊥ : EReal) else if v = 0 then ⊤ else (((Real.sqrt v)⁻¹ : ℝ) : EReal)) = _
    rw [if_neg (not_lt.mpr hv.le), if_neg hv.ne']

/-- An entry whose magnitude is below infinity is a number. -/
theorem IsReal.of_abs {v : EReal} (h : max v (-v) < ⊤) : IsReal v := by
  induction v with
  | bot => simp at h
  | top => simp at h
  | coe r => exact ⟨r, rfl⟩

theorem c_64 : Ideal.ofBits .f32 0x42800000#32 = ((64 : ℝ) : EReal) := by
  simp [Ideal.ofBits, Ideal.ieee, -EReal.coe_mul]; norm_num
theorem c_64th : Ideal.ofBits .f32 0x3C800000#32 = ((1 / 64 : ℝ) : EReal) := by
  simp [Ideal.ofBits, Ideal.ieee, -EReal.coe_mul]; norm_num
theorem c_1 : Ideal.ofBits .f32 0x3F800000#32 = 1 := by
  rw [← EReal.coe_one]
  simp [Ideal.ofBits, Ideal.ieee, -EReal.coe_mul, -EReal.coe_one]; norm_num

/-- A sum over the rows of a table that is 1 where row and column belong to the same head of two. -/
theorem head_sum (v : Fin 128 → EReal) (d : Fin 128) :
    ∑ r : Fin 128, v r * (if r.val / 64 = d.val / 64 then 1 else 0) = ∑ j : Fin 64, v ⟨d.val / 64 * 64 + j.val, by omega⟩ := by
  rw [show ∑ r : Fin 128, v r * (if r.val / 64 = d.val / 64 then 1 else 0)
      = ∑ j : Fin 64, v (Fin.castAdd 64 j) * (if (Fin.castAdd 64 j).val / 64 = d.val / 64 then 1 else 0)
        + ∑ j : Fin 64, v (Fin.natAdd 64 j) * (if (Fin.natAdd 64 j).val / 64 = d.val / 64 then 1 else 0) from
    Fin.sum_univ_add (a := 64) (b := 64) fun r : Fin 128 => v r * (if r.val / 64 = d.val / 64 then (1 : EReal) else 0)]
  rcases (by omega : d.val / 64 = 0 ∨ d.val / 64 = 1) with h | h
  · rw [show ∑ j : Fin 64, v (Fin.natAdd 64 j) * (if (Fin.natAdd 64 j).val / 64 = d.val / 64 then (1 : EReal) else 0) = 0 from
      Finset.sum_eq_zero fun j _ => by
        rw [if_neg (by rw [h, Fin.val_natAdd]; omega), mul_zero], add_zero]
    refine Finset.sum_congr rfl fun j _ => ?_
    rw [if_pos (by rw [h, Fin.val_castAdd]; omega), mul_one]
    exact congrArg v (Fin.ext (by rw [Fin.val_castAdd]; show _ = d.val / 64 * 64 + j.val; omega))
  · rw [show ∑ j : Fin 64, v (Fin.castAdd 64 j) * (if (Fin.castAdd 64 j).val / 64 = d.val / 64 then (1 : EReal) else 0) = 0 from
      Finset.sum_eq_zero fun j _ => by
        rw [if_neg (by rw [h, Fin.val_castAdd]; omega), mul_zero], zero_add]
    refine Finset.sum_congr rfl fun j _ => ?_
    rw [if_pos (by rw [h, Fin.val_natAdd]; omega), mul_one]
    exact congrArg v (Fin.ext (by rw [Fin.val_natAdd]; show _ = d.val / 64 * 64 + j.val; omega))

theorem top : Ideal.ofBits .f32 0x7F800000#32 = ⊤ := by
  simp [Ideal.ofBits, Ideal.ieee]

/-- A bit of the precondition, read as the entry being a number. -/
theorem of_bit {v : EReal} (h : FloatOps.cmpf (F := Ideal) (φ := .f32) .olt (max v (-v)) (Ideal.ofBits .f32 0x7F800000#32) = 1#1) : IsReal v := by
  refine IsReal.of_abs ?_
  rw [top] at h
  by_contra hn
  have : FloatOps.cmpf (F := Ideal) (φ := .f32) .olt (max v (-v)) (⊤ : EReal) = 0#1 := by
    show BitVec.ofBool (decide _) = _
    rw [decide_eq_false hn]
    rfl
  rw [this] at h
  exact absurd h (by decide)

end Cert.Qk
end
-- ==== Proof.Qk.Slab.lean ====
module

public import proofs.«01_k».proof.Proof.Gen.Kernel6Ideal.Frame
public import Idealize.ShloMosaic.Lib.Pipeline.ValueKit
public import Idealize.ShloMosaic.Lib.Pointwise
public import proofs.«01_k».proof.Proof.Qk.Spec

@[expose] public section

set_option maxRecDepth 16384

noncomputable section

/-! What the kernel does with 128 columns, two heads, at a time. -/

namespace Cert.Kernel6Ideal.Val

open Idealize.ShloMosaic Idealize.ShloMosaic.TcCoe Idealize.SL.Sem
open Cert.Kernel6Ideal Cert.Kernel6Ideal.Gen

/-- The table that is 1 where row and column belong to the same head. -/
abbrev same : FVec Ideal S128x128 .bf16 := k0_pay6 k0_pay2 k0_pay3 k0_pay4 k0_pay5

/-- A place among 128, divided by the head's size as the kernel divides. -/
theorem quot : ∀ r : Fin 128,
    Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 r.val) 64#32) 0#32))
      (IntOp.subi (IntOp.divsi ArithUnit.vector (BitVec.ofNat 32 r.val) 64#32) 1#32)
      (IntOp.divsi ArithUnit.vector (BitVec.ofNat 32 r.val) 64#32) = BitVec.ofNat 32 (r.val / 64) := by decide +kernel

theorem bit : ∀ p q : Fin 2, BitVec.setWidth 32 (IntOp.cmpi CmpIPredicate.eq (BitVec.ofNat 32 p.val) (BitVec.ofNat 32 q.val))
    = if p.val = q.val then 1#32 else 0#32 := by decide +kernel

theorem same_eq (r d : Fin 128) : same (ix2 r d) = if r.val / 64 = d.val / 64 then (1 : EReal) else 0 := by
  unfold same k0_pay6 k0_pay2 k0_pay3 k0_pay4 k0_pay5
  pointwise
  rw [quot r, quot d, bit ⟨r.val / 64, by omega⟩ ⟨d.val / 64, by omega⟩]
  split
  · exact (congrArg (fun r : ℝ => (r : EReal)) (by norm_num)).trans EReal.coe_one
  · exact (congrArg (fun r : ℝ => (r : EReal)) (by norm_num)).trans EReal.coe_zero

/-- The rows' values. -/
def vals (x : FVec Ideal S512x128 .bf16) : FVec Ideal S512x128 .f32 := extf .f32 (shapeCast S512x128 x shapeCasts_S512x128_S512x128) bitsLt_bf16_f32

/-- The sums over each head, as the kernel takes them: of the values rounded and of what the rounding left. -/
def sums (v : FVec Ideal S512x128 .f32) : FVec Ideal S512x128 .f32 :=
  addf (matmul dot_S512x128_S128x128_S512x128_1_0_0_1_n_n none (truncf .bf16 v bitsLt_bf16_f32) same (constant S512x128 .f32 0x00000000#32))
    (matmul dot_S512x128_S128x128_S512x128_1_0_0_1_n_n none (truncf .bf16 (subf v (extf .f32 (truncf .bf16 v bitsLt_bf16_f32) bitsLt_bf16_f32)) bitsLt_bf16_f32)
      same (constant S512x128 .f32 0x00000000#32))

theorem sums_eq (v : FVec Ideal S512x128 .f32) (a : Fin 512) (hv : ∀ r, Qk.IsReal (v (ix2 a r))) (d : Fin 128) :
    sums v (ix2 a d) = ∑ j : Fin 64, v (ix2 a ⟨d.val / 64 * 64 + j.val, by omega⟩) := by
  rw [← Qk.head_sum (fun r => v (ix2 a r)) d]
  unfold sums
  pointwise
  rw [show ∑ x, (v (ix2 a x) - v (ix2 a x)) * same (ix2 x d) = 0 from Finset.sum_eq_zero fun x _ => by rw [(hv x).sub_self, zero_mul], add_zero]
  exact Finset.sum_congr rfl fun x _ => by rw [same_eq]

/-- The factor of each head, the normalised rows, the cotangent with its factor, and the two gradients. -/
def facs (x : FVec Ideal S512x128 .bf16) : FVec Ideal S512x128 .f32 :=
  rsqrt (addf (mulf (sums (mulf (vals x) (vals x))) (broadcast S512x128 (Scalar.ofBits .f32 0x3C800000#32)))
    (broadcast S512x128 (Scalar.ofBits .f32 0x358637BD#32)))
@[inherit_doc facs] def hats (x : FVec Ideal S512x128 .bf16) : FVec Ideal S512x128 .f32 := mulf (vals x) (facs x)
@[inherit_doc facs] def cots (s : BitVec 32) (y : FVec Ideal S512x128 .bf16) : FVec Ideal S512x128 .f32 := mulf (vals y) (broadcast S512x128 (Scalar.ofBits .f32 s))
@[inherit_doc facs] def dgs (s : BitVec 32) (x y : FVec Ideal S512x128 .bf16) (z : FVec Ideal S8x128 .f32) : FVec Ideal S8x128 .f32 :=
  addf (shapeCast S8x128 z shapeCasts_S8x128_S8x128)
    (multiReduction .add [0] S8x128 (shapeCast S64x8x128 (mulf (cots s y) (hats x)) shapeCasts_S512x128_S64x8x128) 0x00000000#32
      reduces_S64x8x128_S8x128 (.inl rfl) rfl)
@[inherit_doc facs] def ups (s : BitVec 32) (y : FVec Ideal S512x128 .bf16) (g : FVec Ideal S1x128 .f32) : FVec Ideal S512x128 .f32 :=
  mulf (cots s y) (broadcastTo S512x128 (shapeCast S1x128 g shapeCasts_S1x128_S1x128) broadcasts_S1x128_S512x128)
@[inherit_doc facs] def dxs (s : BitVec 32) (x y : FVec Ideal S512x128 .bf16) (g : FVec Ideal S1x128 .f32) : FVec Ideal S512x128 .bf16 :=
  truncf .bf16 (mulf (facs x) (subf (ups s y g) (mulf (hats x) (mulf (sums (mulf (ups s y g) (hats x)))
    (broadcast S512x128 (Scalar.ofBits .f32 0x3C800000#32)))))) bitsLt_bf16_f32

/-- A column of 128 from column `o` on, and a row by its residue modulo 8. -/
theorem col_lt {o : ℕ} (ho : o + 128 ≤ 1024) (d : Fin 128) : o + d.val < 1024 := by omega
@[inherit_doc col_lt] theorem sub_lt (r : Fin 64) (a : Fin 8) : r.val * 8 + a.val < 512 := by omega
@[inherit_doc col_lt] theorem half_lt (d : Fin 128) (j : Fin 64) : d.val / 64 * 64 + j.val < 128 := by omega

section

variable (X Y : Fin 4096 → Fin 1024 → EReal) (G : Fin 64 → EReal) (R : Fin 512 → Fin 4096) (o : ℕ) (ho : o + 128 ≤ 1024) (hm : o % 64 = 0)
  (s : BitVec 32) (x y : FVec Ideal S512x128 .bf16) (g : FVec Ideal S1x128 .f32) (z : FVec Ideal S8x128 .f32)
  (hx : ∀ a (d : Fin 128), x (ix2 a d) = X (R a) ⟨o + d.val, col_lt ho d⟩) (hy : ∀ a (d : Fin 128), y (ix2 a d) = Y (R a) ⟨o + d.val, col_lt ho d⟩)
  (hg : ∀ d : Fin 128, g (ix2 0 d) = G (Qk.lane ⟨o + d.val, col_lt ho d⟩))
  (fx : ∀ i d, Qk.IsReal (X i d)) (fy : ∀ i d, Qk.IsReal (Y i d)) (fg : ∀ j, Qk.IsReal (G j)) (fs : Qk.IsReal (Ideal.ofBits .f32 s))

theorem vals_eq (a : Fin 512) (d : Fin 128) : vals x (ix2 a d) = x (ix2 a d) := by
  unfold vals
  pointwise

include hm hx fx in
theorem facs_eq (a : Fin 512) (d : Fin 128) : facs x (ix2 a d) = Ideal.rsqrt (Rms.var Qk.N Qk.eps (Qk.hd X (R a) ⟨o + d.val, col_lt ho d⟩)) := by
  unfold facs Rms.var
  pointwise
  rw [sums_eq _ a (fun r => ?_), Qk.c_64th, Consts.c_eps, Ideal.div_coe (by norm_num)]
  · refine congrArg (fun w : EReal => Ideal.rsqrt (w * _ + _)) (Finset.sum_congr rfl fun j _ => ?_)
    pointwise
    rw [vals_eq, hx]
    have e : (⟨o + (d.val / 64 * 64 + j.val), by omega⟩ : Fin 1024) = ⟨(o + d.val) / 64 * 64 + j.val, by omega⟩ := Fin.ext (by show o + (d.val / 64 * 64 + j.val) = (o + d.val) / 64 * 64 + j.val; omega)
    exact congrArg (fun w => X (R a) w * X (R a) w) e
  · pointwise
    rw [vals_eq, hx]
    exact (fx _ _).mul (fx _ _)

include hm hx fx in
theorem hats_eq (a : Fin 512) (d : Fin 128) : hats x (ix2 a d) = Qk.hat X (R a) ⟨o + d.val, col_lt ho d⟩ := by
  unfold hats Qk.hat
  pointwise
  rw [vals_eq, hx, facs_eq X R o ho hm x hx fx]

include hm hy in
theorem cots_eq (a : Fin 512) (d : Fin 128) : cots s y (ix2 a d) = Y (R a) ⟨o + d.val, col_lt ho d⟩ * Ideal.ofBits .f32 s := by
  unfold cots
  pointwise
  rw [vals_eq, hy]

include hm hx hy fx in
theorem dgs_eq (a : Fin 8) (d : Fin 128) : dgs s x y z (ix2 a d) = z (ix2 a d)
    + ∑ r : Fin 64, Y (R ⟨r.val * 8 + a.val, sub_lt r a⟩) ⟨o + d.val, col_lt ho d⟩ * Ideal.ofBits .f32 s
      * Qk.hat X (R ⟨r.val * 8 + a.val, sub_lt r a⟩) ⟨o + d.val, col_lt ho d⟩ := by
  unfold dgs
  pointwise
  refine congrArg (_ + ·) (Finset.sum_congr rfl fun r _ => ?_)
  rw [cots_eq Y R o ho hm s y hy, hats_eq X R o ho hm x hx fx]

include hm hy hg in
theorem ups_eq (a : Fin 512) (d : Fin 128) : ups s y g (ix2 a d)
    = Y (R a) ⟨o + d.val, col_lt ho d⟩ * Ideal.ofBits .f32 s * G (Qk.lane ⟨o + d.val, col_lt ho d⟩) := by
  unfold ups
  pointwise
  rw [cots_eq Y R o ho hm s y hy, hg]

include hm hx hy hg fx fy fg fs in
theorem dxs_eq (a : Fin 512) (d : Fin 128) : dxs s x y g (ix2 a d) = Qk.dx X Y (Ideal.ofBits .f32 s) G (R a) ⟨o + d.val, col_lt ho d⟩ := by
  have hh : ∀ w : Fin 1024, Rms.hat Qk.N Qk.eps (Qk.hd X (R a) w) (Qk.lane w) = Qk.hat X (R a) w := fun w => by
    unfold Rms.hat Qk.hat
    refine congrArg (· * _) (congrArg (X (R a)) (Fin.ext ?_))
    show w.val / 64 * 64 + w.val % 64 = w.val
    omega
  unfold dxs Qk.dx Rms.dx
  pointwise
  rw [sums_eq _ a (fun r => ?_), Qk.c_64th, Ideal.div_coe (by norm_num), ups_eq Y G R o ho hm s y g hy hg, hats_eq X R o ho hm x hx fx,
    facs_eq X R o ho hm x hx fx, hh]
  · have el : ∀ w : Fin 1024, Qk.hd Y (R a) w (Qk.lane w) = Y (R a) w := fun w =>
      congrArg (Y (R a)) (Fin.ext (by show w.val / 64 * 64 + w.val % 64 = w.val; omega))
    rw [el]
    refine congrArg (fun w : EReal => _ * (_ - _ * (w * _))) (Finset.sum_congr rfl fun j _ => ?_)
    pointwise
    rw [ups_eq Y G R o ho hm s y g hy hg, hats_eq X R o ho hm x hx fx]
    have e : (⟨o + (d.val / 64 * 64 + j.val), by omega⟩ : Fin 1024) = ⟨(o + d.val) / 64 * 64 + j.val, by omega⟩ := Fin.ext (by show o + (d.val / 64 * 64 + j.val) = (o + d.val) / 64 * 64 + j.val; omega)
    have e2 : Qk.lane ⟨(o + d.val) / 64 * 64 + j.val, by omega⟩ = j := Fin.ext (by show ((o + d.val) / 64 * 64 + j.val) % 64 = j.val; omega)
    have e3 : Qk.hd X (R a) ⟨(o + d.val) / 64 * 64 + j.val, by omega⟩ = Qk.hd X (R a) ⟨o + d.val, col_lt ho d⟩ :=
      funext fun k => congrArg (X (R a)) (Fin.ext (by show ((o + d.val) / 64 * 64 + j.val) / 64 * 64 + k.val = (o + d.val) / 64 * 64 + k.val; omega))
    rw [e, e2]
    unfold Qk.hat Rms.hat
    rw [e3]
    rfl
  · pointwise
    rw [ups_eq Y G R o ho hm s y g hy hg, hats_eq X R o ho hm x hx fx]
    exact (((fy _ _).mul fs).mul (fg _)).mul ((fx _ _).mul (Qk.IsReal.rsqrt_var _))

end

end Cert.Kernel6Ideal.Val
end
-- ==== Proof.Qk.Kernel.lean ====
module

public import proofs.«01_k».proof.Proof.Gen.Kernel6Ideal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
public import proofs.«01_k».proof.Proof.Qk.Slab
public import proofs.«01_k».proof.Proof.Canon

@[expose] public section

set_option maxRecDepth 16384

noncomputable section

namespace Cert.Kernel6Ideal.Val

open Idealize.ShloMosaic Idealize.ShloMosaic.TcCoe Idealize.SL.Sem
open Cert.Kernel6Ideal Cert.Kernel6Ideal.Gen

variable (m : (ℓ : Loc nD τ sig) → Buf (Elt Ideal) ℓ)

/-- The arguments, entry by entry. -/
abbrev aP (c : Dev nD) (i0 : Fin 4096) (i1 : Fin 6144) : EReal := m ((c : Thread nD τ).loc main_arg0) (ix2 i0 i1)
@[inherit_doc aP] abbrev aQ (c : Dev nD) (i0 : Fin 64) : EReal := m ((c : Thread nD τ).loc main_arg1) (ix1 i0)
@[inherit_doc aP] abbrev aK (c : Dev nD) (i0 : Fin 64) : EReal := m ((c : Thread nD τ).loc main_arg2) (ix1 i0)
@[inherit_doc aP] abbrev aY (c : Dev nD) (i0 : Fin 4096) (i1 : Fin 1024) : EReal := m ((c : Thread nD τ).loc main_arg3) (ix2 i0 i1)
@[inherit_doc aP] abbrev aZ (c : Dev nD) (i0 : Fin 4096) (i1 : Fin 1024) : EReal := m ((c : Thread nD τ).loc main_arg4) (ix2 i0 i1)
@[inherit_doc aP] abbrev xQ (c : Dev nD) (i : Fin 4096) (d : Fin 1024) : EReal := aP m c i ⟨d.val, by omega⟩
@[inherit_doc aP] abbrev xK (c : Dev nD) (i : Fin 4096) (d : Fin 1024) : EReal := aP m c i ⟨1024 + d.val, by omega⟩

/-- The entries that enter are numbers. -/
structure Reals (m : (ℓ : Loc nD τ sig) → Buf (Elt Ideal) ℓ) : Prop where
  xq : ∀ c i d, Qk.IsReal (xQ m c i d)
  xk : ∀ c i d, Qk.IsReal (xK m c i d)
  gq : ∀ c j, Qk.IsReal (aQ m c j)
  gk : ∀ c j, Qk.IsReal (aK m c j)
  yq : ∀ c i d, Qk.IsReal (aY m c i d)
  yk : ∀ c i d, Qk.IsReal (aZ m c i d)

abbrev sq : EReal := Ideal.ofBits .f32 0x3E000000#32
abbrev sk : EReal := Ideal.ofBits .f32 0x3F800000#32

theorem sq_real : Qk.IsReal sq := ⟨1 / 8, by simp [Ideal.ofBits, Ideal.ieee, -EReal.coe_mul]; norm_num⟩
theorem sk_real : Qk.IsReal sk := ⟨1, Qk.c_1.trans EReal.coe_one.symm⟩

theorem idx : ∀ t : Fin cfg0.N, win0_0.index t = ![t.val, 0] ∧ win0_1.index t = ![t.val, 1] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, _)

theorem tlt (t : Fin cfg0.N) : t.val < 8 := lt_of_lt_of_eq t.isLt N_0

/-- The row of the array that row `a` of block `t` is. -/
abbrev row (t : Fin cfg0.N) (a : Fin 512) : Fin 4096 := ⟨t.val * 512 + a.val, by have := tlt t; omega⟩

/-- What the pipelined arrays hold as the pipeline starts. -/
theorem entry0 (c : Dev nD) (i0 : Fin 4096) (i1 : Fin 6144) : V m c main_v8 (ix2 i0 i1) = (aP m c i0 i1 : EReal) := by
  unfold V V0
  simp only [List.flatten_cons, List.flatten_nil, List.append_nil]
  unfold hostOps0
  after_reads_at
@[inherit_doc entry0] theorem entry2 (c : Dev nD) (i0 : Fin 4096) (i1 : Fin 1024) : V m c main_v9 (ix2 i0 i1) = (aY m c i0 i1 : EReal) := by
  unfold V V0
  simp only [List.flatten_cons, List.flatten_nil, List.append_nil]
  unfold hostOps0
  after_reads_at
@[inherit_doc entry0] theorem entry3 (c : Dev nD) (i0 : Fin 4096) (i1 : Fin 1024) : V m c main_v10 (ix2 i0 i1) = (aZ m c i0 i1 : EReal) := by
  unfold V V0
  simp only [List.flatten_cons, List.flatten_nil, List.append_nil]
  unfold hostOps0
  after_reads_at
@[inherit_doc entry0] theorem entry4 (c : Dev nD) (i0 : Fin 1) (i1 : Fin 1024) : V m c main_v3 (ix2 i0 i1) = (aQ m c (Qk.lane i1) : EReal) := by
  unfold V V0
  simp only [List.flatten_cons, List.flatten_nil, List.append_nil]
  unfold hostOps0
  after_reads_at
@[inherit_doc entry0] theorem entry5 (c : Dev nD) (i0 : Fin 1) (i1 : Fin 1024) : V m c main_v7 (ix2 i0 i1) = (aK m c (Qk.lane i1) : EReal) := by
  unfold V V0
  simp only [List.flatten_cons, List.flatten_nil, List.append_nil]
  unfold hostOps0
  after_reads_at
/-- The blocks at a point, read in the arguments. -/
theorem blk0 (c : Dev nD) (t : Fin cfg0.N) (a : Fin 512) (d : Fin 1024) : iblk m c 0 t (ix2 a d) = xQ m c (row t a) d := by
  unfold xQ
  rw [← entry0 m c]
  blk_ext [iblk, (idx t).1]
@[inherit_doc blk0] theorem blk1 (c : Dev nD) (t : Fin cfg0.N) (a : Fin 512) (d : Fin 1024) : iblk m c 1 t (ix2 a d) = xK m c (row t a) d := by
  unfold xK
  rw [← entry0 m c]
  blk_ext [iblk, (idx t).2.1]
@[inherit_doc blk0] theorem blk2 (c : Dev nD) (t : Fin cfg0.N) (a : Fin 512) (d : Fin 1024) : iblk m c 2 t (ix2 a d) = aY m c (row t a) d := by
  rw [← entry2 m c]
  blk_ext [iblk, (idx t).2.2.1]
@[inherit_doc blk0] theorem blk3 (c : Dev nD) (t : Fin cfg0.N) (a : Fin 512) (d : Fin 1024) : iblk m c 3 t (ix2 a d) = aZ m c (row t a) d := by
  rw [← entry3 m c]
  blk_ext [iblk, (idx t).2.2.2.1]
@[inherit_doc blk0] theorem blk4 (c : Dev nD) (t : Fin cfg0.N) (a : Fin 1) (d : Fin 1024) : iblk m c 4 t (ix2 a d) = aQ m c (Qk.lane d) := by
  rw [← entry4 m c a d]
  blk_ext [iblk, (idx t).2.2.2.2.1]
@[inherit_doc blk0] theorem blk5 (c : Dev nD) (t : Fin cfg0.N) (a : Fin 1) (d : Fin 1024) : iblk m c 5 t (ix2 a d) = aK m c (Qk.lane d) := by
  rw [← entry5 m c a d]
  blk_ext [iblk, (idx t).2.2.2.2.2.1]

/-- 128 columns of a block, from column `o` on. -/
theorem ld0 (c : Dev nD) (t : Fin cfg0.N) (o : ℕ) (ho : o + 128 ≤ 1024) (h) (a : Fin 512) (d : Fin 128) :
    View.ld (iblk m c 0 t) (Rect.unit (s := S512x1024) ![0, o] ![512, 128] h) (ix2 a d) = xQ m c (row t a) ⟨o + d.val, col_lt ho d⟩ := by
  pointwise
  exact blk0 m c t a _
@[inherit_doc ld0] theorem ld1 (c : Dev nD) (t : Fin cfg0.N) (o : ℕ) (ho : o + 128 ≤ 1024) (h) (a : Fin 512) (d : Fin 128) :
    View.ld (iblk m c 1 t) (Rect.unit (s := S512x1024) ![0, o] ![512, 128] h) (ix2 a d) = xK m c (row t a) ⟨o + d.val, col_lt ho d⟩ := by
  pointwise
  exact blk1 m c t a _
@[inherit_doc ld0] theorem ld2 (c : Dev nD) (t : Fin cfg0.N) (o : ℕ) (ho : o + 128 ≤ 1024) (h) (a : Fin 512) (d : Fin 128) :
    View.ld (iblk m c 2 t) (Rect.unit (s := S512x1024) ![0, o] ![512, 128] h) (ix2 a d) = aY m c (row t a) ⟨o + d.val, col_lt ho d⟩ := by
  pointwise
  exact blk2 m c t a _
@[inherit_doc ld0] theorem ld3 (c : Dev nD) (t : Fin cfg0.N) (o : ℕ) (ho : o + 128 ≤ 1024) (h) (a : Fin 512) (d : Fin 128) :
    View.ld (iblk m c 3 t) (Rect.unit (s := S512x1024) ![0, o] ![512, 128] h) (ix2 a d) = aZ m c (row t a) ⟨o + d.val, col_lt ho d⟩ := by
  pointwise
  exact blk3 m c t a _
@[inherit_doc ld0] theorem ld4 (c : Dev nD) (t : Fin cfg0.N) (o : ℕ) (ho : o + 128 ≤ 1024) (h) (d : Fin 128) :
    View.ld (iblk m c 4 t) (Rect.unit (s := S1x1024) ![0, o] ![1, 128] h) (ix2 0 d) = aQ m c (Qk.lane ⟨o + d.val, col_lt ho d⟩) := by
  pointwise
  exact blk4 m c t 0 _
@[inherit_doc ld0] theorem ld5 (c : Dev nD) (t : Fin cfg0.N) (o : ℕ) (ho : o + 128 ≤ 1024) (h) (d : Fin 128) :
    View.ld (iblk m c 5 t) (Rect.unit (s := S1x1024) ![0, o] ![1, 128] h) (ix2 0 d) = aK m c (Qk.lane ⟨o + d.val, col_lt ho d⟩) := by
  pointwise
  exact blk5 m c t 0 _

/-- The gradients with respect to the columns of the queries and of the keys. -/
abbrev dq (c : Dev nD) : Fin 4096 → Fin 1024 → EReal := Qk.dx (xQ m c) (aY m c) sq (aQ m c)
@[inherit_doc dq] abbrev dk (c : Dev nD) : Fin 4096 → Fin 1024 → EReal := Qk.dx (xK m c) (aZ m c) sk (aK m c)

/-- The rows' block. -/
theorem out6 (hp : Reals m) (c : Dev nD) (t : Fin cfg0.N) (a : Fin 512) (e : Fin 2048) :
    (outsAt0 m c t.val t.isLt).1 (ix2 a e) = Qk.cat (dq m c) (dk m c) (row t a) e := by
  by_cases h : t.val % 8 = 0
  all_goals
    first | rw [outsAt0_A m c t h] | rw [outsAt0_B m c t h]
    frame_out
    canon_tiles x h
    · idx_vars x
      obtain rfl : x0 = a := Fin.ext h0.symm
      exact (dxs_eq (xK m c) (aZ m c) (aK m c) (row t) 896 (by norm_num) (by norm_num) 0x3F800000#32 _ _ _ (ld1 m c t 896 (by norm_num) _) (ld3 m c t 896 (by norm_num) _) (ld5 m c t 896 (by norm_num) _) (hp.xk c) (hp.yk c) (hp.gk c) sk_real x0 x1).trans (Qk.cat_hi _ _ _ e ⟨896 + x1.val, col_lt (by norm_num) x1⟩ (h1.trans (Nat.add_assoc 1024 896 x1.val)))
    · idx_vars x
      obtain rfl : x0 = a := Fin.ext h0.symm
      exact (dxs_eq (xK m c) (aZ m c) (aK m c) (row t) 768 (by norm_num) (by norm_num) 0x3F800000#32 _ _ _ (ld1 m c t 768 (by norm_num) _) (ld3 m c t 768 (by norm_num) _) (ld5 m c t 768 (by norm_num) _) (hp.xk c) (hp.yk c) (hp.gk c) sk_real x0 x1).trans (Qk.cat_hi _ _ _ e ⟨768 + x1.val, col_lt (by norm_num) x1⟩ (h1.trans (Nat.add_assoc 1024 768 x1.val)))
    · idx_vars x
      obtain rfl : x0 = a := Fin.ext h0.symm
      exact (dxs_eq (xK m c) (aZ m c) (aK m c) (row t) 640 (by norm_num) (by norm_num) 0x3F800000#32 _ _ _ (ld1 m c t 640 (by norm_num) _) (ld3 m c t 640 (by norm_num) _) (ld5 m c t 640 (by norm_num) _) (hp.xk c) (hp.yk c) (hp.gk c) sk_real x0 x1).trans (Qk.cat_hi _ _ _ e ⟨640 + x1.val, col_lt (by norm_num) x1⟩ (h1.trans (Nat.add_assoc 1024 640 x1.val)))
    · idx_vars x
      obtain rfl : x0 = a := Fin.ext h0.symm
      exact (dxs_eq (xK m c) (aZ m c) (aK m c) (row t) 512 (by norm_num) (by norm_num) 0x3F800000#32 _ _ _ (ld1 m c t 512 (by norm_num) _) (ld3 m c t 512 (by norm_num) _) (ld5 m c t 512 (by norm_num) _) (hp.xk c) (hp.yk c) (hp.gk c) sk_real x0 x1).trans (Qk.cat_hi _ _ _ e ⟨512 + x1.val, col_lt (by norm_num) x1⟩ (h1.trans (Nat.add_assoc 1024 512 x1.val)))
    · idx_vars x
      obtain rfl : x0 = a := Fin.ext h0.symm
      exact (dxs_eq (xK m c) (aZ m c) (aK m c) (row t) 384 (by norm_num) (by norm_num) 0x3F800000#32 _ _ _ (ld1 m c t 384 (by norm_num) _) (ld3 m c t 384 (by norm_num) _) (ld5 m c t 384 (by norm_num) _) (hp.xk c) (hp.yk c) (hp.gk c) sk_real x0 x1).trans (Qk.cat_hi _ _ _ e ⟨384 + x1.val, col_lt (by norm_num) x1⟩ (h1.trans (Nat.add_assoc 1024 384 x1.val)))
    · idx_vars x
      obtain rfl : x0 = a := Fin.ext h0.symm
      exact (dxs_eq (xK m c) (aZ m c) (aK m c) (row t) 256 (by norm_num) (by norm_num) 0x3F800000#32 _ _ _ (ld1 m c t 256 (by norm_num) _) (ld3 m c t 256 (by norm_num) _) (ld5 m c t 256 (by norm_num) _) (hp.xk c) (hp.yk c) (hp.gk c) sk_real x0 x1).trans (Qk.cat_hi _ _ _ e ⟨256 + x1.val, col_lt (by norm_num) x1⟩ (h1.trans (Nat.add_assoc 1024 256 x1.val)))
    · idx_vars x
      obtain rfl : x0 = a := Fin.ext h0.symm
      exact (dxs_eq (xK m c) (aZ m c) (aK m c) (row t) 128 (by norm_num) (by norm_num) 0x3F800000#32 _ _ _ (ld1 m c t 128 (by norm_num) _) (ld3 m c t 128 (by norm_num) _) (ld5 m c t 128 (by norm_num) _) (hp.xk c) (hp.yk c) (hp.gk c) sk_real x0 x1).trans (Qk.cat_hi _ _ _ e ⟨128 + x1.val, col_lt (by norm_num) x1⟩ (h1.trans (Nat.add_assoc 1024 128 x1.val)))
    · idx_vars x
      obtain rfl : x0 = a := Fin.ext h0.symm
      exact (dxs_eq (xK m c) (aZ m c) (aK m c) (row t) 0 (by norm_num) (by norm_num) 0x3F800000#32 _ _ _ (ld1 m c t 0 (by norm_num) _) (ld3 m c t 0 (by norm_num) _) (ld5 m c t 0 (by norm_num) _) (hp.xk c) (hp.yk c) (hp.gk c) sk_real x0 x1).trans (Qk.cat_hi _ _ _ e ⟨0 + x1.val, col_lt (by norm_num) x1⟩ (h1.trans (Nat.add_assoc 1024 0 x1.val)))
    · idx_vars x
      obtain rfl : x0 = a := Fin.ext h0.symm
      exact (dxs_eq (xQ m c) (aY m c) (aQ m c) (row t) 896 (by norm_num) (by norm_num) 0x3E000000#32 _ _ _ (ld0 m c t 896 (by norm_num) _) (ld2 m c t 896 (by norm_num) _) (ld4 m c t 896 (by norm_num) _) (hp.xq c) (hp.yq c) (hp.gq c) sq_real x0 x1).trans (Qk.cat_lo _ _ _ e ⟨896 + x1.val, col_lt (by norm_num) x1⟩ h1)
    · idx_vars x
      obtain rfl : x0 = a := Fin.ext h0.symm
      exact (dxs_eq (xQ m c) (aY m c) (aQ m c) (row t) 768 (by norm_num) (by norm_num) 0x3E000000#32 _ _ _ (ld0 m c t 768 (by norm_num) _) (ld2 m c t 768 (by norm_num) _) (ld4 m c t 768 (by norm_num) _) (hp.xq c) (hp.yq c) (hp.gq c) sq_real x0 x1).trans (Qk.cat_lo _ _ _ e ⟨768 + x1.val, col_lt (by norm_num) x1⟩ h1)
    · idx_vars x
      obtain rfl : x0 = a := Fin.ext h0.symm
      exact (dxs_eq (xQ m c) (aY m c) (aQ m c) (row t) 640 (by norm_num) (by norm_num) 0x3E000000#32 _ _ _ (ld0 m c t 640 (by norm_num) _) (ld2 m c t 640 (by norm_num) _) (ld4 m c t 640 (by norm_num) _) (hp.xq c) (hp.yq c) (hp.gq c) sq_real x0 x1).trans (Qk.cat_lo _ _ _ e ⟨640 + x1.val, col_lt (by norm_num) x1⟩ h1)
    · idx_vars x
      obtain rfl : x0 = a := Fin.ext h0.symm
      exact (dxs_eq (xQ m c) (aY m c) (aQ m c) (row t) 512 (by norm_num) (by norm_num) 0x3E000000#32 _ _ _ (ld0 m c t 512 (by norm_num) _) (ld2 m c t 512 (by norm_num) _) (ld4 m c t 512 (by norm_num) _) (hp.xq c) (hp.yq c) (hp.gq c) sq_real x0 x1).trans (Qk.cat_lo _ _ _ e ⟨512 + x1.val, col_lt (by norm_num) x1⟩ h1)
    · idx_vars x
      obtain rfl : x0 = a := Fin.ext h0.symm
      exact (dxs_eq (xQ m c) (aY m c) (aQ m c) (row t) 384 (by norm_num) (by norm_num) 0x3E000000#32 _ _ _ (ld0 m c t 384 (by norm_num) _) (ld2 m c t 384 (by norm_num) _) (ld4 m c t 384 (by norm_num) _) (hp.xq c) (hp.yq c) (hp.gq c) sq_real x0 x1).trans (Qk.cat_lo _ _ _ e ⟨384 + x1.val, col_lt (by norm_num) x1⟩ h1)
    · idx_vars x
      obtain rfl : x0 = a := Fin.ext h0.symm
      exact (dxs_eq (xQ m c) (aY m c) (aQ m c) (row t) 256 (by norm_num) (by norm_num) 0x3E000000#32 _ _ _ (ld0 m c t 256 (by norm_num) _) (ld2 m c t 256 (by norm_num) _) (ld4 m c t 256 (by norm_num) _) (hp.xq c) (hp.yq c) (hp.gq c) sq_real x0 x1).trans (Qk.cat_lo _ _ _ e ⟨256 + x1.val, col_lt (by norm_num) x1⟩ h1)
    · idx_vars x
      obtain rfl : x0 = a := Fin.ext h0.symm
      exact (dxs_eq (xQ m c) (aY m c) (aQ m c) (row t) 128 (by norm_num) (by norm_num) 0x3E000000#32 _ _ _ (ld0 m c t 128 (by norm_num) _) (ld2 m c t 128 (by norm_num) _) (ld4 m c t 128 (by norm_num) _) (hp.xq c) (hp.yq c) (hp.gq c) sq_real x0 x1).trans (Qk.cat_lo _ _ _ e ⟨128 + x1.val, col_lt (by norm_num) x1⟩ h1)
    · idx_vars x
      obtain rfl : x0 = a := Fin.ext h0.symm
      exact (dxs_eq (xQ m c) (aY m c) (aQ m c) (row t) 0 (by norm_num) (by norm_num) 0x3E000000#32 _ _ _ (ld0 m c t 0 (by norm_num) _) (ld2 m c t 0 (by norm_num) _) (ld4 m c t 0 (by norm_num) _) (hp.xq c) (hp.yq c) (hp.gq c) sq_real x0 x1).trans (Qk.cat_lo _ _ _ e ⟨0 + x1.val, col_lt (by norm_num) x1⟩ (h1.trans (Nat.zero_add _).symm))

/-- One block's part of a weight's gradient, rows of one residue modulo 8. -/
def part (X Y : Fin 4096 → Fin 1024 → EReal) (s : EReal) (p : Fin cfg0.N) (a : Fin 8) (d : Fin 1024) : EReal :=
  ∑ x : Fin 64, Y (row p ⟨x.val * 8 + a.val, sub_lt x a⟩) d * s * Qk.hat X (row p ⟨x.val * 8 + a.val, sub_lt x a⟩) d

/-- What the stores of a point leave of a weight's accumulator. -/
theorem step7 (hp : Reals m) (c : Dev nD) (t : Fin cfg0.N) (z0 z1 z2 z3 z4 z5 z6 z7 : FVec Ideal S8x128 .f32) (Z : Fin 8 → Fin 1024 → EReal)
    (h0' : ∀ a (d : Fin 128), z0 (ix2 a d) = Z a ⟨0 + d.val, col_lt (by norm_num) d⟩)
    (h1' : ∀ a (d : Fin 128), z1 (ix2 a d) = Z a ⟨128 + d.val, col_lt (by norm_num) d⟩)
    (h2' : ∀ a (d : Fin 128), z2 (ix2 a d) = Z a ⟨256 + d.val, col_lt (by norm_num) d⟩)
    (h3' : ∀ a (d : Fin 128), z3 (ix2 a d) = Z a ⟨384 + d.val, col_lt (by norm_num) d⟩)
    (h4' : ∀ a (d : Fin 128), z4 (ix2 a d) = Z a ⟨512 + d.val, col_lt (by norm_num) d⟩)
    (h5' : ∀ a (d : Fin 128), z5 (ix2 a d) = Z a ⟨640 + d.val, col_lt (by norm_num) d⟩)
    (h6' : ∀ a (d : Fin 128), z6 (ix2 a d) = Z a ⟨768 + d.val, col_lt (by norm_num) d⟩)
    (h7' : ∀ a (d : Fin 128), z7 (ix2 a d) = Z a ⟨896 + d.val, col_lt (by norm_num) d⟩)
    (a : Fin 8) (e : Fin 1024) :
    View.canon (Val := Elt Ideal) (s := S8x1024) (e := .f32)
      [⟨Rect.unit ![0, 896] ![8, 128] inb_S8x1024_S8x128_0_896,
          dgs 0x3E000000#32 (View.ld (iblk m c 0 t) (Rect.unit ![0, 896] ![512, 128] inb_S512x1024_S512x128_0_896)) (View.ld (iblk m c 2 t) (Rect.unit ![0, 896] ![512, 128] inb_S512x1024_S512x128_0_896)) z7⟩,
        ⟨Rect.unit ![0, 768] ![8, 128] inb_S8x1024_S8x128_0_768,
          dgs 0x3E000000#32 (View.ld (iblk m c 0 t) (Rect.unit ![0, 768] ![512, 128] inb_S512x1024_S512x128_0_768)) (View.ld (iblk m c 2 t) (Rect.unit ![0, 768] ![512, 128] inb_S512x1024_S512x128_0_768)) z6⟩,
        ⟨Rect.unit ![0, 640] ![8, 128] inb_S8x1024_S8x128_0_640,
          dgs 0x3E000000#32 (View.ld (iblk m c 0 t) (Rect.unit ![0, 640] ![512, 128] inb_S512x1024_S512x128_0_640)) (View.ld (iblk m c 2 t) (Rect.unit ![0, 640] ![512, 128] inb_S512x1024_S512x128_0_640)) z5⟩,
        ⟨Rect.unit ![0, 512] ![8, 128] inb_S8x1024_S8x128_0_512,
          dgs 0x3E000000#32 (View.ld (iblk m c 0 t) (Rect.unit ![0, 512] ![512, 128] inb_S512x1024_S512x128_0_512)) (View.ld (iblk m c 2 t) (Rect.unit ![0, 512] ![512, 128] inb_S512x1024_S512x128_0_512)) z4⟩,
        ⟨Rect.unit ![0, 384] ![8, 128] inb_S8x1024_S8x128_0_384,
          dgs 0x3E000000#32 (View.ld (iblk m c 0 t) (Rect.unit ![0, 384] ![512, 128] inb_S512x1024_S512x128_0_384)) (View.ld (iblk m c 2 t) (Rect.unit ![0, 384] ![512, 128] inb_S512x1024_S512x128_0_384)) z3⟩,
        ⟨Rect.unit ![0, 256] ![8, 128] inb_S8x1024_S8x128_0_256,
          dgs 0x3E000000#32 (View.ld (iblk m c 0 t) (Rect.unit ![0, 256] ![512, 128] inb_S512x1024_S512x128_0_256)) (View.ld (iblk m c 2 t) (Rect.unit ![0, 256] ![512, 128] inb_S512x1024_S512x128_0_256)) z2⟩,
        ⟨Rect.unit ![0, 128] ![8, 128] inb_S8x1024_S8x128_0_128,
          dgs 0x3E000000#32 (View.ld (iblk m c 0 t) (Rect.unit ![0, 128] ![512, 128] inb_S512x1024_S512x128_0_128)) (View.ld (iblk m c 2 t) (Rect.unit ![0, 128] ![512, 128] inb_S512x1024_S512x128_0_128)) z1⟩,
        ⟨Rect.unit ![0, 0] ![8, 128] inb_S8x1024_S8x128_0_0,
          dgs 0x3E000000#32 (View.ld (iblk m c 0 t) (Rect.unit ![0, 0] ![512, 128] inb_S512x1024_S512x128_0_0)) (View.ld (iblk m c 2 t) (Rect.unit ![0, 0] ![512, 128] inb_S512x1024_S512x128_0_0)) z0⟩]
      (ix2 a e) = Z a e + part (xQ m c) (aY m c) sq t a e := by
  canon_tiles x h
  · idx_vars x
    obtain rfl : x0 = a := Fin.ext h0.symm
    obtain ⟨e, he⟩ := e
    obtain rfl : e = 896 + x1.val := h1
    exact (dgs_eq (xQ m c) (aY m c) (row t) 896 (by norm_num) (by norm_num) 0x3E000000#32 _ _ _ (ld0 m c t 896 (by norm_num) _) (ld2 m c t 896 (by norm_num) _) (hp.xq c) x0 x1).trans (congrArg (· + _) (h7' x0 x1))
  · idx_vars x
    obtain rfl : x0 = a := Fin.ext h0.symm
    obtain ⟨e, he⟩ := e
    obtain rfl : e = 768 + x1.val := h1
    exact (dgs_eq (xQ m c) (aY m c) (row t) 768 (by norm_num) (by norm_num) 0x3E000000#32 _ _ _ (ld0 m c t 768 (by norm_num) _) (ld2 m c t 768 (by norm_num) _) (hp.xq c) x0 x1).trans (congrArg (· + _) (h6' x0 x1))
  · idx_vars x
    obtain rfl : x0 = a := Fin.ext h0.symm
    obtain ⟨e, he⟩ := e
    obtain rfl : e = 640 + x1.val := h1
    exact (dgs_eq (xQ m c) (aY m c) (row t) 640 (by norm_num) (by norm_num) 0x3E000000#32 _ _ _ (ld0 m c t 640 (by norm_num) _) (ld2 m c t 640 (by norm_num) _) (hp.xq c) x0 x1).trans (congrArg (· + _) (h5' x0 x1))
  · idx_vars x
    obtain rfl : x0 = a := Fin.ext h0.symm
    obtain ⟨e, he⟩ := e
    obtain rfl : e = 512 + x1.val := h1
    exact (dgs_eq (xQ m c) (aY m c) (row t) 512 (by norm_num) (by norm_num) 0x3E000000#32 _ _ _ (ld0 m c t 512 (by norm_num) _) (ld2 m c t 512 (by norm_num) _) (hp.xq c) x0 x1).trans (congrArg (· + _) (h4' x0 x1))
  · idx_vars x
    obtain rfl : x0 = a := Fin.ext h0.symm
    obtain ⟨e, he⟩ := e
    obtain rfl : e = 384 + x1.val := h1
    exact (dgs_eq (xQ m c) (aY m c) (row t) 384 (by norm_num) (by norm_num) 0x3E000000#32 _ _ _ (ld0 m c t 384 (by norm_num) _) (ld2 m c t 384 (by norm_num) _) (hp.xq c) x0 x1).trans (congrArg (· + _) (h3' x0 x1))
  · idx_vars x
    obtain rfl : x0 = a := Fin.ext h0.symm
    obtain ⟨e, he⟩ := e
    obtain rfl : e = 256 + x1.val := h1
    exact (dgs_eq (xQ m c) (aY m c) (row t) 256 (by norm_num) (by norm_num) 0x3E000000#32 _ _ _ (ld0 m c t 256 (by norm_num) _) (ld2 m c t 256 (by norm_num) _) (hp.xq c) x0 x1).trans (congrArg (· + _) (h2' x0 x1))
  · idx_vars x
    obtain rfl : x0 = a := Fin.ext h0.symm
    obtain ⟨e, he⟩ := e
    obtain rfl : e = 128 + x1.val := h1
    exact (dgs_eq (xQ m c) (aY m c) (row t) 128 (by norm_num) (by norm_num) 0x3E000000#32 _ _ _ (ld0 m c t 128 (by norm_num) _) (ld2 m c t 128 (by norm_num) _) (hp.xq c) x0 x1).trans (congrArg (· + _) (h1' x0 x1))
  · idx_vars x
    obtain rfl : x0 = a := Fin.ext h0.symm
    obtain ⟨e, he⟩ := e
    obtain rfl : e = 0 + x1.val := h1.trans (Nat.zero_add _).symm
    exact (dgs_eq (xQ m c) (aY m c) (row t) 0 (by norm_num) (by norm_num) 0x3E000000#32 _ _ _ (ld0 m c t 0 (by norm_num) _) (ld2 m c t 0 (by norm_num) _) (hp.xq c) x0 x1).trans (congrArg (· + _) (h0' x0 x1))
theorem acc7 (hp : Reals m) (c : Dev nD) (a : Fin 8) (e : Fin 1024) :
    (outsAt0 m c t0_7.val t0_7.isLt).2.1 (ix2 a e) = 0 + ∑ p : Fin cfg0.N, part (xQ m c) (aY m c) sq p a e := by
  refine Pipeline.eq_sum_fin_of_reset_step_apply_last
    (fun n h (_ : Unit) => (outsAt0 m c n h).2.1 (ix2 a e)) 8 (fun _ => 0)
    (fun p _ => part (xQ m c) (aY m c) sq p a e)
    (fun t h _ => ?_) (fun t h _ => ?_) (le_of_eq N_0) t0_7 N_0.symm ()
  · rw [outsAt0_A m c t h]
    frame_open
    simp (disch := decide) only [↓ View.readCov_skip, ↓ View.readCov_cons_toLoadRect, ↓ View.readCov_fill]
    frame_out
    refine (Canon.canon_append [_] [_, _, _, _, _, _, _, _] _ (View.cover_of_tiled_head _ _ _ (by rfl) _)).trans ?_
    refine step7 m hp c t _ _ _ _ _ _ _ _ (fun _ _ => 0) ?_ ?_ ?_ ?_ ?_ ?_ ?_ ?_ a e <;> intro a d <;> unfold k0_pay7 <;> pointwise
  · rw [outsAt0_B m c t h]
    frame_out
    refine step7 m hp c t _ _ _ _ _ _ _ _ (fun i j => (outsAt0 m c (t.val - 1) (by omega)).2.1 (ix2 i j)) ?_ ?_ ?_ ?_ ?_ ?_ ?_ ?_ a e <;> intro a d <;> pointwise
@[inherit_doc step7] theorem step8 (hp : Reals m) (c : Dev nD) (t : Fin cfg0.N) (z0 z1 z2 z3 z4 z5 z6 z7 : FVec Ideal S8x128 .f32) (Z : Fin 8 → Fin 1024 → EReal)
    (h0' : ∀ a (d : Fin 128), z0 (ix2 a d) = Z a ⟨0 + d.val, col_lt (by norm_num) d⟩)
    (h1' : ∀ a (d : Fin 128), z1 (ix2 a d) = Z a ⟨128 + d.val, col_lt (by norm_num) d⟩)
    (h2' : ∀ a (d : Fin 128), z2 (ix2 a d) = Z a ⟨256 + d.val, col_lt (by norm_num) d⟩)
    (h3' : ∀ a (d : Fin 128), z3 (ix2 a d) = Z a ⟨384 + d.val, col_lt (by norm_num) d⟩)
    (h4' : ∀ a (d : Fin 128), z4 (ix2 a d) = Z a ⟨512 + d.val, col_lt (by norm_num) d⟩)
    (h5' : ∀ a (d : Fin 128), z5 (ix2 a d) = Z a ⟨640 + d.val, col_lt (by norm_num) d⟩)
    (h6' : ∀ a (d : Fin 128), z6 (ix2 a d) = Z a ⟨768 + d.val, col_lt (by norm_num) d⟩)
    (h7' : ∀ a (d : Fin 128), z7 (ix2 a d) = Z a ⟨896 + d.val, col_lt (by norm_num) d⟩)
    (a : Fin 8) (e : Fin 1024) :
    View.canon (Val := Elt Ideal) (s := S8x1024) (e := .f32)
      [⟨Rect.unit ![0, 896] ![8, 128] inb_S8x1024_S8x128_0_896,
          dgs 0x3F800000#32 (View.ld (iblk m c 1 t) (Rect.unit ![0, 896] ![512, 128] inb_S512x1024_S512x128_0_896)) (View.ld (iblk m c 3 t) (Rect.unit ![0, 896] ![512, 128] inb_S512x1024_S512x128_0_896)) z7⟩,
        ⟨Rect.unit ![0, 768] ![8, 128] inb_S8x1024_S8x128_0_768,
          dgs 0x3F800000#32 (View.ld (iblk m c 1 t) (Rect.unit ![0, 768] ![512, 128] inb_S512x1024_S512x128_0_768)) (View.ld (iblk m c 3 t) (Rect.unit ![0, 768] ![512, 128] inb_S512x1024_S512x128_0_768)) z6⟩,
        ⟨Rect.unit ![0, 640] ![8, 128] inb_S8x1024_S8x128_0_640,
          dgs 0x3F800000#32 (View.ld (iblk m c 1 t) (Rect.unit ![0, 640] ![512, 128] inb_S512x1024_S512x128_0_640)) (View.ld (iblk m c 3 t) (Rect.unit ![0, 640] ![512, 128] inb_S512x1024_S512x128_0_640)) z5⟩,
        ⟨Rect.unit ![0, 512] ![8, 128] inb_S8x1024_S8x128_0_512,
          dgs 0x3F800000#32 (View.ld (iblk m c 1 t) (Rect.unit ![0, 512] ![512, 128] inb_S512x1024_S512x128_0_512)) (View.ld (iblk m c 3 t) (Rect.unit ![0, 512] ![512, 128] inb_S512x1024_S512x128_0_512)) z4⟩,
        ⟨Rect.unit ![0, 384] ![8, 128] inb_S8x1024_S8x128_0_384,
          dgs 0x3F800000#32 (View.ld (iblk m c 1 t) (Rect.unit ![0, 384] ![512, 128] inb_S512x1024_S512x128_0_384)) (View.ld (iblk m c 3 t) (Rect.unit ![0, 384] ![512, 128] inb_S512x1024_S512x128_0_384)) z3⟩,
        ⟨Rect.unit ![0, 256] ![8, 128] inb_S8x1024_S8x128_0_256,
          dgs 0x3F800000#32 (View.ld (iblk m c 1 t) (Rect.unit ![0, 256] ![512, 128] inb_S512x1024_S512x128_0_256)) (View.ld (iblk m c 3 t) (Rect.unit ![0, 256] ![512, 128] inb_S512x1024_S512x128_0_256)) z2⟩,
        ⟨Rect.unit ![0, 128] ![8, 128] inb_S8x1024_S8x128_0_128,
          dgs 0x3F800000#32 (View.ld (iblk m c 1 t) (Rect.unit ![0, 128] ![512, 128] inb_S512x1024_S512x128_0_128)) (View.ld (iblk m c 3 t) (Rect.unit ![0, 128] ![512, 128] inb_S512x1024_S512x128_0_128)) z1⟩,
        ⟨Rect.unit ![0, 0] ![8, 128] inb_S8x1024_S8x128_0_0,
          dgs 0x3F800000#32 (View.ld (iblk m c 1 t) (Rect.unit ![0, 0] ![512, 128] inb_S512x1024_S512x128_0_0)) (View.ld (iblk m c 3 t) (Rect.unit ![0, 0] ![512, 128] inb_S512x1024_S512x128_0_0)) z0⟩]
      (ix2 a e) = Z a e + part (xK m c) (aZ m c) sk t a e := by
  canon_tiles x h
  · idx_vars x
    obtain rfl : x0 = a := Fin.ext h0.symm
    obtain ⟨e, he⟩ := e
    obtain rfl : e = 896 + x1.val := h1
    exact (dgs_eq (xK m c) (aZ m c) (row t) 896 (by norm_num) (by norm_num) 0x3F800000#32 _ _ _ (ld1 m c t 896 (by norm_num) _) (ld3 m c t 896 (by norm_num) _) (hp.xk c) x0 x1).trans (congrArg (· + _) (h7' x0 x1))
  · idx_vars x
    obtain rfl : x0 = a := Fin.ext h0.symm
    obtain ⟨e, he⟩ := e
    obtain rfl : e = 768 + x1.val := h1
    exact (dgs_eq (xK m c) (aZ m c) (row t) 768 (by norm_num) (by norm_num) 0x3F800000#32 _ _ _ (ld1 m c t 768 (by norm_num) _) (ld3 m c t 768 (by norm_num) _) (hp.xk c) x0 x1).trans (congrArg (· + _) (h6' x0 x1))
  · idx_vars x
    obtain rfl : x0 = a := Fin.ext h0.symm
    obtain ⟨e, he⟩ := e
    obtain rfl : e = 640 + x1.val := h1
    exact (dgs_eq (xK m c) (aZ m c) (row t) 640 (by norm_num) (by norm_num) 0x3F800000#32 _ _ _ (ld1 m c t 640 (by norm_num) _) (ld3 m c t 640 (by norm_num) _) (hp.xk c) x0 x1).trans (congrArg (· + _) (h5' x0 x1))
  · idx_vars x
    obtain rfl : x0 = a := Fin.ext h0.symm
    obtain ⟨e, he⟩ := e
    obtain rfl : e = 512 + x1.val := h1
    exact (dgs_eq (xK m c) (aZ m c) (row t) 512 (by norm_num) (by norm_num) 0x3F800000#32 _ _ _ (ld1 m c t 512 (by norm_num) _) (ld3 m c t 512 (by norm_num) _) (hp.xk c) x0 x1).trans (congrArg (· + _) (h4' x0 x1))
  · idx_vars x
    obtain rfl : x0 = a := Fin.ext h0.symm
    obtain ⟨e, he⟩ := e
    obtain rfl : e = 384 + x1.val := h1
    exact (dgs_eq (xK m c) (aZ m c) (row t) 384 (by norm_num) (by norm_num) 0x3F800000#32 _ _ _ (ld1 m c t 384 (by norm_num) _) (ld3 m c t 384 (by norm_num) _) (hp.xk c) x0 x1).trans (congrArg (· + _) (h3' x0 x1))
  · idx_vars x
    obtain rfl : x0 = a := Fin.ext h0.symm
    obtain ⟨e, he⟩ := e
    obtain rfl : e = 256 + x1.val := h1
    exact (dgs_eq (xK m c) (aZ m c) (row t) 256 (by norm_num) (by norm_num) 0x3F800000#32 _ _ _ (ld1 m c t 256 (by norm_num) _) (ld3 m c t 256 (by norm_num) _) (hp.xk c) x0 x1).trans (congrArg (· + _) (h2' x0 x1))
  · idx_vars x
    obtain rfl : x0 = a := Fin.ext h0.symm
    obtain ⟨e, he⟩ := e
    obtain rfl : e = 128 + x1.val := h1
    exact (dgs_eq (xK m c) (aZ m c) (row t) 128 (by norm_num) (by norm_num) 0x3F800000#32 _ _ _ (ld1 m c t 128 (by norm_num) _) (ld3 m c t 128 (by norm_num) _) (hp.xk c) x0 x1).trans (congrArg (· + _) (h1' x0 x1))
  · idx_vars x
    obtain rfl : x0 = a := Fin.ext h0.symm
    obtain ⟨e, he⟩ := e
    obtain rfl : e = 0 + x1.val := h1.trans (Nat.zero_add _).symm
    exact (dgs_eq (xK m c) (aZ m c) (row t) 0 (by norm_num) (by norm_num) 0x3F800000#32 _ _ _ (ld1 m c t 0 (by norm_num) _) (ld3 m c t 0 (by norm_num) _) (hp.xk c) x0 x1).trans (congrArg (· + _) (h0' x0 x1))
theorem acc8 (hp : Reals m) (c : Dev nD) (a : Fin 8) (e : Fin 1024) :
    (outsAt0 m c t0_7.val t0_7.isLt).2.2 (ix2 a e) = 0 + ∑ p : Fin cfg0.N, part (xK m c) (aZ m c) sk p a e := by
  refine Pipeline.eq_sum_fin_of_reset_step_apply_last
    (fun n h (_ : Unit) => (outsAt0 m c n h).2.2 (ix2 a e)) 8 (fun _ => 0)
    (fun p _ => part (xK m c) (aZ m c) sk p a e)
    (fun t h _ => ?_) (fun t h _ => ?_) (le_of_eq N_0) t0_7 N_0.symm ()
  · rw [outsAt0_A m c t h]
    frame_open
    simp (disch := decide) only [↓ View.readCov_skip, ↓ View.readCov_cons_toLoadRect, ↓ View.readCov_fill]
    frame_out
    refine (Canon.canon_append [_] [_, _, _, _, _, _, _, _] _ (View.cover_of_tiled_head _ _ _ (by rfl) _)).trans ?_
    refine step8 m hp c t _ _ _ _ _ _ _ _ (fun _ _ => 0) ?_ ?_ ?_ ?_ ?_ ?_ ?_ ?_ a e <;> intro a d <;> unfold k0_pay8 <;> pointwise
  · rw [outsAt0_B m c t h]
    frame_out
    refine step8 m hp c t _ _ _ _ _ _ _ _ (fun i j => (outsAt0 m c (t.val - 1) (by omega)).2.2 (ix2 i j)) ?_ ?_ ?_ ?_ ?_ ?_ ?_ ?_ a e <;> intro a d <;> pointwise
/-- The results' arrays. -/
theorem arr6 (hp : Reals m) (c : Dev nD) : (dats m 0 c).arrAt 6 cfg0.N = fun j => (Qk.cat (dq m c) (dk m c)) (j 0) (j 1) := by
  refine (dats m 0 c).arrAt_eq_of_covers 6 _ (by decide +kernel) fun t hf y => ?_
  have e0 : ((((cfg0.win 6).blk t).view.emb y) 0 : ℕ) = t.val * 512 + (y 0).val := by blk_simp [(idx t).2.2.2.2.2.2]
  have e1 : ((((cfg0.win 6).blk t).view.emb y) 1 : ℕ) = (y 1).val := by blk_simp [(idx t).2.2.2.2.2.2]
  generalize ((cfg0.win 6).blk t).view.emb y = j at e0 e1
  blk_simp
  rw [after0_6]
  idx_vars y
  refine (out6 m hp c t y0 y1).trans ?_
  exact congrArg₂ (Qk.cat (dq m c) (dk m c)) (Fin.ext e0.symm) (Fin.ext e1.symm)
@[inherit_doc arr6] theorem arr7 (hp : Reals m) (c : Dev nD) : (dats m 0 c).arrAt 7 cfg0.N = fun j => ∑ p : Fin cfg0.N, part (xQ m c) (aY m c) sq p (j 0) (j 1) := by
  refine (dats m 0 c).arrAt_eq_of_after_last 7 t0_7 (by decide +kernel) _ fun j => ?_
  blk_simp
  rw [after0_7]
  idx_vars j
  exact (acc7 m hp c j0 j1).trans (zero_add _)
@[inherit_doc arr6] theorem arr8 (hp : Reals m) (c : Dev nD) : (dats m 0 c).arrAt 8 cfg0.N = fun j => ∑ p : Fin cfg0.N, part (xK m c) (aZ m c) sk p (j 0) (j 1) := by
  refine (dats m 0 c).arrAt_eq_of_after_last 8 t0_7 (by decide +kernel) _ fun j => ?_
  blk_simp
  rw [after0_8]
  idx_vars j
  exact (acc8 m hp c j0 j1).trans (zero_add _)

/-- A result's array is read, after the pipeline, as the pipeline left it. -/
theorem through (c : Dev nD) (w : Fin 9) : Pipeline.withArrays (cfgs 0).spec c (V0 m c) (fun w => (dats m 0 c).arrAt w (cfgs 0).N)
    (Proc.tc.devRef (Pipeline.arrRef spec0 w)) = (dats m 0 c).arrAt w cfg0.N :=
  Pipeline.withArrays_arr_shared _ c _ _ ((dats m 0 c).arrAt_sharedIn (by decide) (V0 m c) (A_eq m c) _) w

/-- The sums over the partial sums, after the pipeline. -/
theorem tail13 (hp : Reals m) (c : Dev nD) (j : Fin 64) : Pipeline.afterTail₀ cfgs (dats m) 0 (V0 m) [hostOps1] c main_v13 (ix1 j) = Qk.dg (xQ m c) (aY m c) sq j := by
  unfold Pipeline.afterTail₀
  simp only [hostOps1, List.flatten_cons, List.flatten_nil, List.append_nil, List.cons_append, List.nil_append]
  after_results
  erw [through m c 7]
  rw [arr7 m hp]
  pointwise
  exact Qk.sum_parts N_0 fun i h => aY m c i ⟨h.val * 64 + j.val, by omega⟩ * sq * Qk.hat (xQ m c) i ⟨h.val * 64 + j.val, by omega⟩
@[inherit_doc tail13] theorem tail15 (hp : Reals m) (c : Dev nD) (j : Fin 64) : Pipeline.afterTail₀ cfgs (dats m) 0 (V0 m) [hostOps1] c main_v15 (ix1 j) = Qk.dg (xK m c) (aZ m c) sk j := by
  unfold Pipeline.afterTail₀
  simp only [hostOps1, List.flatten_cons, List.flatten_nil, List.append_nil, List.cons_append, List.nil_append]
  after_results
  erw [through m c 8]
  rw [arr8 m hp]
  pointwise
  exact Qk.sum_parts N_0 fun i h => aZ m c i ⟨h.val * 64 + j.val, by omega⟩ * 1 * Qk.hat (xK m c) i ⟨h.val * 64 + j.val, by omega⟩

/-- The kernel's run: its three results as functions of its arguments. -/
theorem run (hp : Reals m) (ρ : Dev nD → PrngReg) : θ_run defs (onTc (τ := τ) (main (F := Ideal))) ⟨m, fun _ => 0, ρ⟩ (fun r => ∀ c : Dev nD,
    r.2.mem ((c.tc : Thread nD τ).loc main_v11_0) = (fun j => Qk.cat (dq m c) (dk m c) (j 0) (j 1))
    ∧ r.2.mem ((c.tc : Thread nD τ).loc main_v13) = (fun j => Qk.dg (xQ m c) (aY m c) sq (j 0))
    ∧ r.2.mem ((c.tc : Thread nD τ).loc main_v15) = (fun j => Qk.dg (xK m c) (aZ m c) sk (j 0))) := by
  run_from Gen.run_main m ρ
  · exact arr6 m hp c
  · funext j
    idx_vars j
    exact tail13 m hp c j0
  · funext j
    idx_vars j
    exact tail15 m hp c j0

end Cert.Kernel6Ideal.Val
end
-- ==== Proof.Qk.Reference.lean ====
module

public import proofs.«01_k».proof.Proof.Gen.Reference6Ideal.Run
public import proofs.«01_k».proof.Proof.Gen.Reference6Ideal.Read
public import Idealize.ShloMosaic.Lib.Pointwise
public import Idealize.ShloMosaic.Lib.Claim
public import proofs.«01_k».proof.Proof.Qk.Spec

@[expose] public section

set_option maxRecDepth 16384

noncomputable section

namespace Cert.Reference6Ideal.Val

open Idealize.ShloMosaic Idealize.ShloMosaic.TcCoe Idealize.SL.Sem
open Cert.Reference6Ideal Cert.Reference6Ideal.Gen Cert.Reference6Ideal.Read

variable (x0 : (⟨S4096x6144, .f32⟩ : BufTy).Contents (Elt Ideal)) (x1 x2 : (⟨S64, .f32⟩ : BufTy).Contents (Elt Ideal)) (x3 x4 : (⟨S4096x1024, .f32⟩ : BufTy).Contents (Elt Ideal))

/-- An argument, entry by entry. -/
abbrev fQ (i : Fin 4096) (d : Fin 1024) : EReal := x0 (ix2 i ⟨d.val, by omega⟩)
@[inherit_doc fQ] abbrev fK (i : Fin 4096) (d : Fin 1024) : EReal := x0 (ix2 i ⟨1024 + d.val, by omega⟩)
@[inherit_doc fQ] abbrev fG (j : Fin 64) : EReal := x1 (ix1 j)
@[inherit_doc fQ] abbrev fY (i : Fin 4096) (d : Fin 1024) : EReal := x3 (ix2 i d)

/-- The column of head `h` at place `j`. -/
abbrev col (h : Fin 16) (j : Fin 64) : Fin 1024 := ⟨h.val * 64 + j.val, by omega⟩

/-- A head's row, taken from the whole row. -/
theorem hd_col (X : Fin 4096 → Fin 1024 → EReal) (i : Fin 4096) (h : Fin 16) (j k : Fin 64) : Qk.hd X i (col h j) k = X i (col h k) :=
  congrArg (X i) (Fin.ext (by show (h.val * 64 + j.val) / 64 * 64 + k.val = h.val * 64 + k.val; omega))
/-- A column is its head's column at its place. -/
theorem col_lane (d : Fin 1024) : col ⟨d.val / 64, by omega⟩ (Qk.lane d) = d := Fin.ext (by show d.val / 64 * 64 + d.val % 64 = d.val; omega)

/-- The host's sum over the two front axes of three. -/
theorem sum_front {n0 n1 n2 : ℕ} (h : (⟨3, ![n0, n1, n2]⟩ : Shape).ReducesTo [0, 1] ⟨1, ![n2]⟩) (v : (⟨3, ![n0, n1, n2]⟩ : Shape).Idx → EReal) (w : EReal) (j : Fin n2) :
    Ideal.hostReduceAdd h v w (ix1 j) = w + ∑ a : Fin n0, ∑ b : Fin n1, v (ix3 a b j) := by
  refine congrArg (w + ·) ?_
  refine (Finset.sum_filter_eq_sum_of_fiber _ (fun k : Fin n0 × Fin n1 => ix3 k.1 k.2 j)
    (fun _ _ e => Prod.ext (congrFun e 0) (congrFun e 1)) (fun i => ?_) v).trans ?_
  · constructor
    · intro e
      refine ⟨(i 0, i 1), ?_⟩
      funext a
      apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

theorem v2 (i : Fin 4096) (h : Fin 16) (j : Fin 64) : val_main_v2 (F := Ideal) x0 (ix3 i h j) = fQ x0 i (col h j) := by
  unfold val_main_v2 val_main_v0
  pointwise
theorem v9 (i : Fin 4096) (h : Fin 16) (z : Fin 1) : val_main_v9 (F := Ideal) x0 (ix3 i h z) = Rms.var Qk.N Qk.eps (fun j => fQ x0 i (col h j)) := by
  unfold val_main_v9 val_main_v8 val_main_v7 val_main_v6 val_main_v5 val_main_v4 val_main_v3 val_main_cst val_main_cst_0 val_main_cst_1 Rms.var
  pointwise
  simp only [v2, Qk.N, Qk.eps, Qk.c_64, Consts.c_eps]
theorem v10 (i : Fin 4096) (h : Fin 16) (z : Fin 1) : val_main_v10 (F := Ideal) x0 (ix3 i h z) = Ideal.rsqrt (Rms.var Qk.N Qk.eps (fun j => fQ x0 i (col h j))) := by
  unfold val_main_v10
  pointwise
  rw [v9]
theorem v15 (i : Fin 4096) (h : Fin 16) (j : Fin 64) : val_main_v15 (F := Ideal) x0 (ix3 i h j) = Qk.hat (fQ x0) i (col h j) := by
  unfold val_main_v15 val_main_v14 Qk.hat
  pointwise
  rw [v2, v10]
  exact congrArg (fun w => _ * Ideal.rsqrt (Rms.var Qk.N Qk.eps w)) (funext fun k => (hd_col _ i h j k).symm)
theorem v64 (i : Fin 4096) (h : Fin 16) (j : Fin 64) : val_main_v64 (F := Ideal) x3 (ix3 i h j) = fY x3 i (col h j) * Ideal.ofBits .f32 0x3E000000#32 := by
  unfold val_main_v64 val_main_v63 val_main_v41 val_main_cst_13
  pointwise
theorem v69 (i : Fin 4096) (h : Fin 16) (j : Fin 64) : val_main_v69 (F := Ideal) x1 x3 (ix3 i h j) = fY x3 i (col h j) * Ideal.ofBits .f32 0x3E000000#32 * fG x1 j := by
  unfold val_main_v69 val_main_v68 val_main_v16
  pointwise
  rw [v64]
theorem v79 (i : Fin 4096) (h : Fin 16) : val_main_v79 (F := Ideal) x0 x1 x3 (ix2 i h)
    = Rms.coef Qk.N Qk.eps (Ideal.ofBits .f32 0xBF000000#32) (fun j => fQ x0 i (col h j)) (fun j => fY x3 i (col h j) * Ideal.ofBits .f32 0x3E000000#32 * fG x1 j) := by
  unfold val_main_v79 val_main_v78 val_main_v77 val_main_v76 val_main_v73 val_main_v72 val_main_v71 val_main_v13 val_main_v12 val_main_v11 val_main_cst_2 val_main_cst_16 val_main_cst_17 val_main_cst_18 Rms.coef
  pointwise
  simp only [Finset.univ_unique, Finset.sum_singleton, v2, v69, v10, v9, Qk.N, Qk.c_64]
theorem v84 (i : Fin 4096) (h : Fin 16) (j : Fin 64) : val_main_v84 (F := Ideal) x0 x1 x3 (ix3 i h j)
    = Rms.dx Qk.N Qk.eps (fun j => fQ x0 i (col h j)) (fun j => fY x3 i (col h j) * Ideal.ofBits .f32 0x3E000000#32 * fG x1 j) j := by
  unfold val_main_v84 val_main_v83 val_main_v82 val_main_v81 val_main_v80 val_main_v75 val_main_v74
  pointwise
  rw [v79, v69, v2, v10]
  simp only [Consts.c_neg_half]
  exact Rms.dx_eq 64 (8796093 / 2 ^ 43) (by norm_num) (by norm_num) (fun j => fQ x0 i (col h j)) (fun j => fY x3 i (col h j) * Ideal.ofBits .f32 0x3E000000#32 * fG x1 j) j
theorem v85 (i : Fin 4096) (d : Fin 1024) : val_main_v85 (F := Ideal) x0 x1 x3 (ix2 i d)
    = Qk.dx (fQ x0) (fY x3) (Ideal.ofBits .f32 0x3E000000#32) (fG x1) i d := by
  unfold val_main_v85 Qk.dx
  pointwise
  exact v84 x0 x1 x3 i _ _
theorem v70 (j : Fin 64) : val_main_v70 (F := Ideal) x0 x3 (ix1 j) = Qk.dg (fQ x0) (fY x3) (Ideal.ofBits .f32 0x3E000000#32) j := by
  unfold val_main_v70 val_main_v67 val_main_v66 val_main_v65 val_main_cst_14 val_main_cst_15 Qk.dg
  pointwise
  rw [sum_front]
  simp only [Finset.univ_unique, Finset.sum_singleton]
  pointwise
  erw [sum_front]
  pointwise
  exact Finset.sum_congr rfl fun i _ => Finset.sum_congr rfl fun h _ => (congrArg₂ (· * ·) (v15 x0 i h j) (v64 x3 i h j)).trans (mul_comm _ _)

theorem v21 (i : Fin 4096) (h : Fin 16) (j : Fin 64) : val_main_v21 (F := Ideal) x0 (ix3 i h j) = fK x0 i (col h j) := by
  unfold val_main_v21 val_main_v1
  pointwise
theorem v28 (i : Fin 4096) (h : Fin 16) (z : Fin 1) : val_main_v28 (F := Ideal) x0 (ix3 i h z) = Rms.var Qk.N Qk.eps (fun j => fK x0 i (col h j)) := by
  unfold val_main_v28 val_main_v27 val_main_v26 val_main_v25 val_main_v24 val_main_v23 val_main_v22 val_main_cst_4 val_main_cst_5 val_main_cst_6 Rms.var
  pointwise
  simp only [v21, Qk.N, Qk.eps, Qk.c_64, Consts.c_eps]
theorem v29 (i : Fin 4096) (h : Fin 16) (z : Fin 1) : val_main_v29 (F := Ideal) x0 (ix3 i h z) = Ideal.rsqrt (Rms.var Qk.N Qk.eps (fun j => fK x0 i (col h j))) := by
  unfold val_main_v29
  pointwise
  rw [v28]
theorem v34 (i : Fin 4096) (h : Fin 16) (j : Fin 64) : val_main_v34 (F := Ideal) x0 (ix3 i h j) = Qk.hat (fK x0) i (col h j) := by
  unfold val_main_v34 val_main_v33 Qk.hat
  pointwise
  rw [v21, v29]
  exact congrArg (fun w => _ * Ideal.rsqrt (Rms.var Qk.N Qk.eps w)) (funext fun k => (hd_col _ i h j k).symm)
theorem v40 (i : Fin 4096) (h : Fin 16) (j : Fin 64) : val_main_v40 (F := Ideal) x4 (ix3 i h j) = fY x4 i (col h j) := by
  unfold val_main_v40
  pointwise
theorem v46 (i : Fin 4096) (h : Fin 16) (j : Fin 64) : val_main_v46 (F := Ideal) x2 x4 (ix3 i h j) = fY x4 i (col h j) * fG x2 j := by
  unfold val_main_v46 val_main_v45 val_main_v35
  pointwise
  rw [v40]
theorem v56 (i : Fin 4096) (h : Fin 16) : val_main_v56 (F := Ideal) x0 x2 x4 (ix2 i h)
    = Rms.coef Qk.N Qk.eps (Ideal.ofBits .f32 0xBF000000#32) (fun j => fK x0 i (col h j)) (fun j => fY x4 i (col h j) * fG x2 j) := by
  unfold val_main_v56 val_main_v55 val_main_v54 val_main_v53 val_main_v50 val_main_v49 val_main_v48 val_main_v32 val_main_v31 val_main_v30 val_main_cst_7 val_main_cst_10 val_main_cst_11 val_main_cst_12 Rms.coef
  pointwise
  simp only [Finset.univ_unique, Finset.sum_singleton, v21, v46, v29, v28, Qk.N, Qk.c_64]
theorem v61 (i : Fin 4096) (h : Fin 16) (j : Fin 64) : val_main_v61 (F := Ideal) x0 x2 x4 (ix3 i h j)
    = Rms.dx Qk.N Qk.eps (fun j => fK x0 i (col h j)) (fun j => fY x4 i (col h j) * fG x2 j) j := by
  unfold val_main_v61 val_main_v60 val_main_v59 val_main_v58 val_main_v57 val_main_v52 val_main_v51
  pointwise
  rw [v56, v46, v21, v29]
  simp only [Consts.c_neg_half]
  exact Rms.dx_eq 64 (8796093 / 2 ^ 43) (by norm_num) (by norm_num) (fun j => fK x0 i (col h j)) (fun j => fY x4 i (col h j) * fG x2 j) j
theorem v62 (i : Fin 4096) (d : Fin 1024) : val_main_v62 (F := Ideal) x0 x2 x4 (ix2 i d)
    = Qk.dx (fK x0) (fY x4) (1) (fG x2) i d := by
  unfold val_main_v62 Qk.dx
  pointwise
  exact v61 x0 x2 x4 i _ _
theorem v47 (j : Fin 64) : val_main_v47 (F := Ideal) x0 x4 (ix1 j) = Qk.dg (fK x0) (fY x4) (1) j := by
  unfold val_main_v47 val_main_v44 val_main_v43 val_main_v42 val_main_cst_8 val_main_cst_9 Qk.dg
  pointwise
  rw [sum_front]
  simp only [Finset.univ_unique, Finset.sum_singleton]
  pointwise
  erw [sum_front]
  pointwise
  exact Finset.sum_congr rfl fun i _ => Finset.sum_congr rfl fun h _ => (congrArg₂ (· * ·) (v34 x0 i h j) (v40 x4 i h j)).trans (mul_comm _ _)

theorem v87 (i : Fin 4096) (e : Fin 2048) : val_main_v87 (F := Ideal) x0 x1 x2 x3 x4 (ix2 i e)
    = Qk.cat (Qk.dx (fQ x0) (fY x3) (Ideal.ofBits .f32 0x3E000000#32) (fG x1)) (Qk.dx (fK x0) (fY x4) 1 (fG x2)) i e := by
  unfold val_main_v87 val_main_v86 Qk.cat
  pointwise
  split
  · exact v85 x0 x1 x3 i _
  · exact v62 x0 x2 x4 i _

variable (m : (ℓ : Loc nD τ sig) → Buf (Elt Ideal) ℓ)

/-- The reference's run: its three results as the same functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v87) = (fun j => Qk.cat (Qk.dx (fQ (m ((c.tc : Thread nD τ).loc main_arg0))) (fY (m ((c.tc : Thread nD τ).loc main_arg3))) (Ideal.ofBits .f32 0x3E000000#32) (fG (m ((c.tc : Thread nD τ).loc main_arg1)))) (Qk.dx (fK (m ((c.tc : Thread nD τ).loc main_arg0))) (fY (m ((c.tc : Thread nD τ).loc main_arg4))) 1 (fG (m ((c.tc : Thread nD τ).loc main_arg2)))) (j 0) (j 1))
    ∧ r.2.mem ((c.tc : Thread nD τ).loc main_v70) = (fun j => Qk.dg (fQ (m ((c.tc : Thread nD τ).loc main_arg0))) (fY (m ((c.tc : Thread nD τ).loc main_arg3))) (Ideal.ofBits .f32 0x3E000000#32) (j 0))
    ∧ r.2.mem ((c.tc : Thread nD τ).loc main_v47) = (fun j => Qk.dg (fK (m ((c.tc : Thread nD τ).loc main_arg0))) (fY (m ((c.tc : Thread nD τ).loc main_arg4))) 1 (j 0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run _ _ _).mono (fun r h c => ⟨(h c).1.trans ?_, (h c).2.1.trans ?_, (h c).2.2.1.trans ?_, (h c).2.2.2⟩) (Cert.Reference6Ideal.Value.run m ρ)
  · rw [val_main_v87_eq]
    funext j
    idx_vars j
    apply v87
  · rw [val_main_v70_eq]
    funext j
    idx_vars j
    apply v70
  · rw [val_main_v47_eq]
    funext j
    idx_vars j
    apply v47

end Cert.Reference6Ideal.Val
end
-- ==== Proof.Qk.Pre.lean ====
module

public import proofs.«01_k».proof.Defs
public import proofs.«01_k».proof.Proof.Gen.Pre_finite_qk
public import proofs.«01_k».proof.Proof.Qk.Kernel

@[expose] public section

set_option maxRecDepth 16384

noncomputable section

/-! What the precondition says of the entries. -/

namespace Cert.Kernel6Ideal.Val

open Idealize.ShloMosaic Idealize.ShloMosaic.TcCoe Idealize.SL.Sem
open Cert.Kernel6Ideal Cert.Kernel6Ideal.Gen

variable (m : (ℓ : Loc nD τ sig) → Buf (Elt Ideal) ℓ)

theorem reals (h : Cert.Pre_Kernel6Ideal_finite_qk m) : Reals m where
  xq c i d := Qk.of_bit (by
    have e := congrFun (h c).1 (ix2 i ⟨d.val, by omega⟩)
    unfold Cert.Pre_finite_qk.fn at e
    revert e
    pointwise
    exact fun e => e)
  xk c i d := Qk.of_bit (by
    have e := congrFun (h c).1 (ix2 i ⟨1024 + d.val, by omega⟩)
    unfold Cert.Pre_finite_qk.fn at e
    revert e
    pointwise
    exact fun e => e)
  gq c j := Qk.of_bit (congrFun (h c).2.1 (ix1 j))
  gk c j := Qk.of_bit (congrFun (h c).2.2.1 (ix1 j))
  yq c i d := Qk.of_bit (congrFun (h c).2.2.2.1 (ix2 i d))
  yk c i d := Qk.of_bit (congrFun (h c).2.2.2.2 (ix2 i d))

end Cert.Kernel6Ideal.Val
end
-- ==== Proof.Fold.Spec.lean ====
module

public import Mathlib.Data.EReal.Basic
public import Mathlib.Algebra.BigOperators.Fin
public import Mathlib.Algebra.BigOperators.Pi

@[expose] public section

noncomputable section

/-! The gradient of a head's table of position biases: the score gradients summed over all places at one distance. The last
    entry of the table holds the sum over every distance from 512 on. -/

namespace Cert.Fold

open scoped BigOperators

/-- The table's entry that key `k` and query `i` of a window read. -/
def place (k : Fin 768) (i : Fin 256) : ℕ := min (i.val + 768 - k.val) 512

/-- The table's gradient. -/
def fold (d : Fin 768 → Fin 256 → EReal) (n : ℕ) : EReal := ∑ k, ∑ i, if place k i = n then d k i else 0

/-- The query that, with key `a` of a block of 256, is at the distance of column `b`. -/
def turn (a b : Fin 256) : Fin 256 := if h : a.val ≤ b.val then ⟨255 - b.val + a.val, by omega⟩ else ⟨a.val - b.val - 1, by omega⟩

theorem turn_pos {a b : Fin 256} (h : a.val ≤ b.val) : (turn a b).val = 255 - b.val + a.val := by
  unfold turn
  rw [dif_pos h]
theorem turn_neg {a b : Fin 256} (h : ¬ a.val ≤ b.val) : (turn a b).val = a.val - b.val - 1 := by
  unfold turn
  rw [dif_neg h]

theorem turn_turn (a : Fin 256) : Function.Involutive (turn a) := fun b => by
  apply Fin.ext
  by_cases h : a.val ≤ b.val
  · have e := turn_pos h
    have h' : a.val ≤ (turn a b).val := by omega
    rw [turn_pos h', e]
    omega
  · have e := turn_neg h
    have h' : ¬ a.val ≤ (turn a b).val := by omega
    rw [turn_neg h', e]
    omega

/-- Key `a` of the block of 256 that starts at `o`. -/
abbrev key (o : ℕ) (ho : o + 256 ≤ 768) (a : Fin 256) : Fin 768 := ⟨o + a.val, by omega⟩

/-- A block's score gradients at one distance, the distances on one side of the block's diagonal and on the other. -/
def pos (d : Fin 256 → Fin 256 → EReal) (b : Fin 256) : EReal := ∑ a : Fin 256, if a.val ≤ b.val then d a (turn a b) else 0
@[inherit_doc pos] def neg (d : Fin 256 → Fin 256 → EReal) (b : Fin 256) : EReal := ∑ a : Fin 256, if a.val ≤ b.val then 0 else d a (turn a b)

/-- A block of the score gradients. -/
abbrev blk (d : Fin 768 → Fin 256 → EReal) (o : ℕ) (ho : o + 256 ≤ 768) (a i : Fin 256) : EReal := d (key o ho a) i

/-- The table's gradient as a sum over the three blocks' columns. -/
theorem fold_blocks (d : Fin 768 → Fin 256 → EReal) (n : ℕ) : fold d n
    = ((∑ b : Fin 256, ∑ a : Fin 256, if 512 = n then blk d 0 (by norm_num) a (turn a b) else 0)
      + ∑ b : Fin 256, ∑ a : Fin 256, if a.val ≤ b.val then (if 512 = n then blk d 256 (by norm_num) a (turn a b) else 0)
          else if 511 - b.val = n then blk d 256 (by norm_num) a (turn a b) else 0)
      + ∑ b : Fin 256, ∑ a : Fin 256, if a.val ≤ b.val then (if 511 - b.val = n then blk d 512 (by norm_num) a (turn a b) else 0)
          else if 255 - b.val = n then blk d 512 (by norm_num) a (turn a b) else 0 := by
  have s : ∀ f : Fin 768 → EReal, ∑ k, f k = (∑ a, f (key 0 (by norm_num) a) + ∑ a, f (key 256 (by norm_num) a)) + ∑ a, f (key 512 (by norm_num) a) := by
    intro f
    refine (Fin.sum_univ_add (a := 512) (b := 256) f).trans (congrArg₂ (· + ·) ?_ rfl)
    refine (Fin.sum_univ_add (a := 256) (b := 256) (fun k => f (Fin.castAdd 256 k))).trans (congrArg₂ (· + ·) ?_ rfl)
    exact Finset.sum_congr rfl fun a _ => congrArg f (Fin.ext (by simp))
  have r : ∀ (k : Fin 768) (a : Fin 256), ∑ i, (if place k i = n then d k i else 0) = ∑ b, if place k (turn a b) = n then d k (turn a b) else 0 := fun k a =>
    (Equiv.sum_comp ((turn_turn a).toPerm _) (fun i => if place k i = n then d k i else 0)).symm
  unfold fold
  rw [s]
  refine congrArg₂ (· + ·) (congrArg₂ (· + ·) ?_ ?_) ?_
  all_goals
    refine (Finset.sum_congr rfl fun a _ => r _ a).trans (Finset.sum_comm.trans (Finset.sum_congr rfl fun b _ => Finset.sum_congr rfl fun a _ => ?_))
  · have : place (key 0 (by norm_num) a) (turn a b) = 512 := by
      show min ((turn a b).val + 768 - (0 + a.val)) 512 = 512
      omega
    rw [this]
  · by_cases h : a.val ≤ b.val
    · have : place (key 256 (by norm_num) a) (turn a b) = 512 := by
        show min ((turn a b).val + 768 - (256 + a.val)) 512 = 512
        rw [turn_pos h]
        omega
      rw [this, if_pos h]
    · have : place (key 256 (by norm_num) a) (turn a b) = 511 - b.val := by
        show min ((turn a b).val + 768 - (256 + a.val)) 512 = _
        rw [turn_neg h]
        omega
      rw [this, if_neg h]
  · by_cases h : a.val ≤ b.val
    · have : place (key 512 (by norm_num) a) (turn a b) = 511 - b.val := by
        show min ((turn a b).val + 768 - (512 + a.val)) 512 = _
        rw [turn_pos h]
        omega
      rw [this, if_pos h]
    · have : place (key 512 (by norm_num) a) (turn a b) = 255 - b.val := by
        show min ((turn a b).val + 768 - (512 + a.val)) 512 = _
        rw [turn_neg h]
        omega
      rw [this, if_neg h]

/-- One column of many. -/
theorem one (f : Fin 256 → EReal) (b : Fin 256) (c : Fin 256 → Prop) [DecidablePred c] (h : ∀ x, c x ↔ x = b) : ∑ x, (if c x then f x else 0) = f b := by
  rw [Finset.sum_eq_single b (fun x _ hx => if_neg fun e => hx ((h x).1 e)) (fun e => absurd (Finset.mem_univ b) e), if_pos ((h b).2 rfl)]

/-- A sum of columns where the two sides of the diagonal are kept or not. -/
theorem split (d : Fin 256 → Fin 256 → EReal) (p q : Prop) [Decidable p] [Decidable q] (b : Fin 256) :
    ∑ a : Fin 256, (if a.val ≤ b.val then (if p then d a (turn a b) else 0) else if q then d a (turn a b) else 0)
      = (if p then pos d b else 0) + if q then neg d b else 0 := by
  unfold pos neg
  rw [show (if p then ∑ a : Fin 256, (if a.val ≤ b.val then d a (turn a b) else 0) else 0) = ∑ a : Fin 256, if a.val ≤ b.val then (if p then d a (turn a b) else 0) else 0 by
      by_cases p <;> simp [*],
    show (if q then ∑ a : Fin 256, (if a.val ≤ b.val then 0 else d a (turn a b)) else 0) = ∑ a : Fin 256, if a.val ≤ b.val then 0 else (if q then d a (turn a b) else 0) by
      by_cases q <;> simp [*], ← Finset.sum_add_distrib]
  refine Finset.sum_congr rfl fun a _ => ?_
  by_cases h : a.val ≤ b.val <;> simp [h]

theorem fold_eq (d : Fin 768 → Fin 256 → EReal) (n : ℕ) : fold d n
    = ((∑ b : Fin 256, if 512 = n then pos (blk d 0 (by norm_num)) b + neg (blk d 0 (by norm_num)) b else 0)
      + ∑ b : Fin 256, ((if 512 = n then pos (blk d 256 (by norm_num)) b else 0) + if 511 - b.val = n then neg (blk d 256 (by norm_num)) b else 0))
      + ∑ b : Fin 256, ((if 511 - b.val = n then pos (blk d 512 (by norm_num)) b else 0) + if 255 - b.val = n then neg (blk d 512 (by norm_num)) b else 0) := by
  rw [fold_blocks]
  refine congrArg₂ (· + ·) (congrArg₂ (· + ·) ?_ ?_) ?_
  · refine Finset.sum_congr rfl fun b _ => Eq.trans ?_ ((split (blk d 0 (by norm_num)) (512 = n) (512 = n) b).trans ?_)
    · exact Finset.sum_congr rfl fun a _ => (ite_self _).symm
    · by_cases h : 512 = n <;> simp [h]
  · exact Finset.sum_congr rfl fun b _ => split (blk d 256 (by norm_num)) _ _ b
  · exact Finset.sum_congr rfl fun b _ => split (blk d 512 (by norm_num)) _ _ b

/-- The near distances, one side, -/
theorem fold_near (d : Fin 768 → Fin 256 → EReal) (b : Fin 256) : fold d (255 - b.val) = neg (blk d 512 (by norm_num)) b := by
  rw [fold_eq]
  simp only [Finset.sum_add_distrib]
  rw [one _ b (fun x => 255 - x.val = 255 - b.val) fun x => by rw [Fin.ext_iff]; omega]
  have h : ∀ x : Fin 256, ¬ 511 - x.val = 255 - b.val := fun x => by omega
  have h' : ¬ 512 = 255 - b.val := by omega
  simp [h, h']

/-- the distances after those, -/
theorem fold_mid (d : Fin 768 → Fin 256 → EReal) (b : Fin 256) : fold d (511 - b.val) = pos (blk d 512 (by norm_num)) b + neg (blk d 256 (by norm_num)) b := by
  rw [fold_eq]
  simp only [Finset.sum_add_distrib]
  rw [one _ b (fun x => 511 - x.val = 511 - b.val) fun x => by rw [Fin.ext_iff]; omega, one _ b (fun x => 511 - x.val = 511 - b.val) fun x => by rw [Fin.ext_iff]; omega]
  have h : ∀ x : Fin 256, ¬ 255 - x.val = 511 - b.val := fun x => by omega
  have h' : ¬ 512 = 511 - b.val := by omega
  simp [h, h', add_comm]

/-- and the last entry, all the far ones. -/
theorem fold_far (d : Fin 768 → Fin 256 → EReal) : fold d 512
    = ∑ b : Fin 256, (pos (blk d 256 (by norm_num)) b + neg (blk d 0 (by norm_num)) b + pos (blk d 0 (by norm_num)) b) := by
  rw [fold_eq]
  have h : ∀ x : Fin 256, ¬ 511 - x.val = 512 := fun x => by omega
  have h' : ∀ x : Fin 256, ¬ 255 - x.val = 512 := fun x => by omega
  simp only [h, h', if_true, if_false, add_zero, Finset.sum_const_zero, ← Finset.sum_add_distrib]
  refine Finset.sum_congr rfl fun b _ => ?_
  ac_rfl

end Cert.Fold
end
-- ==== Proof.Fold.Kernel.lean ====
module

public import proofs.«01_k».proof.Proof.Gen.Kernel7Ideal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
public import proofs.«01_k».proof.Proof.Qk.Spec
public import proofs.«01_k».proof.Proof.Fold.Spec

@[expose] public section

set_option maxRecDepth 16384

noncomputable section

namespace Cert.Kernel7Ideal.Val

open Idealize.ShloMosaic Idealize.ShloMosaic.TcCoe Idealize.SL.Sem
open Cert.Kernel7Ideal Cert.Kernel7Ideal.Gen

variable (m : (ℓ : Loc nD τ sig) → Buf (Elt Ideal) ℓ)

/-- The arguments, entry by entry. -/
abbrev aD (c : Dev nD) (i0 : Fin 16) (i1 : Fin 768) (i2 : Fin 256) : EReal := m ((c : Thread nD τ).loc main_arg0) (ix3 i0 i1 i2)

/-- The entries that enter are numbers. -/
structure Reals (m : (ℓ : Loc nD τ sig) → Buf (Elt Ideal) ℓ) : Prop where
  d : ∀ c h k i, Qk.IsReal (aD m c h k i)

theorem eq_bit : ∀ r : Fin 512, BitVec.setWidth 32 (IntOp.cmpi CmpIPredicate.eq (BitVec.ofNat 32 r.val) 255#32) = if r.val = 255 then 1#32 else 0#32 := by
  decide +kernel
theorem lt_bit : ∀ r : Fin 512, IntOp.cmpi CmpIPredicate.slt (BitVec.ofNat 32 r.val) 256#32 = if r.val < 256 then 1#1 else 0#1 := by
  decide +kernel
theorem add_bits (a b : Fin 256) : IntOp.addi (BitVec.ofNat 32 a.val) (BitVec.ofNat 32 b.val) = BitVec.ofNat 32 (⟨a.val + b.val, by omega⟩ : Fin 512).val :=
  (BitVec.ofNat_add a.val b.val).symm

/-- The table that reverses columns, and the places above the other diagonal. -/
theorem flip_eq (a b : Fin 256) : (k0_pay5 : FVec Ideal S256x256 .bf16) (ix2 a b) = if a.val + b.val = 255 then (1 : EReal) else 0 := by
  unfold k0_pay5
  pointwise
  rw [add_bits, eq_bit]
  split
  · exact (congrArg (fun r : ℝ => (r : EReal)) (by norm_num)).trans EReal.coe_one
  · exact (congrArg (fun r : ℝ => (r : EReal)) (by norm_num)).trans EReal.coe_zero
@[inherit_doc flip_eq] theorem low_eq (a b : Fin 256) : k0_pay6 (ix2 a b) = if a.val + b.val < 256 then 1#1 else 0#1 := by
  unfold k0_pay6
  pointwise
  rw [add_bits, lt_bit]

section

variable (v : FVec Ideal S1x256x256 .f32) (hv : ∀ a i, Qk.IsReal (v (ix3 0 a i)))
include hv

/-- A block with its columns reversed. -/
theorem rev_eq (a b : Fin 256) : k0_pay7 (F := Ideal) v (ix2 a b) = v (ix3 0 a ⟨255 - b.val, by omega⟩) := by
  unfold k0_pay7
  pointwise
  have z : ∀ x, v (ix3 0 a x) - v (ix3 0 a x) = 0 := fun x => (hv a x).sub_self
  simp only [z, sub_zero, zero_mul, Finset.sum_const_zero, add_zero]
  simp only [flip_eq, mul_ite, mul_one, mul_zero]
  refine Fold.one (fun x => v (ix3 0 a x)) ⟨255 - b.val, by omega⟩ (fun x => x.val + b.val = 255) fun x => ?_
  rw [Fin.ext_iff]
  show _ ↔ x.val = 255 - b.val
  omega

/-- The sums of the two sides of a block's diagonal. -/
theorem pos_eq (z : Fin 1) (b : Fin 256) : k0_pay8 (F := Ideal) v (ix2 z b) = Fold.pos (fun a i => v (ix3 0 a i)) b := by
  unfold k0_pay8 Fold.pos
  pointwise
  refine Finset.sum_congr rfl fun x _ => ?_
  rw [rev_eq v hv, low_eq]
  by_cases h : x.val ≤ b.val
  · rw [if_pos (by show x.val + (b.val + 256 - x.val % 256) % 256 < 256; omega), if_pos h]
    refine congrArg (fun w => v (ix3 0 x w)) (Fin.ext ?_)
    rw [Fold.turn_pos h]
    show 255 - (b.val + 256 - x.val % 256) % 256 = _
    omega
  · rw [if_neg (by show ¬ x.val + (b.val + 256 - x.val % 256) % 256 < 256; omega), if_neg h]
    rfl
@[inherit_doc pos_eq] theorem neg_eq (z : Fin 1) (b : Fin 256) : k0_pay9 (F := Ideal) v (ix2 z b) = Fold.neg (fun a i => v (ix3 0 a i)) b := by
  unfold k0_pay9 Fold.neg
  pointwise
  refine Finset.sum_congr rfl fun x _ => ?_
  rw [rev_eq v hv, low_eq]
  by_cases h : x.val ≤ b.val
  · rw [if_pos (by show x.val + (b.val + 256 - x.val % 256) % 256 < 256; omega), if_pos h]
    rfl
  · rw [if_neg (by show ¬ x.val + (b.val + 256 - x.val % 256) % 256 < 256; omega), if_neg h]
    refine congrArg (fun w => v (ix3 0 x w)) (Fin.ext ?_)
    rw [Fold.turn_neg h]
    show 255 - (b.val + 256 - x.val % 256) % 256 = _
    omega

end

theorem idx : ∀ t : Fin cfg0.N, win0_0.index t = ![t.val, 0, 0] ∧ win0_1.index t = ![t.val, 0, 0] := (by decide +kernel : ∀ t : Fin grid0.N, _)
theorem tlt (t : Fin cfg0.N) : t.val < 16 := lt_of_lt_of_eq t.isLt N_0
abbrev hd (t : Fin cfg0.N) : Fin 16 := ⟨t.val, tlt t⟩

/-- A point's block, read in the argument, and 256 rows of it from row `o` on. -/
theorem blk0 (c : Dev nD) (t : Fin cfg0.N) (z : Fin 1) (k : Fin 768) (i : Fin 256) : iblk m c 0 t (ix3 z k i) = aD m c (hd t) k i := by
  unfold aD
  rw [← V_main_arg0 m c]
  blk_ext [iblk, (idx t).1]
@[inherit_doc blk0] theorem ld0 (c : Dev nD) (t : Fin cfg0.N) (o : ℕ) (ho : o + 256 ≤ 768) (h) (a i : Fin 256) :
    View.ld (iblk m c 0 t) (Rect.unit (s := S1x768x256) ![0, o, 0] ![1, 256, 256] h) (ix3 0 a i) = Fold.blk (aD m c (hd t)) o ho a i := by
  pointwise
  exact blk0 m c t 0 _ i

@[inherit_doc blk0] theorem ps (hp : Reals m) (c : Dev nD) (t : Fin cfg0.N) (o : ℕ) (ho : o + 256 ≤ 768) (h) (z : Fin 1) (b : Fin 256) :
    k0_pay8 (F := Ideal) (View.ld (iblk m c 0 t) (Rect.unit (s := S1x768x256) ![0, o, 0] ![1, 256, 256] h)) (ix2 z b) = Fold.pos (Fold.blk (aD m c (hd t)) o ho) b :=
  (pos_eq _ (fun a i => by rw [ld0 m c t o ho h]; exact hp.d c _ _ _) z b).trans
    (congrArg (Fold.pos · b) (funext fun a => funext fun i => ld0 m c t o ho h a i))
@[inherit_doc blk0] theorem ng (hp : Reals m) (c : Dev nD) (t : Fin cfg0.N) (o : ℕ) (ho : o + 256 ≤ 768) (h) (z : Fin 1) (b : Fin 256) :
    k0_pay9 (F := Ideal) (View.ld (iblk m c 0 t) (Rect.unit (s := S1x768x256) ![0, o, 0] ![1, 256, 256] h)) (ix2 z b) = Fold.neg (Fold.blk (aD m c (hd t)) o ho) b :=
  (neg_eq _ (fun a i => by rw [ld0 m c t o ho h]; exact hp.d c _ _ _) z b).trans
    (congrArg (Fold.neg · b) (funext fun a => funext fun i => ld0 m c t o ho h a i))

/-- A row stored is read; the other rows are what the earlier stores left. -/
theorem hit (k : Fin 8) (h) (w : S1x1x256.Idx → Elt Ideal .f32) (L : List (View.Piece (Elt Ideal) S1x8x256 .f32)) (b : Fin 256) :
    View.canon (⟨Rect.unit (s := S1x8x256) ![0, k.val, 0] ![1, 1, 256] h, w⟩ :: L) (ix3 0 k b) = w (ix3 0 0 b) := by
  have e : (ix3 0 k b : S1x8x256.Idx) = (Rect.unit (s := S1x8x256) ![0, k.val, 0] ![1, 1, 256] h).emb (ix3 0 0 b) := by
    funext a
    apply Fin.ext
    rw [ValueKit.rect_emb_unit_val]
    match a with
    | ⟨0, _⟩ => rfl
    | ⟨1, _⟩ => rfl
    | ⟨2, _⟩ => exact (Nat.zero_add b.val).symm
  rw [e, View.canon_cons_emb]
@[inherit_doc hit] theorem miss (k r : Fin 8) (hk : r ≠ k) (h) (w : S1x1x256.Idx → Elt Ideal .f32) (L : List (View.Piece (Elt Ideal) S1x8x256 .f32)) (b : Fin 256) :
    View.canon (⟨Rect.unit (s := S1x8x256) ![0, k.val, 0] ![1, 1, 256] h, w⟩ :: L) (ix3 0 r b) = View.canon L (ix3 0 r b) := by
  refine View.canon_cons_of_not_mem _ _ fun hm => hk ?_
  obtain ⟨x, hx⟩ := (Rect.unit (s := S1x8x256) ![0, k.val, 0] ![1, 1, 256] h).exists_idx_of_mem hm
  have e := congrArg (fun f : S1x8x256.Idx => (f 1).val) hx
  refine Fin.ext (e.symm.trans ((ValueKit.rect_emb_unit_val _ _ h x 1).trans ?_))
  have : (x 1).val < 1 := (x 1).isLt
  show k.val + (x 1).val = k.val
  omega

/-- The rows that a point leaves. -/
theorem row2 (hp : Reals m) (c : Dev nD) (t : Fin cfg0.N) (b : Fin 256) : outsAt0 m c t (ix3 0 2 b) = Fold.fold (aD m c (hd t)) 512 := by
  unfold outsAt0
  frame_out
  rw [Fold.fold_far]
  refine (hit 2 _ _ _ b).trans ?_
  unfold k0_pay4
  pointwise
  exact Finset.sum_congr rfl fun x _ => congrArg₂ (· + ·) (congrArg₂ (· + ·) (ps m hp c t 256 (by norm_num) _ _ x) (ng m hp c t 0 (by norm_num) _ _ x))
    (ps m hp c t 0 (by norm_num) _ _ x)
@[inherit_doc row2] theorem row1 (hp : Reals m) (c : Dev nD) (t : Fin cfg0.N) (b : Fin 256) : outsAt0 m c t (ix3 0 1 b) = Fold.fold (aD m c (hd t)) (511 - b.val) := by
  unfold outsAt0
  frame_out
  rw [Fold.fold_mid]
  refine (miss 2 1 (by decide) _ _ _ b).trans ((hit 1 _ _ _ b).trans ?_)
  unfold k0_pay3
  pointwise
  exact congrArg₂ (· + ·) (ps m hp c t 512 (by norm_num) _ _ b) (ng m hp c t 256 (by norm_num) _ _ b)
@[inherit_doc row2] theorem row0 (hp : Reals m) (c : Dev nD) (t : Fin cfg0.N) (b : Fin 256) : outsAt0 m c t (ix3 0 0 b) = Fold.fold (aD m c (hd t)) (255 - b.val) := by
  unfold outsAt0
  frame_out
  rw [Fold.fold_near]
  refine (miss 2 0 (by decide) _ _ _ b).trans ((miss 1 0 (by decide) _ _ _ b).trans ((hit 0 _ _ _ b).trans ?_))
  refine Eq.trans ?_ (ng m hp c t 512 (by norm_num) (by decide) 0 b)
  unfold k0_pay2 k0_pay9
  pointwise
  rfl

/-- The point that writes head `h`'s rows. -/
abbrev pt (h : Fin 16) : Fin cfg0.N := ⟨h.val, lt_of_lt_of_eq h.isLt N_0.symm⟩

/-- The rows of every head, as the points leave them. -/
def rows (c : Dev nD) (h : Fin 16) (r : Fin 8) (b : Fin 256) : EReal := outsAt0 m c (pt h) (ix3 0 r b)

theorem arr1 (c : Dev nD) : (dats m 0 c).arrAt 1 cfg0.N = fun j => rows m c (j 0) (j 1) (j 2) := by
  refine (dats m 0 c).arrAt_eq_of_covers 1 _ (by decide +kernel) fun t hf y => ?_
  have e0 : ((((cfg0.win 1).blk t).view.emb y) 0 : ℕ) = t.val := by blk_simp [(idx t).2]
  have e1 : ((((cfg0.win 1).blk t).view.emb y) 1 : ℕ) = (y 1).val := by blk_simp [(idx t).2]
  have e2 : ((((cfg0.win 1).blk t).view.emb y) 2 : ℕ) = (y 2).val := by blk_simp [(idx t).2]
  generalize ((cfg0.win 1).blk t).view.emb y = j at e0 e1 e2
  blk_simp
  rw [after0_1]
  idx_vars y
  have z : y0 = 0 := Fin.ext (by omega)
  subst z
  have ht : t = pt (j 0) := Fin.ext e0.symm
  rw [ht]
  unfold rows
  exact congrArg₂ (fun r b => outsAt0 m c (pt (j 0)) (ix3 0 r b)) (Fin.ext e1.symm) (Fin.ext e2.symm)

/-- A result's array is read, after the pipeline, as the pipeline left it. -/
theorem through (c : Dev nD) (w : Fin 2) : Pipeline.withArrays (cfgs 0).spec c (V0 m c) (fun w => (dats m 0 c).arrAt w (cfgs 0).N)
    (Proc.tc.devRef (Pipeline.arrRef spec0 w)) = (dats m 0 c).arrAt w cfg0.N :=
  Pipeline.withArrays_arr_shared _ c _ _ ((dats m 0 c).arrAt_sharedIn (by decide) (V0 m c) (A_eq m c) _) w

/-- The table's gradient. -/
def table (c : Dev nD) : (main_v9.ty).Contents (Elt Ideal) := fun j => Fold.fold (aD m c (j 0)) (j 1).val

theorem v9 (hp : Reals m) (c : Dev nD) (h : Fin 16) (n : Fin 513) :
    Pipeline.afterTail₀ cfgs (dats m) 0 (V0 m) [hostOps1] c main_v9 (ix2 h n) = table m c (ix2 h n) := by
  unfold Pipeline.afterTail₀
  simp only [hostOps1, List.flatten_cons, List.flatten_nil, List.append_nil, List.cons_append, List.nil_append]
  after_reads_at
  by_cases h0 : n.val < 256
  · rw [dif_pos h0]
    after_reads_at
    erw [through m c 1]
    rw [arr1]
    refine (row0 m hp c (pt h) (Fin.rev ⟨n.val, h0⟩)).trans (congrArg (Fold.fold (aD m c h)) ?_)
    show 255 - (256 - (n.val + 1)) = n.val
    omega
  · rw [dif_neg h0]
    by_cases h1 : n.val - 256 < 256
    · rw [dif_pos h1]
      after_reads_at
      erw [through m c 1]
      rw [arr1]
      refine (row1 m hp c (pt h) (Fin.rev ⟨n.val - 256, h1⟩)).trans (congrArg (Fold.fold (aD m c h)) ?_)
      show 511 - (256 - (n.val - 256 + 1)) = n.val
      omega
    · rw [dif_neg h1]
      after_reads_at
      erw [through m c 1]
      rw [arr1]
      refine (row2 m hp c (pt h) 0).trans (congrArg (Fold.fold (aD m c h)) ?_)
      show 512 = n.val
      omega

/-- The kernel's run: its result as functions of its arguments. -/
theorem run (hp : Reals m) (ρ : Dev nD → PrngReg) : θ_run defs (onTc (τ := τ) (main (F := Ideal))) ⟨m, fun _ => 0, ρ⟩ (fun r => ∀ c : Dev nD,
    r.2.mem ((c.tc : Thread nD τ).loc main_v9) = table m c) := by
  run_from Gen.run_main m ρ
  · funext j
    idx_vars j
    exact v9 m hp c j0 j1

end Cert.Kernel7Ideal.Val
end
-- ==== Proof.Fold.Reference.lean ====
module

public import proofs.«01_k».proof.Proof.Gen.Reference7Ideal.Run
public import proofs.«01_k».proof.Proof.Gen.Reference7Ideal.Read
public import Idealize.ShloMosaic.Lib.Pointwise
public import Idealize.ShloMosaic.Lib.Claim
public import proofs.«01_k».proof.Proof.Fold.Spec

@[expose] public section

set_option maxRecDepth 16384

noncomputable section

namespace Cert.Reference7Ideal.Val

open Idealize.ShloMosaic Idealize.ShloMosaic.TcCoe Idealize.SL.Sem
open Cert.Reference7Ideal Cert.Reference7Ideal.Gen Cert.Reference7Ideal.Read

variable (x0 : (⟨S16x768x256, .f32⟩ : BufTy).Contents (Elt Ideal))

/-- The table's entry as the reference computes it, from the distance. -/
theorem bits : ∀ r : Fin 1024, Scalar.select
      (IntOp.cmpi CmpIPredicate.slt (IntOp.addi (IntOp.minsi 256#32 (IntOp.maxsi 4294967040#32 (BitVec.ofNat 32 r.val - 256#32))) 256#32) 0#32)
      (IntOp.addi (IntOp.addi (IntOp.minsi 256#32 (IntOp.maxsi 4294967040#32 (BitVec.ofNat 32 r.val - 256#32))) 256#32) 513#32)
      (IntOp.addi (IntOp.minsi 256#32 (IntOp.maxsi 4294967040#32 (BitVec.ofNat 32 r.val - 256#32))) 256#32) = BitVec.ofNat 32 (min r.val 512) := by
  decide +kernel

theorem dist (k : Fin 768) (i : Fin 256) : IntOp.addi (IntOp.subi (BitVec.ofNat 32 i.val) (BitVec.ofNat 32 k.val)) 512#32
    = BitVec.ofNat 32 (⟨i.val + 768 - k.val, by omega⟩ : Fin 1024).val - 256#32 := by
  show BitVec.ofNat 32 i.val - BitVec.ofNat 32 k.val + 512#32 = BitVec.ofNat 32 (i.val + 768 - k.val) - 256#32
  apply BitVec.eq_of_toNat_eq
  simp only [BitVec.toNat_add, BitVec.toNat_sub, BitVec.toNat_ofNat]
  omega

theorem v18 (k : Fin 768) (i : Fin 256) (z : Fin 1) : val_main_v18 (F := Ideal) (ix3 k i z) = BitVec.ofNat 32 (Fold.place k i) := by
  unfold val_main_v18 val_main_v17 val_main_v16 val_main_v15 val_main_v14 val_main_v13 val_main_v12 val_main_v11 val_main_v10 val_main_call0_v4 val_main_call0_v3 val_main_call0_v2 val_main_call0_v1 val_main_call0_v0 val_main_v9 val_main_v8 val_main_v7 val_main_v6 val_main_v5 val_main_v4 val_main_v3 val_main_v2 val_main_v1 val_main_c val_main_c_0 val_main_c_1 val_main_c_2 val_main_c_3 val_main_c_4
  pointwise
  rw [dist]
  exact bits _

/-- Where the update of key `k` and query `i` lands. -/
theorem lands (v : IVec S768x256x1 32) (hv : ∀ k i z, v (ix3 k i z) = BitVec.ofNat 32 (Fold.place k i)) (h : Fin 16) (k : Fin 768) (i : Fin 256) (j : Fin 16) (n : Fin 513) :
    scatter_S16x513_S768x256x1_S16x768x256_0_1_1_2.resultIdx? (ix3 h k i) v = some (ix2 j n) ↔ h = j ∧ Fold.place k i = n.val := by
  have p : Fold.place k i < 513 := by unfold Fold.place; omega
  have s0 : scatter_S16x513_S768x256x1_S16x768x256_0_1_1_2.start (ix3 h k i) v 0 = 0 := rfl
  have s1 : scatter_S16x513_S768x256x1_S16x768x256_0_1_1_2.start (ix3 h k i) v 1 = Fold.place k i := by
    have e : scatter_S16x513_S768x256x1_S16x768x256_0_1_1_2.siIdx (ix3 h k i) ⟨0, Nat.one_pos⟩ = ix3 k i 0 := by
      funext a
      match a with
      | ⟨0, _⟩ => rfl
      | ⟨1, _⟩ => rfl
      | ⟨2, _⟩ => rfl
    have e' : scatter_S16x513_S768x256x1_S16x768x256_0_1_1_2.start (ix3 h k i) v 1
        = (v (scatter_S16x513_S768x256x1_S16x768x256_0_1_1_2.siIdx (ix3 h k i) ⟨0, Nat.one_pos⟩)).toInt := rfl
    rw [e', e, hv, BitVec.toInt_eq_toNat_of_lt (by rw [BitVec.toNat_ofNat]; omega), BitVec.toNat_ofNat]
    omega
  have w0 : scatter_S16x513_S768x256x1_S16x768x256_0_1_1_2.window (ix3 h k i) 0 = h.val := rfl
  have w1 : scatter_S16x513_S768x256x1_S16x768x256_0_1_1_2.window (ix3 h k i) 1 = 0 := rfl
  unfold ScatterDims.resultIdx?
  rw [dif_pos (Fin.forall_fin_two.2 ⟨by rw [s0, w0]; show _ ∧ _ < ((16 : ℕ) : ℤ); omega, by rw [s1, w1]; show _ ∧ _ < ((513 : ℕ) : ℤ); omega⟩)]
  constructor
  · intro e
    have e := Option.some.inj e
    have e0 := congrArg (fun f : S16x513.Idx => (f 0).val) e
    have e1 := congrArg (fun f : S16x513.Idx => (f 1).val) e
    simp only [s0, s1, w0, w1] at e0 e1
    exact ⟨Fin.ext (by have : (0 + (h.val : ℤ)).toNat = j.val := e0; omega), by have : ((Fold.place k i : ℤ) + ((0 : ℕ) : ℤ)).toNat = n.val := e1; omega⟩
  · rintro ⟨rfl, e⟩
    refine congrArg some (funext fun a => Fin.ext ?_)
    match a with
    | ⟨0, _⟩ => exact (congrArg Int.toNat (congrArg₂ (fun (a : ℤ) (b : ℕ) => a + (b : ℤ)) s0 w0)).trans (show (0 + (h.val : ℤ)).toNat = h.val by omega)
    | ⟨1, _⟩ => exact (congrArg Int.toNat (congrArg₂ (fun (a : ℤ) (b : ℕ) => a + (b : ℤ)) s1 w1)).trans (show ((Fold.place k i : ℤ) + ((0 : ℕ) : ℤ)).toNat = n.val by omega)

theorem v21 (h : Fin 16) (n : Fin 513) : val_main_v21 (F := Ideal) x0 (ix2 h n) = Fold.fold (fun k i => x0 (ix3 h k i)) n.val := by
  unfold val_main_v21 val_main_v20 val_main_cst_5
  show Ideal.hostScatterAdd _ _ _ _ _ = _
  unfold Ideal.hostScatterAdd Fold.fold
  pointwise
  rw [Finset.sum_filter, sum_idx3]
  simp only [lands _ v18]
  rw [Finset.sum_eq_single h (fun b _ hb => Finset.sum_eq_zero fun k _ => Finset.sum_eq_zero fun i _ => if_neg fun e => hb e.1)
    (fun e => absurd (Finset.mem_univ h) e)]
  simp only [true_and]

/-- The table's gradient. -/
def table : (⟨S16x513, .f32⟩ : BufTy).Contents (Elt Ideal) := fun j => Fold.fold (fun k i => x0 (ix3 (j 0) k i)) (j 1).val

variable (m : (ℓ : Loc nD τ sig) → Buf (Elt Ideal) ℓ)

/-- The reference's run: its result as the same functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v21) = table (m ((c.tc : Thread nD τ).loc main_arg0))
    ∧ r.2.mem ((c.tc : Thread nD τ).loc main_arg0) = m ((c.tc : Thread nD τ).loc main_arg0)) := by
  refine (θ_run _ _ _).mono (fun r h c => ⟨(h c).1.trans ?_, (h c).2⟩) (Cert.Reference7Ideal.Value.run m ρ)
  · rw [val_main_v21_eq]
    funext j
    idx_vars j
    apply v21

end Cert.Reference7Ideal.Val
end
-- ==== Proof.Fold.Pre.lean ====
module

public import proofs.«01_k».proof.Defs
public import proofs.«01_k».proof.Proof.Gen.Pre_finite_bfold
public import proofs.«01_k».proof.Proof.Fold.Kernel

@[expose] public section

set_option maxRecDepth 16384

noncomputable section

/-! What the precondition says of the entries. -/

namespace Cert.Kernel7Ideal.Val

open Idealize.ShloMosaic Idealize.ShloMosaic.TcCoe Idealize.SL.Sem
open Cert.Kernel7Ideal Cert.Kernel7Ideal.Gen

variable (m : (ℓ : Loc nD τ sig) → Buf (Elt Ideal) ℓ)

theorem reals (h : Cert.Pre_Kernel7Ideal_finite_bfold m) : Reals m where
  d c h' k i := Qk.of_bit (congrFun (h c) (ix3 h' k i))

end Cert.Kernel7Ideal.Val
end
-- ==== Proof.Attn.Spec.lean ====
module

public import Idealize.ShloMosaic.PureOps.Ideal
public import Idealize.ShloMosaic.Lib.FinSumWindow
public import Mathlib.Algebra.BigOperators.Fin

@[expose] public section

noncomputable section

/-! Attention of one query over a window of keys, some of which are hidden: a hidden key's score is minus infinity and its
    weight zero. -/

namespace Cert.Attn

open scoped BigOperators
open Idealize.ShloMosaic

section Row

variable {n : ℕ} (V : Fin n → Prop) [DecidablePred V] (x : Fin n → ℝ)

/-- A key's share before it is divided by the sum. -/
def w (j : Fin n) : ℝ := if V j then Real.exp (x j) else 0
/-- The sum of the shares. -/
def Z : ℝ := ∑ j, w V x j
/-- The scores. -/
def sc (j : Fin n) : EReal := if V j then (x j : EReal) else ⊥

theorem w_nonneg (j : Fin n) : 0 ≤ w V x j := by
  unfold w
  split
  · exact (Real.exp_pos _).le
  · exact le_rfl
theorem Z_pos (h : ∃ j, V j) : 0 < Z V x := by
  obtain ⟨j, hj⟩ := h
  refine Finset.sum_pos' (fun i _ => w_nonneg V x i) ⟨j, Finset.mem_univ j, ?_⟩
  unfold w
  rw [if_pos hj]
  exact Real.exp_pos _

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A nonnegative real factor goes into a sum. -/
theorem mul_sum {ι : Type} (s : Finset ι) (f : ι → EReal) {a : ℝ} (ha : 0 ≤ a) : (a : EReal) * ∑ i ∈ s, f i = ∑ i ∈ s, (a : EReal) * f i := by
  classical
  induction s using Finset.induction_on with
  | empty => simp
  | insert i s hi ih =>
    rw [Finset.sum_insert hi, Finset.sum_insert hi, ← ih, EReal.left_distrib_of_nonneg_of_ne_top (EReal.coe_nonneg.2 ha) (EReal.coe_ne_top _)]

/-- The greatest score is a real number. -/
theorem top (h : ∃ j, V j) : ∃ μ : ℝ, Finset.univ.fold max ⊥ (sc V x) = (μ : EReal) := by
  obtain ⟨j, hj⟩ := h
  have e : Finset.univ.fold max ⊥ (sc V x) = Finset.univ.sup (sc V x) := rfl
  obtain ⟨i, -, hi⟩ := Finset.exists_mem_eq_sup Finset.univ ⟨j, Finset.mem_univ j⟩ (sc V x)
  rw [e, hi]
  by_cases v : V i
  · exact ⟨x i, if_pos v⟩
  · have le : sc V x j ≤ sc V x i := hi ▸ Finset.le_sup (Finset.mem_univ j)
    unfold sc at le
    rw [if_pos hj, if_neg v] at le
    exact absurd (le_bot_iff.1 le) (EReal.coe_ne_bot _)

theorem exp_sc (μ : ℝ) (j : Fin n) : Ideal.exp (sc V x j - (μ : EReal)) = ((w V x j * Real.exp (-μ) : ℝ) : EReal) := by
  unfold sc w
  split
  · rw [← EReal.coe_sub, Ideal.exp_coe, sub_eq_add_neg, Real.exp_add]
  · rw [EReal.bot_sub, Ideal.exp_bot, zero_mul]; rfl

theorem sum_exp_sc (μ : ℝ) : ∑ j, Ideal.exp (sc V x j - (μ : EReal)) = ((Z V x * Real.exp (-μ) : ℝ) : EReal) := by
  rw [Finset.sum_congr rfl fun j _ => exp_sc V x μ j, coe_sum, ← Finset.sum_mul]
  rfl

/-- A key's weight as the exponential of its score over the sum of all, the greatest score taken off first. -/
theorem soft (h : ∃ j, V j) (μ : ℝ) (j : Fin n) :
    Ideal.div (Ideal.exp (sc V x j - (μ : EReal))) (∑ i, Ideal.exp (sc V x i - (μ : EReal))) = ((w V x j / Z V x : ℝ) : EReal) := by
  have z := Z_pos V x h
  have p : (0 : ℝ) < Real.exp (-μ) := Real.exp_pos _
  rw [exp_sc, sum_exp_sc, Ideal.div_coe (mul_pos z p).ne', ← EReal.coe_mul]
  refine congrArg _ ?_
  field_simp

/-- The same in powers of two. -/
theorem exp2_sc {L : ℝ} (hL : L = (Real.log 2)⁻¹) (y : Fin n → ℝ) (hy : ∀ j, V j → y j = x j * L) (μ : ℝ) (j : Fin n) :
    Ideal.exp2 (sc V y j - (μ : EReal)) = ((w V x j * Real.exp (-(μ * Real.log 2)) : ℝ) : EReal) := by
  have l2 : Real.log 2 ≠ 0 := (Real.log_pos (by norm_num)).ne'
  unfold sc w
  split
  · rename_i hj
    rw [← EReal.coe_sub, Ideal.exp2_coe, hy j hj, ← Real.exp_add]
    refine congrArg _ ?_
    show (2 : ℝ) ^ (x j * L - μ) = _
    rw [Real.rpow_def_of_pos (by norm_num), hL]
    refine congrArg _ ?_
    field_simp
    ring
  · rw [EReal.bot_sub, Ideal.exp2_bot, zero_mul]; rfl

theorem sum_exp2_sc {L : ℝ} (hL : L = (Real.log 2)⁻¹) (y : Fin n → ℝ) (hy : ∀ j, V j → y j = x j * L) (μ : ℝ) :
    ∑ j, Ideal.exp2 (sc V y j - (μ : EReal)) = ((Z V x * Real.exp (-(μ * Real.log 2)) : ℝ) : EReal) := by
  rw [Finset.sum_congr rfl fun j _ => exp2_sc V x hL y hy μ j, coe_sum, ← Finset.sum_mul]
  rfl

/-- The weighted sum divided by the sum of the powers is the sum with the weights. -/
theorem soft2 (h : ∃ j, V j) {L : ℝ} (hL : L = (Real.log 2)⁻¹) (y : Fin n → ℝ) (hy : ∀ j, V j → y j = x j * L) (μ : ℝ) (v : Fin n → EReal) :
    Ideal.div (∑ j, v j * Ideal.exp2 (sc V y j - (μ : EReal))) (∑ j, 1 * Ideal.exp2 (sc V y j - (μ : EReal)))
      = ∑ j, ((w V x j / Z V x : ℝ) : EReal) * v j := by
  have z := Z_pos V x h
  have p : (0 : ℝ) < Real.exp (-(μ * Real.log 2)) := Real.exp_pos _
  simp only [one_mul]
  rw [sum_exp2_sc V x hL y hy, Ideal.div_coe (mul_pos z p).ne', mul_comm,
    mul_sum _ _ (by positivity)]
  refine Finset.sum_congr rfl fun j _ => ?_
  rw [exp2_sc V x hL y hy, mul_comm (v j), ← mul_assoc, ← EReal.coe_mul]
  refine congrArg (fun r : ℝ => (r : EReal) * v j) ?_
  field_simp

/-- The logarithm of the sum of the exponentials, in powers of two. -/
theorem lse2 (h : ∃ j, V j) {L : ℝ} (hL : L = (Real.log 2)⁻¹) (y : Fin n → ℝ) (hy : ∀ j, V j → y j = x j * L) (μ : ℝ) :
    (μ : EReal) + Ideal.log (∑ j, 1 * Ideal.exp2 (sc V y j - (μ : EReal))) * (L : EReal) = ((Real.log (Z V x) * L : ℝ) : EReal) := by
  have z := Z_pos V x h
  have l2 : Real.log 2 ≠ 0 := (Real.log_pos (by norm_num)).ne'
  have p : (0 : ℝ) < Real.exp (-(μ * Real.log 2)) := Real.exp_pos _
  simp only [one_mul]
  rw [sum_exp2_sc V x hL y hy, Ideal.log_coe, if_neg (not_le.2 (mul_pos z p)), ← EReal.coe_mul, ← EReal.coe_add,
    Real.log_mul z.ne' p.ne', Real.log_exp, hL]
  refine congrArg _ ?_
  field_simp
  ring

/-- The same from the scores themselves. -/
theorem lse (h : ∃ j, V j) : Ideal.log (∑ j, Ideal.exp (sc V x j)) = ((Real.log (Z V x) : ℝ) : EReal) := by
  have e : ∀ j, Ideal.exp (sc V x j) = ((w V x j : ℝ) : EReal) := fun j => by
    unfold sc w
    split
    · rw [Ideal.exp_coe]
    · rw [Ideal.exp_bot]; rfl
  rw [Finset.sum_congr rfl fun j _ => e j, coe_sum, show ∑ j, w V x j = Z V x from rfl, Ideal.log_coe, if_neg (not_le.2 (Z_pos V x h))]

end Row

section Window

theorem win_lt {n W lo : ℕ} (hlo : lo + W ≤ n) (p : Fin W) : lo + p.val < n := by omega

variable {n W : ℕ} (lo : ℕ) (hlo : lo + W ≤ n) (V : Fin W → Prop) [DecidablePred V] (x : Fin W → ℝ)
  (V' : Fin n → Prop) [DecidablePred V'] (x' : Fin n → ℝ)
  (out : ∀ P : Fin n, V' P → lo ≤ P.val ∧ P.val < lo + W)
  (hV : ∀ p : Fin W, V' ⟨lo + p.val, win_lt hlo p⟩ ↔ V p) (hx : ∀ p : Fin W, V p → x' ⟨lo + p.val, win_lt hlo p⟩ = x p)

include out hV hx

theorem w_window (p : Fin W) : w V' x' ⟨lo + p.val, win_lt hlo p⟩ = w V x p := by
  unfold w
  by_cases h : V p
  · rw [if_pos h, if_pos ((hV p).2 h), hx p h]
  · rw [if_neg h, if_neg fun e => h ((hV p).1 e)]

theorem w_out (P : Fin n) (h : ¬ (lo ≤ P.val ∧ P.val < lo + W)) : w V' x' P = 0 := if_neg fun e => h (out P e)

/-- Keys outside the window count for nothing. -/
theorem Z_window : Z V' x' = Z V x := by
  unfold Z
  rw [FinSumWindow.sum_window lo hlo _ fun P h => w_out lo hlo V x V' x' out hV hx P h]
  exact Finset.sum_congr rfl fun p _ => w_window lo hlo V x V' x' out hV hx p

theorem soft_window (v : Fin n → EReal) : ∑ P, ((w V' x' P / Z V' x' : ℝ) : EReal) * v P
    = ∑ p : Fin W, ((w V x p / Z V x : ℝ) : EReal) * v ⟨lo + p.val, win_lt hlo p⟩ := by
  rw [FinSumWindow.sum_window lo hlo _ fun P h => by rw [w_out lo hlo V x V' x' out hV hx P h, zero_div, EReal.coe_zero, zero_mul]]
  exact Finset.sum_congr rfl fun p _ => by rw [w_window lo hlo V x V' x' out hV hx p, Z_window lo hlo V x V' x' out hV hx]

end Window

/-! The layer: 4096 queries in chunks of 64, each looking at the keys of its own chunk and of the eight before it, 16 heads. -/

section Layer

variable (q k : Fin 4096 → Fin 1024 → ℝ) (b : Fin 16 → Fin 513 → ℝ) (v : Fin 4096 → Fin 1024 → EReal)

/-- A head's column. -/
abbrev col (h : Fin 16) (d : Fin 64) : Fin 1024 := ⟨h.val * 64 + d.val, by omega⟩

/-- The key at place `j` of a row's window, -/
def pos (r : Fin 4096) (j : Fin 576) : Fin 4096 := ⟨r.val / 64 * 64 + j.val - 512, by omega⟩
/-- which is before the first key for the first rows' windows, -/
def Vis (r : Fin 4096) (j : Fin 576) : Prop := 512 ≤ r.val / 64 * 64 + j.val
instance (r : Fin 4096) : DecidablePred (Vis r) := fun j => inferInstanceAs (Decidable (512 ≤ _))
/-- and the entry of the table for the distance to it. -/
def ent (r : Fin 4096) (j : Fin 576) : Fin 513 := ⟨min (r.val % 64 + 768 - j.val) 512, by omega⟩

/-- A key's score. -/
def score (h : Fin 16) (r : Fin 4096) (j : Fin 576) : ℝ :=
  (∑ d : Fin 64, q r (col h d) * (1 / 8) * k (pos r j) (col h d)) + b h (ent r j)

/-- The attention's result, -/
def att (r : Fin 4096) (c : Fin 1024) : EReal := ∑ j : Fin 576,
  ((w (Vis r) (score q k b ⟨c.val / 64, by omega⟩ r) j / Z (Vis r) (score q k b ⟨c.val / 64, by omega⟩ r) : ℝ) : EReal) * v (pos r j) c
/-- and the logarithm of each row's sum of exponentials, to base two. -/
def logsum (h : Fin 16) (r : Fin 4096) : EReal := ((Real.log (Z (Vis r) (score q k b h r)) * (Real.log 2)⁻¹ : ℝ) : EReal)

theorem vis (r : Fin 4096) : ∃ j, Vis r j := ⟨⟨512, by norm_num⟩, by show 512 ≤ r.val / 64 * 64 + 512; omega⟩

end Layer

end Cert.Attn
end
-- ==== Proof.Attn.Head.lean ====
module

public import proofs.«01_k».proof.Proof.Gen.Kernel8Ideal.Frame
public import Idealize.ShloMosaic.Lib.Pipeline.ValueKit
public import Idealize.ShloMosaic.Lib.Pointwise
public import Idealize.ShloMosaic.PureOps.Ideal.Laws
public import proofs.«01_k».proof.Proof.Attn.Spec

@[expose] public section

set_option maxRecDepth 16384

noncomputable section

/-! What the kernel does for one head of one tile. -/

namespace Cert.Kernel8Ideal.Val

open scoped BigOperators
open Idealize.ShloMosaic Idealize.ShloMosaic.TcCoe Idealize.SL.Sem
open Cert.Kernel8Ideal Cert.Kernel8Ideal.Gen

/-- Three blocks of rows, one below the other. -/
def rows3 (a b c : FVec Ideal S256x128 .bf16) : FVec Ideal S768x128 .bf16 :=
  concatenate S768x128 0 [⟨S256x128, shapeCast S256x128 a shapeCasts_S256x128_S256x128⟩, ⟨S256x128, shapeCast S256x128 b shapeCasts_S256x128_S256x128⟩,
    ⟨S256x128, shapeCast S256x128 c shapeCasts_S256x128_S256x128⟩] concatenates_S256x128_S256x128_S256x128_S768x128_d0

/-- The scores of a head, whose lanes `mine` tells, -/
def scores (mine : IVec S1x128 1) (a b c q : FVec Ideal S256x128 .bf16) (bias : FVec Ideal S1x768x256 .f32) : FVec Ideal S768x256 .f32 :=
  addf (matmul dot_S768x128_S256x128_S768x256_1_1_0_0_n_n none
      (select (broadcastTo S768x128 (shapeCast S1x128 mine shapeCasts_S1x128_S1x128) broadcasts_S1x128_S768x128) (rows3 a b c) (broadcast S768x128 (Scalar.ofBits .bf16 0x0000#16)))
      (shapeCast S256x128 q shapeCasts_S256x128_S256x128) (constant S768x256 .f32 0x00000000#32))
    (shapeCast S768x256 bias shapeCasts_S1x768x256_S768x256)
/-- and with the keys hidden that lie before the first. -/
def hidden (valid : IVec S768x1 1) (s : FVec Ideal S768x256 .f32) : FVec Ideal S768x256 .f32 :=
  select (broadcastTo S768x256 (shapeCast S768x1 valid shapeCasts_S768x1_S768x1) broadcasts_S768x1_S768x256) s
    (broadcast S768x256 (Named.named κ "mask" 0xF149F2CA#32))

/-- The greatest score of every query, -/
def tops (s : FVec Ideal S768x256 .f32) : FVec Ideal S1x256 .f32 :=
  shapeCast S1x256 (multiReduction .maximumf [0] S256 s 0xFF800000#32 reduces_S768x256_S256 (.inl rfl) rfl) shapeCasts_S256_S1x256

/-- and the sums of the values, and of ones, times the powers of two of the scores. -/
def sums (o : Fin 2 → ℕ) (ho : S128x768.Slices o S64x768) (s : FVec Ideal S768x256 .f32) (a b c : FVec Ideal S256x128 .bf16) : FVec Ideal S72x256 .f32 :=
  matmul dot_S72x768_S768x256_S72x256_1_0_0_1_n_n none
    (concatenate S72x768 0 [⟨S64x768, extractStridedSlice S64x768 o (truncf .bf16 (transpose S128x768 [1, 0] (extf .f32 (rows3 a b c) bitsLt_bf16_f32) transposes_S768x128_p1_0_S128x768) bitsLt_bf16_f32) ho⟩,
      ⟨S8x768, broadcast S8x768 (Scalar.ofBits .bf16 0x3F80#16)⟩] concatenates_S64x768_S8x768_S72x768_d0)
    (truncf .bf16 (exp2 (subf s (broadcastTo S768x256 (tops s) broadcasts_S1x256_S768x256))) bitsLt_bf16_f32) (constant S72x256 .f32 0x00000000#32)

abbrev last (s : FVec Ideal S72x256 .f32) : FVec Ideal S1x256 .f32 := extractStridedSlice S1x256 ![64, 0] s slices_S72x256_o64_0_S1x256

/-- The head's result, -/
def outp (s : FVec Ideal S72x256 .f32) : FVec Ideal S64x256 .f32 :=
  divf (extractStridedSlice S64x256 ![0, 0] s slices_S72x256_o0_0_S64x256) (broadcastTo S64x256 (last s) broadcasts_S1x256_S64x256)
/-- and the logarithm of its sum. -/
def lsep (t : FVec Ideal S1x256 .f32) (s : FVec Ideal S72x256 .f32) : FVec Ideal S1x256 .f32 :=
  addf t (mulf (log (last s)) (broadcast S1x256 (Named.named κ "log2e" 0x3FB8AA3B#32)))

/-- Two heads' results side by side, a query a row. -/
def two (a b : FVec Ideal S64x256 .f32) : FVec Ideal S256x128 .bf16 :=
  truncf .bf16 (transpose S256x128 [1, 0] (concatenate S128x256 0 [⟨S64x256, a⟩, ⟨S64x256, b⟩] concatenates_S64x256_S64x256_S128x256_d0) transposes_S128x256_p1_0_S256x128) bitsLt_bf16_f32

theorem bot : Ideal.ofBits .f32 0xFF800000#32 = ⊥ := by simp [Ideal.ofBits, Ideal.ieee]

/-- The row of a tile's window of keys, of three blocks of rows. -/
def at3 {α : Type} (a b c : Fin 256 → α) (j : Fin 768) : α :=
  if h : j.val < 256 then a ⟨j.val, h⟩ else if h : j.val - 256 < 256 then b ⟨j.val - 256, h⟩ else c ⟨j.val - 256 - 256, by omega⟩

theorem rows3_eq (a b c : FVec Ideal S256x128 .bf16) (j : Fin 768) (x : Fin 128) :
    rows3 a b c (ix2 j x) = at3 (fun i => a (ix2 i x)) (fun i => b (ix2 i x)) (fun i => c (ix2 i x)) j := by
  unfold rows3 at3
  pointwise
theorem scores_eq (mine : IVec S1x128 1) (a b c q : FVec Ideal S256x128 .bf16) (bias : FVec Ideal S1x768x256 .f32) (j : Fin 768) (i : Fin 256) :
    scores mine a b c q bias (ix2 j i) = ∑ x : Fin 128, Scalar.select (mine (ix2 0 x)) (rows3 a b c (ix2 j x)) 0 * q (ix2 i x) + bias (ix3 0 j i) := by
  unfold scores
  pointwise
theorem hidden_eq (valid : IVec S768x1 1) (s : FVec Ideal S768x256 .f32)  (j : Fin 768) (i : Fin 256) :
    hidden valid s (ix2 j i) = Scalar.select (valid (ix2 j 0)) (s (ix2 j i)) ⊥ := by
  unfold hidden
  pointwise
  rw [IdealRules.named_const.ideal_named_scalar _ _ _ _ rfl]
theorem tops_eq (s : FVec Ideal S768x256 .f32) (i : Fin 256) : tops s (ix2 0 i) = Finset.univ.fold max ⊥ (fun j : Fin 768 => s (ix2 j i)) := by
  unfold tops
  pointwise
  rw [bot]
theorem sums_eq (o : Fin 2 → ℕ) (ho : S128x768.Slices o S64x768) (s : FVec Ideal S768x256 .f32) (a b c : FVec Ideal S256x128 .bf16) (n : ℕ) (hn : n + 64 ≤ 128) (e : o = ![n, 0])
    (d : Fin 72) (i : Fin 256) :
    sums o ho s a b c (ix2 d i) = ∑ j : Fin 768, (if h : d.val < 64 then rows3 a b c (ix2 j ⟨n + d.val, by omega⟩) else 1) * Ideal.exp2 (s (ix2 j i) - tops s (ix2 0 i)) := by
  subst e
  unfold sums
  pointwise
  refine Finset.sum_congr rfl fun j _ => congrArg₂ (· * ·) ?_ rfl
  by_cases h : d.val < 64
  · rw [dif_pos h]
  · rw [dif_neg h]
theorem two_lo (a b : FVec Ideal S64x256 .f32) (i : Fin 256) (e : Fin 128) (h : e.val < 64) : two a b (ix2 i e) = a (ix2 ⟨e.val, h⟩ i) := by
  unfold two
  pointwise
  rw [dif_pos h]
theorem two_hi (a b : FVec Ideal S64x256 .f32) (i : Fin 256) (e : Fin 128) (h : ¬ e.val < 64) : two a b (ix2 i e) = b (ix2 ⟨e.val - 64, by omega⟩ i) := by
  unfold two
  pointwise
  rw [dif_neg h]
theorem outp_eq (s : FVec Ideal S72x256 .f32) (d : Fin 64) (i : Fin 256) : outp s (ix2 d i) = Ideal.div (s (ix2 ⟨d.val, by omega⟩ i)) (s (ix2 64 i)) := by
  unfold outp
  pointwise
theorem lsep_eq (t) (s : FVec Ideal S72x256 .f32) (i : Fin 256) : lsep t s (ix2 0 i) = t (ix2 0 i) + Ideal.log (s (ix2 64 i)) * (((Real.log 2)⁻¹ : ℝ) : EReal) := by
  unfold lsep
  pointwise
  rw [IdealRules.named_const.ideal_named_scalar _ _ _ _ rfl]

/-! One head, the scores known. -/

section One

variable (V : Fin 768 → Prop) [DecidablePred V] (x : Fin 768 → ℝ) (s : FVec Ideal S768x256 .f32) (i : Fin 256)
  (hs : ∀ j, s (ix2 j i) = Attn.sc V (fun j => x j * (Real.log 2)⁻¹) j) (hV : ∃ j, V j)
  (o : Fin 2 → ℕ) (ho : S128x768.Slices o S64x768) (a b c : FVec Ideal S256x128 .bf16) (n : ℕ) (hn : n + 64 ≤ 128) (e : o = ![n, 0])

include hs hV

theorem top_real : ∃ μ : ℝ, tops s (ix2 0 i) = (μ : EReal) := by
  rw [tops_eq, funext hs]
  exact Attn.top V _ hV

include hn e

theorem outp_val (d : Fin 64) : outp (sums o ho s a b c) (ix2 d i)
    = ∑ j, ((Attn.w V x j / Attn.Z V x : ℝ) : EReal) * rows3 a b c (ix2 j ⟨n + d.val, by omega⟩) := by
  obtain ⟨μ, hμ⟩ := top_real V x s i hs hV
  rw [outp_eq, sums_eq o ho s a b c n hn e, sums_eq o ho s a b c n hn e, ← Attn.soft2 V x hV rfl _ (fun _ _ => rfl) μ, hμ]
  simp only [hs]
  have e1 : ∀ j : Fin 768, (if h : (⟨d.val, by omega⟩ : Fin 72).val < 64 then rows3 a b c (ix2 j ⟨n + (⟨d.val, by omega⟩ : Fin 72).val, by omega⟩) else (1 : EReal))
      = rows3 a b c (ix2 j ⟨n + d.val, by omega⟩) := fun j => dif_pos d.isLt
  have e2 : ∀ j : Fin 768, (if h : (64 : Fin 72).val < 64 then rows3 a b c (ix2 j ⟨n + (64 : Fin 72).val, by omega⟩) else (1 : EReal)) = 1 := fun j => dif_neg (lt_irrefl 64)
  exact congrArg₂ Ideal.div (Finset.sum_congr rfl fun j _ => congrArg (· * _) (e1 j)) (Finset.sum_congr rfl fun j _ => congrArg (· * _) (e2 j))

theorem lsep_val : lsep (tops s) (sums o ho s a b c) (ix2 0 i) = ((Real.log (Attn.Z V x) * (Real.log 2)⁻¹ : ℝ) : EReal) := by
  obtain ⟨μ, hμ⟩ := top_real V x s i hs hV
  rw [lsep_eq, sums_eq o ho s a b c n hn e, ← Attn.lse2 V x hV rfl _ (fun _ _ => rfl) μ, hμ]
  simp only [hs]
  have e2 : ∀ j : Fin 768, (if h : (64 : Fin 72).val < 64 then rows3 a b c (ix2 j ⟨n + (64 : Fin 72).val, by omega⟩) else (1 : EReal)) = 1 := fun j => dif_neg (lt_irrefl 64)
  exact congrArg (fun z => (μ : EReal) + Ideal.log z * _) (Finset.sum_congr rfl fun j _ => congrArg (· * _) (e2 j))

end One

/-! The scores. -/

section Score

variable (mine : IVec S1x128 1) (n : ℕ) (hn : n + 64 ≤ 128) (hm : ∀ x : Fin 128, mine (ix2 0 x) = if n ≤ x.val ∧ x.val < n + 64 then 1#1 else 0#1)
  (a b c q : FVec Ideal S256x128 .bf16) (bias : FVec Ideal S1x768x256 .f32) (j : Fin 768) (i : Fin 256)
  (kr qr : Fin 64 → ℝ) (hk : ∀ d : Fin 64, rows3 a b c (ix2 j ⟨n + d.val, by omega⟩) = (kr d : EReal))
  (hq : ∀ d : Fin 64, q (ix2 i ⟨n + d.val, by omega⟩) = ((qr d * (1 / 8) * (Real.log 2)⁻¹ : ℝ) : EReal))
  (br : ℝ) (B : Prop) [Decidable B] (hb : bias (ix3 0 j i) = if B then ((br * (Real.log 2)⁻¹ : ℝ) : EReal) else ⊥)

include hm hk hq hb

theorem scores_val : scores mine a b c q bias (ix2 j i) = if B then (((∑ d, qr d * (1 / 8) * kr d + br) * (Real.log 2)⁻¹ : ℝ) : EReal) else ⊥ := by
  rw [scores_eq, FinSumWindow.sum_window n hn _ (fun P h => (congrArg (fun z => Scalar.select z _ 0 * _) ((hm P).trans (if_neg h))).trans (zero_mul _))]
  have e : ∀ d : Fin 64, Scalar.select (mine (ix2 0 ⟨n + d.val, by omega⟩)) (rows3 a b c (ix2 j ⟨n + d.val, by omega⟩)) 0 * q (ix2 i ⟨n + d.val, by omega⟩)
      = ((kr d * (qr d * (1 / 8) * (Real.log 2)⁻¹) : ℝ) : EReal) := fun d => by
    rw [hm, if_pos ⟨Nat.le_add_right _ _, by show n + d.val < n + 64; omega⟩, hq]
    show rows3 a b c (ix2 j ⟨n + d.val, by omega⟩) * ((qr d * (1 / 8) * (Real.log 2)⁻¹ : ℝ) : EReal) = _
    rw [hk, ← EReal.coe_mul]
  rw [Finset.sum_congr rfl fun d _ => e d, Attn.coe_sum, hb]
  by_cases h : B
  · rw [if_pos h, if_pos h, ← EReal.coe_add]
    refine congrArg _ ?_
    rw [add_mul, Finset.sum_mul]
    exact congrArg (· + _) (Finset.sum_congr rfl fun d _ => by ring)
  · rw [if_neg h, if_neg h, EReal.add_bot]

end Score

end Cert.Kernel8Ideal.Val
end
-- ==== Proof.Attn.Table.lean ====
module

public import proofs.«01_k».proof.Proof.Gen.Reference8Ideal.Run
public import Idealize.ShloMosaic.Lib.Pointwise
public import Idealize.ShloMosaic.Lib.IdealHost
public import proofs.«01_k».proof.Proof.Attn.Spec

@[expose] public section

set_option maxRecDepth 16384

noncomputable section

/-! The integers both programs compute, and the float constants of their host code. -/

namespace Cert.Attn

open Idealize.ShloMosaic

/-- An integer's sign, -/
abbrev sgn (a : BitVec 32) : BitVec 32 := if a = 0 then 0 else if a.msb then -1 else 1
/-- and its quotient by 64, rounded down. -/
abbrev quo (a : BitVec 32) : BitVec 32 := Scalar.select
  (IntOp.andi (IntOp.cmpi CmpIPredicate.ne (sgn a) (sgn 64#32)) (IntOp.cmpi CmpIPredicate.ne (IntOp.remsi ArithUnit.host a 64#32) 0#32))
  (IntOp.subi (IntOp.divsi ArithUnit.host a 64#32) 1#32) (IntOp.divsi ArithUnit.host a 64#32)

theorem quo_eq : ∀ r : Fin 768, quo (BitVec.ofNat 32 r.val) = BitVec.ofNat 32 (r.val / 64) := by decide +kernel

theorem ge_eq : ∀ a b : Fin 16, IntOp.cmpi CmpIPredicate.sge (BitVec.ofNat 32 a.val) (BitVec.ofNat 32 b.val) = if b.val ≤ a.val then 1#1 else 0#1 := by decide +kernel
theorem le_eq : ∀ a b : Fin 16, IntOp.cmpi CmpIPredicate.sle (BitVec.ofNat 32 a.val) (IntOp.addi (BitVec.ofNat 32 b.val) 8#32) = if a.val ≤ b.val + 8 then 1#1 else 0#1 := by decide +kernel
theorem past_eq : ∀ a : Fin 128, IntOp.cmpi CmpIPredicate.sge (IntOp.subi (BitVec.ofNat 32 a.val) 8#32) 0#32 = if 8 ≤ a.val then 1#1 else 0#1 := by decide +kernel

/-- The clipped distance, moved to the table's first entry. -/
abbrev clip (a : BitVec 32) : BitVec 32 := IntOp.addi (IntOp.minsi 256#32 (IntOp.maxsi 4294967040#32 a)) 256#32
/-- Counted from the end where it is negative. -/
abbrev wrap (a : BitVec 32) : BitVec 32 := Scalar.select (IntOp.cmpi CmpIPredicate.slt (clip a) 0#32) (IntOp.addi (clip a) 513#32) (clip a)

theorem wrap_eq : ∀ r : Fin 1024, wrap (BitVec.ofNat 32 r.val - 256#32) = BitVec.ofNat 32 (min r.val 512) := by decide +kernel

/-- The distance between a query and a key, from 1024 places. -/
theorem dist_eq (i j : ℕ) (hi : i < 256) (hj : j < 768) : wrap (IntOp.addi (IntOp.subi (BitVec.ofNat 32 i) (BitVec.ofNat 32 j)) 512#32)
    = BitVec.ofNat 32 (min (i + 768 - j) 512) := by
  rw [← wrap_eq ⟨i + 768 - j, by omega⟩]
  refine congrArg wrap ?_
  show BitVec.ofNat 32 i - BitVec.ofNat 32 j + 512#32 = BitVec.ofNat 32 (i + 768 - j) - 256#32
  apply BitVec.eq_of_toNat_eq
  simp only [BitVec.toNat_add, BitVec.toNat_sub, BitVec.toNat_ofNat]
  omega

section Gather

open Idealize.ShloMosaic.TcCoe

/-- The rows of a table of 16 × 513 read at a matrix of columns. -/
abbrev cols (K Q : ℕ) (wf : GatherDims.WF ⟨2, ![16, 513]⟩ ⟨3, ![K, Q, 1]⟩ ⟨3, ![16, K, Q]⟩ [0] [1] [] [1] [] 2 ![16, 1]) :
    GatherDims ⟨2, ![16, 513]⟩ ⟨3, ![K, Q, 1]⟩ ⟨3, ![16, K, Q]⟩ where
  offsetDims := [0]
  collapsedSliceDims := [1]
  operandBatchingDims := []
  startIndicesBatchingDims := []
  startIndexMap := [1]
  indexVectorDim := 2
  sliceSizes := ![16, 1]
  wf := wf

theorem gather_at {α : Type} {K Q : ℕ} (wf) (x : (⟨2, ![16, 513]⟩ : Shape).Idx → α) (v : IVec ⟨3, ![K, Q, 1]⟩ 32) (h : Fin 16) (k : Fin K) (q : Fin Q) (n : ℕ) (hn : n < 513)
    (hv : v (ix3 k q 0) = BitVec.ofNat 32 n) : Host.gather (cols K Q wf) x v (ix3 h k q) = x (ix2 h ⟨n, hn⟩) := by
  have hs : (cols K Q wf).siIdx (ix3 h k q) ⟨0, Nat.one_pos⟩ = ix3 k q 0 := by
    funext a
    match a with
    | ⟨0, _⟩ => rfl
    | ⟨1, _⟩ => rfl
    | ⟨2, _⟩ => rfl
  have e : (cols K Q wf).start (ix3 h k q) v 1 = min (v ((cols K Q wf).siIdx (ix3 h k q) ⟨0, Nat.one_pos⟩)).toInt.toNat 512 := rfl
  rw [hs, hv, BitVec.toInt_eq_toNat_of_lt (by rw [BitVec.toNat_ofNat]; omega), BitVec.toNat_ofNat] at e
  unfold Host.gather
  refine congrArg x (funext fun a => Fin.ext ?_)
  match a with
  | ⟨0, _⟩ =>
    show 0 + 0 + h.val = h.val
    omega
  | ⟨1, _⟩ =>
    show (cols K Q wf).start (ix3 h k q) v 1 + 0 + 0 = n
    rw [e]
    omega

end Gather

theorem c_inf : Ideal.ofBits .f32 0xFF800000#32 = ⊥ := by simp [Ideal.ofBits, Ideal.ieee]
theorem c_8th : Ideal.ofBits .f32 0x3E000000#32 = ((1 / 8 : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem log_two : Ideal.log ((2 : ℝ) : EReal) = ((Real.log 2 : ℝ) : EReal) := by
  rw [Ideal.log_coe, if_neg (by norm_num)]
theorem log_two_ne : Real.log 2 ≠ 0 := (Real.log_pos (by norm_num)).ne'

theorem c_log2e : Ideal.div 1 (Ideal.log (Ideal.ofBits .f32 0x40000000#32)) = (((Real.log 2)⁻¹ : ℝ) : EReal) := by
  rw [c_two, log_two, Ideal.div_coe log_two_ne, one_mul, one_div]

/-- A key inside the window of a query of its tile. -/
def Band (i : Fin 256) (j : Fin 768) : Prop := i.val / 64 ≤ j.val / 64 ∧ j.val / 64 ≤ i.val / 64 + 8
instance (i : Fin 256) (j : Fin 768) : Decidable (Band i j) := inferInstanceAs (Decidable (_ ∧ _))

theorem band_eq (i : Fin 256) (j : Fin 768) : IntOp.andi (IntOp.cmpi CmpIPredicate.sge (quo (BitVec.ofNat 32 j.val)) (quo (BitVec.ofNat 32 i.val)))
    (IntOp.cmpi CmpIPredicate.sle (quo (BitVec.ofNat 32 j.val)) (IntOp.addi (quo (BitVec.ofNat 32 i.val)) 8#32)) = if Band i j then 1#1 else 0#1 := by
  rw [quo_eq j, quo_eq ⟨i.val, by omega⟩, ge_eq ⟨j.val / 64, by omega⟩ ⟨i.val / 64, by omega⟩, le_eq ⟨j.val / 64, by omega⟩ ⟨i.val / 64, by omega⟩]
  unfold Band
  by_cases a : i.val / 64 ≤ j.val / 64 <;> by_cases b : j.val / 64 ≤ i.val / 64 + 8 <;> simp [a, b, IntOp.andi]

theorem lo_lanes : ∀ x : Fin 128, IntOp.cmpi CmpIPredicate.slt (BitVec.ofNat 32 x.val) 64#32 = if 0 ≤ x.val ∧ x.val < 0 + 64 then 1#1 else 0#1 := by decide +kernel
theorem hi_lanes : ∀ x : Fin 128, IntOp.xori (IntOp.cmpi CmpIPredicate.slt (BitVec.ofNat 32 x.val) 64#32) 1#1 = if 64 ≤ x.val ∧ x.val < 64 + 64 then 1#1 else 0#1 := by decide +kernel
theorem first_keys : ∀ (t : Fin 2) (j : Fin 768), IntOp.cmpi CmpIPredicate.sge (BitVec.ofNat 32 j.val) (Scalar.muli (Scalar.subi (2#32) (BitVec.ofNat 32 t.val)) 256#32)
    = if 512 ≤ t.val * 256 + j.val then 1#1 else 0#1 := by decide +kernel

end Cert.Attn
end
-- ==== Proof.Attn.Tile.lean ====
module

public import proofs.«01_k».proof.Proof.Gen.Kernel8Ideal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
public import proofs.«01_k».proof.Proof.Attn.Head
public import proofs.«01_k».proof.Proof.Attn.Table
public import proofs.«01_k».proof.Proof.Canon
public import proofs.«01_k».proof.Proof.Qk.Spec

@[expose] public section

set_option maxRecDepth 16384

noncomputable section

namespace Cert.Kernel8Ideal.Val

open Idealize.ShloMosaic Idealize.ShloMosaic.TcCoe Idealize.SL.Sem
open Cert.Kernel8Ideal Cert.Kernel8Ideal.Gen

variable (m : (ℓ : Loc nD τ sig) → Buf (Elt Ideal) ℓ)

/-- The arguments, entry by entry. -/
abbrev aQ (c : Dev nD) (i0 : Fin 4096) (i1 : Fin 1024) : EReal := m ((c : Thread nD τ).loc main_arg0) (ix2 i0 i1)
@[inherit_doc aQ] abbrev aK (c : Dev nD) (i0 : Fin 4096) (i1 : Fin 1024) : EReal := m ((c : Thread nD τ).loc main_arg1) (ix2 i0 i1)
@[inherit_doc aQ] abbrev aV (c : Dev nD) (i0 : Fin 4096) (i1 : Fin 6144) : EReal := m ((c : Thread nD τ).loc main_arg2) (ix2 i0 i1)
@[inherit_doc aQ] abbrev aB (c : Dev nD) (i0 : Fin 16) (i1 : Fin 513) : EReal := m ((c : Thread nD τ).loc main_arg3) (ix2 i0 i1)

/-- The queries, the keys and the table hold numbers. -/
structure Reals (m : (ℓ : Loc nD τ sig) → Buf (Elt Ideal) ℓ) : Prop where
  q : ∀ c i d, Qk.IsReal (aQ m c i d)
  k : ∀ c i d, Qk.IsReal (aK m c i d)
  b : ∀ c h e, Qk.IsReal (aB m c h e)

/-- These numbers, and the values' columns. -/
def rQ (c : Dev nD) (i : Fin 4096) (d : Fin 1024) : ℝ := (aQ m c i d).toReal
@[inherit_doc rQ] def rK (c : Dev nD) (i : Fin 4096) (d : Fin 1024) : ℝ := (aK m c i d).toReal
@[inherit_doc rQ] def rB (c : Dev nD) (h : Fin 16) (e : Fin 513) : ℝ := (aB m c h e).toReal
@[inherit_doc rQ] abbrev xV (c : Dev nD) (i : Fin 4096) (d : Fin 1024) : EReal := aV m c i ⟨2048 + d.val, by omega⟩

theorem toReal {x : EReal} (h : Qk.IsReal x) : x = ((x.toReal : ℝ) : EReal) := by
  obtain ⟨r, rfl⟩ := h
  rw [EReal.toReal_coe]

variable (hp : Reals m)

include hp in
theorem aQ_eq (c : Dev nD) (i : Fin 4096) (d : Fin 1024) : aQ m c i d = (rQ m c i d : EReal) := toReal (hp.q c i d)
include hp in
theorem aK_eq (c : Dev nD) (i : Fin 4096) (d : Fin 1024) : aK m c i d = (rK m c i d : EReal) := toReal (hp.k c i d)
include hp in
theorem aB_eq (c : Dev nD) (h : Fin 16) (e : Fin 513) : aB m c h e = (rB m c h e : EReal) := toReal (hp.b c h e)

theorem idx : ∀ t : Fin cfg0.N, win0_0.index t = ![t.val, 0] ∧ win0_1.index t = ![t.val - 2, 0] ∧ win0_2.index t = ![t.val - 1, 0]
    ∧ win0_3.index t = ![t.val, 0] ∧ win0_4.index t = ![t.val - 2, 2] ∧ win0_5.index t = ![t.val - 1, 2] ∧ win0_6.index t = ![t.val, 2]
    ∧ win0_7.index t = ![0, 0, 0] ∧ win0_8.index t = ![t.val, 0] ∧ win0_9.index t = ![0, t.val] :=
  (by decide +kernel : ∀ t : Fin grid0.N, _)
theorem tile : ∀ t : Fin cfg0.N, (grid0.coords t 1).val = t.val := (by decide +kernel : ∀ t : Fin grid0.N, _)

theorem tlt (t : Fin cfg0.N) : t.val < 16 := lt_of_lt_of_eq t.isLt N_0

/-- The row of the array that row `a` of tile `t` is, -/
abbrev row (t : Fin cfg0.N) (a : Fin 256) : Fin 4096 := ⟨t.val * 256 + a.val, by have := tlt t; omega⟩
/-- of the tile `n` tiles before it, -/
abbrev back (n : ℕ) (t : Fin cfg0.N) (a : Fin 256) : Fin 4096 := ⟨(t.val - n) * 256 + a.val, by have := tlt t; omega⟩
/-- and of the key at place `j` of the tile's window. -/
abbrev key (t : Fin cfg0.N) (j : Fin 768) : Fin 4096 := ⟨(t.val + j.val / 256 - 2) * 256 + j.val % 256, by have := tlt t; omega⟩
theorem col_lt {o n : ℕ} (ho : o + n ≤ 1024) (d : Fin n) : o + d.val < 1024 := by omega

/-- What the pipelined arrays hold as the pipeline starts. -/
theorem entry0 (c : Dev nD) (i0 : Fin 4096) (i1 : Fin 1024) : V m c main_v44 (ix2 i0 i1) = (aQ m c i0 i1 * Ideal.ofBits .f32 0x3E000000#32 * Ideal.div 1 (Ideal.log (Ideal.ofBits .f32 0x40000000#32)) : EReal) := by
  unfold V
  simp only [List.flatten_cons, List.flatten_nil, List.append_nil]
  unfold hostOps0
  after_reads_at
@[inherit_doc entry0] theorem entry1 (c : Dev nD) (i0 : Fin 4096) (i1 : Fin 1024) : V m c main_v45 (ix2 i0 i1) = (aK m c i0 i1 : EReal) := by
  unfold V
  simp only [List.flatten_cons, List.flatten_nil, List.append_nil]
  unfold hostOps0
  after_reads_at
@[inherit_doc entry0] theorem entry4 (c : Dev nD) (i0 : Fin 4096) (i1 : Fin 6144) : V m c main_v46 (ix2 i0 i1) = (aV m c i0 i1 : EReal) := by
  unfold V
  simp only [List.flatten_cons, List.flatten_nil, List.append_nil]
  unfold hostOps0
  after_reads_at
@[inherit_doc entry0] theorem entry7 (c : Dev nD) (i0 : Fin 16) (i1 : Fin 768) (i2 : Fin 256) : V m c main_v41 (ix3 i0 i1 i2) = (if Attn.Band i2 i1 then aB m c i0 ⟨min (i2.val + 768 - i1.val) 512, by omega⟩ * (((Real.log 2)⁻¹ : ℝ) : EReal) else ⊥ : EReal) := by
  unfold V
  simp only [List.flatten_cons, List.flatten_nil, List.append_nil]
  unfold hostOps0
  after_reads_at
  rw [show (id (constant S_ FTy.f32 0xFF800000#32 : FVec Ideal S_ .f32) ix0) = (⊥ : EReal) from Attn.c_inf, Attn.c_log2e]
  refine (congrArg₂ (fun (a : BitVec 1) (b : EReal) => Scalar.select a (b * (((Real.log 2)⁻¹ : ℝ) : EReal)) ⊥) (Attn.band_eq i2 i1)
    (Attn.gather_at _ _ _ i0 i1 i2 (min (i2.val + 768 - i1.val) 512) (by omega) ?_)).trans ?_
  · pointwise
    exact Attn.dist_eq _ _ (by omega) (by omega)
  · by_cases h : Attn.Band i2 i1
    · rw [if_pos h, if_pos h]
      rfl
    · rw [if_neg h, if_neg h]
      rfl
/-- The blocks at a point, read in the arguments. -/
theorem blk0 (c : Dev nD) (t : Fin cfg0.N) (a : Fin 256) (d : Fin 1024) : iblk m c 0 t (ix2 a d) = (aQ m c (row t a) d * Ideal.ofBits .f32 0x3E000000#32 * Ideal.div 1 (Ideal.log (Ideal.ofBits .f32 0x40000000#32)) : EReal) := by
  rw [← entry0 m c]
  blk_ext [iblk, (idx t).1]
@[inherit_doc blk0] theorem blk1 (c : Dev nD) (t : Fin cfg0.N) (a : Fin 256) (d : Fin 1024) : iblk m c 1 t (ix2 a d) = (aK m c (back 2 t a) d : EReal) := by
  rw [← entry1 m c]
  blk_ext [iblk, (idx t).2.1]
@[inherit_doc blk0] theorem blk2 (c : Dev nD) (t : Fin cfg0.N) (a : Fin 256) (d : Fin 1024) : iblk m c 2 t (ix2 a d) = (aK m c (back 1 t a) d : EReal) := by
  rw [← entry1 m c]
  blk_ext [iblk, (idx t).2.2.1]
@[inherit_doc blk0] theorem blk3 (c : Dev nD) (t : Fin cfg0.N) (a : Fin 256) (d : Fin 1024) : iblk m c 3 t (ix2 a d) = (aK m c (back 0 t a) d : EReal) := by
  rw [← entry1 m c]
  blk_ext [iblk, (idx t).2.2.2.1]
@[inherit_doc blk0] theorem blk4 (c : Dev nD) (t : Fin cfg0.N) (a : Fin 256) (d : Fin 1024) : iblk m c 4 t (ix2 a d) = (xV m c (back 2 t a) d : EReal) := by
  unfold xV
  rw [← entry4 m c]
  blk_ext [iblk, (idx t).2.2.2.2.1]
@[inherit_doc blk0] theorem blk5 (c : Dev nD) (t : Fin cfg0.N) (a : Fin 256) (d : Fin 1024) : iblk m c 5 t (ix2 a d) = (xV m c (back 1 t a) d : EReal) := by
  unfold xV
  rw [← entry4 m c]
  blk_ext [iblk, (idx t).2.2.2.2.2.1]
@[inherit_doc blk0] theorem blk6 (c : Dev nD) (t : Fin cfg0.N) (a : Fin 256) (d : Fin 1024) : iblk m c 6 t (ix2 a d) = (xV m c (back 0 t a) d : EReal) := by
  unfold xV
  rw [← entry4 m c]
  blk_ext [iblk, (idx t).2.2.2.2.2.2.1]
@[inherit_doc blk0] theorem blk7 (c : Dev nD) (t : Fin cfg0.N) (a : Fin 16) (b : Fin 768) (d : Fin 256) : iblk m c 7 t (ix3 a b d) = (if Attn.Band d b then aB m c a ⟨min (d.val + 768 - b.val) 512, by omega⟩ * (((Real.log 2)⁻¹ : ℝ) : EReal) else ⊥ : EReal) := by
  rw [← entry7 m c]
  blk_ext [iblk, (idx t).2.2.2.2.2.2.2.1]

/-- 128 columns of a block, from column `o` on. -/
theorem ld0 (c : Dev nD) (t : Fin cfg0.N) (o : ℕ) (ho : o + 128 ≤ 1024) (h) (a : Fin 256) (d : Fin 128) :
    View.ld (iblk m c 0 t) (Rect.unit (s := S256x1024) ![0, o] ![256, 128] h) (ix2 a d) = (aQ m c (row t a) ⟨o + d.val, col_lt ho d⟩ * Ideal.ofBits .f32 0x3E000000#32 * Ideal.div 1 (Ideal.log (Ideal.ofBits .f32 0x40000000#32)) : EReal) := by
  pointwise
  exact blk0 m c t a _
@[inherit_doc ld0] theorem ld1 (c : Dev nD) (t : Fin cfg0.N) (o : ℕ) (ho : o + 128 ≤ 1024) (h) (a : Fin 256) (d : Fin 128) :
    View.ld (iblk m c 1 t) (Rect.unit (s := S256x1024) ![0, o] ![256, 128] h) (ix2 a d) = (aK m c (back 2 t a) ⟨o + d.val, col_lt ho d⟩ : EReal) := by
  pointwise
  exact blk1 m c t a _
@[inherit_doc ld0] theorem ld2 (c : Dev nD) (t : Fin cfg0.N) (o : ℕ) (ho : o + 128 ≤ 1024) (h) (a : Fin 256) (d : Fin 128) :
    View.ld (iblk m c 2 t) (Rect.unit (s := S256x1024) ![0, o] ![256, 128] h) (ix2 a d) = (aK m c (back 1 t a) ⟨o + d.val, col_lt ho d⟩ : EReal) := by
  pointwise
  exact blk2 m c t a _
@[inherit_doc ld0] theorem ld3 (c : Dev nD) (t : Fin cfg0.N) (o : ℕ) (ho : o + 128 ≤ 1024) (h) (a : Fin 256) (d : Fin 128) :
    View.ld (iblk m c 3 t) (Rect.unit (s := S256x1024) ![0, o] ![256, 128] h) (ix2 a d) = (aK m c (back 0 t a) ⟨o + d.val, col_lt ho d⟩ : EReal) := by
  pointwise
  exact blk3 m c t a _
@[inherit_doc ld0] theorem ld4 (c : Dev nD) (t : Fin cfg0.N) (o : ℕ) (ho : o + 128 ≤ 1024) (h) (a : Fin 256) (d : Fin 128) :
    View.ld (iblk m c 4 t) (Rect.unit (s := S256x1024) ![0, o] ![256, 128] h) (ix2 a d) = (xV m c (back 2 t a) ⟨o + d.val, col_lt ho d⟩ : EReal) := by
  pointwise
  exact blk4 m c t a _
@[inherit_doc ld0] theorem ld5 (c : Dev nD) (t : Fin cfg0.N) (o : ℕ) (ho : o + 128 ≤ 1024) (h) (a : Fin 256) (d : Fin 128) :
    View.ld (iblk m c 5 t) (Rect.unit (s := S256x1024) ![0, o] ![256, 128] h) (ix2 a d) = (xV m c (back 1 t a) ⟨o + d.val, col_lt ho d⟩ : EReal) := by
  pointwise
  exact blk5 m c t a _
@[inherit_doc ld0] theorem ld6 (c : Dev nD) (t : Fin cfg0.N) (o : ℕ) (ho : o + 128 ≤ 1024) (h) (a : Fin 256) (d : Fin 128) :
    View.ld (iblk m c 6 t) (Rect.unit (s := S256x1024) ![0, o] ![256, 128] h) (ix2 a d) = (xV m c (back 0 t a) ⟨o + d.val, col_lt ho d⟩ : EReal) := by
  pointwise
  exact blk6 m c t a _
@[inherit_doc ld0] theorem ld7 (c : Dev nD) (t : Fin cfg0.N) (n : ℕ) (hn : n < 16) (h) (j : Fin 768) (i : Fin 256) :
    View.ld (iblk m c 7 t) (Rect.unit (s := S16x768x256) ![n, 0, 0] ![1, 768, 256] h) (ix3 0 j i)
      = (if Attn.Band i j then aB m c ⟨n, hn⟩ ⟨min (i.val + 768 - j.val) 512, by omega⟩ * (((Real.log 2)⁻¹ : ℝ) : EReal) else ⊥ : EReal) := by
  pointwise
  exact blk7 m c t _ j i

theorem at3_key {f : Fin 4096 → EReal} (t : Fin cfg0.N) (j : Fin 768) : at3 (fun i => f (back 2 t i)) (fun i => f (back 1 t i)) (fun i => f (back 0 t i)) j = f (key t j) := by
  unfold at3
  have h2 : j.val < 256 → (t.val - 2) * 256 + j.val = (t.val + j.val / 256 - 2) * 256 + j.val % 256 := fun h => by omega
  have h1 : ¬ j.val < 256 → j.val - 256 < 256 → (t.val - 1) * 256 + (j.val - 256) = (t.val + j.val / 256 - 2) * 256 + j.val % 256 := fun h h' => by omega
  have h0 : ¬ j.val < 256 → ¬ j.val - 256 < 256 → (t.val - 0) * 256 + (j.val - 256 - 256) = (t.val + j.val / 256 - 2) * 256 + j.val % 256 := fun h h' => by omega
  split
  · exact congrArg f (Fin.ext (h2 ‹_›))
  · split
    · exact congrArg f (Fin.ext (h1 ‹_› ‹_›))
    · exact congrArg f (Fin.ext (h0 ‹_› ‹_›))

/-- The window's keys and values, 128 columns of them. -/
theorem keys (c : Dev nD) (t : Fin cfg0.N) (o : ℕ) (ho : o + 128 ≤ 1024) (h1 h2 h3) (j : Fin 768) (d : Fin 128) :
    rows3 (View.ld (iblk m c 1 t) (Rect.unit (s := S256x1024) ![0, o] ![256, 128] h1)) (View.ld (iblk m c 2 t) (Rect.unit (s := S256x1024) ![0, o] ![256, 128] h2))
      (View.ld (iblk m c 3 t) (Rect.unit (s := S256x1024) ![0, o] ![256, 128] h3)) (ix2 j d) = aK m c (key t j) ⟨o + d.val, col_lt ho d⟩ := by
  rw [rows3_eq]
  simp only [ld1 m c t o ho, ld2 m c t o ho, ld3 m c t o ho]
  exact at3_key (f := fun i => aK m c i ⟨o + d.val, col_lt ho d⟩) t j
@[inherit_doc keys] theorem values (c : Dev nD) (t : Fin cfg0.N) (o : ℕ) (ho : o + 128 ≤ 1024) (h1 h2 h3) (j : Fin 768) (d : Fin 128) :
    rows3 (View.ld (iblk m c 4 t) (Rect.unit (s := S256x1024) ![0, o] ![256, 128] h1)) (View.ld (iblk m c 5 t) (Rect.unit (s := S256x1024) ![0, o] ![256, 128] h2))
      (View.ld (iblk m c 6 t) (Rect.unit (s := S256x1024) ![0, o] ![256, 128] h3)) (ix2 j d) = xV m c (key t j) ⟨o + d.val, col_lt ho d⟩ := by
  rw [rows3_eq]
  simp only [ld4 m c t o ho, ld5 m c t o ho, ld6 m c t o ho]
  exact at3_key (f := fun i => xV m c i ⟨o + d.val, col_lt ho d⟩) t j

/-- The keys a query of a tile sees, of the tile's window, -/
def Sees (t : Fin cfg0.N) (i : Fin 256) (j : Fin 768) : Prop := Attn.Band i j ∧ 512 ≤ t.val * 256 + j.val
instance (t : Fin cfg0.N) (i : Fin 256) : DecidablePred (Sees t i) := fun j => inferInstanceAs (Decidable (_ ∧ _))
/-- and their scores. -/
def raw (c : Dev nD) (t : Fin cfg0.N) (H : Fin 16) (i : Fin 256) (j : Fin 768) : ℝ :=
  ∑ d : Fin 64, rQ m c (row t i) (Attn.col H d) * (1 / 8) * rK m c (key t j) (Attn.col H d) + rB m c H ⟨min (i.val + 768 - j.val) 512, by omega⟩

/-- A tile's scores of a head, as it should have them. -/
def Good (c : Dev nD) (t : Fin cfg0.N) (H : Fin 16) (s : FVec Ideal S768x256 .f32) : Prop :=
  ∀ j i, s (ix2 j i) = Attn.sc (Sees t i) (fun j => raw m c t H i j * (Real.log 2)⁻¹) j

include hp in
theorem scores_raw (c : Dev nD) (t : Fin cfg0.N) (mine : IVec S1x128 1) (n : ℕ) (hn : n + 64 ≤ 128)
    (hm : ∀ x : Fin 128, mine (ix2 0 x) = if n ≤ x.val ∧ x.val < n + 64 then 1#1 else 0#1)
    (o : ℕ) (ho : o + 128 ≤ 1024) (H : ℕ) (hH : H < 16) (e : H * 64 = o + n) (h0 h1 h2 h3 h7) (j : Fin 768) (i : Fin 256) :
    scores mine (View.ld (iblk m c 1 t) (Rect.unit (s := S256x1024) ![0, o] ![256, 128] h1)) (View.ld (iblk m c 2 t) (Rect.unit (s := S256x1024) ![0, o] ![256, 128] h2))
      (View.ld (iblk m c 3 t) (Rect.unit (s := S256x1024) ![0, o] ![256, 128] h3)) (View.ld (iblk m c 0 t) (Rect.unit (s := S256x1024) ![0, o] ![256, 128] h0))
      (View.ld (iblk m c 7 t) (Rect.unit (s := S16x768x256) ![H, 0, 0] ![1, 768, 256] h7)) (ix2 j i)
      = if Attn.Band i j then ((raw m c t ⟨H, hH⟩ i j * (Real.log 2)⁻¹ : ℝ) : EReal) else ⊥ := by
  have hc : ∀ d : Fin 64, (⟨o + (⟨n + d.val, by omega⟩ : Fin 128).val, col_lt ho _⟩ : Fin 1024) = Attn.col ⟨H, hH⟩ d :=
    fun d => Fin.ext (show o + (n + d.val) = H * 64 + d.val by omega)
  refine scores_val mine n hn hm _ _ _ _ _ j i (fun d => rK m c (key t j) (Attn.col ⟨H, hH⟩ d)) (fun d => rQ m c (row t i) (Attn.col ⟨H, hH⟩ d)) (fun d => ?_) (fun d => ?_)
    (rB m c ⟨H, hH⟩ ⟨min (i.val + 768 - j.val) 512, by omega⟩) (Attn.Band i j) ?_
  · rw [keys m c t o ho, hc, aK_eq m hp]
  · rw [ld0 m c t o ho, hc, aQ_eq m hp, Attn.c_8th, Attn.c_log2e, ← EReal.coe_mul, ← EReal.coe_mul]
  · rw [ld7 m c t H hH, aB_eq m hp, ← EReal.coe_mul]

include hp in
/-- From the third tile on every key of the window is there, -/
theorem goodB (c : Dev nD) (t : Fin cfg0.N) (ht : 2 ≤ t.val) (mine : IVec S1x128 1) (n : ℕ) (hn : n + 64 ≤ 128)
    (hm : ∀ x : Fin 128, mine (ix2 0 x) = if n ≤ x.val ∧ x.val < n + 64 then 1#1 else 0#1)
    (o : ℕ) (ho : o + 128 ≤ 1024) (H : ℕ) (hH : H < 16) (e : H * 64 = o + n) (h0 h1 h2 h3 h7) : Good m c t ⟨H, hH⟩
    (scores mine (View.ld (iblk m c 1 t) (Rect.unit (s := S256x1024) ![0, o] ![256, 128] h1)) (View.ld (iblk m c 2 t) (Rect.unit (s := S256x1024) ![0, o] ![256, 128] h2))
      (View.ld (iblk m c 3 t) (Rect.unit (s := S256x1024) ![0, o] ![256, 128] h3)) (View.ld (iblk m c 0 t) (Rect.unit (s := S256x1024) ![0, o] ![256, 128] h0))
      (View.ld (iblk m c 7 t) (Rect.unit (s := S16x768x256) ![H, 0, 0] ![1, 768, 256] h7))) := fun j i =>
  (scores_raw m hp c t mine n hn hm o ho H hH e h0 h1 h2 h3 h7 j i).trans (if_congr ⟨fun h => ⟨h, by omega⟩, fun h => h.1⟩ rfl rfl)

include hp in
/-- and in the first two the keys before the first are hidden. -/
theorem goodA (c : Dev nD) (t : Fin cfg0.N) (ht : t.val < 2) (mine : IVec S1x128 1) (n : ℕ) (hn : n + 64 ≤ 128)
    (hm : ∀ x : Fin 128, mine (ix2 0 x) = if n ≤ x.val ∧ x.val < n + 64 then 1#1 else 0#1)
    (o : ℕ) (ho : o + 128 ≤ 1024) (H : ℕ) (hH : H < 16) (e : H * 64 = o + n) (h0 h1 h2 h3 h7) : Good m c t ⟨H, hH⟩
    (hidden (k0_pay7 (BitVec.ofNat 32 (grid0.coords t 1).val)) (scores mine (View.ld (iblk m c 1 t) (Rect.unit (s := S256x1024) ![0, o] ![256, 128] h1))
      (View.ld (iblk m c 2 t) (Rect.unit (s := S256x1024) ![0, o] ![256, 128] h2)) (View.ld (iblk m c 3 t) (Rect.unit (s := S256x1024) ![0, o] ![256, 128] h3))
      (View.ld (iblk m c 0 t) (Rect.unit (s := S256x1024) ![0, o] ![256, 128] h0)) (View.ld (iblk m c 7 t) (Rect.unit (s := S16x768x256) ![H, 0, 0] ![1, 768, 256] h7)))) := fun j i => by
  have hv : k0_pay7 (BitVec.ofNat 32 (grid0.coords t 1).val) (ix2 j 0) = if 512 ≤ t.val * 256 + j.val then 1#1 else 0#1 := by
    rw [tile t]
    unfold k0_pay7
    pointwise
    exact Attn.first_keys ⟨t.val, ht⟩ j
  rw [hidden_eq, hv, scores_raw m hp c t mine n hn hm o ho H hH e h0 h1 h2 h3 h7 j i]
  unfold Attn.sc
  by_cases g : 512 ≤ t.val * 256 + j.val
  · rw [if_pos g]
    refine (if_pos rfl).trans ?_
    exact if_congr ⟨fun h => ⟨h, g⟩, fun h => h.1⟩ rfl rfl
  · rw [if_neg g, if_neg fun h : Sees t i j => g h.2]
    rfl

theorem sees (t : Fin cfg0.N) (i : Fin 256) : ∃ j, Sees t i j :=
  ⟨⟨i.val / 64 * 64 + 512, by omega⟩, ⟨by show _ ≤ (i.val / 64 * 64 + 512) / 64; omega, by show (i.val / 64 * 64 + 512) / 64 ≤ _; omega⟩, by show 512 ≤ _ + (i.val / 64 * 64 + 512); omega⟩

section Window

variable (c : Dev nD) (t : Fin cfg0.N) (H : Fin 16) (i : Fin 256)

theorem w_out (P : Fin 768) (h : Sees t i P) : i.val / 64 * 64 ≤ P.val ∧ P.val < i.val / 64 * 64 + 576 := by
  obtain ⟨⟨a, b⟩, -⟩ := h
  omega
theorem w_vis (p : Fin 576) : Sees t i ⟨i.val / 64 * 64 + p.val, by omega⟩ ↔ Attn.Vis (row t i) p := by
  show ((_ ≤ (i.val / 64 * 64 + p.val) / 64 ∧ (i.val / 64 * 64 + p.val) / 64 ≤ _) ∧ 512 ≤ t.val * 256 + (i.val / 64 * 64 + p.val)) ↔ 512 ≤ (t.val * 256 + i.val) / 64 * 64 + p.val
  omega
theorem w_key (p : Fin 576) (h : Attn.Vis (row t i) p) : key t ⟨i.val / 64 * 64 + p.val, by omega⟩ = Attn.pos (row t i) p := by
  have h : 512 ≤ (t.val * 256 + i.val) / 64 * 64 + p.val := h
  refine Fin.ext (show (t.val + (i.val / 64 * 64 + p.val) / 256 - 2) * 256 + (i.val / 64 * 64 + p.val) % 256 = (t.val * 256 + i.val) / 64 * 64 + p.val - 512 from ?_)
  omega
theorem w_raw (p : Fin 576) (h : Attn.Vis (row t i) p) : raw m c t H i ⟨i.val / 64 * 64 + p.val, by omega⟩ = Attn.score (rQ m c) (rK m c) (rB m c) H (row t i) p := by
  unfold raw Attn.score
  rw [w_key t i p h]
  exact congrArg (fun e : Fin 513 => _ + rB m c H e) (Fin.ext (show min (i.val + 768 - (i.val / 64 * 64 + p.val)) 512 = min ((t.val * 256 + i.val) % 64 + 768 - p.val) 512 by omega))

end Window

/-- The layer's result and the logarithms of its sums. -/
abbrev Att (c : Dev nD) : Fin 4096 → Fin 1024 → EReal := Attn.att (rQ m c) (rK m c) (rB m c) (xV m c)
@[inherit_doc Att] abbrev Lse (c : Dev nD) : Fin 16 → Fin 4096 → EReal := Attn.logsum (rQ m c) (rK m c) (rB m c)

/-- One head's columns of a tile, -/
theorem head_out (c : Dev nD) (t : Fin cfg0.N) (H : ℕ) (hH : H < 16) (s : FVec Ideal S768x256 .f32) (hs : Good m c t ⟨H, hH⟩ s) (n : ℕ) (hn : n + 64 ≤ 128)
    (o : ℕ) (ho : o + 128 ≤ 1024) (e : H * 64 = o + n) (hsl : S128x768.Slices ![n, 0] S64x768) (h4 h5 h6) (d : Fin 64) (i : Fin 256) :
    outp (sums ![n, 0] hsl s (View.ld (iblk m c 4 t) (Rect.unit (s := S256x1024) ![0, o] ![256, 128] h4)) (View.ld (iblk m c 5 t) (Rect.unit (s := S256x1024) ![0, o] ![256, 128] h5))
      (View.ld (iblk m c 6 t) (Rect.unit (s := S256x1024) ![0, o] ![256, 128] h6))) (ix2 d i) = Att m c (row t i) (Attn.col ⟨H, hH⟩ d) := by
  rw [outp_val (Sees t i) (raw m c t ⟨H, hH⟩ i) s i (fun j => hs j i) (sees t i) ![n, 0] hsl _ _ _ n hn rfl d]
  simp only [values m c t o ho]
  rw [Attn.soft_window (i.val / 64 * 64) (by omega) (Attn.Vis (row t i)) (Attn.score (rQ m c) (rK m c) (rB m c) ⟨H, hH⟩ (row t i)) (Sees t i) (raw m c t ⟨H, hH⟩ i)
    (w_out t i) (w_vis t i) (w_raw m c t ⟨H, hH⟩ i)]
  have eh : (⟨(Attn.col ⟨H, hH⟩ d).val / 64, by have := (Attn.col ⟨H, hH⟩ d).isLt; omega⟩ : Fin 16) = ⟨H, hH⟩ := Fin.ext (show (H * 64 + d.val) / 64 = H by omega)
  unfold Att Attn.att
  rw [eh]
  refine Finset.sum_congr rfl fun p _ => ?_
  by_cases h : Attn.Vis (row t i) p
  · rw [w_key t i p h]
    exact congrArg (fun a : Fin 1024 => _ * xV m c (Attn.pos (row t i) p) a) (Fin.ext (show o + (n + d.val) = H * 64 + d.val by omega))
  · rw [show Attn.w (Attn.Vis (row t i)) (Attn.score (rQ m c) (rK m c) (rB m c) ⟨H, hH⟩ (row t i)) p = 0 from if_neg h, zero_div, EReal.coe_zero, zero_mul, zero_mul]

/-- and the logarithms of its sums. -/
theorem head_lse (c : Dev nD) (t : Fin cfg0.N) (H : ℕ) (hH : H < 16) (s : FVec Ideal S768x256 .f32) (hs : Good m c t ⟨H, hH⟩ s) (n : ℕ) (hn : n + 64 ≤ 128)
    (hsl : S128x768.Slices ![n, 0] S64x768) (va vb vc : FVec Ideal S256x128 .bf16) (i : Fin 256) :
    lsep (tops s) (sums ![n, 0] hsl s va vb vc) (ix2 0 i) = Lse m c ⟨H, hH⟩ (row t i) := by
  rw [lsep_val (Sees t i) (raw m c t ⟨H, hH⟩ i) s i (fun j => hs j i) (sees t i) ![n, 0] hsl _ _ _ n hn rfl,
    Attn.Z_window (i.val / 64 * 64) (by omega) (Attn.Vis (row t i)) (Attn.score (rQ m c) (rK m c) (rB m c) ⟨H, hH⟩ (row t i)) (Sees t i) (raw m c t ⟨H, hH⟩ i)
    (w_out t i) (w_vis t i) (w_raw m c t ⟨H, hH⟩ i)]
  rfl

/-- Two heads' columns. -/
theorem pair_out (c : Dev nD) (t : Fin cfg0.N) (p : ℕ) (hp8 : 2 * p + 1 < 16) (o : ℕ) (ho : o + 128 ≤ 1024) (e : o = 128 * p) (s0 s1 : FVec Ideal S768x256 .f32)
    (hs0 : Good m c t ⟨2 * p, by omega⟩ s0) (hs1 : Good m c t ⟨2 * p + 1, hp8⟩ s1) (h4 h5 h6) (a : Fin 256) (x : Fin 128) :
    two (outp (sums ![0, 0] slices_S128x768_o0_0_S64x768 s0 (View.ld (iblk m c 4 t) (Rect.unit (s := S256x1024) ![0, o] ![256, 128] h4)) (View.ld (iblk m c 5 t) (Rect.unit (s := S256x1024) ![0, o] ![256, 128] h5))
        (View.ld (iblk m c 6 t) (Rect.unit (s := S256x1024) ![0, o] ![256, 128] h6))))
      (outp (sums ![64, 0] slices_S128x768_o64_0_S64x768 s1 (View.ld (iblk m c 4 t) (Rect.unit (s := S256x1024) ![0, o] ![256, 128] h4)) (View.ld (iblk m c 5 t) (Rect.unit (s := S256x1024) ![0, o] ![256, 128] h5))
        (View.ld (iblk m c 6 t) (Rect.unit (s := S256x1024) ![0, o] ![256, 128] h6)))) (ix2 a x) = Att m c (row t a) ⟨o + x.val, col_lt ho x⟩ := by
  by_cases h : x.val < 64
  · rw [two_lo _ _ a x h, head_out m c t (2 * p) (by omega) s0 hs0 0 (by norm_num) o ho (by omega)]
    exact congrArg (Att m c (row t a)) (Fin.ext (show 2 * p * 64 + x.val = o + x.val by omega))
  · rw [two_hi _ _ a x h, head_out m c t (2 * p + 1) hp8 s1 hs1 64 (by norm_num) o ho (by omega)]
    exact congrArg (Att m c (row t a)) (Fin.ext (show (2 * p + 1) * 64 + (x.val - 64) = o + x.val by omega))

theorem evenA (x : Fin 128) : k0_pay8 (ix2 0 x) = if 0 ≤ x.val ∧ x.val < 0 + 64 then 1#1 else 0#1 := by
  refine Eq.trans ?_ (Attn.lo_lanes x)
  unfold k0_pay8
  pointwise
theorem oddA (x : Fin 128) : xori k0_pay8 (constantI S1x128 1 1#1) (ix2 0 x) = if 64 ≤ x.val ∧ x.val < 64 + 64 then 1#1 else 0#1 := by
  refine Eq.trans ?_ (Attn.hi_lanes x)
  unfold k0_pay8
  pointwise

/-- The rows of the second result. -/
theorem rows16 (r0 r1 r2 r3 r4 r5 r6 r7 r8 r9 r10 r11 r12 r13 r14 r15 : FVec Ideal S1x256 .f32) (X : Fin 16 → Fin 256 → EReal)
    (h0 : ∀ i : Fin 256, r0 (ix2 0 i) = X 0 i)
    (h1 : ∀ i : Fin 256, r1 (ix2 0 i) = X 1 i)
    (h2 : ∀ i : Fin 256, r2 (ix2 0 i) = X 2 i)
    (h3 : ∀ i : Fin 256, r3 (ix2 0 i) = X 3 i)
    (h4 : ∀ i : Fin 256, r4 (ix2 0 i) = X 4 i)
    (h5 : ∀ i : Fin 256, r5 (ix2 0 i) = X 5 i)
    (h6 : ∀ i : Fin 256, r6 (ix2 0 i) = X 6 i)
    (h7 : ∀ i : Fin 256, r7 (ix2 0 i) = X 7 i)
    (h8 : ∀ i : Fin 256, r8 (ix2 0 i) = X 8 i)
    (h9 : ∀ i : Fin 256, r9 (ix2 0 i) = X 9 i)
    (h10 : ∀ i : Fin 256, r10 (ix2 0 i) = X 10 i)
    (h11 : ∀ i : Fin 256, r11 (ix2 0 i) = X 11 i)
    (h12 : ∀ i : Fin 256, r12 (ix2 0 i) = X 12 i)
    (h13 : ∀ i : Fin 256, r13 (ix2 0 i) = X 13 i)
    (h14 : ∀ i : Fin 256, r14 (ix2 0 i) = X 14 i)
    (h15 : ∀ i : Fin 256, r15 (ix2 0 i) = X 15 i) (h : Fin 16) (i : Fin 256) :
    k0_pay2 r0 r1 r2 r3 r4 r5 r6 r7 r8 r9 r10 r11 r12 r13 r14 r15 (ix2 h i) = X h i := by
  unfold k0_pay2
  concat_tiles y z
  · obtain rfl : h = 0 := Fin.ext z
    idx_vars y
    exact (congrArg₂ (fun a b => r0 (ix2 a b)) (Subsingleton.elim y0 0) (Fin.ext z1)).trans (h0 i)
  · obtain rfl : h = 1 := Fin.ext z
    idx_vars y
    exact (congrArg₂ (fun a b => r1 (ix2 a b)) (Subsingleton.elim y0 0) (Fin.ext z1)).trans (h1 i)
  · obtain rfl : h = 2 := Fin.ext z
    idx_vars y
    exact (congrArg₂ (fun a b => r2 (ix2 a b)) (Subsingleton.elim y0 0) (Fin.ext z1)).trans (h2 i)
  · obtain rfl : h = 3 := Fin.ext z
    idx_vars y
    exact (congrArg₂ (fun a b => r3 (ix2 a b)) (Subsingleton.elim y0 0) (Fin.ext z1)).trans (h3 i)
  · obtain rfl : h = 4 := Fin.ext z
    idx_vars y
    exact (congrArg₂ (fun a b => r4 (ix2 a b)) (Subsingleton.elim y0 0) (Fin.ext z1)).trans (h4 i)
  · obtain rfl : h = 5 := Fin.ext z
    idx_vars y
    exact (congrArg₂ (fun a b => r5 (ix2 a b)) (Subsingleton.elim y0 0) (Fin.ext z1)).trans (h5 i)
  · obtain rfl : h = 6 := Fin.ext z
    idx_vars y
    exact (congrArg₂ (fun a b => r6 (ix2 a b)) (Subsingleton.elim y0 0) (Fin.ext z1)).trans (h6 i)
  · obtain rfl : h = 7 := Fin.ext z
    idx_vars y
    exact (congrArg₂ (fun a b => r7 (ix2 a b)) (Subsingleton.elim y0 0) (Fin.ext z1)).trans (h7 i)
  · obtain rfl : h = 8 := Fin.ext z
    idx_vars y
    exact (congrArg₂ (fun a b => r8 (ix2 a b)) (Subsingleton.elim y0 0) (Fin.ext z1)).trans (h8 i)
  · obtain rfl : h = 9 := Fin.ext z
    idx_vars y
    exact (congrArg₂ (fun a b => r9 (ix2 a b)) (Subsingleton.elim y0 0) (Fin.ext z1)).trans (h9 i)
  · obtain rfl : h = 10 := Fin.ext z
    idx_vars y
    exact (congrArg₂ (fun a b => r10 (ix2 a b)) (Subsingleton.elim y0 0) (Fin.ext z1)).trans (h10 i)
  · obtain rfl : h = 11 := Fin.ext z
    idx_vars y
    exact (congrArg₂ (fun a b => r11 (ix2 a b)) (Subsingleton.elim y0 0) (Fin.ext z1)).trans (h11 i)
  · obtain rfl : h = 12 := Fin.ext z
    idx_vars y
    exact (congrArg₂ (fun a b => r12 (ix2 a b)) (Subsingleton.elim y0 0) (Fin.ext z1)).trans (h12 i)
  · obtain rfl : h = 13 := Fin.ext z
    idx_vars y
    exact (congrArg₂ (fun a b => r13 (ix2 a b)) (Subsingleton.elim y0 0) (Fin.ext z1)).trans (h13 i)
  · obtain rfl : h = 14 := Fin.ext z
    idx_vars y
    exact (congrArg₂ (fun a b => r14 (ix2 a b)) (Subsingleton.elim y0 0) (Fin.ext z1)).trans (h14 i)
  · obtain rfl : h = 15 := Fin.ext z
    idx_vars y
    exact (congrArg₂ (fun a b => r15 (ix2 a b)) (Subsingleton.elim y0 0) (Fin.ext z1)).trans (h15 i)

end Cert.Kernel8Ideal.Val
end
-- ==== Proof.Attn.Kernel.lean ====
module

public import proofs.«01_k».proof.Proof.Gen.Kernel8Ideal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
public import proofs.«01_k».proof.Proof.Attn.Tile

@[expose] public section

set_option maxRecDepth 16384

noncomputable section

namespace Cert.Kernel8Ideal.Val

open Idealize.ShloMosaic Idealize.ShloMosaic.TcCoe Idealize.SL.Sem
open Cert.Kernel8Ideal Cert.Kernel8Ideal.Gen

variable (m : (ℓ : Loc nD τ sig) → Buf (Elt Ideal) ℓ)

variable (hp : Reals m)

include hp in
/-- The blocks of the results at a point. -/
theorem out8A (c : Dev nD) (t : Fin cfg0.N) (h : t.val < 2) (h' : ¬ 2 ≤ t.val) (a : Fin 256) (e : Fin 1024) :
    (outsAt0 m c t.val t.isLt).1 (ix2 a e) = Att m c (row t a) e := by
  rw [outsAt0_A m c t h h']
  frame_out
  canon_tiles x z
  · idx_vars x
    obtain rfl : x0 = a := Fin.ext z0.symm
    obtain ⟨e, he⟩ := e
    obtain rfl : e = 896 + x1.val := z1
    exact pair_out m c t 7 (by norm_num) 896 (by norm_num) (by norm_num) _ _ (goodA m hp c t h _ 0 (by norm_num) evenA 896 (by norm_num) 14 (by norm_num) (by norm_num) _ _ _ _ _) (goodA m hp c t h _ 64 (by norm_num) oddA 896 (by norm_num) 15 (by norm_num) (by norm_num) _ _ _ _ _) _ _ _ x0 x1
  · idx_vars x
    obtain rfl : x0 = a := Fin.ext z0.symm
    obtain ⟨e, he⟩ := e
    obtain rfl : e = 768 + x1.val := z1
    exact pair_out m c t 6 (by norm_num) 768 (by norm_num) (by norm_num) _ _ (goodA m hp c t h _ 0 (by norm_num) evenA 768 (by norm_num) 12 (by norm_num) (by norm_num) _ _ _ _ _) (goodA m hp c t h _ 64 (by norm_num) oddA 768 (by norm_num) 13 (by norm_num) (by norm_num) _ _ _ _ _) _ _ _ x0 x1
  · idx_vars x
    obtain rfl : x0 = a := Fin.ext z0.symm
    obtain ⟨e, he⟩ := e
    obtain rfl : e = 640 + x1.val := z1
    exact pair_out m c t 5 (by norm_num) 640 (by norm_num) (by norm_num) _ _ (goodA m hp c t h _ 0 (by norm_num) evenA 640 (by norm_num) 10 (by norm_num) (by norm_num) _ _ _ _ _) (goodA m hp c t h _ 64 (by norm_num) oddA 640 (by norm_num) 11 (by norm_num) (by norm_num) _ _ _ _ _) _ _ _ x0 x1
  · idx_vars x
    obtain rfl : x0 = a := Fin.ext z0.symm
    obtain ⟨e, he⟩ := e
    obtain rfl : e = 512 + x1.val := z1
    exact pair_out m c t 4 (by norm_num) 512 (by norm_num) (by norm_num) _ _ (goodA m hp c t h _ 0 (by norm_num) evenA 512 (by norm_num) 8 (by norm_num) (by norm_num) _ _ _ _ _) (goodA m hp c t h _ 64 (by norm_num) oddA 512 (by norm_num) 9 (by norm_num) (by norm_num) _ _ _ _ _) _ _ _ x0 x1
  · idx_vars x
    obtain rfl : x0 = a := Fin.ext z0.symm
    obtain ⟨e, he⟩ := e
    obtain rfl : e = 384 + x1.val := z1
    exact pair_out m c t 3 (by norm_num) 384 (by norm_num) (by norm_num) _ _ (goodA m hp c t h _ 0 (by norm_num) evenA 384 (by norm_num) 6 (by norm_num) (by norm_num) _ _ _ _ _) (goodA m hp c t h _ 64 (by norm_num) oddA 384 (by norm_num) 7 (by norm_num) (by norm_num) _ _ _ _ _) _ _ _ x0 x1
  · idx_vars x
    obtain rfl : x0 = a := Fin.ext z0.symm
    obtain ⟨e, he⟩ := e
    obtain rfl : e = 256 + x1.val := z1
    exact pair_out m c t 2 (by norm_num) 256 (by norm_num) (by norm_num) _ _ (goodA m hp c t h _ 0 (by norm_num) evenA 256 (by norm_num) 4 (by norm_num) (by norm_num) _ _ _ _ _) (goodA m hp c t h _ 64 (by norm_num) oddA 256 (by norm_num) 5 (by norm_num) (by norm_num) _ _ _ _ _) _ _ _ x0 x1
  · idx_vars x
    obtain rfl : x0 = a := Fin.ext z0.symm
    obtain ⟨e, he⟩ := e
    obtain rfl : e = 128 + x1.val := z1
    exact pair_out m c t 1 (by norm_num) 128 (by norm_num) (by norm_num) _ _ (goodA m hp c t h _ 0 (by norm_num) evenA 128 (by norm_num) 2 (by norm_num) (by norm_num) _ _ _ _ _) (goodA m hp c t h _ 64 (by norm_num) oddA 128 (by norm_num) 3 (by norm_num) (by norm_num) _ _ _ _ _) _ _ _ x0 x1
  · idx_vars x
    obtain rfl : x0 = a := Fin.ext z0.symm
    obtain ⟨e, he⟩ := e
    obtain rfl : e = 0 + x1.val := (z1.trans (Nat.zero_add _).symm)
    exact pair_out m c t 0 (by norm_num) 0 (by norm_num) (by norm_num) _ _ (goodA m hp c t h _ 0 (by norm_num) evenA 0 (by norm_num) 0 (by norm_num) (by norm_num) _ _ _ _ _) (goodA m hp c t h _ 64 (by norm_num) oddA 0 (by norm_num) 1 (by norm_num) (by norm_num) _ _ _ _ _) _ _ _ x0 x1
set_option maxHeartbeats 2000000 in
include hp in
@[inherit_doc out8A] theorem out9A (c : Dev nD) (t : Fin cfg0.N) (h : t.val < 2) (h' : ¬ 2 ≤ t.val) (H : Fin 16) (i : Fin 256) :
    (outsAt0 m c t.val t.isLt).2 (ix2 H i) = Lse m c H (row t i) := by
  rw [outsAt0_A m c t h h']
  frame_out
  exact rows16 _ _ _ _ _ _ _ _ _ _ _ _ _ _ _ _ (fun H i => Lse m c H (row t i))
    (fun i => head_lse m c t 0 (by norm_num) _ (goodA m hp c t h _ 0 (by norm_num) evenA 0 (by norm_num) 0 (by norm_num) (by norm_num) _ _ _ _ _) 0 (by norm_num) slices_S128x768_o0_0_S64x768 _ _ _ i)
    (fun i => head_lse m c t 1 (by norm_num) _ (goodA m hp c t h _ 64 (by norm_num) oddA 0 (by norm_num) 1 (by norm_num) (by norm_num) _ _ _ _ _) 64 (by norm_num) slices_S128x768_o64_0_S64x768 _ _ _ i)
    (fun i => head_lse m c t 2 (by norm_num) _ (goodA m hp c t h _ 0 (by norm_num) evenA 128 (by norm_num) 2 (by norm_num) (by norm_num) _ _ _ _ _) 0 (by norm_num) slices_S128x768_o0_0_S64x768 _ _ _ i)
    (fun i => head_lse m c t 3 (by norm_num) _ (goodA m hp c t h _ 64 (by norm_num) oddA 128 (by norm_num) 3 (by norm_num) (by norm_num) _ _ _ _ _) 64 (by norm_num) slices_S128x768_o64_0_S64x768 _ _ _ i)
    (fun i => head_lse m c t 4 (by norm_num) _ (goodA m hp c t h _ 0 (by norm_num) evenA 256 (by norm_num) 4 (by norm_num) (by norm_num) _ _ _ _ _) 0 (by norm_num) slices_S128x768_o0_0_S64x768 _ _ _ i)
    (fun i => head_lse m c t 5 (by norm_num) _ (goodA m hp c t h _ 64 (by norm_num) oddA 256 (by norm_num) 5 (by norm_num) (by norm_num) _ _ _ _ _) 64 (by norm_num) slices_S128x768_o64_0_S64x768 _ _ _ i)
    (fun i => head_lse m c t 6 (by norm_num) _ (goodA m hp c t h _ 0 (by norm_num) evenA 384 (by norm_num) 6 (by norm_num) (by norm_num) _ _ _ _ _) 0 (by norm_num) slices_S128x768_o0_0_S64x768 _ _ _ i)
    (fun i => head_lse m c t 7 (by norm_num) _ (goodA m hp c t h _ 64 (by norm_num) oddA 384 (by norm_num) 7 (by norm_num) (by norm_num) _ _ _ _ _) 64 (by norm_num) slices_S128x768_o64_0_S64x768 _ _ _ i)
    (fun i => head_lse m c t 8 (by norm_num) _ (goodA m hp c t h _ 0 (by norm_num) evenA 512 (by norm_num) 8 (by norm_num) (by norm_num) _ _ _ _ _) 0 (by norm_num) slices_S128x768_o0_0_S64x768 _ _ _ i)
    (fun i => head_lse m c t 9 (by norm_num) _ (goodA m hp c t h _ 64 (by norm_num) oddA 512 (by norm_num) 9 (by norm_num) (by norm_num) _ _ _ _ _) 64 (by norm_num) slices_S128x768_o64_0_S64x768 _ _ _ i)
    (fun i => head_lse m c t 10 (by norm_num) _ (goodA m hp c t h _ 0 (by norm_num) evenA 640 (by norm_num) 10 (by norm_num) (by norm_num) _ _ _ _ _) 0 (by norm_num) slices_S128x768_o0_0_S64x768 _ _ _ i)
    (fun i => head_lse m c t 11 (by norm_num) _ (goodA m hp c t h _ 64 (by norm_num) oddA 640 (by norm_num) 11 (by norm_num) (by norm_num) _ _ _ _ _) 64 (by norm_num) slices_S128x768_o64_0_S64x768 _ _ _ i)
    (fun i => head_lse m c t 12 (by norm_num) _ (goodA m hp c t h _ 0 (by norm_num) evenA 768 (by norm_num) 12 (by norm_num) (by norm_num) _ _ _ _ _) 0 (by norm_num) slices_S128x768_o0_0_S64x768 _ _ _ i)
    (fun i => head_lse m c t 13 (by norm_num) _ (goodA m hp c t h _ 64 (by norm_num) oddA 768 (by norm_num) 13 (by norm_num) (by norm_num) _ _ _ _ _) 64 (by norm_num) slices_S128x768_o64_0_S64x768 _ _ _ i)
    (fun i => head_lse m c t 14 (by norm_num) _ (goodA m hp c t h _ 0 (by norm_num) evenA 896 (by norm_num) 14 (by norm_num) (by norm_num) _ _ _ _ _) 0 (by norm_num) slices_S128x768_o0_0_S64x768 _ _ _ i)
    (fun i => head_lse m c t 15 (by norm_num) _ (goodA m hp c t h _ 64 (by norm_num) oddA 896 (by norm_num) 15 (by norm_num) (by norm_num) _ _ _ _ _) 64 (by norm_num) slices_S128x768_o64_0_S64x768 _ _ _ i) H i
include hp in
@[inherit_doc out8A] theorem out8B (c : Dev nD) (t : Fin cfg0.N) (h : ¬ t.val < 2) (h' : 2 ≤ t.val) (a : Fin 256) (e : Fin 1024) :
    (outsAt0 m c t.val t.isLt).1 (ix2 a e) = Att m c (row t a) e := by
  rw [outsAt0_B m c t h h']
  frame_out
  canon_tiles x z
  · idx_vars x
    obtain rfl : x0 = a := Fin.ext z0.symm
    obtain ⟨e, he⟩ := e
    obtain rfl : e = 896 + x1.val := z1
    exact pair_out m c t 7 (by norm_num) 896 (by norm_num) (by norm_num) _ _ (goodB m hp c t h' _ 0 (by norm_num) evenA 896 (by norm_num) 14 (by norm_num) (by norm_num) _ _ _ _ _) (goodB m hp c t h' _ 64 (by norm_num) oddA 896 (by norm_num) 15 (by norm_num) (by norm_num) _ _ _ _ _) _ _ _ x0 x1
  · idx_vars x
    obtain rfl : x0 = a := Fin.ext z0.symm
    obtain ⟨e, he⟩ := e
    obtain rfl : e = 768 + x1.val := z1
    exact pair_out m c t 6 (by norm_num) 768 (by norm_num) (by norm_num) _ _ (goodB m hp c t h' _ 0 (by norm_num) evenA 768 (by norm_num) 12 (by norm_num) (by norm_num) _ _ _ _ _) (goodB m hp c t h' _ 64 (by norm_num) oddA 768 (by norm_num) 13 (by norm_num) (by norm_num) _ _ _ _ _) _ _ _ x0 x1
  · idx_vars x
    obtain rfl : x0 = a := Fin.ext z0.symm
    obtain ⟨e, he⟩ := e
    obtain rfl : e = 640 + x1.val := z1
    exact pair_out m c t 5 (by norm_num) 640 (by norm_num) (by norm_num) _ _ (goodB m hp c t h' _ 0 (by norm_num) evenA 640 (by norm_num) 10 (by norm_num) (by norm_num) _ _ _ _ _) (goodB m hp c t h' _ 64 (by norm_num) oddA 640 (by norm_num) 11 (by norm_num) (by norm_num) _ _ _ _ _) _ _ _ x0 x1
  · idx_vars x
    obtain rfl : x0 = a := Fin.ext z0.symm
    obtain ⟨e, he⟩ := e
    obtain rfl : e = 512 + x1.val := z1
    exact pair_out m c t 4 (by norm_num) 512 (by norm_num) (by norm_num) _ _ (goodB m hp c t h' _ 0 (by norm_num) evenA 512 (by norm_num) 8 (by norm_num) (by norm_num) _ _ _ _ _) (goodB m hp c t h' _ 64 (by norm_num) oddA 512 (by norm_num) 9 (by norm_num) (by norm_num) _ _ _ _ _) _ _ _ x0 x1
  · idx_vars x
    obtain rfl : x0 = a := Fin.ext z0.symm
    obtain ⟨e, he⟩ := e
    obtain rfl : e = 384 + x1.val := z1
    exact pair_out m c t 3 (by norm_num) 384 (by norm_num) (by norm_num) _ _ (goodB m hp c t h' _ 0 (by norm_num) evenA 384 (by norm_num) 6 (by norm_num) (by norm_num) _ _ _ _ _) (goodB m hp c t h' _ 64 (by norm_num) oddA 384 (by norm_num) 7 (by norm_num) (by norm_num) _ _ _ _ _) _ _ _ x0 x1
  · idx_vars x
    obtain rfl : x0 = a := Fin.ext z0.symm
    obtain ⟨e, he⟩ := e
    obtain rfl : e = 256 + x1.val := z1
    exact pair_out m c t 2 (by norm_num) 256 (by norm_num) (by norm_num) _ _ (goodB m hp c t h' _ 0 (by norm_num) evenA 256 (by norm_num) 4 (by norm_num) (by norm_num) _ _ _ _ _) (goodB m hp c t h' _ 64 (by norm_num) oddA 256 (by norm_num) 5 (by norm_num) (by norm_num) _ _ _ _ _) _ _ _ x0 x1
  · idx_vars x
    obtain rfl : x0 = a := Fin.ext z0.symm
    obtain ⟨e, he⟩ := e
    obtain rfl : e = 128 + x1.val := z1
    exact pair_out m c t 1 (by norm_num) 128 (by norm_num) (by norm_num) _ _ (goodB m hp c t h' _ 0 (by norm_num) evenA 128 (by norm_num) 2 (by norm_num) (by norm_num) _ _ _ _ _) (goodB m hp c t h' _ 64 (by norm_num) oddA 128 (by norm_num) 3 (by norm_num) (by norm_num) _ _ _ _ _) _ _ _ x0 x1
  · idx_vars x
    obtain rfl : x0 = a := Fin.ext z0.symm
    obtain ⟨e, he⟩ := e
    obtain rfl : e = 0 + x1.val := (z1.trans (Nat.zero_add _).symm)
    exact pair_out m c t 0 (by norm_num) 0 (by norm_num) (by norm_num) _ _ (goodB m hp c t h' _ 0 (by norm_num) evenA 0 (by norm_num) 0 (by norm_num) (by norm_num) _ _ _ _ _) (goodB m hp c t h' _ 64 (by norm_num) oddA 0 (by norm_num) 1 (by norm_num) (by norm_num) _ _ _ _ _) _ _ _ x0 x1
set_option maxHeartbeats 2000000 in
include hp in
@[inherit_doc out8A] theorem out9B (c : Dev nD) (t : Fin cfg0.N) (h : ¬ t.val < 2) (h' : 2 ≤ t.val) (H : Fin 16) (i : Fin 256) :
    (outsAt0 m c t.val t.isLt).2 (ix2 H i) = Lse m c H (row t i) := by
  rw [outsAt0_B m c t h h']
  frame_out
  exact rows16 _ _ _ _ _ _ _ _ _ _ _ _ _ _ _ _ (fun H i => Lse m c H (row t i))
    (fun i => head_lse m c t 0 (by norm_num) _ (goodB m hp c t h' _ 0 (by norm_num) evenA 0 (by norm_num) 0 (by norm_num) (by norm_num) _ _ _ _ _) 0 (by norm_num) slices_S128x768_o0_0_S64x768 _ _ _ i)
    (fun i => head_lse m c t 1 (by norm_num) _ (goodB m hp c t h' _ 64 (by norm_num) oddA 0 (by norm_num) 1 (by norm_num) (by norm_num) _ _ _ _ _) 64 (by norm_num) slices_S128x768_o64_0_S64x768 _ _ _ i)
    (fun i => head_lse m c t 2 (by norm_num) _ (goodB m hp c t h' _ 0 (by norm_num) evenA 128 (by norm_num) 2 (by norm_num) (by norm_num) _ _ _ _ _) 0 (by norm_num) slices_S128x768_o0_0_S64x768 _ _ _ i)
    (fun i => head_lse m c t 3 (by norm_num) _ (goodB m hp c t h' _ 64 (by norm_num) oddA 128 (by norm_num) 3 (by norm_num) (by norm_num) _ _ _ _ _) 64 (by norm_num) slices_S128x768_o64_0_S64x768 _ _ _ i)
    (fun i => head_lse m c t 4 (by norm_num) _ (goodB m hp c t h' _ 0 (by norm_num) evenA 256 (by norm_num) 4 (by norm_num) (by norm_num) _ _ _ _ _) 0 (by norm_num) slices_S128x768_o0_0_S64x768 _ _ _ i)
    (fun i => head_lse m c t 5 (by norm_num) _ (goodB m hp c t h' _ 64 (by norm_num) oddA 256 (by norm_num) 5 (by norm_num) (by norm_num) _ _ _ _ _) 64 (by norm_num) slices_S128x768_o64_0_S64x768 _ _ _ i)
    (fun i => head_lse m c t 6 (by norm_num) _ (goodB m hp c t h' _ 0 (by norm_num) evenA 384 (by norm_num) 6 (by norm_num) (by norm_num) _ _ _ _ _) 0 (by norm_num) slices_S128x768_o0_0_S64x768 _ _ _ i)
    (fun i => head_lse m c t 7 (by norm_num) _ (goodB m hp c t h' _ 64 (by norm_num) oddA 384 (by norm_num) 7 (by norm_num) (by norm_num) _ _ _ _ _) 64 (by norm_num) slices_S128x768_o64_0_S64x768 _ _ _ i)
    (fun i => head_lse m c t 8 (by norm_num) _ (goodB m hp c t h' _ 0 (by norm_num) evenA 512 (by norm_num) 8 (by norm_num) (by norm_num) _ _ _ _ _) 0 (by norm_num) slices_S128x768_o0_0_S64x768 _ _ _ i)
    (fun i => head_lse m c t 9 (by norm_num) _ (goodB m hp c t h' _ 64 (by norm_num) oddA 512 (by norm_num) 9 (by norm_num) (by norm_num) _ _ _ _ _) 64 (by norm_num) slices_S128x768_o64_0_S64x768 _ _ _ i)
    (fun i => head_lse m c t 10 (by norm_num) _ (goodB m hp c t h' _ 0 (by norm_num) evenA 640 (by norm_num) 10 (by norm_num) (by norm_num) _ _ _ _ _) 0 (by norm_num) slices_S128x768_o0_0_S64x768 _ _ _ i)
    (fun i => head_lse m c t 11 (by norm_num) _ (goodB m hp c t h' _ 64 (by norm_num) oddA 640 (by norm_num) 11 (by norm_num) (by norm_num) _ _ _ _ _) 64 (by norm_num) slices_S128x768_o64_0_S64x768 _ _ _ i)
    (fun i => head_lse m c t 12 (by norm_num) _ (goodB m hp c t h' _ 0 (by norm_num) evenA 768 (by norm_num) 12 (by norm_num) (by norm_num) _ _ _ _ _) 0 (by norm_num) slices_S128x768_o0_0_S64x768 _ _ _ i)
    (fun i => head_lse m c t 13 (by norm_num) _ (goodB m hp c t h' _ 64 (by norm_num) oddA 768 (by norm_num) 13 (by norm_num) (by norm_num) _ _ _ _ _) 64 (by norm_num) slices_S128x768_o64_0_S64x768 _ _ _ i)
    (fun i => head_lse m c t 14 (by norm_num) _ (goodB m hp c t h' _ 0 (by norm_num) evenA 896 (by norm_num) 14 (by norm_num) (by norm_num) _ _ _ _ _) 0 (by norm_num) slices_S128x768_o0_0_S64x768 _ _ _ i)
    (fun i => head_lse m c t 15 (by norm_num) _ (goodB m hp c t h' _ 64 (by norm_num) oddA 896 (by norm_num) 15 (by norm_num) (by norm_num) _ _ _ _ _) 64 (by norm_num) slices_S128x768_o64_0_S64x768 _ _ _ i) H i

include hp in
@[inherit_doc out8A] theorem out8 (c : Dev nD) (t : Fin cfg0.N) (a : Fin 256) (e : Fin 1024) : (outsAt0 m c t.val t.isLt).1 (ix2 a e) = Att m c (row t a) e := by
  by_cases h : t.val < 2
  · exact out8A m hp c t h (by omega) a e
  · exact out8B m hp c t h (by omega) a e
include hp in
@[inherit_doc out8A] theorem out9 (c : Dev nD) (t : Fin cfg0.N) (H : Fin 16) (i : Fin 256) : (outsAt0 m c t.val t.isLt).2 (ix2 H i) = Lse m c H (row t i) := by
  by_cases h : t.val < 2
  · exact out9A m hp c t h (by omega) H i
  · exact out9B m hp c t h (by omega) H i

include hp in
/-- The results' arrays. -/
theorem arr8 (c : Dev nD) : (dats m 0 c).arrAt 8 cfg0.N = fun j => (Att m c) (j 0) (j 1) := by
  refine (dats m 0 c).arrAt_eq_of_covers 8 _ (by decide +kernel) fun t hf y => ?_
  have e0 : ((((cfg0.win 8).blk t).view.emb y) 0 : ℕ) = t.val * 256 + (y 0).val := by blk_simp [(idx t).2.2.2.2.2.2.2.2.1]
  have e1 : ((((cfg0.win 8).blk t).view.emb y) 1 : ℕ) = (y 1).val := by blk_simp [(idx t).2.2.2.2.2.2.2.2.1]
  generalize ((cfg0.win 8).blk t).view.emb y = j at e0 e1
  blk_simp
  rw [after0_8]
  idx_vars y
  refine (out8 m hp c t y0 y1).trans ?_
  exact congrArg₂ (Att m c) (Fin.ext e0.symm) (Fin.ext e1.symm)
include hp in
@[inherit_doc arr8] theorem arr9 (c : Dev nD) : (dats m 0 c).arrAt 9 cfg0.N = fun j => (Lse m c) (j 0) (j 1) := by
  refine (dats m 0 c).arrAt_eq_of_covers 9 _ (by decide +kernel) fun t hf y => ?_
  have e0 : ((((cfg0.win 9).blk t).view.emb y) 0 : ℕ) = (y 0).val := by blk_simp [(idx t).2.2.2.2.2.2.2.2.2]
  have e1 : ((((cfg0.win 9).blk t).view.emb y) 1 : ℕ) = t.val * 256 + (y 1).val := by blk_simp [(idx t).2.2.2.2.2.2.2.2.2]
  generalize ((cfg0.win 9).blk t).view.emb y = j at e0 e1
  blk_simp
  rw [after0_9]
  idx_vars y
  refine (out9 m hp c t y0 y1).trans ?_
  exact congrArg₂ (Lse m c) (Fin.ext e0.symm) (Fin.ext e1.symm)

set_option maxHeartbeats 2000000 in
/-- The two results, whatever functions they are. -/
theorem run_of (X : Dev nD → S4096x1024.Idx → EReal) (Y : Dev nD → S16x4096.Idx → EReal) (h8 : ∀ c, (dats m 0 c).arrAt 8 cfg0.N = X c)
    (h9 : ∀ c, (dats m 0 c).arrAt 9 cfg0.N = Y c) (ρ : Dev nD → PrngReg) : θ_run defs (onTc (τ := τ) (main (F := Ideal))) ⟨m, fun _ => 0, ρ⟩ (fun r => ∀ c : Dev nD,
    r.2.mem ((c.tc : Thread nD τ).loc main_v47_0) = X c ∧ r.2.mem ((c.tc : Thread nD τ).loc main_v47_1) = Y c) := by
  run_from Gen.run_main m ρ
  · exact h8 c
  · exact h9 c

/-- The kernel's run: its two results as functions of its arguments. -/
theorem run (hp : Reals m) (ρ : Dev nD → PrngReg) : θ_run defs (onTc (τ := τ) (main (F := Ideal))) ⟨m, fun _ => 0, ρ⟩ (fun r => ∀ c : Dev nD,
    r.2.mem ((c.tc : Thread nD τ).loc main_v47_0) = (fun j => Att m c (j 0) (j 1))
    ∧ r.2.mem ((c.tc : Thread nD τ).loc main_v47_1) = (fun j => Lse m c (j 0) (j 1))) :=
  run_of m (fun c j => Att m c (j 0) (j 1)) (fun c j => Lse m c (j 0) (j 1)) (arr8 m hp) (arr9 m hp) ρ

end Cert.Kernel8Ideal.Val
end
-- ==== Proof.Attn.Reference.lean ====
module

public import proofs.«01_k».proof.Proof.Gen.Reference8Ideal.Run
public import proofs.«01_k».proof.Proof.Gen.Reference8Ideal.Read
public import Idealize.ShloMosaic.Lib.Pointwise
public import Idealize.ShloMosaic.Lib.Claim
public import proofs.«01_k».proof.Proof.Attn.Table

@[expose] public section

set_option maxRecDepth 16384

noncomputable section

namespace Cert.Reference8Ideal.Val

open Idealize.ShloMosaic Idealize.ShloMosaic.TcCoe Idealize.SL.Sem
open Cert.Reference8Ideal Cert.Reference8Ideal.Gen Cert.Reference8Ideal.Read

section Values

variable (x0 x1 : (⟨S4096x1024, .f32⟩ : BufTy).Contents (Elt Ideal)) (x2 : (⟨S4096x6144, .f32⟩ : BufTy).Contents (Elt Ideal))
  (x3 : (⟨S16x513, .f32⟩ : BufTy).Contents (Elt Ideal))

/-- Row `i` of chunk `n`. -/
abbrev row (n i : Fin 64) : Fin 4096 := ⟨n.val * 64 + i.val, by omega⟩

theorem v6 (a : Fin 72) (i : Fin 64) (h : Fin 16) (d : Fin 64) : val_main_v6 (F := Ideal) x1 (ix4 a i h d)
    = if e : a.val < 8 then 0 else x1 (ix2 ⟨(a.val - 8) * 64 + i.val, by omega⟩ (Attn.col h d)) := by
  unfold val_main_v6 val_main_v5 val_main_v4 val_main_cst_0
  pointwise

theorem v25 (n : Fin 64) (o : Fin 9) (i : Fin 64) (h : Fin 16) (d : Fin 64) : val_main_v25 (F := Ideal) x1 (ix5 n o i h d)
    = val_main_v6 (F := Ideal) x1 (ix4 ⟨o.val + n.val, by omega⟩ i h d) := by
  unfold val_main_v25 val_main_v16 val_main_v17 val_main_v18 val_main_v19 val_main_v20 val_main_v21 val_main_v22 val_main_v23 val_main_v24 val_main_v7 val_main_v8 val_main_v9 val_main_v10 val_main_v11 val_main_v12 val_main_v13 val_main_v14 val_main_v15
  generalize val_main_v6 (F := Ideal) x1 = y
  pointwise
  match o with
  | 0 => exact congrArg (fun a => y (ix4 a i h d)) (Fin.ext (Nat.zero_add _).symm)
  | 1 => rfl
  | 2 => rfl
  | 3 => rfl
  | 4 => rfl
  | 5 => rfl
  | 6 => rfl
  | 7 => rfl
  | 8 => rfl

/-- The keys of a chunk's window. -/
theorem v26 (n : Fin 64) (j : Fin 576) (h : Fin 16) (d : Fin 64) : val_main_v26 (F := Ideal) x1 (ix4 n j h d)
    = if 512 ≤ n.val * 64 + j.val then x1 (ix2 ⟨n.val * 64 + j.val - 512, by omega⟩ (Attn.col h d)) else 0 := by
  have e : val_main_v26 (F := Ideal) x1 (ix4 n j h d) = val_main_v25 (F := Ideal) x1 (ix5 n ⟨j.val / 64, by omega⟩ ⟨j.val % 64, by omega⟩ h d) := by
    unfold val_main_v26
    generalize val_main_v25 (F := Ideal) x1 = y
    pointwise
  rw [e, v25, v6]
  by_cases g : 512 ≤ n.val * 64 + j.val
  · rw [dif_neg (show ¬ j.val / 64 + n.val < 8 by omega), if_pos g]
    exact congrArg (fun a => x1 (ix2 a _)) (Fin.ext (show (j.val / 64 + n.val - 8) * 64 + j.val % 64 = n.val * 64 + j.val - 512 by omega))
  · rw [dif_pos (show j.val / 64 + n.val < 8 by omega), if_neg g]

theorem v92 : val_main_v92 (F := Ideal) x2 = val_main_v26 (F := Ideal) (val_main_v2 (F := Ideal) x2) := rfl

theorem v44 (i : Fin 64) (j : Fin 576) (z : Fin 1) : val_main_v44 (F := Ideal) (ix3 i j z) = BitVec.ofNat 32 (min (i.val + 768 - j.val) 512) := by
  unfold val_main_v44 val_main_v43 val_main_v42 val_main_v41 val_main_v40 val_main_v39 val_main_v38 val_main_v37 val_main_v36 val_main_call0_v4 val_main_call0_v3 val_main_call0_v2 val_main_call0_v1 val_main_call0_v0 val_main_v35 val_main_v34 val_main_v33 val_main_v32 val_main_v31 val_main_v30 val_main_v29 val_main_v28 val_main_v27 val_main_c val_main_c_1 val_main_c_2 val_main_c_3 val_main_c_4 val_main_c_5
  pointwise
  exact Attn.dist_eq _ _ (by omega) (by omega)

theorem v45 (h : Fin 16) (i : Fin 64) (j : Fin 576) : val_main_v45 (F := Ideal) x3 (ix3 h i j) = x3 (ix2 h ⟨min (i.val + 768 - j.val) 512, by omega⟩) := by
  unfold val_main_v45
  exact Attn.gather_at _ x3 _ h i j _ _ (v44 i j 0)

theorem v49 (j : Fin 576) : val_main_v49 (F := Ideal) (ix1 j) = BitVec.ofNat 32 (j.val / 64) := by
  unfold val_main_v49 val_main_call1_v13 val_main_call1_v12 val_main_call1_v11 val_main_call1_v10 val_main_call1_v9 val_main_call1_v8 val_main_call1_v7 val_main_call1_v6 val_main_call1_v5 val_main_call1_v4 val_main_call1_v3 val_main_call1_v2 val_main_call1_v1 val_main_call1_v0 val_main_call1_c val_main_call1_c_0 val_main_v48 val_main_c_6
  pointwise
  exact Attn.quo_eq ⟨j.val, by omega⟩

theorem v61 (n : Fin 64) (j : Fin 576) : val_main_v61 (F := Ideal) (ix2 n j) = if 512 ≤ n.val * 64 + j.val then 1#1 else 0#1 := by
  unfold val_main_v61 val_main_v60 val_main_v55 val_main_v54 val_main_v53 val_main_v52 val_main_v51 val_main_v50 val_main_v47 val_main_v46 val_main_c_7 val_main_c_8
  pointwise
  rw [v49]
  have e : IntOp.addi (BitVec.ofNat 32 n.val) (BitVec.ofNat 32 (j.val / 64)) = BitVec.ofNat 32 (⟨n.val + j.val / 64, by omega⟩ : Fin 128).val := (BitVec.ofNat_add _ _).symm
  rw [e]
  exact (Attn.past_eq _).trans (if_congr (show 8 ≤ n.val + j.val / 64 ↔ _ by omega) rfl rfl)

theorem v59 (n : Fin 64) (h : Fin 16) (i : Fin 64) (j : Fin 576) : val_main_v59 (F := Ideal) x0 x1 x3 (ix4 n h i j)
    = ∑ d : Fin 64, x0 (ix2 (row n i) (Attn.col h d)) * ((1 / 8 : ℝ) : EReal) * val_main_v26 (F := Ideal) x1 (ix4 n j h d) + val_main_v45 (F := Ideal) x3 (ix3 h i j) := by
  unfold val_main_v59 val_main_v58 val_main_v57 val_main_v56 val_main_v3 val_main_v1 val_main_v0 val_main_cst
  pointwise
  rw [Attn.c_8th]

theorem v63 (n : Fin 64) (h : Fin 16) (i : Fin 64) (j : Fin 576) : val_main_v63 (F := Ideal) x0 x1 x3 (ix4 n h i j) =
   Scalar.select (val_main_v61 (F := Ideal) (ix2 n j)) (val_main_v59 (F := Ideal) x0 x1 x3 (ix4 n h i j)) ⊥ := by
  unfold val_main_v63 val_main_call2_v2 val_main_call2_v1 val_main_call2_v0 val_main_v62 val_main_cst_9
  pointwise
  exact congrArg (Scalar.select _ _) Attn.c_inf

theorem v69 (n : Fin 64) (h : Fin 16) (i : Fin 64) : val_main_v69 (F := Ideal) x0 x1 x3 (ix3 n h i)
    = Ideal.div (Ideal.log (∑ j, Ideal.exp (val_main_v63 (F := Ideal) x0 x1 x3 (ix4 n h i j)))) (Ideal.log (Ideal.ofBits .f32 0x40000000#32)) := by
  unfold val_main_v69 val_main_v68 val_main_v67 val_main_v66 val_main_v65 val_main_v64 val_main_cst_10 val_main_cst_11
  pointwise
theorem hr : S64x16x64x576.Reduces [3] S64x16x64 := by decide
theorem lifts (n : Fin 64) (h : Fin 16) (i : Fin 64) (j : Fin 576) : hr.lift (ix3 n h i) j = ix4 n h i j := by
  funext a
  match a with
  | ⟨0, _⟩ => rfl
  | ⟨1, _⟩ => rfl
  | ⟨2, _⟩ => rfl
  | ⟨3, _⟩ => rfl

theorem maxes {ι : Type} (t : Finset ι) (w : Ideal .f32) (f : ι → Ideal .f32) : Finset.fold FloatOps.maximumf w f t = Finset.fold (max : EReal → EReal → EReal) w f t := rfl
theorem foldmax (y : FVec Ideal S64x16x64x576 .f32) (z : FVec Ideal S_ .f32) (n : Fin 64) (h : Fin 16) (i : Fin 64) :
    Host.reduce FloatOps.maximumf y z reducesTo_S64x16x64x576_S64x16x64_d3 h_S_ (ix3 n h i) = Finset.univ.fold max (z ix0) fun j : Fin 576 => y (ix4 n h i j) := by
  rw [Host.reduce_eq_fold_single (α := Ideal .f32) FloatOps.maximumf y z reducesTo_S64x16x64x576_S64x16x64_d3 hr h_S_ (ix3 n h i)]
  rw [show y ∘ hr.lift (ix3 n h i) = fun j : Fin 576 => y (ix4 n h i j) from funext fun j => congrArg y (lifts n h i j)]
  generalize (fun j : Fin 576 => y (ix4 n h i j)) = f
  rw [show Shape.Idx.first h_S_ = ix0 from funext fun a => a.elim0]
  exact maxes _ _ _
theorem v93 (n : Fin 64) (h : Fin 16) (i : Fin 64) : val_main_v93 (F := Ideal) x0 x1 x3 (ix3 n h i)
    = Finset.univ.fold max ⊥ fun j : Fin 576 => val_main_v63 (F := Ideal) x0 x1 x3 (ix4 n h i j) := by
  unfold val_main_v93 val_main_cst_13
  generalize val_main_v63 (F := Ideal) x0 x1 x3 = y
  exact (foldmax y _ n h i).trans (congrArg (fun z => Finset.univ.fold max z _) Attn.c_inf)
theorem v94 (n : Fin 64) (h : Fin 16) (i : Fin 64) : val_main_v94 (F := Ideal) (ix3 n h i) = (Ideal.ofBits .f32 0xFF800000#32 : Ideal .f32) := by
  unfold val_main_v94 val_main_cst_14
  pointwise
theorem max_at {s : Shape} (z y : FVec Ideal s .f32) (p : s.Idx) (hz : z p = (⊥ : EReal)) : maximumf z y p = y p :=
  (congrArg (fun w : EReal => max w (y p)) hz).trans (max_eq_right (α := EReal) bot_le)
theorem v95 (n : Fin 64) (h : Fin 16) (i : Fin 64) : val_main_v95 (F := Ideal) x0 x1 x3 (ix3 n h i) = val_main_v93 (F := Ideal) x0 x1 x3 (ix3 n h i) := by
  unfold val_main_v95
  generalize val_main_v93 (F := Ideal) x0 x1 x3 = y
  have hz := (v94 n h i).trans Attn.c_inf
  generalize val_main_v94 (F := Ideal) = z at hz ⊢
  exact max_at z y _ hz
theorem v103 (n : Fin 64) (h : Fin 16) (i : Fin 64) (j : Fin 576) : val_main_v103 (F := Ideal) x0 x1 x3 (ix4 n h i j)
    = Ideal.div (Ideal.exp (val_main_v63 (F := Ideal) x0 x1 x3 (ix4 n h i j) - val_main_v95 (F := Ideal) x0 x1 x3 (ix3 n h i)))
      (∑ p, Ideal.exp (val_main_v63 (F := Ideal) x0 x1 x3 (ix4 n h i p) - val_main_v95 (F := Ideal) x0 x1 x3 (ix3 n h i))) := by
  unfold val_main_v103 val_main_v102 val_main_v101 val_main_v100 val_main_v99 val_main_v98 val_main_v97 val_main_v96 val_main_cst_15
  pointwise
theorem v104 (n : Fin 64) (h : Fin 16) (d i : Fin 64) : val_main_v104 (F := Ideal) x0 x1 x2 x3 (ix4 n h d i)
    = ∑ j, val_main_v92 (F := Ideal) x2 (ix4 n j h d) * val_main_v103 (F := Ideal) x0 x1 x3 (ix4 n h i j) := by
  unfold val_main_v104
  pointwise

variable (q k : Fin 4096 → Fin 1024 → ℝ) (b : Fin 16 → Fin 513 → ℝ) (hq : ∀ r c, x0 (ix2 r c) = (q r c : EReal))
  (hk : ∀ r c, x1 (ix2 r c) = (k r c : EReal)) (hb : ∀ h e, x3 (ix2 h e) = (b h e : EReal))

include hq hk hb

/-- The masked scores. -/
theorem scores (n : Fin 64) (h : Fin 16) (i : Fin 64) (j : Fin 576) : val_main_v63 (F := Ideal) x0 x1 x3 (ix4 n h i j)
    = Attn.sc (Attn.Vis (row n i)) (Attn.score q k b h (row n i)) j := by
  have hv : Attn.Vis (row n i) j ↔ 512 ≤ n.val * 64 + j.val := by
    show 512 ≤ (n.val * 64 + i.val) / 64 * 64 + j.val ↔ _
    omega
  unfold Attn.sc
  rw [v63, v61]
  by_cases g : 512 ≤ n.val * 64 + j.val
  · rw [if_pos g, if_pos (hv.2 g)]
    refine (v59 x0 x1 x3 n h i j).trans ?_
    have e : ∀ d : Fin 64, x0 (ix2 (row n i) (Attn.col h d)) * ((1 / 8 : ℝ) : EReal) * val_main_v26 (F := Ideal) x1 (ix4 n j h d)
        = ((q (row n i) (Attn.col h d) * (1 / 8) * k (Attn.pos (row n i) j) (Attn.col h d) : ℝ) : EReal) := fun d => by
      rw [hq, v26, if_pos g, hk, EReal.coe_mul, EReal.coe_mul]
      exact congrArg (fun a => (q (row n i) (Attn.col h d) : EReal) * ((1 / 8 : ℝ) : EReal) * (k a (Attn.col h d) : EReal))
        (Fin.ext (show n.val * 64 + j.val - 512 = (n.val * 64 + i.val) / 64 * 64 + j.val - 512 by omega))
    rw [Finset.sum_congr rfl fun d _ => e d, Attn.coe_sum, v45, hb, ← EReal.coe_add]
    unfold Attn.score
    exact congrArg (fun a : Fin 513 => ((∑ d : Fin 64, q (row n i) (Attn.col h d) * (1 / 8) * k (Attn.pos (row n i) j) (Attn.col h d) + b h a : ℝ) : EReal))
      (Fin.ext (show min (i.val + 768 - j.val) 512 = min ((n.val * 64 + i.val) % 64 + 768 - j.val) 512 by omega))
  · rw [if_neg g, if_neg fun e => g (hv.1 e)]
    rfl

/-- The weights. -/
theorem probs (n : Fin 64) (h : Fin 16) (i : Fin 64) (j : Fin 576) : val_main_v103 (F := Ideal) x0 x1 x3 (ix4 n h i j)
    = ((Attn.w (Attn.Vis (row n i)) (Attn.score q k b h (row n i)) j / Attn.Z (Attn.Vis (row n i)) (Attn.score q k b h (row n i)) : ℝ) : EReal) := by
  obtain ⟨μ, hμ⟩ := Attn.top (Attn.Vis (row n i)) (Attn.score q k b h (row n i)) (Attn.vis _)
  have e : val_main_v95 (F := Ideal) x0 x1 x3 (ix3 n h i) = (μ : EReal) := by
    rw [v95, v93, ← hμ]
    exact congrArg (Finset.univ.fold max ⊥) (funext fun j => scores x0 x1 x3 q k b hq hk hb n h i j)
  rw [v103, e]
  simp only [scores x0 x1 x3 q k b hq hk hb]
  exact Attn.soft _ _ (Attn.vis _) μ j

theorem v107 (r : Fin 4096) (c : Fin 1024) : val_main_v107 (F := Ideal) x0 x1 x2 x3 (ix2 r c)
    = Attn.att q k b (fun r c => x2 (ix2 r ⟨2048 + c.val, by omega⟩)) r c := by
  have e : val_main_v107 (F := Ideal) x0 x1 x2 x3 (ix2 r c)
      = val_main_v104 (F := Ideal) x0 x1 x2 x3 (ix4 ⟨r.val / 64, by omega⟩ ⟨c.val / 64, by omega⟩ ⟨c.val % 64, by omega⟩ ⟨r.val % 64, by omega⟩) := by
    unfold val_main_v107 val_main_v106 val_main_v105
    pointwise
  have er : row ⟨r.val / 64, by omega⟩ ⟨r.val % 64, by omega⟩ = r := Fin.ext (show r.val / 64 * 64 + r.val % 64 = r.val by omega)
  rw [e, v104, v92]
  unfold Attn.att
  refine Finset.sum_congr rfl fun j _ => (mul_comm _ _).trans ?_
  rw [probs x0 x1 x3 q k b hq hk hb, er, v26]
  by_cases g : 512 ≤ r.val / 64 * 64 + j.val
  · refine congrArg _ ((if_pos g).trans ?_)
    unfold val_main_v2
    pointwise
    exact congrArg₂ (fun a d => x2 (ix2 a d)) rfl (Fin.ext (show 2048 + (c.val / 64 * 64 + c.val % 64) = 2048 + c.val by omega))
  · have z : Attn.w (Attn.Vis r) (Attn.score q k b ⟨c.val / 64, by omega⟩ r) j = 0 := if_neg g
    rw [z, zero_div, EReal.coe_zero, zero_mul, zero_mul]

theorem v109 (h : Fin 16) (r : Fin 4096) : val_main_v109 (F := Ideal) x0 x1 x3 (ix2 h r) = Attn.logsum q k b h r := by
  have e : val_main_v109 (F := Ideal) x0 x1 x3 (ix2 h r) = val_main_v69 (F := Ideal) x0 x1 x3 (ix3 ⟨r.val / 64, by omega⟩ h ⟨r.val % 64, by omega⟩) := by
    unfold val_main_v109 val_main_v108
    pointwise
  have er : row ⟨r.val / 64, by omega⟩ ⟨r.val % 64, by omega⟩ = r := Fin.ext (show r.val / 64 * 64 + r.val % 64 = r.val by omega)
  rw [e, v69]
  simp only [scores x0 x1 x3 q k b hq hk hb]
  rw [er, Attn.lse _ _ (Attn.vis r), Attn.c_two, Attn.log_two, Ideal.div_coe Attn.log_two_ne, ← EReal.coe_mul, one_div]
  rfl

end Values

variable (m : (ℓ : Loc nD τ sig) → Buf (Elt Ideal) ℓ)

/-- The reference's run: its results as functions of its arguments, where these are numbers. -/
theorem run (q k : Dev nD → Fin 4096 → Fin 1024 → ℝ) (b : Dev nD → Fin 16 → Fin 513 → ℝ)
    (hq : ∀ (c : Dev nD) i j, m ((c.tc : Thread nD τ).loc main_arg0) (ix2 i j) = (q c i j : EReal)) (hk : ∀ (c : Dev nD) i j, m ((c.tc : Thread nD τ).loc main_arg1) (ix2 i j) = (k c i j : EReal))
    (hb : ∀ (c : Dev nD) i j, m ((c.tc : Thread nD τ).loc main_arg3) (ix2 i j) = (b c i j : EReal)) (ρ : Dev nD → PrngReg) :
    θ_run defs (onTc (τ := τ) (main (F := Ideal))) ⟨m, fun _ => 0, ρ⟩ (fun r => ∀ c : Dev nD,
    r.2.mem ((c.tc : Thread nD τ).loc main_v107) = (fun j => Attn.att (q c) (k c) (b c) (fun i d => m ((c.tc : Thread nD τ).loc main_arg2) (ix2 i ⟨2048 + d.val, by omega⟩)) (j 0) (j 1))
    ∧ r.2.mem ((c.tc : Thread nD τ).loc main_v109) = (fun j => Attn.logsum (q c) (k c) (b c) (j 0) (j 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run _ _ _).mono (fun r h c => ⟨(h c).1.trans ?_, (h c).2.1.trans ?_, (h c).2.2⟩) (Cert.Reference8Ideal.Value.run m ρ)
  · rw [val_main_v107_eq]
    funext j
    idx_vars j
    exact v107 _ _ _ _ (q c) (k c) (b c) (hq c) (hk c) (hb c) j0 j1
  · rw [val_main_v109_eq]
    funext j
    idx_vars j
    exact v109 _ _ _ (q c) (k c) (b c) (hq c) (hk c) (hb c) j0 j1

end Cert.Reference8Ideal.Val
end
-- ==== Proof.Attn.Pre.lean ====
module

public import proofs.«01_k».proof.Defs
public import proofs.«01_k».proof.Proof.Gen.Pre_finite_fwd
public import proofs.«01_k».proof.Proof.Attn.Tile

@[expose] public section

set_option maxRecDepth 16384

noncomputable section

/-! What the precondition says of the entries. -/

namespace Cert.Kernel8Ideal.Val

open Idealize.ShloMosaic Idealize.ShloMosaic.TcCoe Idealize.SL.Sem
open Cert.Kernel8Ideal Cert.Kernel8Ideal.Gen

variable (m : (ℓ : Loc nD τ sig) → Buf (Elt Ideal) ℓ)

theorem reals (h : Cert.Pre_Kernel8Ideal_finite_fwd m) : Reals m where
  q c i d := Qk.of_bit (congrFun (h c).1 (ix2 i d))
  k c i d := Qk.of_bit (congrFun (h c).2.1 (ix2 i d))
  b c i d := Qk.of_bit (congrFun (h c).2.2 (ix2 i d))

end Cert.Kernel8Ideal.Val
end
-- ==== Proof.MixOut.Spec.lean ====
module

public import proofs.«01_k».proof.Proof.Rms
public import proofs.«01_k».proof.Proof.Mlp.Spec

@[expose] public section

noncomputable section

/-! The mixing of the two branches, entry by entry, over the extended reals: both branches are projected, gated and added,
    the sum is projected onto the rows, and the rows with it added are normalised. -/

namespace Cert.MixOut

open scoped BigOperators
open Idealize.ShloMosaic

variable (A C : Fin 4096 → Fin 1024 → EReal) (T : Fin 4096 → Fin 2048 → EReal) (U V : Fin 1024 → Fin 1024 → EReal)
  (X : Fin 4096 → Fin 1024 → EReal) (O : Fin 1024 → Fin 1024 → EReal) (g : Fin 1024 → EReal)

/-- A projection. -/
def prod (i : Fin 4096) (d : Fin 1024) : EReal := ∑ k, A i k * U k d

/-- The gated sum of the two projections. -/
def merged (i : Fin 4096) (d : Fin 1024) : EReal := T i ⟨d.val, by omega⟩ * prod A U i d + T i ⟨1024 + d.val, by omega⟩ * prod C V i d

/-- The rows with the projected sum added. -/
def x1 (i : Fin 4096) (d : Fin 1024) : EReal := X i d + ∑ k, merged A C T U V i k * O k d

/-- Those rows normalised and weighted. -/
def h2 (i : Fin 4096) (d : Fin 1024) : EReal := Rms.hat Mlp.N Mlp.eps (x1 A C T U V X O i) d * g d

end Cert.MixOut
end
-- ==== Proof.MixOut.Kernel.lean ====
module

public import proofs.«01_k».proof.Proof.Gen.Kernel9Ideal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
public import proofs.«01_k».proof.Proof.MixOut.Spec

@[expose] public section

set_option maxRecDepth 16384

noncomputable section

namespace Cert.Kernel9Ideal.Val

open Idealize.ShloMosaic Idealize.ShloMosaic.TcCoe Idealize.SL.Sem
open Cert.Kernel9Ideal Cert.Kernel9Ideal.Gen

variable (m : (ℓ : Loc nD τ sig) → Buf (Elt Ideal) ℓ)

/-- The arguments, entry by entry. -/
abbrev aA (c : Dev nD) (i0 : Fin 4096) (i1 : Fin 1024) : EReal := m ((c : Thread nD τ).loc main_arg0) (ix2 i0 i1)
@[inherit_doc aA] abbrev aC (c : Dev nD) (i0 : Fin 4096) (i1 : Fin 1024) : EReal := m ((c : Thread nD τ).loc main_arg1) (ix2 i0 i1)
@[inherit_doc aA] abbrev aT (c : Dev nD) (i0 : Fin 4096) (i1 : Fin 2048) : EReal := m ((c : Thread nD τ).loc main_arg2) (ix2 i0 i1)
@[inherit_doc aA] abbrev aX (c : Dev nD) (i0 : Fin 4096) (i1 : Fin 1024) : EReal := m ((c : Thread nD τ).loc main_arg3) (ix2 i0 i1)
@[inherit_doc aA] abbrev aU (c : Dev nD) (i0 : Fin 1024) (i1 : Fin 1024) : EReal := m ((c : Thread nD τ).loc main_arg4) (ix2 i0 i1)
@[inherit_doc aA] abbrev aV (c : Dev nD) (i0 : Fin 1024) (i1 : Fin 1024) : EReal := m ((c : Thread nD τ).loc main_arg5) (ix2 i0 i1)
@[inherit_doc aA] abbrev aO (c : Dev nD) (i0 : Fin 1024) (i1 : Fin 1024) : EReal := m ((c : Thread nD τ).loc main_arg6) (ix2 i0 i1)
@[inherit_doc aA] abbrev aG (c : Dev nD) (i0 : Fin 1024) : EReal := m ((c : Thread nD τ).loc main_arg7) (ix1 i0)

theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![t.val, 0] ∧ win0_9.index t = ![t.val, 0] ∧ win0_10.index t = ![t.val, 0] ∧ win0_11.index t = ![t.val, 0] ∧ win0_12.index t = ![t.val, 0] :=
  (by decide +kernel : ∀ t : Fin grid0.N, _)

theorem tlt (t : Fin cfg0.N) : t.val < 8 := lt_of_lt_of_eq t.isLt N_0

/-- The row of the array that row `a` of block `t` is. -/
abbrev row (t : Fin cfg0.N) (a : Fin 512) : Fin 4096 := ⟨t.val * 512 + a.val, by have := tlt t; omega⟩

/-- What the pipelined arrays hold as the pipeline starts. -/
theorem entry0 (c : Dev nD) (i0 : Fin 4096) (i1 : Fin 1024) : V m c main_v0 (ix2 i0 i1) = (aA m c i0 i1 : EReal) := by
  unfold V
  unfold hostOps0
  after_reads_at
@[inherit_doc entry0] theorem entry1 (c : Dev nD) (i0 : Fin 4096) (i1 : Fin 1024) : V m c main_v1 (ix2 i0 i1) = (aC m c i0 i1 : EReal) := by
  unfold V
  unfold hostOps0
  after_reads_at
@[inherit_doc entry0] theorem entry2 (c : Dev nD) (i0 : Fin 4096) (i1 : Fin 2048) : V m c main_v2 (ix2 i0 i1) = (aT m c i0 i1 : EReal) := by
  unfold V
  unfold hostOps0
  after_reads_at
@[inherit_doc entry0] theorem entry4 (c : Dev nD) (i0 : Fin 1024) (i1 : Fin 1024) : V m c main_v3 (ix2 i0 i1) = (aU m c i0 i1 : EReal) := by
  unfold V
  unfold hostOps0
  after_reads_at
@[inherit_doc entry0] theorem entry5 (c : Dev nD) (i0 : Fin 1024) (i1 : Fin 1024) : V m c main_v4 (ix2 i0 i1) = (aV m c i0 i1 : EReal) := by
  unfold V
  unfold hostOps0
  after_reads_at
@[inherit_doc entry0] theorem entry6 (c : Dev nD) (i0 : Fin 1024) (i1 : Fin 1024) : V m c main_v5 (ix2 i0 i1) = (aO m c i0 i1 : EReal) := by
  unfold V
  unfold hostOps0
  after_reads_at
@[inherit_doc entry0] theorem entry7 (c : Dev nD) (i0 : Fin 1) (i1 : Fin 1024) : V m c main_v6 (ix2 i0 i1) = (aG m c i1 : EReal) := by
  unfold V
  unfold hostOps0
  after_reads_at
/-- The blocks at a point, read in the arguments. -/
theorem blk0 (c : Dev nD) (t : Fin cfg0.N) (a : Fin 512) (d : Fin 1024) : iblk m c 0 t (ix2 a d) = aA m c (row t a) d := by
  rw [← entry0 m c]
  blk_ext [iblk, (idx t).1]
@[inherit_doc blk0] theorem blk1 (c : Dev nD) (t : Fin cfg0.N) (a : Fin 512) (d : Fin 1024) : iblk m c 1 t (ix2 a d) = aC m c (row t a) d := by
  rw [← entry1 m c]
  blk_ext [iblk, (idx t).2.1]
@[inherit_doc blk0] theorem blk2 (c : Dev nD) (t : Fin cfg0.N) (a : Fin 512) (d : Fin 2048) : iblk m c 2 t (ix2 a d) = aT m c (row t a) d := by
  rw [← entry2 m c]
  blk_ext [iblk, (idx t).2.2.1]
@[inherit_doc blk0] theorem blk3 (c : Dev nD) (t : Fin cfg0.N) (a : Fin 512) (d : Fin 1024) : iblk m c 3 t (ix2 a d) = aX m c (row t a) d := by
  unfold aX
  rw [← V_main_arg3 m c]
  blk_ext [iblk, (idx t).2.2.2.1]
@[inherit_doc blk0] theorem blk4 (c : Dev nD) (t : Fin cfg0.N) (a : Fin 1024) (d : Fin 1024) : iblk m c 4 t (ix2 a d) = aU m c a d := by
  rw [← entry4 m c]
  blk_ext [iblk, (idx t).2.2.2.2.1]
@[inherit_doc blk0] theorem blk5 (c : Dev nD) (t : Fin cfg0.N) (a : Fin 1024) (d : Fin 1024) : iblk m c 5 t (ix2 a d) = aV m c a d := by
  rw [← entry5 m c]
  blk_ext [iblk, (idx t).2.2.2.2.2.1]
@[inherit_doc blk0] theorem blk6 (c : Dev nD) (t : Fin cfg0.N) (a : Fin 1024) (d : Fin 1024) : iblk m c 6 t (ix2 a d) = aO m c a d := by
  rw [← entry6 m c]
  blk_ext [iblk, (idx t).2.2.2.2.2.2.1]
@[inherit_doc blk0] theorem blk7 (c : Dev nD) (t : Fin cfg0.N) (a : Fin 1) (d : Fin 1024) : iblk m c 7 t (ix2 a d) = aG m c d := by
  rw [← entry7 m c a d]
  blk_ext [iblk, (idx t).2.2.2.2.2.2.2.1]

/-- The two projections, as the kernel forms them. -/
theorem ya_eq (c : Dev nD) (t : Fin cfg0.N) (a : Fin 512) (d : Fin 1024) :
    k0_pay2 (iblk m c 0 t) (iblk m c 4 t) (ix2 a d) = MixOut.prod (aA m c) (aU m c) (row t a) d := by
  unfold k0_pay2 MixOut.prod
  pointwise
  exact Finset.sum_congr rfl fun x _ => congrArg₂ (· * ·) (blk0 m c t a x) (blk4 m c t x d)
@[inherit_doc ya_eq] theorem yc_eq (c : Dev nD) (t : Fin cfg0.N) (a : Fin 512) (d : Fin 1024) :
    k0_pay3 (iblk m c 1 t) (iblk m c 5 t) (ix2 a d) = MixOut.prod (aC m c) (aV m c) (row t a) d := by
  unfold k0_pay3 MixOut.prod
  pointwise
  exact Finset.sum_congr rfl fun x _ => congrArg₂ (· * ·) (blk1 m c t a x) (blk5 m c t x d)

/-- The gated sum of the projections, as the kernel forms it. -/
theorem merged_eq (c : Dev nD) (t : Fin cfg0.N) (a : Fin 512) (d : Fin 1024) :
    k0_pay6 (iblk m c 0 t) (iblk m c 4 t) (iblk m c 1 t) (iblk m c 5 t) (View.ld (iblk m c 2 t) (Rect.unit ![0, 0] ![512, 1024] inb_S512x2048_S512x1024_0_0))
      (View.ld (iblk m c 2 t) (Rect.unit ![0, 1024] ![512, 1024] inb_S512x2048_S512x1024_0_1024)) (ix2 a d) = MixOut.merged (aA m c) (aC m c) (aT m c) (aU m c) (aV m c) (row t a) d := by
  unfold k0_pay6 MixOut.merged
  pointwise
  exact congrArg₂ (· + ·) (congrArg₂ (· * ·) (blk2 m c t a _) (ya_eq m c t a d)) (congrArg₂ (· * ·) (blk2 m c t a _) (yc_eq m c t a d))

/-- The rows with the mixed update added, as the kernel forms them. -/
theorem x1_eq (c : Dev nD) (t : Fin cfg0.N) (a : Fin 512) (d : Fin 1024) :
    k0_pay7 (iblk m c 0 t) (iblk m c 4 t) (iblk m c 1 t) (iblk m c 5 t) (View.ld (iblk m c 2 t) (Rect.unit ![0, 0] ![512, 1024] inb_S512x2048_S512x1024_0_0))
      (View.ld (iblk m c 2 t) (Rect.unit ![0, 1024] ![512, 1024] inb_S512x2048_S512x1024_0_1024)) (iblk m c 3 t) (iblk m c 6 t) (ix2 a d)
      = MixOut.x1 (aA m c) (aC m c) (aT m c) (aU m c) (aV m c) (aX m c) (aO m c) (row t a) d := by
  unfold k0_pay7 MixOut.x1
  pointwise
  exact congrArg₂ (· + ·) (blk3 m c t a d) (Finset.sum_congr rfl fun x _ => congrArg₂ (· * ·) (merged_eq m c t a x) (blk6 m c t x d))

/-- The results' blocks. -/
theorem out8 (c : Dev nD) (t : Fin cfg0.N) (a : Fin 512) (d : Fin 1024) :
    out0_8 (iblk m c 0 t) (iblk m c 1 t) (iblk m c 2 t) (iblk m c 3 t) (iblk m c 4 t) (iblk m c 5 t) (iblk m c 6 t) (iblk m c 7 t) (ix2 a d) = MixOut.prod (aA m c) (aU m c) (row t a) d := by
  unfold_out out0_8
  frame_out
  exact ya_eq m c t a d
@[inherit_doc out8] theorem out9 (c : Dev nD) (t : Fin cfg0.N) (a : Fin 512) (d : Fin 1024) :
    out0_9 (iblk m c 0 t) (iblk m c 1 t) (iblk m c 2 t) (iblk m c 3 t) (iblk m c 4 t) (iblk m c 5 t) (iblk m c 6 t) (iblk m c 7 t) (ix2 a d) = MixOut.prod (aC m c) (aV m c) (row t a) d := by
  unfold_out out0_9
  frame_out
  exact yc_eq m c t a d
@[inherit_doc out8] theorem out10 (c : Dev nD) (t : Fin cfg0.N) (a : Fin 512) (d : Fin 1024) :
    out0_10 (iblk m c 0 t) (iblk m c 1 t) (iblk m c 2 t) (iblk m c 3 t) (iblk m c 4 t) (iblk m c 5 t) (iblk m c 6 t) (iblk m c 7 t) (ix2 a d) = MixOut.merged (aA m c) (aC m c) (aT m c) (aU m c) (aV m c) (row t a) d := by
  unfold_out out0_10
  frame_out
  exact merged_eq m c t a d
@[inherit_doc out8] theorem out11 (c : Dev nD) (t : Fin cfg0.N) (a : Fin 512) (d : Fin 1024) :
    out0_11 (iblk m c 0 t) (iblk m c 1 t) (iblk m c 2 t) (iblk m c 3 t) (iblk m c 4 t) (iblk m c 5 t) (iblk m c 6 t) (iblk m c 7 t) (ix2 a d) = MixOut.x1 (aA m c) (aC m c) (aT m c) (aU m c) (aV m c) (aX m c) (aO m c) (row t a) d := by
  unfold_out out0_11
  frame_out
  exact x1_eq m c t a d
@[inherit_doc out8] theorem out12 (c : Dev nD) (t : Fin cfg0.N) (a : Fin 512) (d : Fin 1024) :
    out0_12 (iblk m c 0 t) (iblk m c 1 t) (iblk m c 2 t) (iblk m c 3 t) (iblk m c 4 t) (iblk m c 5 t) (iblk m c 6 t) (iblk m c 7 t) (ix2 a d) = MixOut.h2 (aA m c) (aC m c) (aT m c) (aU m c) (aV m c) (aX m c) (aO m c) (aG m c) (row t a) d := by
  unfold_out out0_12
  frame_out
  unfold k0_pay1 MixOut.h2 Rms.hat Rms.var
  pointwise
  refine congrArg₂ (· * ·) (congrArg₂ (· * ·) (x1_eq m c t a d) ?_) (blk7 m c t 0 d)
  exact congrArg (fun s => Ideal.rsqrt (Ideal.div s Mlp.N + Mlp.eps)) (Finset.sum_congr rfl fun x _ => congrArg₂ (· * ·) (x1_eq m c t a x) (x1_eq m c t a x))

/-- The results' arrays. -/
theorem arr8 (c : Dev nD) : (dats m 0 c).arrAt 8 cfg0.N = fun j => (MixOut.prod (aA m c) (aU m c)) (j 0) (j 1) := by
  refine (dats m 0 c).arrAt_eq_of_covers 8 _ (by decide +kernel) fun t hf y => ?_
  have e0 : ((((cfg0.win 8).blk t).view.emb y) 0 : ℕ) = t.val * 512 + (y 0).val := by blk_simp [(idx t).2.2.2.2.2.2.2.2.1]
  have e1 : ((((cfg0.win 8).blk t).view.emb y) 1 : ℕ) = (y 1).val := by blk_simp [(idx t).2.2.2.2.2.2.2.2.1]
  generalize ((cfg0.win 8).blk t).view.emb y = j at e0 e1
  blk_simp
  rw [after0_8]
  idx_vars y
  refine (out8 m c t y0 y1).trans ?_
  exact congrArg₂ (MixOut.prod (aA m c) (aU m c)) (Fin.ext e0.symm) (Fin.ext e1.symm)
@[inherit_doc arr8] theorem arr9 (c : Dev nD) : (dats m 0 c).arrAt 9 cfg0.N = fun j => (MixOut.prod (aC m c) (aV m c)) (j 0) (j 1) := by
  refine (dats m 0 c).arrAt_eq_of_covers 9 _ (by decide +kernel) fun t hf y => ?_
  have e0 : ((((cfg0.win 9).blk t).view.emb y) 0 : ℕ) = t.val * 512 + (y 0).val := by blk_simp [(idx t).2.2.2.2.2.2.2.2.2.1]
  have e1 : ((((cfg0.win 9).blk t).view.emb y) 1 : ℕ) = (y 1).val := by blk_simp [(idx t).2.2.2.2.2.2.2.2.2.1]
  generalize ((cfg0.win 9).blk t).view.emb y = j at e0 e1
  blk_simp
  rw [after0_9]
  idx_vars y
  refine (out9 m c t y0 y1).trans ?_
  exact congrArg₂ (MixOut.prod (aC m c) (aV m c)) (Fin.ext e0.symm) (Fin.ext e1.symm)
@[inherit_doc arr8] theorem arr10 (c : Dev nD) : (dats m 0 c).arrAt 10 cfg0.N = fun j => (MixOut.merged (aA m c) (aC m c) (aT m c) (aU m c) (aV m c)) (j 0) (j 1) := by
  refine (dats m 0 c).arrAt_eq_of_covers 10 _ (by decide +kernel) fun t hf y => ?_
  have e0 : ((((cfg0.win 10).blk t).view.emb y) 0 : ℕ) = t.val * 512 + (y 0).val := by blk_simp [(idx t).2.2.2.2.2.2.2.2.2.2.1]
  have e1 : ((((cfg0.win 10).blk t).view.emb y) 1 : ℕ) = (y 1).val := by blk_simp [(idx t).2.2.2.2.2.2.2.2.2.2.1]
  generalize ((cfg0.win 10).blk t).view.emb y = j at e0 e1
  blk_simp
  rw [after0_10]
  idx_vars y
  refine (out10 m c t y0 y1).trans ?_
  exact congrArg₂ (MixOut.merged (aA m c) (aC m c) (aT m c) (aU m c) (aV m c)) (Fin.ext e0.symm) (Fin.ext e1.symm)
@[inherit_doc arr8] theorem arr11 (c : Dev nD) : (dats m 0 c).arrAt 11 cfg0.N = fun j => (MixOut.x1 (aA m c) (aC m c) (aT m c) (aU m c) (aV m c) (aX m c) (aO m c)) (j 0) (j 1) := by
  refine (dats m 0 c).arrAt_eq_of_covers 11 _ (by decide +kernel) fun t hf y => ?_
  have e0 : ((((cfg0.win 11).blk t).view.emb y) 0 : ℕ) = t.val * 512 + (y 0).val := by blk_simp [(idx t).2.2.2.2.2.2.2.2.2.2.2.1]
  have e1 : ((((cfg0.win 11).blk t).view.emb y) 1 : ℕ) = (y 1).val := by blk_simp [(idx t).2.2.2.2.2.2.2.2.2.2.2.1]
  generalize ((cfg0.win 11).blk t).view.emb y = j at e0 e1
  blk_simp
  rw [after0_11]
  idx_vars y
  refine (out11 m c t y0 y1).trans ?_
  exact congrArg₂ (MixOut.x1 (aA m c) (aC m c) (aT m c) (aU m c) (aV m c) (aX m c) (aO m c)) (Fin.ext e0.symm) (Fin.ext e1.symm)
@[inherit_doc arr8] theorem arr12 (c : Dev nD) : (dats m 0 c).arrAt 12 cfg0.N = fun j => (MixOut.h2 (aA m c) (aC m c) (aT m c) (aU m c) (aV m c) (aX m c) (aO m c) (aG m c)) (j 0) (j 1) := by
  refine (dats m 0 c).arrAt_eq_of_covers 12 _ (by decide +kernel) fun t hf y => ?_
  have e0 : ((((cfg0.win 12).blk t).view.emb y) 0 : ℕ) = t.val * 512 + (y 0).val := by blk_simp [(idx t).2.2.2.2.2.2.2.2.2.2.2.2]
  have e1 : ((((cfg0.win 12).blk t).view.emb y) 1 : ℕ) = (y 1).val := by blk_simp [(idx t).2.2.2.2.2.2.2.2.2.2.2.2]
  generalize ((cfg0.win 12).blk t).view.emb y = j at e0 e1
  blk_simp
  rw [after0_12]
  idx_vars y
  refine (out12 m c t y0 y1).trans ?_
  exact congrArg₂ (MixOut.h2 (aA m c) (aC m c) (aT m c) (aU m c) (aV m c) (aX m c) (aO m c) (aG m c)) (Fin.ext e0.symm) (Fin.ext e1.symm)

set_option maxHeartbeats 2000000 in
/-- The five results, whatever functions they are. -/
theorem run_of (X : Dev nD → S4096x1024.Idx → EReal) (Y : Dev nD → S4096x1024.Idx → EReal) (Z : Dev nD → S4096x1024.Idx → EReal) (W : Dev nD → S4096x1024.Idx → EReal) (U : Dev nD → S4096x1024.Idx → EReal)
    (h8 : ∀ c, (dats m 0 c).arrAt 8 cfg0.N = X c) (h9 : ∀ c, (dats m 0 c).arrAt 9 cfg0.N = Y c) (h10 : ∀ c, (dats m 0 c).arrAt 10 cfg0.N = Z c) (h11 : ∀ c, (dats m 0 c).arrAt 11 cfg0.N = W c) (h12 : ∀ c, (dats m 0 c).arrAt 12 cfg0.N = U c) (ρ : Dev nD → PrngReg) :
    θ_run defs (onTc (τ := τ) (main (F := Ideal))) ⟨m, fun _ => 0, ρ⟩ (fun r => ∀ c : Dev nD,
    r.2.mem ((c.tc : Thread nD τ).loc main_v7_0) = X c ∧ r.2.mem ((c.tc : Thread nD τ).loc main_v7_1) = Y c ∧ r.2.mem ((c.tc : Thread nD τ).loc main_v7_2) = Z c ∧ r.2.mem ((c.tc : Thread nD τ).loc main_v7_3) = W c ∧ r.2.mem ((c.tc : Thread nD τ).loc main_v7_4) = U c) := by
  run_from Gen.run_main m ρ
  · exact h8 c
  · exact h9 c
  · exact h10 c
  · exact h11 c
  · exact h12 c

/-- The kernel's run: its five results as functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v7_0) = (fun j => MixOut.prod (aA m c) (aU m c) (j 0) (j 1))
    ∧ r.2.mem ((c.tc : Thread nD τ).loc main_v7_1) = (fun j => MixOut.prod (aC m c) (aV m c) (j 0) (j 1))
    ∧ r.2.mem ((c.tc : Thread nD τ).loc main_v7_2) = (fun j => MixOut.merged (aA m c) (aC m c) (aT m c) (aU m c) (aV m c) (j 0) (j 1))
    ∧ r.2.mem ((c.tc : Thread nD τ).loc main_v7_3) = (fun j => MixOut.x1 (aA m c) (aC m c) (aT m c) (aU m c) (aV m c) (aX m c) (aO m c) (j 0) (j 1))
    ∧ r.2.mem ((c.tc : Thread nD τ).loc main_v7_4) = (fun j => MixOut.h2 (aA m c) (aC m c) (aT m c) (aU m c) (aV m c) (aX m c) (aO m c) (aG m c) (j 0) (j 1))) :=
  run_of m (fun c j => MixOut.prod (aA m c) (aU m c) (j 0) (j 1)) (fun c j => MixOut.prod (aC m c) (aV m c) (j 0) (j 1)) (fun c j => MixOut.merged (aA m c) (aC m c) (aT m c) (aU m c) (aV m c) (j 0) (j 1)) (fun c j => MixOut.x1 (aA m c) (aC m c) (aT m c) (aU m c) (aV m c) (aX m c) (aO m c) (j 0) (j 1)) (fun c j => MixOut.h2 (aA m c) (aC m c) (aT m c) (aU m c) (aV m c) (aX m c) (aO m c) (aG m c) (j 0) (j 1))
    (arr8 m) (arr9 m) (arr10 m) (arr11 m) (arr12 m) ρ

end Cert.Kernel9Ideal.Val
end
-- ==== Proof.MixOut.Reference.lean ====
module

public import proofs.«01_k».proof.Proof.Gen.Reference9Ideal.Run
public import proofs.«01_k».proof.Proof.Gen.Reference9Ideal.Read
public import Idealize.ShloMosaic.Lib.Pointwise
public import Idealize.ShloMosaic.Lib.Claim
public import proofs.«01_k».proof.Proof.MixOut.Spec

@[expose] public section

set_option maxRecDepth 16384

noncomputable section

namespace Cert.Reference9Ideal.Val

open Idealize.ShloMosaic Idealize.ShloMosaic.TcCoe Idealize.SL.Sem
open Cert.Reference9Ideal Cert.Reference9Ideal.Gen Cert.Reference9Ideal.Read

variable (x0 x1 x3 : (⟨S4096x1024, .f32⟩ : BufTy).Contents (Elt Ideal)) (x2 : (⟨S4096x2048, .f32⟩ : BufTy).Contents (Elt Ideal))
  (x4 x5 x6 : (⟨S1024x1024, .f32⟩ : BufTy).Contents (Elt Ideal)) (x7 : (⟨S1024, .f32⟩ : BufTy).Contents (Elt Ideal))

/-- An argument, entry by entry. -/
abbrev fX (i : Fin 4096) (d : Fin 1024) : EReal := x0 (ix2 i d)
@[inherit_doc fX] abbrev fT (i : Fin 4096) (d : Fin 2048) : EReal := x2 (ix2 i d)
@[inherit_doc fX] abbrev fW (i : Fin 1024) (d : Fin 1024) : EReal := x4 (ix2 i d)
@[inherit_doc fX] abbrev fG (d : Fin 1024) : EReal := x7 (ix1 d)

theorem v9 (i : Fin 4096) (d : Fin 1024) : val_main_v9 (F := Ideal) x0 x4 (ix2 i d) = MixOut.prod (fX x0) (fW x4) i d := by
  unfold val_main_v9 val_main_v0 MixOut.prod
  pointwise
theorem v10 (i : Fin 4096) (d : Fin 1024) : val_main_v10 (F := Ideal) x1 x5 (ix2 i d) = MixOut.prod (fX x1) (fW x5) i d := by
  unfold val_main_v10 val_main_v1 MixOut.prod
  pointwise
theorem v6 (i : Fin 4096) (d : Fin 1024) : val_main_v6 (F := Ideal) x0 x1 x2 x4 x5 (ix2 i d) = MixOut.merged (fX x0) (fX x1) (fT x2) (fW x4) (fW x5) i d := by
  unfold val_main_v6 val_main_v5 val_main_v4 val_main_v3 val_main_v2 MixOut.merged
  pointwise
  exact congrArg₂ (· + ·) (congrArg (_ * ·) (v9 x0 x4 i d)) (congrArg (_ * ·) (v10 x1 x5 i d))
theorem v11 (i : Fin 4096) (d : Fin 1024) : val_main_v11 (F := Ideal) x0 x1 x2 x4 x5 (ix2 i d) = MixOut.merged (fX x0) (fX x1) (fT x2) (fW x4) (fW x5) i d := v6 x0 x1 x2 x4 x5 i d
theorem v8 (i : Fin 4096) (d : Fin 1024) : val_main_v8 (F := Ideal) x0 x1 x2 x3 x4 x5 x6 (ix2 i d) = MixOut.x1 (fX x0) (fX x1) (fT x2) (fW x4) (fW x5) (fX x3) (fW x6) i d := by
  unfold val_main_v8 val_main_v7 MixOut.x1
  pointwise
  simp only [v6]
theorem v25 (i : Fin 4096) (d : Fin 1024) : val_main_v25 (F := Ideal) x0 x1 x2 x3 x4 x5 x6 x7 (ix2 i d) = MixOut.h2 (fX x0) (fX x1) (fT x2) (fW x4) (fW x5) (fX x3) (fW x6) (fG x7) i d := by
  unfold val_main_v25 val_main_v24 val_main_v23 val_main_v22 val_main_v21 val_main_v20 val_main_v19 val_main_v18 val_main_v17 val_main_v16 val_main_v15 val_main_v14 val_main_v13 val_main_v12 val_main_cst val_main_cst_0 val_main_cst_1 MixOut.h2 Rms.hat Rms.var
  pointwise
  simp only [v8]

variable (m : (ℓ : Loc nD τ sig) → Buf (Elt Ideal) ℓ)

/-- The reference's run: its five results as the same functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v9) = (fun j => MixOut.prod (fX (m ((c.tc : Thread nD τ).loc main_arg0))) (fW (m ((c.tc : Thread nD τ).loc main_arg4))) (j 0) (j 1))
    ∧ r.2.mem ((c.tc : Thread nD τ).loc main_v10) = (fun j => MixOut.prod (fX (m ((c.tc : Thread nD τ).loc main_arg1))) (fW (m ((c.tc : Thread nD τ).loc main_arg5))) (j 0) (j 1))
    ∧ r.2.mem ((c.tc : Thread nD τ).loc main_v11) = (fun j => MixOut.merged (fX (m ((c.tc : Thread nD τ).loc main_arg0))) (fX (m ((c.tc : Thread nD τ).loc main_arg1))) (fT (m ((c.tc : Thread nD τ).loc main_arg2))) (fW (m ((c.tc : Thread nD τ).loc main_arg4))) (fW (m ((c.tc : Thread nD τ).loc main_arg5))) (j 0) (j 1))
    ∧ r.2.mem ((c.tc : Thread nD τ).loc main_v8) = (fun j => MixOut.x1 (fX (m ((c.tc : Thread nD τ).loc main_arg0))) (fX (m ((c.tc : Thread nD τ).loc main_arg1))) (fT (m ((c.tc : Thread nD τ).loc main_arg2))) (fW (m ((c.tc : Thread nD τ).loc main_arg4))) (fW (m ((c.tc : Thread nD τ).loc main_arg5))) (fX (m ((c.tc : Thread nD τ).loc main_arg3))) (fW (m ((c.tc : Thread nD τ).loc main_arg6))) (j 0) (j 1))
    ∧ r.2.mem ((c.tc : Thread nD τ).loc main_v25) = (fun j => MixOut.h2 (fX (m ((c.tc : Thread nD τ).loc main_arg0))) (fX (m ((c.tc : Thread nD τ).loc main_arg1))) (fT (m ((c.tc : Thread nD τ).loc main_arg2))) (fW (m ((c.tc : Thread nD τ).loc main_arg4))) (fW (m ((c.tc : Thread nD τ).loc main_arg5))) (fX (m ((c.tc : Thread nD τ).loc main_arg3))) (fW (m ((c.tc : Thread nD τ).loc main_arg6))) (fG (m ((c.tc : Thread nD τ).loc main_arg7))) (j 0) (j 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) := by
  refine (θ_run _ _ _).mono (fun r h c => ⟨(h c).1.trans ?_, (h c).2.1.trans ?_, (h c).2.2.1.trans ?_, (h c).2.2.2.1.trans ?_, (h c).2.2.2.2.1.trans ?_, (h c).2.2.2.2.2⟩) (Cert.Reference9Ideal.Value.run m ρ)
  · rw [val_main_v9_eq]
    funext j
    idx_vars j
    apply v9
  · rw [val_main_v10_eq]
    funext j
    idx_vars j
    apply v10
  · rw [val_main_v11_eq]
    funext j
    idx_vars j
    apply v11
  · rw [val_main_v8_eq]
    funext j
    idx_vars j
    apply v8
  · rw [val_main_v25_eq]
    funext j
    idx_vars j
    apply v25

end Cert.Reference9Ideal.Val
end
-- ==== Proof.Tiles.Spec.lean ====
module

public import proofs.«01_k».proof.Proof.Rms
public import proofs.«01_k».proof.Proof.Mlp.Spec
public import proofs.«01_k».proof.Proof.Attn.Table

@[expose] public section

set_option maxRecDepth 16384

noncomputable section

/-! The attention's bias tiles and the normalised rows, entry by entry, over the extended reals. -/

namespace Cert.Tiles

open scoped BigOperators
open Idealize.ShloMosaic

/-- What a tile holds outside the window. -/
abbrev off : EReal := Ideal.ofBits .f32 0xF149F2CA#32

/-- A head's bias of a key for a query, for a softmax to the base 2: the table's entry at their distance. -/
def bias (b : Fin 16 → Fin 513 → EReal) (h : Fin 16) (j : Fin 768) (i : Fin 256) : EReal :=
  if Attn.Band i j then b h ⟨min (i.val + 768 - j.val) 512, by omega⟩ * (((Real.log 2)⁻¹ : ℝ) : EReal) else off

/-- The normalised and weighted rows. -/
def rows (X : Fin 4096 → Fin 1024 → EReal) (g : Fin 1024 → EReal) (i : Fin 4096) (d : Fin 1024) : EReal := Rms.hat Mlp.N Mlp.eps (X i) d * g d

theorem later_all : ∀ r c : Fin 256, IntOp.cmpi CmpIPredicate.sge (BitVec.ofNat 32 c.val) (BitVec.ofNat 32 r.val) = if r.val ≤ c.val then 1#1 else 0#1 := by decide +kernel
theorem later (r c : Fin 256) : IntOp.cmpi CmpIPredicate.sge (BitVec.ofNat 32 c.val) (BitVec.ofNat 32 r.val) = if r.val ≤ c.val then 1#1 else 0#1 := later_all r c

/-- The quotient by 64, rounded down, as the kernel spells it. -/
abbrev quo (a : BitVec 32) : BitVec 32 := Scalar.select
  (IntOp.andi
    (IntOp.cmpi CmpIPredicate.ne (IntOp.subi (BitVec.setWidth 32 (IntOp.cmpi CmpIPredicate.sgt a 0#32)) (BitVec.setWidth 32 (IntOp.cmpi CmpIPredicate.slt a 0#32)))
      (Scalar.subi (Scalar.extui (Scalar.cmpi CmpIPredicate.sgt 64#32 0#32)) (Scalar.extui (Scalar.cmpi CmpIPredicate.slt 64#32 0#32))))
    (IntOp.cmpi CmpIPredicate.ne (IntOp.remsi ArithUnit.vector a 64#32) 0#32))
  (IntOp.subi (IntOp.divsi ArithUnit.vector a 64#32) 1#32) (IntOp.divsi ArithUnit.vector a 64#32)

theorem quo_eq : ∀ r : Fin 768, quo (BitVec.ofNat 32 r.val) = BitVec.ofNat 32 (r.val / 64) := by decide +kernel

theorem band_eq (i : Fin 256) (j : Fin 768) : IntOp.andi (IntOp.cmpi CmpIPredicate.sge (quo (BitVec.ofNat 32 j.val)) (quo (BitVec.ofNat 32 i.val)))
    (IntOp.cmpi CmpIPredicate.sle (quo (BitVec.ofNat 32 j.val)) (IntOp.addi (quo (BitVec.ofNat 32 i.val)) 8#32)) = if Attn.Band i j then 1#1 else 0#1 := by
  rw [← Attn.band_eq, quo_eq j, quo_eq ⟨i.val, by omega⟩, Attn.quo_eq j, Attn.quo_eq ⟨i.val, by omega⟩]

/-- The window, as the reference spells it: the distance in chunks lies between 0 and 8. -/
theorem age_eq : ∀ a b : Fin 12, IntOp.andi (IntOp.cmpi CmpIPredicate.sge (IntOp.addi (IntOp.subi (BitVec.ofNat 32 a.val) (BitVec.ofNat 32 b.val)) 8#32) 0#32)
    (IntOp.cmpi CmpIPredicate.sle (IntOp.addi (IntOp.subi (BitVec.ofNat 32 a.val) (BitVec.ofNat 32 b.val)) 8#32) 8#32)
      = if a.val ≤ b.val ∧ b.val ≤ a.val + 8 then 1#1 else 0#1 := by decide +kernel

/-- The number of a key, from the number of the keys in front of its tile. -/
theorem key (o : ℕ) {j : Fin 768} (r : Fin 256) (h : j.val = o + r.val) : IntOp.addi (BitVec.ofNat 32 r.val) (BitVec.ofNat 32 o) = BitVec.ofNat 32 j.val := by
  rw [h, Nat.add_comm, BitVec.ofNat_add]
  rfl

/-- Where an entry from the diagonal on and one before it come from. -/
theorem after_diag {o u : ℕ} (hu : u + o = 768) (r q : Fin 256) (e : r.val ≤ q.val) : u + (q.val + 256 - r.val) % 256 = q.val + 768 - (o + r.val) := by
  rw [show q.val + 256 - r.val = (q.val - r.val) + 256 by omega, Nat.add_mod_right, Nat.mod_eq_of_lt (by omega)]
  omega
@[inherit_doc after_diag] theorem before_diag {o v : ℕ} (hv : v + o = 512) (r q : Fin 256) (e : ¬ r.val ≤ q.val) : v + (q.val + 256 - r.val) % 256 = q.val + 768 - (o + r.val) := by
  rw [Nat.mod_eq_of_lt (by omega)]
  omega

/-- An entry of a tile, as the kernel forms it. -/
theorem entry (b : Fin 16 → Fin 513 → EReal) (h : Fin 16) (j : Fin 768) (i : Fin 256) (a : BitVec 32) (q : Fin 256) (x y : EReal) (o r : ℕ)
    (ha : a = BitVec.ofNat 32 j.val) (hi : i.val = q.val) (hj : j.val = o + r) (hx : x = b h ⟨min (q.val + 768 - (o + r)) 512, by omega⟩) (hy : y = (((Real.log 2)⁻¹ : ℝ) : EReal)) :
    Scalar.select (IntOp.andi (IntOp.cmpi CmpIPredicate.sge (quo a) (quo (BitVec.ofNat 32 q.val))) (IntOp.cmpi CmpIPredicate.sle (quo a) (IntOp.addi (quo (BitVec.ofNat 32 q.val)) 8#32)))
      (x * y) off = bias b h j i := by
  obtain rfl : i = q := Fin.ext hi
  rw [ha, band_eq, hx, hy]
  unfold bias
  by_cases e : Attn.Band i j
  · rw [if_pos e, if_pos e]
    exact (if_pos rfl).trans (congrArg (fun k => b h k * (((Real.log 2)⁻¹ : ℝ) : EReal)) (Fin.ext (congrArg (fun k => min (i.val + 768 - k) 512) hj.symm)))
  · rw [if_neg e, if_neg e]
    exact if_neg (by decide)

end Cert.Tiles
end
-- ==== Proof.Tiles.Kernel.lean ====
module

public import proofs.«01_k».proof.Proof.Gen.Kernel10Ideal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
public import proofs.«01_k».proof.Proof.Tiles.Spec

@[expose] public section

set_option maxRecDepth 16384

noncomputable section

namespace Cert.Kernel10Ideal.Val

open Idealize.ShloMosaic Idealize.ShloMosaic.TcCoe Idealize.SL.Sem
open Cert.Kernel10Ideal Cert.Kernel10Ideal.Gen

variable (m : (ℓ : Loc nD τ sig) → Buf (Elt Ideal) ℓ)

/-- The arguments, entry by entry. -/
abbrev aB (c : Dev nD) (i0 : Fin 16) (i1 : Fin 513) : EReal := m ((c : Thread nD τ).loc main_arg0) (ix2 i0 i1)
@[inherit_doc aB] abbrev aX (c : Dev nD) (i0 : Fin 4096) (i1 : Fin 1024) : EReal := m ((c : Thread nD τ).loc main_arg1) (ix2 i0 i1)
@[inherit_doc aB] abbrev aG (c : Dev nD) (i0 : Fin 1024) : EReal := m ((c : Thread nD τ).loc main_arg2) (ix1 i0)

theorem idx : ∀ t : Fin cfg0.N, win0_0.index t = ![t.val, 0, 0] ∧ win0_1.index t = ![t.val, 0] ∧ win0_2.index t = ![0, 0]
    ∧ win0_3.index t = ![t.val, 0, 0] ∧ win0_4.index t = ![t.val, 0] :=
  (by decide +kernel : ∀ t : Fin grid0.N, _)

theorem tlt (t : Fin cfg0.N) : t.val < 16 := lt_of_lt_of_eq t.isLt N_0

/-- The head of block `t`, and the row of the array that row `a` of block `t` is. -/
abbrev hd (t : Fin cfg0.N) : Fin 16 := ⟨t.val, tlt t⟩
@[inherit_doc hd] abbrev row (t : Fin cfg0.N) (a : Fin 256) : Fin 4096 := ⟨t.val * 256 + a.val, by have := tlt t; omega⟩

/-- What the pipelined arrays hold as the pipeline starts: the table's last column fills the places behind it. -/
theorem entry0 (c : Dev nD) (h : Fin 16) (z : Fin 1) (j : Fin 1024) : V m c main_v5 (ix3 h z j) = (aB m c h ⟨min j.val 512, by omega⟩ : EReal) := by
  unfold V
  unfold hostOps0
  after_reads_at
  by_cases e : j.val < 512
  · refine (dif_pos e).trans ?_
    after_reads_at
    exact congrArg (aB m c h) (Fin.ext (min_eq_left (Nat.le_of_lt e)).symm)
  · refine (dif_neg e).trans ?_
    after_reads_at
    exact congrArg (aB m c h) (Fin.ext (min_eq_right (Nat.le_of_not_lt e)).symm)
@[inherit_doc entry0] theorem entry2 (c : Dev nD) (i0 : Fin 1) (i1 : Fin 1024) : V m c main_v0 (ix2 i0 i1) = (aG m c i1 : EReal) := by
  unfold V
  unfold hostOps0
  after_reads_at
/-- The blocks at a point, read in the arguments. -/
theorem blk0 (c : Dev nD) (t : Fin cfg0.N) (z w : Fin 1) (j : Fin 1024) : iblk m c 0 t (ix3 z w j) = aB m c (hd t) ⟨min j.val 512, by omega⟩ := by
  rw [← entry0 m c (hd t) w j]
  blk_ext [iblk, (idx t).1]
@[inherit_doc blk0] theorem blk1 (c : Dev nD) (t : Fin cfg0.N) (a : Fin 256) (d : Fin 1024) : iblk m c 1 t (ix2 a d) = aX m c (row t a) d := by
  unfold aX
  rw [← V_main_arg1 m c]
  blk_ext [iblk, (idx t).2.1]
@[inherit_doc blk0] theorem blk2 (c : Dev nD) (t : Fin cfg0.N) (a : Fin 1) (d : Fin 1024) : iblk m c 2 t (ix2 a d) = aG m c d := by
  rw [← entry2 m c a d]
  blk_ext [iblk, (idx t).2.2.1]

/-- The rotated rows of a tile: from the diagonal on out of one part of the table, before it out of the part in front. -/
theorem rolled (X Y : Vec Ideal S1x1x256 .f32) (r c : Fin 256) : k0_pay3 (F := Ideal) X Y (ix2 r c)
    = if r.val ≤ c.val then X (ix3 0 0 ⟨(c.val + 256 - r.val) % 256, Nat.mod_lt _ (by norm_num)⟩) else Y (ix3 0 0 ⟨(c.val + 256 - r.val) % 256, Nat.mod_lt _ (by norm_num)⟩) := by
  unfold k0_pay3
  pointwise
  rw [Tiles.later]
  have f : (⟨(c.val + 256 - r.val % 256) % 256, Nat.mod_lt _ (by norm_num)⟩ : Fin 256) = ⟨(c.val + 256 - r.val) % 256, Nat.mod_lt _ (by norm_num)⟩ :=
    Fin.ext (by rw [Nat.mod_eq_of_lt r.isLt])
  by_cases e : r.val ≤ c.val
  · rw [if_pos e, if_pos e]
    exact (if_pos rfl).trans (congrArg (fun k => X (ix3 0 0 k)) f)
  · rw [if_neg e, if_neg e]
    exact (if_neg (by decide)).trans (congrArg (fun k => Y (ix3 0 0 k)) f)

/-- The same at a point: `o` counts the keys in front of the tile, `u` and `v` the columns in front of the table's two parts. -/
theorem rolled_at (c : Dev nD) (t : Fin cfg0.N) (o u v : ℕ) (hu : u + o = 768) (hv : v + o = 512) (h1 h2) (r q : Fin 256) :
    k0_pay3 (F := Ideal) (View.ld (iblk m c 0 t) (Rect.unit (s := S1x1x1024) ![0, 0, u] ![1, 1, 256] h1)) (View.ld (iblk m c 0 t) (Rect.unit (s := S1x1x1024) ![0, 0, v] ![1, 1, 256] h2)) (ix2 r q)
      = aB m c (hd t) ⟨min (q.val + 768 - (o + r.val)) 512, by omega⟩ := by
  rw [rolled]
  by_cases e : r.val ≤ q.val
  · rw [if_pos e]
    pointwise
    refine (blk0 m c t _ _ _).trans (congrArg (aB m c (hd t)) (Fin.ext ?_))
    exact congrArg (min · 512) (Tiles.after_diag hu r q e)
  · rw [if_neg e]
    pointwise
    refine (blk0 m c t _ _ _).trans (congrArg (aB m c (hd t)) (Fin.ext ?_))
    exact congrArg (min · 512) (Tiles.before_diag hv r q e)

/-- The named constant. -/
theorem log2e : (Named.named κ "log2e" 0x3FB8AA3B#32 : Ideal .f32) = (((Real.log 2)⁻¹ : ℝ) : EReal) := IdealRules.named_const.ideal_named_scalar _ _ _ _ rfl

/-- The results' blocks. -/
theorem out3 (c : Dev nD) (t : Fin cfg0.N) (z : Fin 1) (j : Fin 768) (i : Fin 256) :
    out0_3 (iblk m c 0 t) (iblk m c 1 t) (iblk m c 2 t) (ix3 z j i) = Tiles.bias (aB m c) (hd t) j i := by
  unfold_out out0_3
  frame_out
  canon_tiles x w
  · idx_vars x
    unfold k0_pay1 k0_pay19 k0_pay20 k0_pay21
    pointwise
    exact Tiles.entry (aB m c) (hd t) j i _ x2 _ _ 512 x1.val (Tiles.key 512 x1 w1) w2 w1 (rolled_at m c t 512 256 0 rfl rfl _ _ x1 x2) log2e
  · idx_vars x
    unfold k0_pay17 k0_pay14 k0_pay15 k0_pay16 k0_pay13
    pointwise
    exact Tiles.entry (aB m c) (hd t) j i _ x2 _ _ 256 x1.val (Tiles.key 256 x1 w1) w2 w1 (rolled_at m c t 256 512 256 rfl rfl _ _ x1 x2) log2e
  · idx_vars x
    unfold k0_pay11 k0_pay9 k0_pay10 k0_pay8 k0_pay7 k0_pay6 k0_pay5 k0_pay4
    pointwise
    have w1' : j.val = 0 + x1.val := by omega
    exact Tiles.entry (aB m c) (hd t) j i _ x2 _ _ 0 x1.val (Tiles.key 0 x1 w1') w2 w1' (rolled_at m c t 0 768 512 rfl rfl _ _ x1 x2) log2e
@[inherit_doc out3] theorem out4 (c : Dev nD) (t : Fin cfg0.N) (a : Fin 256) (d : Fin 1024) :
    out0_4 (iblk m c 0 t) (iblk m c 1 t) (iblk m c 2 t) (ix2 a d) = Tiles.rows (aX m c) (aG m c) (row t a) d := by
  unfold_out out0_4
  frame_out
  unfold k0_pay2 Tiles.rows Rms.hat Rms.var
  pointwise
  refine congrArg₂ (· * ·) (congrArg₂ (· * ·) (blk1 m c t a d) ?_) (blk2 m c t 0 d)
  exact congrArg (fun s => Ideal.rsqrt (Ideal.div s Mlp.N + Mlp.eps)) (Finset.sum_congr rfl fun x _ => congrArg₂ (· * ·) (blk1 m c t a x) (blk1 m c t a x))

/-- The results' arrays. -/
theorem arr3 (c : Dev nD) : (dats m 0 c).arrAt 3 cfg0.N = fun j => Tiles.bias (aB m c) (j 0) (j 1) (j 2) := by
  refine (dats m 0 c).arrAt_eq_of_covers 3 _ (by decide +kernel) fun t hf y => ?_
  have e0 : ((((cfg0.win 3).blk t).view.emb y) 0 : ℕ) = t.val + (y 0).val := by blk_simp [(idx t).2.2.2.1]
  have e1 : ((((cfg0.win 3).blk t).view.emb y) 1 : ℕ) = (y 1).val := by blk_simp [(idx t).2.2.2.1]
  have e2 : ((((cfg0.win 3).blk t).view.emb y) 2 : ℕ) = (y 2).val := by blk_simp [(idx t).2.2.2.1]
  generalize ((cfg0.win 3).blk t).view.emb y = j at e0 e1 e2
  blk_simp
  rw [after0_3]
  idx_vars y
  refine (out3 m c t y0 y1 y2).trans ?_
  exact congr (congrArg₂ (Tiles.bias (aB m c)) (Fin.ext (show t.val = (j 0).val by rw [e0, Nat.lt_one_iff.mp y0.isLt, Nat.add_zero])) (Fin.ext e1.symm)) (Fin.ext e2.symm)
@[inherit_doc arr3] theorem arr4 (c : Dev nD) : (dats m 0 c).arrAt 4 cfg0.N = fun j => (Tiles.rows (aX m c) (aG m c)) (j 0) (j 1) := by
  refine (dats m 0 c).arrAt_eq_of_covers 4 _ (by decide +kernel) fun t hf y => ?_
  have e0 : ((((cfg0.win 4).blk t).view.emb y) 0 : ℕ) = t.val * 256 + (y 0).val := by blk_simp [(idx t).2.2.2.2]
  have e1 : ((((cfg0.win 4).blk t).view.emb y) 1 : ℕ) = (y 1).val := by blk_simp [(idx t).2.2.2.2]
  generalize ((cfg0.win 4).blk t).view.emb y = j at e0 e1
  blk_simp
  rw [after0_4]
  idx_vars y
  refine (out4 m c t y0 y1).trans ?_
  exact congrArg₂ (Tiles.rows (aX m c) (aG m c)) (Fin.ext e0.symm) (Fin.ext e1.symm)

set_option maxHeartbeats 2000000 in
/-- The two results, whatever functions they are. -/
theorem run_of (X : Dev nD → S16x768x256.Idx → EReal) (Y : Dev nD → S4096x1024.Idx → EReal)
    (h3 : ∀ c, (dats m 0 c).arrAt 3 cfg0.N = X c) (h4 : ∀ c, (dats m 0 c).arrAt 4 cfg0.N = Y c) (ρ : Dev nD → PrngReg) :
    θ_run defs (onTc (τ := τ) (main (F := Ideal))) ⟨m, fun _ => 0, ρ⟩ (fun r => ∀ c : Dev nD,
    r.2.mem ((c.tc : Thread nD τ).loc main_v6_0) = X c ∧ r.2.mem ((c.tc : Thread nD τ).loc main_v6_1) = Y c) := by
  run_from Gen.run_main m ρ
  · exact h3 c
  · exact h4 c

/-- The kernel's run: its two results as functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v6_0) = (fun j => Tiles.bias (aB m c) (j 0) (j 1) (j 2))
    ∧ r.2.mem ((c.tc : Thread nD τ).loc main_v6_1) = (fun j => Tiles.rows (aX m c) (aG m c) (j 0) (j 1))) :=
  run_of m (fun c j => Tiles.bias (aB m c) (j 0) (j 1) (j 2)) (fun c j => Tiles.rows (aX m c) (aG m c) (j 0) (j 1))
    (arr3 m) (arr4 m) ρ

end Cert.Kernel10Ideal.Val
end
-- ==== Proof.Tiles.Reference.lean ====
module

public import proofs.«01_k».proof.Proof.Gen.Reference10Ideal.Run
public import proofs.«01_k».proof.Proof.Gen.Reference10Ideal.Read
public import Idealize.ShloMosaic.Lib.Pointwise
public import Idealize.ShloMosaic.Lib.Claim
public import proofs.«01_k».proof.Proof.Tiles.Spec

@[expose] public section

set_option maxRecDepth 16384

noncomputable section

namespace Cert.Reference10Ideal.Val

open Idealize.ShloMosaic Idealize.ShloMosaic.TcCoe Idealize.SL.Sem
open Cert.Reference10Ideal Cert.Reference10Ideal.Gen Cert.Reference10Ideal.Read

variable (x0 : (⟨S16x513, .f32⟩ : BufTy).Contents (Elt Ideal)) (x1 : (⟨S4096x1024, .f32⟩ : BufTy).Contents (Elt Ideal)) (x2 : (⟨S1024, .f32⟩ : BufTy).Contents (Elt Ideal))

/-- An argument, entry by entry. -/
abbrev fB (h : Fin 16) (k : Fin 513) : EReal := x0 (ix2 h k)
@[inherit_doc fB] abbrev fX (i : Fin 4096) (d : Fin 1024) : EReal := x1 (ix2 i d)
@[inherit_doc fB] abbrev fG (d : Fin 1024) : EReal := x2 (ix1 d)

theorem v9 (z : Fin 1) (i : Fin 256) : val_main_v9 (F := Ideal) (ix2 z i) = BitVec.ofNat 32 (i.val / 64) := by
  unfold val_main_v9 val_main_call0_v13 val_main_call0_v12 val_main_call0_c_0 val_main_call0_v11 val_main_call0_v10 val_main_call0_v9 val_main_call0_c val_main_call0_v8 val_main_call0_v7 val_main_call0_v6 val_main_call0_v5 val_main_call0_v4 val_main_call0_v3 val_main_call0_v2 val_main_call0_v1 val_main_call0_v0 val_main_c_0 val_main_v1 val_main_v0
  pointwise
  exact Attn.quo_eq ⟨i.val, by omega⟩
theorem v10 (j : Fin 768) (z : Fin 1) : val_main_v10 (F := Ideal) (ix2 j z) = BitVec.ofNat 32 (j.val / 64) := by
  unfold val_main_v10 val_main_call1_v13 val_main_call1_v12 val_main_call1_c_0 val_main_call1_v11 val_main_call1_v10 val_main_call1_v9 val_main_call1_c val_main_call1_v8 val_main_call1_v7 val_main_call1_v6 val_main_call1_v5 val_main_call1_v4 val_main_call1_v3 val_main_call1_v2 val_main_call1_v1 val_main_call1_v0 val_main_c_1 val_main_v3 val_main_v2
  pointwise
  exact Attn.quo_eq j
theorem v33 (j : Fin 768) (i : Fin 256) : val_main_v33 (F := Ideal) (ix2 j i) = if Attn.Band i j then 1#1 else 0#1 := by
  unfold val_main_v33 val_main_v32 val_main_v31 val_main_c_9 val_main_v30 val_main_v29 val_main_c_8 val_main_v15 val_main_v14 val_main_c_2 val_main_v13 val_main_v12 val_main_v11
  pointwise
  rw [v9, v10]
  exact Tiles.age_eq ⟨i.val / 64, by omega⟩ ⟨j.val / 64, by omega⟩
theorem v24 (j : Fin 768) (i : Fin 256) (z : Fin 1) : val_main_v24 (F := Ideal) (ix3 j i z) = BitVec.ofNat 32 (min (i.val + 768 - j.val) 512) := by
  unfold val_main_v24 val_main_v23 val_main_v22 val_main_v21 val_main_c_7 val_main_v20 val_main_v19 val_main_c_6 val_main_v18 val_main_v17 val_main_c_5 val_main_v16 val_main_call2_v4 val_main_call2_v3 val_main_call2_v2 val_main_call2_v1 val_main_call2_v0 val_main_c_4 val_main_c_3 val_main_v8 val_main_v7 val_main_c val_main_v6 val_main_v5 val_main_v4 val_main_v3 val_main_v2 val_main_v1 val_main_v0
  pointwise
  exact Attn.dist_eq _ _ i.isLt j.isLt
theorem v25 (h : Fin 16) (j : Fin 768) (i : Fin 256) : val_main_v25 (F := Ideal) x0 (ix3 h j i) = fB x0 h ⟨min (i.val + 768 - j.val) 512, by omega⟩ := by
  unfold val_main_v25
  exact Attn.gather_at _ x0 _ h j i _ _ (v24 j i 0)
theorem v28 (h : Fin 16) (j : Fin 768) (i : Fin 256) : val_main_v28 (F := Ideal) x0 (ix3 h j i)
    = fB x0 h ⟨min (i.val + 768 - j.val) 512, by omega⟩ * (((Real.log 2)⁻¹ : ℝ) : EReal) := by
  unfold val_main_v28 val_main_v27 val_main_v26 val_main_cst
  pointwise
  rw [v25, Attn.c_two, Attn.log_two, Ideal.div_coe Attn.log_two_ne, one_div]
theorem v35 (h : Fin 16) (j : Fin 768) (i : Fin 256) : val_main_v35 (F := Ideal) x0 (ix3 h j i) = Tiles.bias (fB x0) h j i := by
  unfold val_main_v35 val_main_call3_v2 val_main_call3_v1 val_main_call3_v0 val_main_cst_10 val_main_v34 Tiles.bias
  pointwise
  rw [v33, v28]
  by_cases e : Attn.Band i j
  · rw [if_pos e, if_pos e]
    exact if_pos rfl
  · rw [if_neg e, if_neg e]
    exact if_neg (by decide)
theorem v49 (i : Fin 4096) (d : Fin 1024) : val_main_v49 (F := Ideal) x1 x2 (ix2 i d) = Tiles.rows (fX x1) (fG x2) i d := by
  unfold val_main_v49 val_main_v48 val_main_v47 val_main_v46 val_main_v45 val_main_v44 val_main_v43 val_main_v42 val_main_v41 val_main_cst_13 val_main_v40 val_main_v39 val_main_cst_12 val_main_v38 val_main_v37 val_main_cst_11 val_main_v36 Tiles.rows Rms.hat Rms.var
  pointwise

variable (m : (ℓ : Loc nD τ sig) → Buf (Elt Ideal) ℓ)

/-- The reference's run: its two results as the same functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v35) = (fun j => Tiles.bias (fB (m ((c.tc : Thread nD τ).loc main_arg0))) (j 0) (j 1) (j 2))
    ∧ r.2.mem ((c.tc : Thread nD τ).loc main_v49) = (fun j => Tiles.rows (fX (m ((c.tc : Thread nD τ).loc main_arg1))) (fG (m ((c.tc : Thread nD τ).loc main_arg2))) (j 0) (j 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run _ _ _).mono (fun r h c => ⟨(h c).1.trans ?_, (h c).2.1.trans ?_, (h c).2.2⟩) (Cert.Reference10Ideal.Value.run m ρ)
  · rw [val_main_v35_eq]
    funext j
    idx_vars j
    apply v35
  · rw [val_main_v49_eq]
    funext j
    idx_vars j
    apply v49

end Cert.Reference10Ideal.Val
end
-- ==== Proof.Gates.Spec.lean ====
module

public import proofs.«01_k».proof.Proof.Qk.Spec
public import proofs.«01_k».proof.Proof.Conv.Spec

@[expose] public section

noncomputable section

/-! The gates, the normalised queries and keys and the gated short convolution, entry by entry, over the extended reals. -/

namespace Cert.Gates

open scoped BigOperators
open Idealize.ShloMosaic

/-- A gate: the logistic function of a projected row with its bias. -/
def gate (H : Fin 4096 → Fin 1024 → EReal) (W : Fin 1024 → Fin 2048 → EReal) (b : Fin 2048 → EReal) (i : Fin 4096) (d : Fin 2048) : EReal :=
  Ideal.logistic (∑ k, H i k * W k d + b d)

/-- A head's rows normalised, weighted and scaled. -/
def normed (X : Fin 4096 → Fin 1024 → EReal) (g : Fin 64 → EReal) (s : EReal) (i : Fin 4096) (d : Fin 1024) : EReal :=
  Qk.hat X i d * g (Qk.lane d) * s

/-- The scale of the queries: an eighth, to the base of two. -/
abbrev scale : EReal := (((Real.log 256)⁻¹ : ℝ) : EReal)

theorem scale_eq : (1 / 8 : ℝ) * (1 / Real.log 2) = (Real.log 256)⁻¹ := by
  have e : Real.log 256 = 8 * Real.log 2 := by
    rw [show (256 : ℝ) = 2 ^ 8 by norm_num, Real.log_pow]
    norm_num
  rw [e, mul_inv, one_div, one_div]

theorem c_8th : Ideal.ofBits .f32 0x3E000000#32 = ((1 / 8 : ℝ) : EReal) := by
  simp [Ideal.ofBits, Ideal.ieee, -EReal.coe_mul]; norm_num

/-- The convolution times its gate. -/
def conv (P : Fin 4096 → Fin 6144 → EReal) (W : Fin 3 → Fin 1024 → EReal) (b : Fin 1024 → EReal) (i : Fin 4096) (d : Fin 1024) : EReal :=
  Conv.bg P i d * Conv.conv P W b i d

/-- An entry of the operand some rows back, whatever the spelling of the row. -/
theorem back_row (P : Fin 4096 → Fin 6144 → EReal) (k : ℕ) (i j : Fin 4096) (d : Fin 1024) (h : j.val + k = i.val) :
    Conv.cg P j d * Conv.xc P j d = Conv.back P k i d := by
  unfold Conv.back
  rw [dif_pos (by omega)]
  have e : (⟨i.val - k, by omega⟩ : Fin 4096) = j := Fin.ext (by show i.val - k = j.val; omega)
  rw [e]
theorem back_none (P : Fin 4096 → Fin 6144 → EReal) (k : ℕ) (i : Fin 4096) (d : Fin 1024) (h : i.val < k) : 0 = Conv.back P k i d := by
  unfold Conv.back
  rw [dif_neg (by omega)]

end Cert.Gates
end
-- ==== Proof.Gates.Kernel.lean ====
module

public import proofs.«01_k».proof.Proof.Gen.Kernel11Ideal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
public import proofs.«01_k».proof.Proof.Gates.Spec
public import proofs.«01_k».proof.Proof.Qk.Slab
public import proofs.«01_k».proof.Proof.Conv.Kernel
public import proofs.«01_k».proof.Proof.Canon

@[expose] public section

set_option maxRecDepth 16384

noncomputable section

namespace Cert.Kernel11Ideal.Val

open Idealize.ShloMosaic Idealize.ShloMosaic.TcCoe Idealize.SL.Sem
open Cert.Kernel11Ideal Cert.Kernel11Ideal.Gen

variable (m : (ℓ : Loc nD τ sig) → Buf (Elt Ideal) ℓ)

/-- The arguments, entry by entry. -/
abbrev aH (c : Dev nD) (i0 : Fin 4096) (i1 : Fin 1024) : EReal := m ((c : Thread nD τ).loc main_arg0) (ix2 i0 i1)
@[inherit_doc aH] abbrev aP (c : Dev nD) (i0 : Fin 4096) (i1 : Fin 6144) : EReal := m ((c : Thread nD τ).loc main_arg1) (ix2 i0 i1)
@[inherit_doc aH] abbrev aU (c : Dev nD) (i0 : Fin 1024) (i1 : Fin 2048) : EReal := m ((c : Thread nD τ).loc main_arg2) (ix2 i0 i1)
@[inherit_doc aH] abbrev aV (c : Dev nD) (i0 : Fin 2048) : EReal := m ((c : Thread nD τ).loc main_arg3) (ix1 i0)
@[inherit_doc aH] abbrev aQ (c : Dev nD) (i0 : Fin 64) : EReal := m ((c : Thread nD τ).loc main_arg4) (ix1 i0)
@[inherit_doc aH] abbrev aK (c : Dev nD) (i0 : Fin 64) : EReal := m ((c : Thread nD τ).loc main_arg5) (ix1 i0)
@[inherit_doc aH] abbrev aW (c : Dev nD) (i0 : Fin 3) (i1 : Fin 1024) : EReal := m ((c : Thread nD τ).loc main_arg6) (ix2 i0 i1)
@[inherit_doc aH] abbrev aB (c : Dev nD) (i0 : Fin 1024) : EReal := m ((c : Thread nD τ).loc main_arg7) (ix1 i0)
@[inherit_doc aH] abbrev xQ (c : Dev nD) (i : Fin 4096) (d : Fin 1024) : EReal := aP m c i ⟨d.val, by omega⟩
@[inherit_doc aH] abbrev xK (c : Dev nD) (i : Fin 4096) (d : Fin 1024) : EReal := aP m c i ⟨1024 + d.val, by omega⟩

/-- The queries and keys that enter are numbers. -/
structure Reals (m : (ℓ : Loc nD τ sig) → Buf (Elt Ideal) ℓ) : Prop where
  xq : ∀ c i d, Qk.IsReal (xQ m c i d)
  xk : ∀ c i d, Qk.IsReal (xK m c i d)

theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 1]
    ∧ win0_5.index t = ![0, 0]
    ∧ win0_6.index t = ![0, 0]
    ∧ win0_7.index t = ![t.val, 3]
    ∧ win0_8.index t = ![t.val, 4]
    ∧ win0_9.index t = ![t.val, 5]
    ∧ win0_10.index t = ![t.val * 64 - 1, 4]
    ∧ win0_11.index t = ![t.val * 64 - 1, 5]
    ∧ win0_12.index t = ![0, 0]
    ∧ win0_13.index t = ![0, 0]
    ∧ win0_14.index t = ![t.val, 0]
    ∧ win0_15.index t = ![t.val, 0]
    ∧ win0_16.index t = ![t.val, 0]
    ∧ win0_17.index t = ![t.val, 0] ∧ (grid0.coords t 0).val = t.val :=
  (by decide +kernel : ∀ t : Fin grid0.N, _)

theorem tlt (t : Fin cfg0.N) : t.val < 8 := lt_of_lt_of_eq t.isLt N_0
theorem coord (t : Fin cfg0.N) : (grid0.coords t 0).val = t.val := (idx t).2.2.2.2.2.2.2.2.2.2.2.2.2.2.2.2.2.2

/-- The row of the array that row `a` of block `t` is. -/
abbrev row (t : Fin cfg0.N) (a : Fin 512) : Fin 4096 := ⟨t.val * 512 + a.val, by have := tlt t; omega⟩

/-- What the pipelined arrays hold as the pipeline starts. -/
theorem entry0 (c : Dev nD) (i0 : Fin 4096) (i1 : Fin 1024) : V m c main_v8 (ix2 i0 i1) = (aH m c i0 i1 : EReal) := by
  unfold V
  unfold hostOps0
  after_reads_at
@[inherit_doc entry0] theorem entry3 (c : Dev nD) (i0 : Fin 4096) (i1 : Fin 6144) : V m c main_v9 (ix2 i0 i1) = (aP m c i0 i1 : EReal) := by
  unfold V
  unfold hostOps0
  after_reads_at
@[inherit_doc entry0] theorem entry1 (c : Dev nD) (i0 : Fin 1024) (i1 : Fin 2048) : V m c main_v10 (ix2 i0 i1) = (aU m c i0 i1 : EReal) := by
  unfold V
  unfold hostOps0
  after_reads_at
@[inherit_doc entry0] theorem entry2 (c : Dev nD) (i0 : Fin 1) (i1 : Fin 2048) : V m c main_v11 (ix2 i0 i1) = (aV m c i1 : EReal) := by
  unfold V
  unfold hostOps0
  after_reads_at
@[inherit_doc entry0] theorem entry13 (c : Dev nD) (i0 : Fin 1) (i1 : Fin 1024) : V m c main_v12 (ix2 i0 i1) = (aB m c i1 : EReal) := by
  unfold V
  unfold hostOps0
  after_reads_at
@[inherit_doc entry0] theorem entry5 (c : Dev nD) (i0 : Fin 1) (i1 : Fin 1024) : V m c main_v3 (ix2 i0 i1) = (aQ m c (Qk.lane i1) : EReal) := by
  unfold V
  unfold hostOps0
  after_reads_at
@[inherit_doc entry0] theorem entry6 (c : Dev nD) (i0 : Fin 1) (i1 : Fin 1024) : V m c main_v7 (ix2 i0 i1) = (aK m c (Qk.lane i1) : EReal) := by
  unfold V
  unfold hostOps0
  after_reads_at
/-- The blocks at a point, read in the arguments. -/
theorem blk0 (c : Dev nD) (t : Fin cfg0.N) (a : Fin 512) (d : Fin 1024) : iblk m c 0 t (ix2 a d) = aH m c (row t a) d := by
  rw [← entry0 m c]
  blk_ext [iblk, (idx t).1]
@[inherit_doc blk0] theorem blk1 (c : Dev nD) (t : Fin cfg0.N) (a : Fin 1024) (d : Fin 2048) : iblk m c 1 t (ix2 a d) = aU m c a d := by
  rw [← entry1 m c]
  blk_ext [iblk, (idx t).2.1]
@[inherit_doc blk0] theorem blk2 (c : Dev nD) (t : Fin cfg0.N) (a : Fin 1) (d : Fin 2048) : iblk m c 2 t (ix2 a d) = aV m c d := by
  rw [← entry2 m c a d]
  blk_ext [iblk, (idx t).2.2.1]
@[inherit_doc blk0] theorem blk3 (c : Dev nD) (t : Fin cfg0.N) (a : Fin 512) (d : Fin 1024) : iblk m c 3 t (ix2 a d) = xQ m c (row t a) d := by
  unfold xQ
  rw [← entry3 m c]
  blk_ext [iblk, (idx t).2.2.2.1]
@[inherit_doc blk0] theorem blk4 (c : Dev nD) (t : Fin cfg0.N) (a : Fin 512) (d : Fin 1024) : iblk m c 4 t (ix2 a d) = xK m c (row t a) d := by
  unfold xK
  rw [← entry3 m c]
  blk_ext [iblk, (idx t).2.2.2.2.1]
@[inherit_doc blk0] theorem blk5 (c : Dev nD) (t : Fin cfg0.N) (a : Fin 1) (d : Fin 1024) : iblk m c 5 t (ix2 a d) = aQ m c (Qk.lane d) := by
  rw [← entry5 m c a d]
  blk_ext [iblk, (idx t).2.2.2.2.2.1]
@[inherit_doc blk0] theorem blk6 (c : Dev nD) (t : Fin cfg0.N) (a : Fin 1) (d : Fin 1024) : iblk m c 6 t (ix2 a d) = aK m c (Qk.lane d) := by
  rw [← entry6 m c a d]
  blk_ext [iblk, (idx t).2.2.2.2.2.2.1]
@[inherit_doc blk0] theorem blk7 (c : Dev nD) (t : Fin cfg0.N) (a : Fin 512) (d : Fin 1024) : iblk m c 7 t (ix2 a d) = Conv.bg (aP m c) (row t a) d := by
  unfold Conv.bg
  rw [← entry3 m c]
  blk_ext [iblk, (idx t).2.2.2.2.2.2.2.1]
@[inherit_doc blk0] theorem blk8 (c : Dev nD) (t : Fin cfg0.N) (a : Fin 512) (d : Fin 1024) : iblk m c 8 t (ix2 a d) = Conv.cg (aP m c) (row t a) d := by
  unfold Conv.cg
  rw [← entry3 m c]
  blk_ext [iblk, (idx t).2.2.2.2.2.2.2.2.1]
@[inherit_doc blk0] theorem blk9 (c : Dev nD) (t : Fin cfg0.N) (a : Fin 512) (d : Fin 1024) : iblk m c 9 t (ix2 a d) = Conv.xc (aP m c) (row t a) d := by
  unfold Conv.xc
  rw [← entry3 m c]
  blk_ext [iblk, (idx t).2.2.2.2.2.2.2.2.2.1]
@[inherit_doc blk0] theorem blk10 (c : Dev nD) (t : Fin cfg0.N) (a : Fin 8) (d : Fin 1024) (h : 0 < t.val) : iblk m c 10 t (ix2 a d) = Conv.cg (aP m c) ⟨t.val * 512 - 8 + a.val, by have := tlt t; omega⟩ d := by
  unfold Conv.cg
  rw [← entry3 m c]
  blk_ext [iblk, (idx t).2.2.2.2.2.2.2.2.2.2.1]
@[inherit_doc blk0] theorem blk11 (c : Dev nD) (t : Fin cfg0.N) (a : Fin 8) (d : Fin 1024) (h : 0 < t.val) : iblk m c 11 t (ix2 a d) = Conv.xc (aP m c) ⟨t.val * 512 - 8 + a.val, by have := tlt t; omega⟩ d := by
  unfold Conv.xc
  rw [← entry3 m c]
  blk_ext [iblk, (idx t).2.2.2.2.2.2.2.2.2.2.2.1]
@[inherit_doc blk0] theorem blk12 (c : Dev nD) (t : Fin cfg0.N) (a : Fin 3) (d : Fin 1024) : iblk m c 12 t (ix2 a d) = aW m c a d := by
  unfold aW
  rw [← V_main_arg6 m c]
  blk_ext [iblk, (idx t).2.2.2.2.2.2.2.2.2.2.2.2.1]
@[inherit_doc blk0] theorem blk13 (c : Dev nD) (t : Fin cfg0.N) (a : Fin 1) (d : Fin 1024) : iblk m c 13 t (ix2 a d) = aB m c d := by
  rw [← entry13 m c a d]
  blk_ext [iblk, (idx t).2.2.2.2.2.2.2.2.2.2.2.2.2.1]

/-- A column from column `o` on, of those that `n` columns leave room for. -/
theorem col_lt {n w o : ℕ} (ho : o + w ≤ n) (d : Fin w) : o + d.val < n := by omega

/-- Some columns of a block, from column `o` on. -/
theorem ld1 (c : Dev nD) (t : Fin cfg0.N) (o : ℕ) (ho : o + 256 ≤ 2048) (h) (a : Fin 1024) (d : Fin 256) :
    View.ld (iblk m c 1 t) (Rect.unit (s := S1024x2048) ![0, o] ![1024, 256] h) (ix2 a d) = aU m c a ⟨o + d.val, col_lt ho d⟩ := by
  pointwise
  exact blk1 m c t a _
@[inherit_doc ld1] theorem ld2 (c : Dev nD) (t : Fin cfg0.N) (o : ℕ) (ho : o + 256 ≤ 2048) (h) (d : Fin 256) :
    View.ld (iblk m c 2 t) (Rect.unit (s := S1x2048) ![0, o] ![1, 256] h) (ix2 0 d) = aV m c ⟨o + d.val, col_lt ho d⟩ := by
  pointwise
  exact blk2 m c t 0 _
@[inherit_doc ld1] theorem ld3 (c : Dev nD) (t : Fin cfg0.N) (o : ℕ) (ho : o + 128 ≤ 1024) (h) (a : Fin 512) (d : Fin 128) :
    View.ld (iblk m c 3 t) (Rect.unit (s := S512x1024) ![0, o] ![512, 128] h) (ix2 a d) = xQ m c (row t a) ⟨o + d.val, col_lt ho d⟩ := by
  pointwise
  exact blk3 m c t a _
@[inherit_doc ld1] theorem ld4 (c : Dev nD) (t : Fin cfg0.N) (o : ℕ) (ho : o + 128 ≤ 1024) (h) (a : Fin 512) (d : Fin 128) :
    View.ld (iblk m c 4 t) (Rect.unit (s := S512x1024) ![0, o] ![512, 128] h) (ix2 a d) = xK m c (row t a) ⟨o + d.val, col_lt ho d⟩ := by
  pointwise
  exact blk4 m c t a _
@[inherit_doc ld1] theorem ld5 (c : Dev nD) (t : Fin cfg0.N) (o : ℕ) (ho : o + 128 ≤ 1024) (h) (d : Fin 128) :
    View.ld (iblk m c 5 t) (Rect.unit (s := S1x1024) ![0, o] ![1, 128] h) (ix2 0 d) = aQ m c (Qk.lane ⟨o + d.val, col_lt ho d⟩) := by
  pointwise
  exact blk5 m c t 0 _
@[inherit_doc ld1] theorem ld6 (c : Dev nD) (t : Fin cfg0.N) (o : ℕ) (ho : o + 128 ≤ 1024) (h) (d : Fin 128) :
    View.ld (iblk m c 6 t) (Rect.unit (s := S1x1024) ![0, o] ![1, 128] h) (ix2 0 d) = aK m c (Qk.lane ⟨o + d.val, col_lt ho d⟩) := by
  pointwise
  exact blk6 m c t 0 _
@[inherit_doc ld1] theorem ld7 (c : Dev nD) (t : Fin cfg0.N) (o : ℕ) (ho : o + 256 ≤ 1024) (h) (a : Fin 512) (d : Fin 256) :
    View.ld (iblk m c 7 t) (Rect.unit (s := S512x1024) ![0, o] ![512, 256] h) (ix2 a d) = Conv.bg (aP m c) (row t a) ⟨o + d.val, col_lt ho d⟩ := by
  pointwise
  exact blk7 m c t a _
@[inherit_doc ld1] theorem ld8 (c : Dev nD) (t : Fin cfg0.N) (o : ℕ) (ho : o + 256 ≤ 1024) (h) (a : Fin 512) (d : Fin 256) :
    View.ld (iblk m c 8 t) (Rect.unit (s := S512x1024) ![0, o] ![512, 256] h) (ix2 a d) = Conv.cg (aP m c) (row t a) ⟨o + d.val, col_lt ho d⟩ := by
  pointwise
  exact blk8 m c t a _
@[inherit_doc ld1] theorem ld9 (c : Dev nD) (t : Fin cfg0.N) (o : ℕ) (ho : o + 256 ≤ 1024) (h) (a : Fin 512) (d : Fin 256) :
    View.ld (iblk m c 9 t) (Rect.unit (s := S512x1024) ![0, o] ![512, 256] h) (ix2 a d) = Conv.xc (aP m c) (row t a) ⟨o + d.val, col_lt ho d⟩ := by
  pointwise
  exact blk9 m c t a _
@[inherit_doc ld1] theorem ld10 (c : Dev nD) (t : Fin cfg0.N) (ht : 0 < t.val) (o : ℕ) (ho : o + 256 ≤ 1024) (h) (a : Fin 8) (d : Fin 256) :
    View.ld (iblk m c 10 t) (Rect.unit (s := S8x1024) ![0, o] ![8, 256] h) (ix2 a d) = Conv.cg (aP m c) ⟨t.val * 512 - 8 + a.val, by have := tlt t; omega⟩ ⟨o + d.val, col_lt ho d⟩ := by
  pointwise
  exact blk10 m c t a _ ht
@[inherit_doc ld1] theorem ld11 (c : Dev nD) (t : Fin cfg0.N) (ht : 0 < t.val) (o : ℕ) (ho : o + 256 ≤ 1024) (h) (a : Fin 8) (d : Fin 256) :
    View.ld (iblk m c 11 t) (Rect.unit (s := S8x1024) ![0, o] ![8, 256] h) (ix2 a d) = Conv.xc (aP m c) ⟨t.val * 512 - 8 + a.val, by have := tlt t; omega⟩ ⟨o + d.val, col_lt ho d⟩ := by
  pointwise
  exact blk11 m c t a _ ht
@[inherit_doc ld1] theorem ld12 (c : Dev nD) (t : Fin cfg0.N) (o : ℕ) (ho : o + 256 ≤ 1024) (h) (a : Fin 3) (d : Fin 256) :
    View.ld (iblk m c 12 t) (Rect.unit (s := S3x1024) ![0, o] ![3, 256] h) (ix2 a d) = aW m c a ⟨o + d.val, col_lt ho d⟩ := by
  pointwise
  exact blk12 m c t a _
@[inherit_doc ld1] theorem ld13 (c : Dev nD) (t : Fin cfg0.N) (o : ℕ) (ho : o + 256 ≤ 1024) (h) (d : Fin 256) :
    View.ld (iblk m c 13 t) (Rect.unit (s := S1x1024) ![0, o] ![1, 256] h) (ix2 0 d) = aB m c ⟨o + d.val, col_lt ho d⟩ := by
  pointwise
  exact blk13 m c t 0 _

/-- 256 columns of the gates. -/
theorem gate_eq (H : Fin 4096 → Fin 1024 → EReal) (W : Fin 1024 → Fin 2048 → EReal) (B : Fin 2048 → EReal) (R : Fin 512 → Fin 4096) (o : ℕ) (ho : o + 256 ≤ 2048)
    (x : FVec Ideal S512x1024 .bf16) (w : FVec Ideal S1024x256 .bf16) (b : FVec Ideal S1x256 .f32)
    (hx : ∀ a k, x (ix2 a k) = H (R a) k) (hw : ∀ k (d : Fin 256), w (ix2 k d) = W k ⟨o + d.val, col_lt ho d⟩) (hb : ∀ d : Fin 256, b (ix2 0 d) = B ⟨o + d.val, col_lt ho d⟩)
    (a : Fin 512) (d : Fin 256) : k0_pay8 (F := Ideal) (k0_pay2 x) w b (ix2 a d) = Gates.gate H W B (R a) ⟨o + d.val, col_lt ho d⟩ := by
  unfold k0_pay8 k0_pay2 Gates.gate
  pointwise
  exact congrArg Ideal.logistic (congrArg₂ (· + ·) (Finset.sum_congr rfl fun k _ => congrArg₂ (· * ·) (hx a k) (hw k d)) (hb d))

/-- 128 columns of normalised rows, weighted and scaled. -/
def normed (s : Ideal .f32) (x : FVec Ideal S512x128 .bf16) (g : FVec Ideal S1x128 .f32) : FVec Ideal S512x128 .bf16 :=
  truncf .bf16 (mulf (mulf (Cert.Kernel6Ideal.Val.hats x) (broadcastTo S512x128 (shapeCast S1x128 g shapeCasts_S1x128_S1x128) broadcasts_S1x128_S512x128))
    (broadcast S512x128 s)) bitsLt_bf16_f32

theorem normed_eq (X : Fin 4096 → Fin 1024 → EReal) (G : Fin 64 → EReal) (R : Fin 512 → Fin 4096) (o : ℕ) (ho : o + 128 ≤ 1024) (hm : o % 64 = 0)
    (s : Ideal .f32) (x : FVec Ideal S512x128 .bf16) (g : FVec Ideal S1x128 .f32)
    (hx : ∀ a (d : Fin 128), x (ix2 a d) = X (R a) ⟨o + d.val, col_lt ho d⟩) (hg : ∀ d : Fin 128, g (ix2 0 d) = G (Qk.lane ⟨o + d.val, col_lt ho d⟩)) (fx : ∀ i d, Qk.IsReal (X i d))
    (a : Fin 512) (d : Fin 128) : normed s x g (ix2 a d) = Gates.normed X G s (R a) ⟨o + d.val, col_lt ho d⟩ := by
  unfold normed Gates.normed
  pointwise
  exact congrArg (· * s) (congrArg₂ (· * ·) (Cert.Kernel6Ideal.Val.hats_eq X R o ho hm x hx fx a d) (hg d))

/-- 256 columns of the gated convolution. -/
theorem conv_eq (P : Fin 4096 → Fin 6144 → EReal) (W : Fin 3 → Fin 1024 → EReal) (B : Fin 1024 → EReal) (t : Fin cfg0.N) (o : ℕ) (ho : o + 256 ≤ 1024)
    (u v y : FVec Ideal S512x256 .bf16) (p q : FVec Ideal S8x256 .bf16) (w : FVec Ideal S3x256 .f32) (b : FVec Ideal S1x256 .f32)
    (hu : ∀ a (d : Fin 256), u (ix2 a d) = Conv.cg P (row t a) ⟨o + d.val, col_lt ho d⟩) (hv : ∀ a (d : Fin 256), v (ix2 a d) = Conv.xc P (row t a) ⟨o + d.val, col_lt ho d⟩)
    (hy : ∀ a (d : Fin 256), y (ix2 a d) = Conv.bg P (row t a) ⟨o + d.val, col_lt ho d⟩)
    (hp : 0 < t.val → ∀ (a : Fin 8) (d : Fin 256), p (ix2 a d) = Conv.cg P ⟨t.val * 512 - 8 + a.val, by have := tlt t; omega⟩ ⟨o + d.val, col_lt ho d⟩)
    (hq : 0 < t.val → ∀ (a : Fin 8) (d : Fin 256), q (ix2 a d) = Conv.xc P ⟨t.val * 512 - 8 + a.val, by have := tlt t; omega⟩ ⟨o + d.val, col_lt ho d⟩)
    (hw : ∀ k (d : Fin 256), w (ix2 k d) = W k ⟨o + d.val, col_lt ho d⟩) (hb : ∀ d : Fin 256, b (ix2 0 d) = B ⟨o + d.val, col_lt ho d⟩) (a : Fin 512) (d : Fin 256) :
    k0_pay22 (F := Ideal) (k0_pay18 u v) (k0_pay19 (BitVec.ofNat 32 (grid0.coords t 0).val) p q) w (k0_pay20 w) (iota .tc S512x1 32 [0] iota_S512x1_d0_w32)
      (k0_pay21 (BitVec.ofNat 32 (grid0.coords t 0).val) u v p q) y b (ix2 a d) = Gates.conv P W B (row t a) ⟨o + d.val, col_lt ho d⟩ := by
  have ht := tlt t
  have ha := a.isLt
  have e0 : ∀ (k : ℕ) (i : Fin 4096) (r : Fin 512), t.val * 512 + r.val + k = i.val → u (ix2 r d) * v (ix2 r d) = Conv.back P k i ⟨o + d.val, col_lt ho d⟩ := fun k i r e => by
    rw [hu, hv]
    exact Gates.back_row P k i _ _ e
  have e1 : ∀ (k : ℕ) (i : Fin 4096) (r : Fin 8), t.val * 512 + r.val + k = i.val + 8 → k ≤ 2 → i.val < t.val * 512 + k →
      (if 0 < t.val then p (ix2 r d) * q (ix2 r d) else 0) = Conv.back P k i ⟨o + d.val, col_lt ho d⟩ := fun k i r e h h' => by
    by_cases hp' : 0 < t.val
    · rw [if_pos hp', hp hp', hq hp']
      exact Gates.back_row P k i _ _ (by show t.val * 512 - 8 + r.val + k = i.val; omega)
    · rw [if_neg hp']
      exact Gates.back_none P k i _ (by omega)
  unfold k0_pay22 k0_pay21 k0_pay20 k0_pay19 k0_pay18 Gates.conv Conv.conv
  pointwise
  simp only [coord]
  refine congrArg₂ (· * ·) (hy a d) (congrArg₂ (· + ·) (hb d) (congrArg₂ (· + ·) (congrArg₂ (· + ·) (congrArg₂ (· * ·) (hw 0 d) ?_) (congrArg₂ (· * ·) (hw 1 d) ?_))
    (congrArg₂ (· * ·) (hw 2 d) (e0 0 _ a rfl))))
  · refine (Cert.KernelIdeal.Val.sel_eq a.val 1 ha (by norm_num) _ _).trans ?_
    by_cases h1 : a.val = 1
    · refine (if_pos h1).trans ((Cert.KernelIdeal.Val.sel_gt t.val 0 (by omega) (by norm_num) _ _).trans ?_)
      exact e1 2 _ 7 (by show t.val * 512 + 7 + 2 = t.val * 512 + a.val + 8; omega) (by norm_num) (by show t.val * 512 + a.val < _; omega)
    refine (if_neg h1).trans ?_
    refine (Cert.KernelIdeal.Val.sel_eq a.val 0 ha (by norm_num) _ _).trans ?_
    by_cases h2 : a.val = 0
    · refine (if_pos h2).trans ((Cert.KernelIdeal.Val.sel_gt t.val 0 (by omega) (by norm_num) _ _).trans ?_)
      exact e1 2 _ 6 (by show t.val * 512 + 6 + 2 = t.val * 512 + a.val + 8; omega) (by norm_num) (by show t.val * 512 + a.val < _; omega)
    · refine (if_neg h2).trans ?_
      exact e0 2 (row t a) ⟨(a.val + 512 - 2) % 512, Nat.mod_lt _ (by norm_num)⟩ (by show t.val * 512 + (a.val + 512 - 2) % 512 + 2 = t.val * 512 + a.val; omega)
  · refine (Cert.KernelIdeal.Val.sel_eq a.val 0 ha (by norm_num) _ _).trans ?_
    by_cases h1 : a.val = 0
    · refine (if_pos h1).trans ((Cert.KernelIdeal.Val.sel_gt t.val 0 (by omega) (by norm_num) _ _).trans ?_)
      exact e1 1 _ 7 (by show t.val * 512 + 7 + 1 = t.val * 512 + a.val + 8; omega) (by norm_num) (by show t.val * 512 + a.val < _; omega)
    · refine (if_neg h1).trans ?_
      exact e0 1 (row t a) ⟨(a.val + 512 - 1) % 512, Nat.mod_lt _ (by norm_num)⟩ (by show t.val * 512 + (a.val + 512 - 1) % 512 + 1 = t.val * 512 + a.val; omega)

/-- The named constant. -/
theorem q_scale : (Named.named κ "q_scale" 0x3E38AA3B#32 : Ideal .f32) = Gates.scale := IdealRules.named_const.ideal_named_scalar _ _ _ _ rfl

/-- The results' blocks. -/
theorem out14 (c : Dev nD) (t : Fin cfg0.N) (a : Fin 512) (e : Fin 2048) :
    out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 a e) = Gates.gate (aH m c) (aU m c) (aV m c) (row t a) e := by
  unfold_out out0_14
  frame_out
  canon_tiles x w
  · idx_vars x
    obtain rfl : x0 = a := Fin.ext w0.symm
    obtain ⟨e, he⟩ := e
    obtain rfl : e = 1792 + x1.val := w1
    exact gate_eq (aH m c) (aU m c) (aV m c) (row t) 1792 (by norm_num) _ _ _ (blk0 m c t) (ld1 m c t 1792 (by norm_num) _) (ld2 m c t 1792 (by norm_num) _) x0 x1
  · idx_vars x
    obtain rfl : x0 = a := Fin.ext w0.symm
    obtain ⟨e, he⟩ := e
    obtain rfl : e = 1536 + x1.val := w1
    exact gate_eq (aH m c) (aU m c) (aV m c) (row t) 1536 (by norm_num) _ _ _ (blk0 m c t) (ld1 m c t 1536 (by norm_num) _) (ld2 m c t 1536 (by norm_num) _) x0 x1
  · idx_vars x
    obtain rfl : x0 = a := Fin.ext w0.symm
    obtain ⟨e, he⟩ := e
    obtain rfl : e = 1280 + x1.val := w1
    exact gate_eq (aH m c) (aU m c) (aV m c) (row t) 1280 (by norm_num) _ _ _ (blk0 m c t) (ld1 m c t 1280 (by norm_num) _) (ld2 m c t 1280 (by norm_num) _) x0 x1
  · idx_vars x
    obtain rfl : x0 = a := Fin.ext w0.symm
    obtain ⟨e, he⟩ := e
    obtain rfl : e = 1024 + x1.val := w1
    exact gate_eq (aH m c) (aU m c) (aV m c) (row t) 1024 (by norm_num) _ _ _ (blk0 m c t) (ld1 m c t 1024 (by norm_num) _) (ld2 m c t 1024 (by norm_num) _) x0 x1
  · idx_vars x
    obtain rfl : x0 = a := Fin.ext w0.symm
    obtain ⟨e, he⟩ := e
    obtain rfl : e = 768 + x1.val := w1
    exact gate_eq (aH m c) (aU m c) (aV m c) (row t) 768 (by norm_num) _ _ _ (blk0 m c t) (ld1 m c t 768 (by norm_num) _) (ld2 m c t 768 (by norm_num) _) x0 x1
  · idx_vars x
    obtain rfl : x0 = a := Fin.ext w0.symm
    obtain ⟨e, he⟩ := e
    obtain rfl : e = 512 + x1.val := w1
    exact gate_eq (aH m c) (aU m c) (aV m c) (row t) 512 (by norm_num) _ _ _ (blk0 m c t) (ld1 m c t 512 (by norm_num) _) (ld2 m c t 512 (by norm_num) _) x0 x1
  · idx_vars x
    obtain rfl : x0 = a := Fin.ext w0.symm
    obtain ⟨e, he⟩ := e
    obtain rfl : e = 256 + x1.val := w1
    exact gate_eq (aH m c) (aU m c) (aV m c) (row t) 256 (by norm_num) _ _ _ (blk0 m c t) (ld1 m c t 256 (by norm_num) _) (ld2 m c t 256 (by norm_num) _) x0 x1
  · idx_vars x
    obtain rfl : x0 = a := Fin.ext w0.symm
    obtain ⟨e, he⟩ := e
    obtain rfl : e = 0 + x1.val := w1.trans (Nat.zero_add _).symm
    exact gate_eq (aH m c) (aU m c) (aV m c) (row t) 0 (by norm_num) _ _ _ (blk0 m c t) (ld1 m c t 0 (by norm_num) _) (ld2 m c t 0 (by norm_num) _) x0 x1
@[inherit_doc out14] theorem out15 (hp : Reals m) (c : Dev nD) (t : Fin cfg0.N) (a : Fin 512) (e : Fin 1024) :
    out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 a e) = Gates.normed (xQ m c) (aQ m c) Gates.scale (row t a) e := by
  rw [← q_scale]
  unfold_out out0_15
  frame_out
  canon_tiles x w
  · idx_vars x
    obtain rfl : x0 = a := Fin.ext w0.symm
    obtain ⟨e, he⟩ := e
    obtain rfl : e = 896 + x1.val := w1
    exact normed_eq (xQ m c) (aQ m c) (row t) 896 (by norm_num) (by norm_num) (Named.named κ "q_scale" 0x3E38AA3B#32 : Ideal .f32) _ _ (ld3 m c t 896 (by norm_num) _) (ld5 m c t 896 (by norm_num) _) (hp.xq c) x0 x1
  · idx_vars x
    obtain rfl : x0 = a := Fin.ext w0.symm
    obtain ⟨e, he⟩ := e
    obtain rfl : e = 768 + x1.val := w1
    exact normed_eq (xQ m c) (aQ m c) (row t) 768 (by norm_num) (by norm_num) (Named.named κ "q_scale" 0x3E38AA3B#32 : Ideal .f32) _ _ (ld3 m c t 768 (by norm_num) _) (ld5 m c t 768 (by norm_num) _) (hp.xq c) x0 x1
  · idx_vars x
    obtain rfl : x0 = a := Fin.ext w0.symm
    obtain ⟨e, he⟩ := e
    obtain rfl : e = 640 + x1.val := w1
    exact normed_eq (xQ m c) (aQ m c) (row t) 640 (by norm_num) (by norm_num) (Named.named κ "q_scale" 0x3E38AA3B#32 : Ideal .f32) _ _ (ld3 m c t 640 (by norm_num) _) (ld5 m c t 640 (by norm_num) _) (hp.xq c) x0 x1
  · idx_vars x
    obtain rfl : x0 = a := Fin.ext w0.symm
    obtain ⟨e, he⟩ := e
    obtain rfl : e = 512 + x1.val := w1
    exact normed_eq (xQ m c) (aQ m c) (row t) 512 (by norm_num) (by norm_num) (Named.named κ "q_scale" 0x3E38AA3B#32 : Ideal .f32) _ _ (ld3 m c t 512 (by norm_num) _) (ld5 m c t 512 (by norm_num) _) (hp.xq c) x0 x1
  · idx_vars x
    obtain rfl : x0 = a := Fin.ext w0.symm
    obtain ⟨e, he⟩ := e
    obtain rfl : e = 384 + x1.val := w1
    exact normed_eq (xQ m c) (aQ m c) (row t) 384 (by norm_num) (by norm_num) (Named.named κ "q_scale" 0x3E38AA3B#32 : Ideal .f32) _ _ (ld3 m c t 384 (by norm_num) _) (ld5 m c t 384 (by norm_num) _) (hp.xq c) x0 x1
  · idx_vars x
    obtain rfl : x0 = a := Fin.ext w0.symm
    obtain ⟨e, he⟩ := e
    obtain rfl : e = 256 + x1.val := w1
    exact normed_eq (xQ m c) (aQ m c) (row t) 256 (by norm_num) (by norm_num) (Named.named κ "q_scale" 0x3E38AA3B#32 : Ideal .f32) _ _ (ld3 m c t 256 (by norm_num) _) (ld5 m c t 256 (by norm_num) _) (hp.xq c) x0 x1
  · idx_vars x
    obtain rfl : x0 = a := Fin.ext w0.symm
    obtain ⟨e, he⟩ := e
    obtain rfl : e = 128 + x1.val := w1
    exact normed_eq (xQ m c) (aQ m c) (row t) 128 (by norm_num) (by norm_num) (Named.named κ "q_scale" 0x3E38AA3B#32 : Ideal .f32) _ _ (ld3 m c t 128 (by norm_num) _) (ld5 m c t 128 (by norm_num) _) (hp.xq c) x0 x1
  · idx_vars x
    obtain rfl : x0 = a := Fin.ext w0.symm
    obtain ⟨e, he⟩ := e
    obtain rfl : e = 0 + x1.val := w1.trans (Nat.zero_add _).symm
    exact normed_eq (xQ m c) (aQ m c) (row t) 0 (by norm_num) (by norm_num) (Named.named κ "q_scale" 0x3E38AA3B#32 : Ideal .f32) _ _ (ld3 m c t 0 (by norm_num) _) (ld5 m c t 0 (by norm_num) _) (hp.xq c) x0 x1
@[inherit_doc out14] theorem out16 (hp : Reals m) (c : Dev nD) (t : Fin cfg0.N) (a : Fin 512) (e : Fin 1024) :
    out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 a e) = Gates.normed (xK m c) (aK m c) 1 (row t a) e := by
  rw [← Qk.c_1]
  unfold_out out0_16
  frame_out
  canon_tiles x w
  · idx_vars x
    obtain rfl : x0 = a := Fin.ext w0.symm
    obtain ⟨e, he⟩ := e
    obtain rfl : e = 896 + x1.val := w1
    exact normed_eq (xK m c) (aK m c) (row t) 896 (by norm_num) (by norm_num) (Scalar.ofBits .f32 0x3F800000#32) _ _ (ld4 m c t 896 (by norm_num) _) (ld6 m c t 896 (by norm_num) _) (hp.xk c) x0 x1
  · idx_vars x
    obtain rfl : x0 = a := Fin.ext w0.symm
    obtain ⟨e, he⟩ := e
    obtain rfl : e = 768 + x1.val := w1
    exact normed_eq (xK m c) (aK m c) (row t) 768 (by norm_num) (by norm_num) (Scalar.ofBits .f32 0x3F800000#32) _ _ (ld4 m c t 768 (by norm_num) _) (ld6 m c t 768 (by norm_num) _) (hp.xk c) x0 x1
  · idx_vars x
    obtain rfl : x0 = a := Fin.ext w0.symm
    obtain ⟨e, he⟩ := e
    obtain rfl : e = 640 + x1.val := w1
    exact normed_eq (xK m c) (aK m c) (row t) 640 (by norm_num) (by norm_num) (Scalar.ofBits .f32 0x3F800000#32) _ _ (ld4 m c t 640 (by norm_num) _) (ld6 m c t 640 (by norm_num) _) (hp.xk c) x0 x1
  · idx_vars x
    obtain rfl : x0 = a := Fin.ext w0.symm
    obtain ⟨e, he⟩ := e
    obtain rfl : e = 512 + x1.val := w1
    exact normed_eq (xK m c) (aK m c) (row t) 512 (by norm_num) (by norm_num) (Scalar.ofBits .f32 0x3F800000#32) _ _ (ld4 m c t 512 (by norm_num) _) (ld6 m c t 512 (by norm_num) _) (hp.xk c) x0 x1
  · idx_vars x
    obtain rfl : x0 = a := Fin.ext w0.symm
    obtain ⟨e, he⟩ := e
    obtain rfl : e = 384 + x1.val := w1
    exact normed_eq (xK m c) (aK m c) (row t) 384 (by norm_num) (by norm_num) (Scalar.ofBits .f32 0x3F800000#32) _ _ (ld4 m c t 384 (by norm_num) _) (ld6 m c t 384 (by norm_num) _) (hp.xk c) x0 x1
  · idx_vars x
    obtain rfl : x0 = a := Fin.ext w0.symm
    obtain ⟨e, he⟩ := e
    obtain rfl : e = 256 + x1.val := w1
    exact normed_eq (xK m c) (aK m c) (row t) 256 (by norm_num) (by norm_num) (Scalar.ofBits .f32 0x3F800000#32) _ _ (ld4 m c t 256 (by norm_num) _) (ld6 m c t 256 (by norm_num) _) (hp.xk c) x0 x1
  · idx_vars x
    obtain rfl : x0 = a := Fin.ext w0.symm
    obtain ⟨e, he⟩ := e
    obtain rfl : e = 128 + x1.val := w1
    exact normed_eq (xK m c) (aK m c) (row t) 128 (by norm_num) (by norm_num) (Scalar.ofBits .f32 0x3F800000#32) _ _ (ld4 m c t 128 (by norm_num) _) (ld6 m c t 128 (by norm_num) _) (hp.xk c) x0 x1
  · idx_vars x
    obtain rfl : x0 = a := Fin.ext w0.symm
    obtain ⟨e, he⟩ := e
    obtain rfl : e = 0 + x1.val := w1.trans (Nat.zero_add _).symm
    exact normed_eq (xK m c) (aK m c) (row t) 0 (by norm_num) (by norm_num) (Scalar.ofBits .f32 0x3F800000#32) _ _ (ld4 m c t 0 (by norm_num) _) (ld6 m c t 0 (by norm_num) _) (hp.xk c) x0 x1
@[inherit_doc out14] theorem out17 (c : Dev nD) (t : Fin cfg0.N) (a : Fin 512) (e : Fin 1024) :
    out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 a e) = Gates.conv (aP m c) (aW m c) (aB m c) (row t a) e := by
  unfold_out out0_17
  frame_out
  canon_tiles x w
  · idx_vars x
    obtain rfl : x0 = a := Fin.ext w0.symm
    obtain ⟨e, he⟩ := e
    obtain rfl : e = 768 + x1.val := w1
    exact conv_eq (aP m c) (aW m c) (aB m c) t 768 (by norm_num) _ _ _ _ _ _ _ (ld8 m c t 768 (by norm_num) _) (ld9 m c t 768 (by norm_num) _) (ld7 m c t 768 (by norm_num) _) (fun ht => ld10 m c t ht 768 (by norm_num) _) (fun ht => ld11 m c t ht 768 (by norm_num) _) (ld12 m c t 768 (by norm_num) _) (ld13 m c t 768 (by norm_num) _) x0 x1
  · idx_vars x
    obtain rfl : x0 = a := Fin.ext w0.symm
    obtain ⟨e, he⟩ := e
    obtain rfl : e = 512 + x1.val := w1
    exact conv_eq (aP m c) (aW m c) (aB m c) t 512 (by norm_num) _ _ _ _ _ _ _ (ld8 m c t 512 (by norm_num) _) (ld9 m c t 512 (by norm_num) _) (ld7 m c t 512 (by norm_num) _) (fun ht => ld10 m c t ht 512 (by norm_num) _) (fun ht => ld11 m c t ht 512 (by norm_num) _) (ld12 m c t 512 (by norm_num) _) (ld13 m c t 512 (by norm_num) _) x0 x1
  · idx_vars x
    obtain rfl : x0 = a := Fin.ext w0.symm
    obtain ⟨e, he⟩ := e
    obtain rfl : e = 256 + x1.val := w1
    exact conv_eq (aP m c) (aW m c) (aB m c) t 256 (by norm_num) _ _ _ _ _ _ _ (ld8 m c t 256 (by norm_num) _) (ld9 m c t 256 (by norm_num) _) (ld7 m c t 256 (by norm_num) _) (fun ht => ld10 m c t ht 256 (by norm_num) _) (fun ht => ld11 m c t ht 256 (by norm_num) _) (ld12 m c t 256 (by norm_num) _) (ld13 m c t 256 (by norm_num) _) x0 x1
  · idx_vars x
    obtain rfl : x0 = a := Fin.ext w0.symm
    obtain ⟨e, he⟩ := e
    obtain rfl : e = 0 + x1.val := w1.trans (Nat.zero_add _).symm
    exact conv_eq (aP m c) (aW m c) (aB m c) t 0 (by norm_num) _ _ _ _ _ _ _ (ld8 m c t 0 (by norm_num) _) (ld9 m c t 0 (by norm_num) _) (ld7 m c t 0 (by norm_num) _) (fun ht => ld10 m c t ht 0 (by norm_num) _) (fun ht => ld11 m c t ht 0 (by norm_num) _) (ld12 m c t 0 (by norm_num) _) (ld13 m c t 0 (by norm_num) _) x0 x1

/-- The results' arrays. -/
theorem arr14 (c : Dev nD) : (dats m 0 c).arrAt 14 cfg0.N = fun j => (Gates.gate (aH m c) (aU m c) (aV m c)) (j 0) (j 1) := by
  refine (dats m 0 c).arrAt_eq_of_covers 14 _ (by decide +kernel) fun t hf y => ?_
  have e0 : ((((cfg0.win 14).blk t).view.emb y) 0 : ℕ) = t.val * 512 + (y 0).val := by blk_simp [(idx t).2.2.2.2.2.2.2.2.2.2.2.2.2.2.1]
  have e1 : ((((cfg0.win 14).blk t).view.emb y) 1 : ℕ) = (y 1).val := by blk_simp [(idx t).2.2.2.2.2.2.2.2.2.2.2.2.2.2.1]
  generalize ((cfg0.win 14).blk t).view.emb y = j at e0 e1
  blk_simp
  rw [after0_14]
  idx_vars y
  refine (out14 m c t y0 y1).trans ?_
  exact congrArg₂ (Gates.gate (aH m c) (aU m c) (aV m c)) (Fin.ext e0.symm) (Fin.ext e1.symm)
@[inherit_doc arr14] theorem arr15 (hp : Reals m) (c : Dev nD) : (dats m 0 c).arrAt 15 cfg0.N = fun j => (Gates.normed (xQ m c) (aQ m c) Gates.scale) (j 0) (j 1) := by
  refine (dats m 0 c).arrAt_eq_of_covers 15 _ (by decide +kernel) fun t hf y => ?_
  have e0 : ((((cfg0.win 15).blk t).view.emb y) 0 : ℕ) = t.val * 512 + (y 0).val := by blk_simp [(idx t).2.2.2.2.2.2.2.2.2.2.2.2.2.2.2.1]
  have e1 : ((((cfg0.win 15).blk t).view.emb y) 1 : ℕ) = (y 1).val := by blk_simp [(idx t).2.2.2.2.2.2.2.2.2.2.2.2.2.2.2.1]
  generalize ((cfg0.win 15).blk t).view.emb y = j at e0 e1
  blk_simp
  rw [after0_15]
  idx_vars y
  refine (out15 m hp c t y0 y1).trans ?_
  exact congrArg₂ (Gates.normed (xQ m c) (aQ m c) Gates.scale) (Fin.ext e0.symm) (Fin.ext e1.symm)
@[inherit_doc arr14] theorem arr16 (hp : Reals m) (c : Dev nD) : (dats m 0 c).arrAt 16 cfg0.N = fun j => (Gates.normed (xK m c) (aK m c) 1) (j 0) (j 1) := by
  refine (dats m 0 c).arrAt_eq_of_covers 16 _ (by decide +kernel) fun t hf y => ?_
  have e0 : ((((cfg0.win 16).blk t).view.emb y) 0 : ℕ) = t.val * 512 + (y 0).val := by blk_simp [(idx t).2.2.2.2.2.2.2.2.2.2.2.2.2.2.2.2.1]
  have e1 : ((((cfg0.win 16).blk t).view.emb y) 1 : ℕ) = (y 1).val := by blk_simp [(idx t).2.2.2.2.2.2.2.2.2.2.2.2.2.2.2.2.1]
  generalize ((cfg0.win 16).blk t).view.emb y = j at e0 e1
  blk_simp
  rw [after0_16]
  idx_vars y
  refine (out16 m hp c t y0 y1).trans ?_
  exact congrArg₂ (Gates.normed (xK m c) (aK m c) 1) (Fin.ext e0.symm) (Fin.ext e1.symm)
@[inherit_doc arr14] theorem arr17 (c : Dev nD) : (dats m 0 c).arrAt 17 cfg0.N = fun j => (Gates.conv (aP m c) (aW m c) (aB m c)) (j 0) (j 1) := by
  refine (dats m 0 c).arrAt_eq_of_covers 17 _ (by decide +kernel) fun t hf y => ?_
  have e0 : ((((cfg0.win 17).blk t).view.emb y) 0 : ℕ) = t.val * 512 + (y 0).val := by blk_simp [(idx t).2.2.2.2.2.2.2.2.2.2.2.2.2.2.2.2.2]
  have e1 : ((((cfg0.win 17).blk t).view.emb y) 1 : ℕ) = (y 1).val := by blk_simp [(idx t).2.2.2.2.2.2.2.2.2.2.2.2.2.2.2.2.2]
  generalize ((cfg0.win 17).blk t).view.emb y = j at e0 e1
  blk_simp
  rw [after0_17]
  idx_vars y
  refine (out17 m c t y0 y1).trans ?_
  exact congrArg₂ (Gates.conv (aP m c) (aW m c) (aB m c)) (Fin.ext e0.symm) (Fin.ext e1.symm)

set_option maxHeartbeats 2000000 in
/-- The four results, whatever functions they are. -/
theorem run_of (X : Dev nD → S4096x2048.Idx → EReal) (Y : Dev nD → S4096x1024.Idx → EReal) (Z : Dev nD → S4096x1024.Idx → EReal) (W : Dev nD → S4096x1024.Idx → EReal)
    (h14 : ∀ c, (dats m 0 c).arrAt 14 cfg0.N = X c) (h15 : ∀ c, (dats m 0 c).arrAt 15 cfg0.N = Y c) (h16 : ∀ c, (dats m 0 c).arrAt 16 cfg0.N = Z c) (h17 : ∀ c, (dats m 0 c).arrAt 17 cfg0.N = W c) (ρ : Dev nD → PrngReg) :
    θ_run defs (onTc (τ := τ) (main (F := Ideal))) ⟨m, fun _ => 0, ρ⟩ (fun r => ∀ c : Dev nD,
    r.2.mem ((c.tc : Thread nD τ).loc main_v13_0) = X c ∧ r.2.mem ((c.tc : Thread nD τ).loc main_v13_1) = Y c ∧ r.2.mem ((c.tc : Thread nD τ).loc main_v13_2) = Z c ∧ r.2.mem ((c.tc : Thread nD τ).loc main_v13_3) = W c) := by
  refine (θ_run _ _ _).mono (fun r h c => ?_) (Gen.run_main m ρ)
  exact ⟨((h c).1 14).trans (h14 c), ((h c).1 15).trans (h15 c), ((h c).1 16).trans (h16 c), ((h c).1 17).trans (h17 c)⟩

/-- The kernel's run: its four results as functions of its arguments. -/
theorem run (hp : Reals m) (ρ : Dev nD → PrngReg) : θ_run defs (onTc (τ := τ) (main (F := Ideal))) ⟨m, fun _ => 0, ρ⟩ (fun r => ∀ c : Dev nD,
    r.2.mem ((c.tc : Thread nD τ).loc main_v13_0) = (fun j => Gates.gate (aH m c) (aU m c) (aV m c) (j 0) (j 1))
    ∧ r.2.mem ((c.tc : Thread nD τ).loc main_v13_1) = (fun j => Gates.normed (xQ m c) (aQ m c) Gates.scale (j 0) (j 1))
    ∧ r.2.mem ((c.tc : Thread nD τ).loc main_v13_2) = (fun j => Gates.normed (xK m c) (aK m c) 1 (j 0) (j 1))
    ∧ r.2.mem ((c.tc : Thread nD τ).loc main_v13_3) = (fun j => Gates.conv (aP m c) (aW m c) (aB m c) (j 0) (j 1))) :=
  run_of m (fun c j => Gates.gate (aH m c) (aU m c) (aV m c) (j 0) (j 1)) (fun c j => Gates.normed (xQ m c) (aQ m c) Gates.scale (j 0) (j 1)) (fun c j => Gates.normed (xK m c) (aK m c) 1 (j 0) (j 1)) (fun c j => Gates.conv (aP m c) (aW m c) (aB m c) (j 0) (j 1))
    (arr14 m) (arr15 m hp) (arr16 m hp) (arr17 m) ρ

end Cert.Kernel11Ideal.Val
end
-- ==== Proof.Gates.Reference.lean ====
module

public import proofs.«01_k».proof.Proof.Gen.Reference11Ideal.Run
public import proofs.«01_k».proof.Proof.Gen.Reference11Ideal.Read
public import Idealize.ShloMosaic.Lib.Pointwise
public import Idealize.ShloMosaic.Lib.Claim
public import proofs.«01_k».proof.Proof.Attn.Table
public import proofs.«01_k».proof.Proof.Gates.Spec
public import proofs.«01_k».proof.Proof.Qk.Reference

@[expose] public section

set_option maxRecDepth 16384

noncomputable section

namespace Cert.Reference11Ideal.Val

open Idealize.ShloMosaic Idealize.ShloMosaic.TcCoe Idealize.SL.Sem
open Cert.Reference11Ideal Cert.Reference11Ideal.Gen Cert.Reference11Ideal.Read
open Cert.Reference6Ideal.Val (col hd_col col_lane)

variable (x0 : (⟨S4096x1024, .f32⟩ : BufTy).Contents (Elt Ideal)) (x1 : (⟨S4096x6144, .f32⟩ : BufTy).Contents (Elt Ideal))
  (x2 : (⟨S1024x2048, .f32⟩ : BufTy).Contents (Elt Ideal)) (x3 : (⟨S2048, .f32⟩ : BufTy).Contents (Elt Ideal))
  (x4 x5 : (⟨S64, .f32⟩ : BufTy).Contents (Elt Ideal)) (x6 : (⟨S3x1024, .f32⟩ : BufTy).Contents (Elt Ideal)) (x7 : (⟨S1024, .f32⟩ : BufTy).Contents (Elt Ideal))

/-- An argument, entry by entry. -/
abbrev fH (i : Fin 4096) (d : Fin 1024) : EReal := x0 (ix2 i d)
@[inherit_doc fH] abbrev fP (i : Fin 4096) (d : Fin 6144) : EReal := x1 (ix2 i d)
@[inherit_doc fH] abbrev fU (i : Fin 1024) (d : Fin 2048) : EReal := x2 (ix2 i d)
@[inherit_doc fH] abbrev fV (d : Fin 2048) : EReal := x3 (ix1 d)
@[inherit_doc fH] abbrev fG (d : Fin 64) : EReal := x4 (ix1 d)
@[inherit_doc fH] abbrev fW (i : Fin 3) (d : Fin 1024) : EReal := x6 (ix2 i d)
@[inherit_doc fH] abbrev fB (d : Fin 1024) : EReal := x7 (ix1 d)
@[inherit_doc fH] abbrev fQ (i : Fin 4096) (d : Fin 1024) : EReal := x1 (ix2 i ⟨d.val, by omega⟩)
@[inherit_doc fH] abbrev fK (i : Fin 4096) (d : Fin 1024) : EReal := x1 (ix2 i ⟨1024 + d.val, by omega⟩)

theorem v80 (i : Fin 4096) (d : Fin 2048) : val_main_v80 (F := Ideal) x0 x2 x3 (ix2 i d) = Gates.gate (fH x0) (fU x2) (fV x3) i d := by
  unfold val_main_v80 val_main_v15 val_main_v14 val_main_cst_0 val_main_v13 val_main_v12 val_main_cst val_main_v11 val_main_v10 val_main_v9 val_main_v8 val_main_v7 val_main_v6 Gates.gate Ideal.logistic
  pointwise
theorem v16 (i : Fin 4096) (h : Fin 16) (j : Fin 64) : val_main_v16 (F := Ideal) x1 (ix3 i h j) = fQ x1 i (col h j) := by
  unfold val_main_v16 val_main_v0
  pointwise
theorem v24 (i : Fin 4096) (h : Fin 16) (z : Fin 1) : val_main_v24 (F := Ideal) x1 (ix3 i h z) = Ideal.rsqrt (Rms.var Qk.N Qk.eps (fun j => fQ x1 i (col h j))) := by
  unfold val_main_v24 val_main_v23 val_main_v22 val_main_cst_3 val_main_v21 val_main_v20 val_main_cst_2 val_main_v19 val_main_v18 val_main_cst_1 val_main_v17 Rms.var
  pointwise
  simp only [v16, Qk.N, Qk.eps, Qk.c_64, Consts.c_eps]
theorem v29 (i : Fin 4096) (h : Fin 16) (j : Fin 64) : val_main_v29 (F := Ideal) x1 x4 (ix3 i h j) = Qk.hat (fQ x1) i (col h j) * fG x4 j := by
  unfold val_main_v29 val_main_v28 val_main_v27 val_main_v26 val_main_v25 Qk.hat
  pointwise
  rw [v16, v24]
  exact congrArg (fun w => _ * Ideal.rsqrt (Rms.var Qk.N Qk.eps w) * _) (funext fun k => (hd_col _ i h j k).symm)
theorem v34 (i : Fin 4096) (h : Fin 16) (j : Fin 64) : val_main_v34 (F := Ideal) x1 x4 (ix3 i h j) = Qk.hat (fQ x1) i (col h j) * fG x4 j * Gates.scale := by
  unfold val_main_v34 val_main_v33 val_main_v32 val_main_cst_5 val_main_v31 val_main_v30 val_main_cst_4
  pointwise
  rw [v29, Attn.c_two, Attn.log_two, Ideal.div_coe Attn.log_two_ne, Gates.c_8th, mul_assoc _ ((1 / 8 : ℝ) : EReal), ← EReal.coe_mul, Gates.scale_eq]
theorem v81 (i : Fin 4096) (d : Fin 1024) : val_main_v81 (F := Ideal) x1 x4 (ix2 i d) = Gates.normed (fQ x1) (fG x4) Gates.scale i d := by
  unfold val_main_v81 val_main_v78 Gates.normed
  pointwise
  exact (v34 x1 x4 i _ (Qk.lane d)).trans (congrArg (fun w => Qk.hat (fQ x1) i w * _ * _) (col_lane d))
theorem v35 (i : Fin 4096) (h : Fin 16) (j : Fin 64) : val_main_v35 (F := Ideal) x1 (ix3 i h j) = fK x1 i (col h j) := by
  unfold val_main_v35 val_main_v1
  pointwise
theorem v43 (i : Fin 4096) (h : Fin 16) (z : Fin 1) : val_main_v43 (F := Ideal) x1 (ix3 i h z) = Ideal.rsqrt (Rms.var Qk.N Qk.eps (fun j => fK x1 i (col h j))) := by
  unfold val_main_v43 val_main_v42 val_main_v41 val_main_cst_8 val_main_v40 val_main_v39 val_main_cst_7 val_main_v38 val_main_v37 val_main_cst_6 val_main_v36 Rms.var
  pointwise
  simp only [v35, Qk.N, Qk.eps, Qk.c_64, Consts.c_eps]
theorem v48 (i : Fin 4096) (h : Fin 16) (j : Fin 64) : val_main_v48 (F := Ideal) x1 x5 (ix3 i h j) = Qk.hat (fK x1) i (col h j) * fG x5 j := by
  unfold val_main_v48 val_main_v47 val_main_v46 val_main_v45 val_main_v44 Qk.hat
  pointwise
  rw [v35, v43]
  exact congrArg (fun w => _ * Ideal.rsqrt (Rms.var Qk.N Qk.eps w) * _) (funext fun k => (hd_col _ i h j k).symm)
theorem v82 (i : Fin 4096) (d : Fin 1024) : val_main_v82 (F := Ideal) x1 x5 (ix2 i d) = Gates.normed (fK x1) (fG x5) 1 i d := by
  unfold val_main_v82 val_main_v79 Gates.normed
  pointwise
  exact (v48 x1 x5 i _ (Qk.lane d)).trans (congrArg (fun w => Qk.hat (fK x1) i w * _) (col_lane d))

theorem v51 (i : Fin 4098) (d : Fin 1024) : val_main_v51 (F := Ideal) x1 (ix2 i d)
    = if h : 2 ≤ i.val then Conv.cg (fP x1) ⟨i.val - 2, by omega⟩ d * Conv.xc (fP x1) ⟨i.val - 2, by omega⟩ d else 0 := by
  unfold val_main_v51 val_main_v50 val_main_cst_9 val_main_v49 val_main_v4 val_main_v5 Conv.cg Conv.xc
  pointwise
  by_cases h : i.val < 2
  · rw [dif_pos h, dif_neg (by omega)]
  · rw [dif_neg h, dif_pos (by omega)]

/-- An entry of the padded operand is the operand some rows back. -/
theorem back_of (k : ℕ) (n : ℕ) (hk : n + k = 2) (i : Fin 4096) (j : Fin 4098) (hj : j.val = n + i.val) (d : Fin 1024) :
    val_main_v51 (F := Ideal) x1 (ix2 j d) = Conv.back (fP x1) k i d := by
  rw [v51]
  unfold Conv.back
  by_cases h : k ≤ i.val
  · rw [dif_pos h, dif_pos (show 2 ≤ j.val by omega)]
    exact congrArg (fun j => Conv.cg (fP x1) j d * Conv.xc (fP x1) j d) (Fin.ext (by show j.val - 2 = i.val - k; omega))
  · rw [dif_neg h, dif_neg (show ¬ 2 ≤ j.val by omega)]
theorem v54 (i : Fin 4096) (d : Fin 1024) : val_main_v54 (F := Ideal) x1 (ix2 i d) = Conv.back (fP x1) 2 i d := by
  unfold val_main_v54
  pointwise
  exact back_of x1 2 0 rfl i _ (Nat.zero_add _).symm d
theorem v62 (i : Fin 4096) (d : Fin 1024) : val_main_v62 (F := Ideal) x1 (ix2 i d) = Conv.back (fP x1) 1 i d := by
  unfold val_main_v62
  pointwise
  exact back_of x1 1 1 rfl i _ rfl d
theorem v69 (i : Fin 4096) (d : Fin 1024) : val_main_v69 (F := Ideal) x1 (ix2 i d) = Conv.back (fP x1) 0 i d := by
  unfold val_main_v69
  pointwise
  exact back_of x1 0 2 rfl i _ rfl d
theorem v83 (i : Fin 4096) (d : Fin 1024) : val_main_v83 (F := Ideal) x1 x6 x7 (ix2 i d) = Gates.conv (fP x1) (fW x6) (fB x7) i d := by
  unfold val_main_v83 val_main_v77 val_main_v76 val_main_v75 val_main_v74 val_main_v73 val_main_v72 val_main_v71 val_main_v70 val_main_v68 val_main_v67 val_main_v66 val_main_v65 val_main_v64 val_main_v63 val_main_v61 val_main_v60 val_main_v59 val_main_v58 val_main_cst_10 val_main_v57 val_main_v56 val_main_v55 val_main_v53 val_main_v52 val_main_v3 Gates.conv Conv.conv Conv.bg
  rw [← v54, ← v62, ← v69]
  pointwise

variable (m : (ℓ : Loc nD τ sig) → Buf (Elt Ideal) ℓ)

/-- The reference's run: its four results as the same functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v80) = (fun j => Gates.gate (fH (m ((c.tc : Thread nD τ).loc main_arg0))) (fU (m ((c.tc : Thread nD τ).loc main_arg2))) (fV (m ((c.tc : Thread nD τ).loc main_arg3))) (j 0) (j 1))
    ∧ r.2.mem ((c.tc : Thread nD τ).loc main_v81) = (fun j => Gates.normed (fQ (m ((c.tc : Thread nD τ).loc main_arg1))) (fG (m ((c.tc : Thread nD τ).loc main_arg4))) Gates.scale (j 0) (j 1))
    ∧ r.2.mem ((c.tc : Thread nD τ).loc main_v82) = (fun j => Gates.normed (fK (m ((c.tc : Thread nD τ).loc main_arg1))) (fG (m ((c.tc : Thread nD τ).loc main_arg5))) 1 (j 0) (j 1))
    ∧ r.2.mem ((c.tc : Thread nD τ).loc main_v83) = (fun j => Gates.conv (fP (m ((c.tc : Thread nD τ).loc main_arg1))) (fW (m ((c.tc : Thread nD τ).loc main_arg6))) (fB (m ((c.tc : Thread nD τ).loc main_arg7))) (j 0) (j 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) := by
  refine (θ_run _ _ _).mono (fun r h c => ⟨(h c).1.trans ?_, (h c).2.1.trans ?_, (h c).2.2.1.trans ?_, (h c).2.2.2.1.trans ?_, (h c).2.2.2.2⟩) (Cert.Reference11Ideal.Value.run m ρ)
  · rw [val_main_v80_eq]
    funext j
    idx_vars j
    apply v80
  · rw [val_main_v81_eq]
    funext j
    idx_vars j
    apply v81
  · rw [val_main_v82_eq]
    funext j
    idx_vars j
    apply v82
  · rw [val_main_v83_eq]
    funext j
    idx_vars j
    apply v83

end Cert.Reference11Ideal.Val
end
-- ==== Proof.Gates.Pre.lean ====
module

public import proofs.«01_k».proof.Defs
public import proofs.«01_k».proof.Proof.Gen.Pre_finite_gnc
public import proofs.«01_k».proof.Proof.Gates.Kernel

@[expose] public section

set_option maxRecDepth 16384

noncomputable section

/-! What the precondition says of the entries. -/

namespace Cert.Kernel11Ideal.Val

open Idealize.ShloMosaic Idealize.ShloMosaic.TcCoe Idealize.SL.Sem
open Cert.Kernel11Ideal Cert.Kernel11Ideal.Gen

variable (m : (ℓ : Loc nD τ sig) → Buf (Elt Ideal) ℓ)

theorem reals (h : Cert.Pre_Kernel11Ideal_finite_gnc m) : Reals m where
  xq c i d := Qk.of_bit (by
    have e := congrFun (h c) (ix2 i ⟨d.val, by omega⟩)
    unfold Cert.Pre_finite_gnc.fn at e
    revert e
    pointwise
    exact fun e => e)
  xk c i d := Qk.of_bit (by
    have e := congrFun (h c) (ix2 i ⟨1024 + d.val, by omega⟩)
    unfold Cert.Pre_finite_gnc.fn at e
    revert e
    pointwise
    exact fun e => e)

end Cert.Kernel11Ideal.Val
end
-- ==== Proof.InProj.Spec.lean ====
module

public import Idealize.ShloMosaic.Lib.Pointwise

@[expose] public section

noncomputable section

/-! The projection of the normalised rows, entry by entry, over the extended reals. -/

namespace Cert.InProj

open scoped BigOperators

/-- An entry of the product of the rows with the projection's weights. -/
def prod (H : Fin 4096 → Fin 1024 → EReal) (W : Fin 1024 → Fin 6144 → EReal) (i : Fin 4096) (e : Fin 6144) : EReal := ∑ k, H i k * W k e

end Cert.InProj
end
-- ==== Proof.InProj.Kernel.lean ====
module

public import proofs.«01_k».proof.Proof.Gen.Kernel12Ideal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
public import proofs.«01_k».proof.Proof.InProj.Spec
public import proofs.«01_k».proof.Proof.Canon

@[expose] public section

set_option maxRecDepth 16384

noncomputable section

namespace Cert.Kernel12Ideal.Val

open Idealize.ShloMosaic Idealize.ShloMosaic.TcCoe Idealize.SL.Sem
open Cert.Kernel12Ideal Cert.Kernel12Ideal.Gen

variable (m : (ℓ : Loc nD τ sig) → Buf (Elt Ideal) ℓ)

/-- The arguments, entry by entry. -/
abbrev aH (c : Dev nD) (i0 : Fin 4096) (i1 : Fin 1024) : EReal := m ((c : Thread nD τ).loc main_arg0) (ix2 i0 i1)
@[inherit_doc aH] abbrev aW (c : Dev nD) (i0 : Fin 1024) (i1 : Fin 6144) : EReal := m ((c : Thread nD τ).loc main_arg1) (ix2 i0 i1)

theorem idx : ∀ t : Fin cfg0.N, win0_0.index t = ![t.val, 0] ∧ win0_1.index t = ![0, 0] ∧ win0_2.index t = ![t.val, 0] :=
  (by decide +kernel : ∀ t : Fin grid0.N, _)

theorem tlt (t : Fin cfg0.N) : t.val < 8 := lt_of_lt_of_eq t.isLt N_0

/-- The row of the array that row `a` of block `t` is. -/
abbrev row (t : Fin cfg0.N) (a : Fin 512) : Fin 4096 := ⟨t.val * 512 + a.val, by have := tlt t; omega⟩

/-- What the pipelined arrays hold as the pipeline starts. -/
theorem entry0 (c : Dev nD) (i0 : Fin 4096) (i1 : Fin 1024) : V m c main_v0 (ix2 i0 i1) = (aH m c i0 i1 : EReal) := by
  unfold V
  unfold hostOps0
  after_reads_at
@[inherit_doc entry0] theorem entry1 (c : Dev nD) (i0 : Fin 1024) (i1 : Fin 6144) : V m c main_v1 (ix2 i0 i1) = (aW m c i0 i1 : EReal) := by
  unfold V
  unfold hostOps0
  after_reads_at

/-- The blocks at a point, read in the arguments. -/
theorem blk0 (c : Dev nD) (t : Fin cfg0.N) (a : Fin 512) (d : Fin 1024) : iblk m c 0 t (ix2 a d) = aH m c (row t a) d := by
  rw [← entry0 m c]
  blk_ext [iblk, (idx t).1]
@[inherit_doc blk0] theorem blk1 (c : Dev nD) (t : Fin cfg0.N) (a : Fin 1024) (d : Fin 6144) : iblk m c 1 t (ix2 a d) = aW m c a d := by
  rw [← entry1 m c]
  blk_ext [iblk, (idx t).2.1]

theorem col_lt {o : ℕ} (ho : o + 1024 ≤ 6144) (d : Fin 1024) : o + d.val < 6144 := by omega

/-- Some columns of the weights, from column `o` on. -/
theorem ld1 (c : Dev nD) (t : Fin cfg0.N) (o : ℕ) (ho : o + 1024 ≤ 6144) (h) (k d : Fin 1024) :
    View.ld (iblk m c 1 t) (Rect.unit (s := S1024x6144) ![0, o] ![1024, 1024] h) (ix2 k d) = aW m c k ⟨o + d.val, col_lt ho d⟩ := by
  pointwise
  exact blk1 m c t k _

/-- 1024 columns of the product. -/
theorem slab_eq (H : Fin 4096 → Fin 1024 → EReal) (W : Fin 1024 → Fin 6144 → EReal) (R : Fin 512 → Fin 4096) (o : ℕ) (ho : o + 1024 ≤ 6144)
    (x : FVec Ideal S512x1024 .bf16) (w : FVec Ideal S1024x1024 .bf16) (hx : ∀ a k, x (ix2 a k) = H (R a) k) (hw : ∀ k d : Fin 1024, w (ix2 k d) = W k ⟨o + d.val, col_lt ho d⟩)
    (a : Fin 512) (d : Fin 1024) : k0_pay3 (F := Ideal) x w (ix2 a d) = InProj.prod H W (R a) ⟨o + d.val, col_lt ho d⟩ := by
  unfold k0_pay3 k0_pay2 InProj.prod
  pointwise
  exact Finset.sum_congr rfl fun k _ => congrArg₂ (· * ·) (hx a k) (hw k d)

/-- The result's block. -/
theorem out2 (c : Dev nD) (t : Fin cfg0.N) (a : Fin 512) (e : Fin 6144) : out0_2 (iblk m c 0 t) (iblk m c 1 t) (ix2 a e) = InProj.prod (aH m c) (aW m c) (row t a) e := by
  unfold out0_2
  frame_out
  canon_tiles x w
  · idx_vars x
    obtain rfl : x0 = a := Fin.ext w0.symm
    obtain ⟨e, he⟩ := e
    obtain rfl : e = 5120 + x1.val := w1
    exact slab_eq (aH m c) (aW m c) (row t) 5120 (by norm_num) _ _ (blk0 m c t) (ld1 m c t 5120 (by norm_num) _) x0 x1
  · idx_vars x
    obtain rfl : x0 = a := Fin.ext w0.symm
    obtain ⟨e, he⟩ := e
    obtain rfl : e = 4096 + x1.val := w1
    exact slab_eq (aH m c) (aW m c) (row t) 4096 (by norm_num) _ _ (blk0 m c t) (ld1 m c t 4096 (by norm_num) _) x0 x1
  · idx_vars x
    obtain rfl : x0 = a := Fin.ext w0.symm
    obtain ⟨e, he⟩ := e
    obtain rfl : e = 3072 + x1.val := w1
    exact slab_eq (aH m c) (aW m c) (row t) 3072 (by norm_num) _ _ (blk0 m c t) (ld1 m c t 3072 (by norm_num) _) x0 x1
  · idx_vars x
    obtain rfl : x0 = a := Fin.ext w0.symm
    obtain ⟨e, he⟩ := e
    obtain rfl : e = 2048 + x1.val := w1
    exact slab_eq (aH m c) (aW m c) (row t) 2048 (by norm_num) _ _ (blk0 m c t) (ld1 m c t 2048 (by norm_num) _) x0 x1
  · idx_vars x
    obtain rfl : x0 = a := Fin.ext w0.symm
    obtain ⟨e, he⟩ := e
    obtain rfl : e = 1024 + x1.val := w1
    exact slab_eq (aH m c) (aW m c) (row t) 1024 (by norm_num) _ _ (blk0 m c t) (ld1 m c t 1024 (by norm_num) _) x0 x1
  · idx_vars x
    obtain rfl : x0 = a := Fin.ext w0.symm
    obtain ⟨e, he⟩ := e
    obtain rfl : e = 0 + x1.val := w1.trans (Nat.zero_add _).symm
    exact slab_eq (aH m c) (aW m c) (row t) 0 (by norm_num) _ _ (blk0 m c t) (ld1 m c t 0 (by norm_num) _) x0 x1

/-- The results' arrays. -/
theorem arr2 (c : Dev nD) : (dats m 0 c).arrAt 2 cfg0.N = fun j => (InProj.prod (aH m c) (aW m c)) (j 0) (j 1) := by
  refine (dats m 0 c).arrAt_eq_of_covers 2 _ (by decide +kernel) fun t hf y => ?_
  have e0 : ((((cfg0.win 2).blk t).view.emb y) 0 : ℕ) = t.val * 512 + (y 0).val := by blk_simp [(idx t).2.2]
  have e1 : ((((cfg0.win 2).blk t).view.emb y) 1 : ℕ) = (y 1).val := by blk_simp [(idx t).2.2]
  generalize ((cfg0.win 2).blk t).view.emb y = j at e0 e1
  blk_simp
  rw [after0_2]
  idx_vars y
  refine (out2 m c t y0 y1).trans ?_
  exact congrArg₂ (InProj.prod (aH m c) (aW m c)) (Fin.ext e0.symm) (Fin.ext e1.symm)

set_option maxHeartbeats 2000000 in
/-- The result, whatever function it is. -/
theorem run_of (X : Dev nD → S4096x6144.Idx → EReal)
    (h2 : ∀ c, (dats m 0 c).arrAt 2 cfg0.N = X c) (ρ : Dev nD → PrngReg) :
    θ_run defs (onTc (τ := τ) (main (F := Ideal))) ⟨m, fun _ => 0, ρ⟩ (fun r => ∀ c : Dev nD,
    r.2.mem ((c.tc : Thread nD τ).loc main_v2) = X c) := by
  run_from Gen.run_main m ρ
  · exact h2 c

/-- The kernel's run: its result as a function of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v2) = (fun j => InProj.prod (aH m c) (aW m c) (j 0) (j 1))) :=
  run_of m (fun c j => InProj.prod (aH m c) (aW m c) (j 0) (j 1))
    (arr2 m) ρ

end Cert.Kernel12Ideal.Val
end
-- ==== Proof.InProj.Reference.lean ====
module

public import proofs.«01_k».proof.Proof.Gen.Reference12Ideal.Run
public import proofs.«01_k».proof.Proof.Gen.Reference12Ideal.Read
public import Idealize.ShloMosaic.Lib.Pointwise
public import Idealize.ShloMosaic.Lib.Claim
public import proofs.«01_k».proof.Proof.InProj.Spec

@[expose] public section

set_option maxRecDepth 16384

noncomputable section

namespace Cert.Reference12Ideal.Val

open Idealize.ShloMosaic Idealize.ShloMosaic.TcCoe Idealize.SL.Sem
open Cert.Reference12Ideal Cert.Reference12Ideal.Gen Cert.Reference12Ideal.Read

variable (x0 : (⟨S4096x1024, .f32⟩ : BufTy).Contents (Elt Ideal)) (x1 : (⟨S1024x6144, .f32⟩ : BufTy).Contents (Elt Ideal))

/-- An argument, entry by entry. -/
abbrev fH (i : Fin 4096) (d : Fin 1024) : EReal := x0 (ix2 i d)
@[inherit_doc fH] abbrev fW (i : Fin 1024) (d : Fin 6144) : EReal := x1 (ix2 i d)

theorem v1 (i : Fin 4096) (d : Fin 6144) : val_main_v1 (F := Ideal) x0 x1 (ix2 i d) = InProj.prod (fH x0) (fW x1) i d := by
  unfold val_main_v1 val_main_v0 InProj.prod
  pointwise

variable (m : (ℓ : Loc nD τ sig) → Buf (Elt Ideal) ℓ)

/-- The reference's run: its result as the same function of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v1) = (fun j => InProj.prod (fH (m ((c.tc : Thread nD τ).loc main_arg0))) (fW (m ((c.tc : Thread nD τ).loc main_arg1))) (j 0) (j 1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run _ _ _).mono (fun r h c => ⟨(h c).1.trans ?_, (h c).2⟩) (Cert.Reference12Ideal.Value.run m ρ)
  rw [val_main_v1_eq]
  funext j
  idx_vars j
  apply v1

end Cert.Reference12Ideal.Val
end
-- ==== Proof.Wgrad.Spec.lean ====
module

public import Idealize.ShloMosaic.Lib.Pointwise
public import Mathlib.Algebra.BigOperators.Fin

@[expose] public section

noncomputable section

/-! The gradient of the projection's weights, entry by entry, over the extended reals. -/

namespace Cert.Wgrad

open scoped BigOperators

/-- An entry of the product of the rows, transposed, with the rows' gradient. -/
def grad (H : Fin 4096 → Fin 1024 → EReal) (D : Fin 4096 → Fin 6144 → EReal) (a : Fin 1024) (e : Fin 6144) : EReal := ∑ i, H i a * D i e

/-- The part of it that 2048 rows give. -/
def part (H : Fin 4096 → Fin 1024 → EReal) (D : Fin 4096 → Fin 6144 → EReal) (r : Fin 2048 → Fin 4096) (a : Fin 1024) (e : Fin 6144) : EReal :=
  ∑ x, H (r x) a * D (r x) e

/-- The first 2048 rows and the last ones are all of them. -/
theorem parts (H : Fin 4096 → Fin 1024 → EReal) (D : Fin 4096 → Fin 6144 → EReal) (r s : Fin 2048 → Fin 4096)
    (hr : ∀ x, (r x).val = x.val) (hs : ∀ x, (s x).val = 2048 + x.val) (a : Fin 1024) (e : Fin 6144) :
    part H D r a e + part H D s a e = grad H D a e := by
  refine ((Fin.sum_univ_add (M := EReal) (a := 2048) (b := 2048) fun i => H i a * D i e).trans ?_).symm
  refine congrArg₂ (· + ·) (Finset.sum_congr rfl fun x _ => ?_) (Finset.sum_congr rfl fun x _ => ?_)
  · rw [show Fin.castAdd 2048 x = r x from Fin.ext (hr x).symm]
  · rw [show Fin.natAdd 2048 x = s x from Fin.ext (hs x).symm]

end Cert.Wgrad
end
-- ==== Proof.Wgrad.Kernel.lean ====
module

public import proofs.«01_k».proof.Proof.Gen.Kernel13Ideal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
public import proofs.«01_k».proof.Proof.Wgrad.Spec
public import proofs.«01_k».proof.Proof.Canon

@[expose] public section

set_option maxRecDepth 16384

noncomputable section

namespace Cert.Kernel13Ideal.Val

open Idealize.ShloMosaic Idealize.ShloMosaic.TcCoe Idealize.SL.Sem
open Cert.Kernel13Ideal Cert.Kernel13Ideal.Gen

variable (m : (ℓ : Loc nD τ sig) → Buf (Elt Ideal) ℓ)

/-- The arguments, entry by entry. -/
abbrev aH (c : Dev nD) (i0 : Fin 4096) (i1 : Fin 1024) : EReal := m ((c : Thread nD τ).loc main_arg0) (ix2 i0 i1)
@[inherit_doc aH] abbrev aD (c : Dev nD) (i0 : Fin 4096) (i1 : Fin 6144) : EReal := m ((c : Thread nD τ).loc main_arg1) (ix2 i0 i1)

theorem idx : ∀ t : Fin cfg0.N, win0_0.index t = ![t.val % 2, 0] ∧ (t.val < 4 → win0_1.index t = ![t.val % 2, t.val / 2])
    ∧ (t.val / 2 % 6 = 2 → win0_2.index t = ![t.val % 2, 0]) ∧ (6 ≤ t.val → win0_3.index t = ![t.val % 2, t.val / 2 - 3])
    ∧ win0_4.index t = ![0, t.val / 2] :=
  (by decide +kernel : ∀ t : Fin grid0.N, _)

theorem tlt (t : Fin cfg0.N) : t.val < 12 := lt_of_lt_of_eq t.isLt N_0

/-- The row of the array that row `x` of the blocks at point `t` is. -/
abbrev row (t : Fin cfg0.N) (x : Fin 2048) : Fin 4096 := ⟨t.val % 2 * 2048 + x.val, by omega⟩
/-- The column of the gradient that column `d` of the blocks at point `t` is. -/
abbrev col (t : Fin cfg0.N) (d : Fin 1024) : Fin 6144 := ⟨t.val / 2 * 1024 + d.val, by have := tlt t; omega⟩

/-- What the pipelined arrays hold as the pipeline starts. -/
theorem entry3 (c : Dev nD) (i0 : Fin 4096) (i1 : Fin 1024) : V m c main_v3 (ix2 i0 i1) = (aH m c i0 i1 : EReal) := by
  unfold V
  unfold hostOps0
  after_reads_at
@[inherit_doc entry3] theorem entry4 (c : Dev nD) (i0 : Fin 4096) (i1 : Fin 2048) : V m c main_v4 (ix2 i0 i1) = (aD m c i0 ⟨0 + i1.val, by omega⟩ : EReal) := by
  unfold V
  unfold hostOps0
  after_reads_at
@[inherit_doc entry3] theorem entry5 (c : Dev nD) (i0 : Fin 4096) (i1 : Fin 1024) : V m c main_v5 (ix2 i0 i1) = (aD m c i0 ⟨2048 + i1.val, by omega⟩ : EReal) := by
  unfold V
  unfold hostOps0
  after_reads_at
@[inherit_doc entry3] theorem entry6 (c : Dev nD) (i0 : Fin 4096) (i1 : Fin 3072) : V m c main_v6 (ix2 i0 i1) = (aD m c i0 ⟨3072 + i1.val, by omega⟩ : EReal) := by
  unfold V
  unfold hostOps0
  after_reads_at

/-- The blocks at a point, read in the arguments. -/
theorem blk0 (c : Dev nD) (t : Fin cfg0.N) (a : Fin 2048) (d : Fin 1024) : iblk m c 0 t (ix2 a d) = aH m c (row t a) d := by
  rw [← entry3 m c]
  blk_ext [iblk, (idx t).1]
@[inherit_doc blk0] theorem blk1 (c : Dev nD) (t : Fin cfg0.N) (h : t.val < 4) (a : Fin 2048) (d : Fin 1024) : iblk m c 1 t (ix2 a d) = aD m c (row t a) (col t d) := by
  have e : iblk m c 1 t (ix2 a d) = V m c main_v4 (ix2 (row t a) (⟨t.val / 2 * 1024 + d.val, by omega⟩)) := by
    blk_ext [iblk, (idx t).2.1 h]
  rw [e, entry4 m c]
  exact congrArg (aD m c (row t a)) (Fin.ext (by have := tlt t; dsimp only [col]; omega))
@[inherit_doc blk0] theorem blk2 (c : Dev nD) (t : Fin cfg0.N) (h : t.val / 2 % 6 = 2) (a : Fin 2048) (d : Fin 1024) : iblk m c 2 t (ix2 a d) = aD m c (row t a) (col t d) := by
  have e : iblk m c 2 t (ix2 a d) = V m c main_v5 (ix2 (row t a) (d)) := by
    blk_ext [iblk, (idx t).2.2.1 h]
  rw [e, entry5 m c]
  exact congrArg (aD m c (row t a)) (Fin.ext (by have := tlt t; dsimp only [col]; omega))
@[inherit_doc blk0] theorem blk3 (c : Dev nD) (t : Fin cfg0.N) (h : 6 ≤ t.val) (a : Fin 2048) (d : Fin 1024) : iblk m c 3 t (ix2 a d) = aD m c (row t a) (col t d) := by
  have e : iblk m c 3 t (ix2 a d) = V m c main_v6 (ix2 (row t a) (⟨(t.val / 2 - 3) * 1024 + d.val, by have := tlt t; omega⟩)) := by
    blk_ext [iblk, (idx t).2.2.2.1 h]
  rw [e, entry6 m c]
  exact congrArg (aD m c (row t a)) (Fin.ext (by have := tlt t; dsimp only [col]; omega))

/-- The accumulator after a step is what it was and the product of the step's blocks. -/
theorem step3 (x w : FVec Ideal S2048x1024 .bf16) (acc : FVec Ideal S1024x1024 .f32) (a d : Fin 1024) :
    k0_pay3 (F := Ideal) x acc w (ix2 a d) = acc (ix2 a d) + ∑ k : Fin 2048, x (ix2 k a) * w (ix2 k d) := by
  unfold k0_pay3 k0_pay1
  pointwise

/-- What is written is the accumulator. -/
theorem cast6 (v : FVec Ideal S1024x1024 .f32) (a d : Fin 1024) : k0_pay6 (F := Ideal) v (ix2 a d) = v (ix2 a d) := by
  unfold k0_pay6
  pointwise

/-- The step's product is a part of the weights' gradient. -/
theorem part_eq (c : Dev nD) (t : Fin cfg0.N) (x w : FVec Ideal S2048x1024 .bf16) (hx : ∀ k d, x (ix2 k d) = aH m c (row t k) d) (hw : ∀ k d, w (ix2 k d) = aD m c (row t k) (col t d)) (a d : Fin 1024) :
    (∑ k : Fin 2048, x (ix2 k a) * w (ix2 k d)) = Wgrad.part (aH m c) (aD m c) (row t) a (col t d) :=
  Finset.sum_congr rfl fun k _ => congrArg₂ (· * ·) (hx k a) (hw k d)

/-- The accumulator as it starts. -/
theorem zero (a d : Fin 1024) : k0_pay2 (F := Ideal) (ix2 a d) = 0 := by
  unfold k0_pay2
  pointwise

/-- The accumulator after the first half of the rows. -/
theorem acc_even (c : Dev nD) (t : Fin cfg0.N) (h : t.val % 2 = 0) (a d : Fin 1024) :
    (outsAt0 m c t.val t.isLt).2 (ix2 a d) = Wgrad.part (aH m c) (aD m c) (row t) a (col t d) := by
  have hn := tlt t
  by_cases h1 : t.val < 4
  · rw [outsAt0_A m c t h h1 (by omega) (by omega) (by omega)]
    frame_out
    refine (step3 _ _ _ a d).trans ?_
    rw [zero, zero_add]
    exact part_eq m c t _ _ (blk0 m c t) (blk1 m c t h1) a d
  by_cases h2 : t.val / 2 % 6 = 2
  · rw [outsAt0_C m c t h h1 h2 (by omega) (by omega)]
    frame_out
    refine (step3 _ _ _ a d).trans ?_
    rw [zero, zero_add]
    exact part_eq m c t _ _ (blk0 m c t) (blk2 m c t h2) a d
  · rw [outsAt0_E m c t h h1 h2 (by omega) (by omega)]
    frame_out
    refine (step3 _ _ _ a d).trans ?_
    rw [zero, zero_add]
    exact part_eq m c t _ _ (blk0 m c t) (blk3 m c t (by omega)) a d

set_option maxHeartbeats 2000000 in
/-- The result's block, after both halves. -/
theorem out_odd (c : Dev nD) (t : Fin cfg0.N) (h : t.val % 2 = 1) (a d : Fin 1024) :
    (outsAt0 m c t.val t.isLt).1 (ix2 a d) = Wgrad.grad (aH m c) (aD m c) a (col t d) := by
  have hn := tlt t
  have hs : t.val - 1 < cfg0.N := Nat.lt_of_le_of_lt (Nat.sub_le _ _) t.isLt
  have e : (outsAt0 m c (t.val - 1) hs).2 (ix2 a d) = Wgrad.part (aH m c) (aD m c) (row ⟨t.val - 1, hs⟩) a (col t d) := by
    refine (acc_even m c ⟨t.val - 1, hs⟩ (by dsimp only; omega) a d).trans ?_
    exact congrArg (Wgrad.part (aH m c) (aD m c) (row ⟨t.val - 1, hs⟩) a) (Fin.ext (by dsimp only [col]; omega))
  refine Eq.trans ?_ (Wgrad.parts (aH m c) (aD m c) (row ⟨t.val - 1, hs⟩) (row t)
    (fun x => by dsimp only [row]; omega) (fun x => by dsimp only [row]; omega) a (col t d))
  rw [← e]
  by_cases h1 : t.val < 4
  · rw [outsAt0_B m c t (by omega) h1 (by omega) (by omega) h]
    frame_out
    refine ((cast6 _ a d).trans (step3 _ _ _ a d)).trans ?_
    exact congrArg₂ (· + ·) (congrFun (Memref.IsWhole.read_unread (Memref.isWhole_whole cc0_scratch0) _) _) (part_eq m c t _ _ (blk0 m c t) (blk1 m c t h1) a d)
  by_cases h2 : t.val / 2 % 6 = 2
  · rw [outsAt0_D m c t (by omega) h1 h2 (by omega) h]
    frame_out
    refine ((cast6 _ a d).trans (step3 _ _ _ a d)).trans ?_
    exact congrArg₂ (· + ·) (congrFun (Memref.IsWhole.read_unread (Memref.isWhole_whole cc0_scratch0) _) _) (part_eq m c t _ _ (blk0 m c t) (blk2 m c t h2) a d)
  · rw [outsAt0_F m c t (by omega) h1 h2 (by omega) h]
    frame_out
    refine ((cast6 _ a d).trans (step3 _ _ _ a d)).trans ?_
    exact congrArg₂ (· + ·) (congrFun (Memref.IsWhole.read_unread (Memref.isWhole_whole cc0_scratch0) _) _) (part_eq m c t _ _ (blk0 m c t) (blk3 m c t (by omega)) a d)

/-- The result's array. -/
theorem arr4 (c : Dev nD) : (dats m 0 c).arrAt 4 cfg0.N = fun j => (Wgrad.grad (aH m c) (aD m c)) (j 0) (j 1) := by
  refine (dats m 0 c).arrAt_eq_of_covers 4 _ (by decide +kernel) fun t hf y => ?_
  have e0 : ((((cfg0.win 4).blk t).view.emb y) 0 : ℕ) = (y 0).val := by blk_simp [(idx t).2.2.2.2]
  have e1 : ((((cfg0.win 4).blk t).view.emb y) 1 : ℕ) = t.val / 2 * 1024 + (y 1).val := by blk_simp [(idx t).2.2.2.2]
  generalize ((cfg0.win 4).blk t).view.emb y = j at e0 e1
  blk_simp
  rw [after0_4]
  idx_vars y
  refine (out_odd m c t ((flush0_4 t).mp hf) y0 y1).trans ?_
  exact congrArg₂ (Wgrad.grad (aH m c) (aD m c)) (Fin.ext e0.symm) (Fin.ext e1.symm)

set_option maxHeartbeats 2000000 in
/-- The result, whatever function it is. -/
theorem run_of (X : Dev nD → S1024x6144.Idx → EReal)
    (h4 : ∀ c, (dats m 0 c).arrAt 4 cfg0.N = X c) (ρ : Dev nD → PrngReg) :
    θ_run defs (onTc (τ := τ) (main (F := Ideal))) ⟨m, fun _ => 0, ρ⟩ (fun r => ∀ c : Dev nD,
    r.2.mem ((c.tc : Thread nD τ).loc main_v7) = X c) := by
  run_from Gen.run_main m ρ
  · exact h4 c

/-- The kernel's run: its result as a function of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v7) = (fun j => Wgrad.grad (aH m c) (aD m c) (j 0) (j 1))) :=
  run_of m (fun c j => Wgrad.grad (aH m c) (aD m c) (j 0) (j 1))
    (arr4 m) ρ

end Cert.Kernel13Ideal.Val
end
-- ==== Proof.Wgrad.Reference.lean ====
module

public import proofs.«01_k».proof.Proof.Gen.Reference13Ideal.Run
public import proofs.«01_k».proof.Proof.Gen.Reference13Ideal.Read
public import Idealize.ShloMosaic.Lib.Pointwise
public import Idealize.ShloMosaic.Lib.Claim
public import proofs.«01_k».proof.Proof.Wgrad.Spec

@[expose] public section

set_option maxRecDepth 16384

noncomputable section

namespace Cert.Reference13Ideal.Val

open Idealize.ShloMosaic Idealize.ShloMosaic.TcCoe Idealize.SL.Sem
open Cert.Reference13Ideal Cert.Reference13Ideal.Gen Cert.Reference13Ideal.Read

variable (x0 : (⟨S4096x1024, .f32⟩ : BufTy).Contents (Elt Ideal)) (x1 : (⟨S4096x6144, .f32⟩ : BufTy).Contents (Elt Ideal))

/-- An argument, entry by entry. -/
abbrev fH (i : Fin 4096) (d : Fin 1024) : EReal := x0 (ix2 i d)
@[inherit_doc fH] abbrev fD (i : Fin 4096) (d : Fin 6144) : EReal := x1 (ix2 i d)

theorem v4 (i : Fin 1024) (d : Fin 6144) : val_main_v4 (F := Ideal) x0 x1 (ix2 i d) = Wgrad.grad (fH x0) (fD x1) i d := by
  unfold val_main_v4 val_main_v3 val_main_v2 Wgrad.grad
  pointwise
  exact Finset.sum_congr rfl fun k _ => mul_comm _ _

variable (m : (ℓ : Loc nD τ sig) → Buf (Elt Ideal) ℓ)

/-- The reference's run: its result as the same function of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v4) = (fun j => Wgrad.grad (fH (m ((c.tc : Thread nD τ).loc main_arg0))) (fD (m ((c.tc : Thread nD τ).loc main_arg1))) (j 0) (j 1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run _ _ _).mono (fun r h c => ⟨(h c).1.trans ?_, (h c).2⟩) (Cert.Reference13Ideal.Value.run m ρ)
  rw [val_main_v4_eq]
  funext j
  idx_vars j
  apply v4

end Cert.Reference13Ideal.Val
end
-- ==== Proof.Adam.Spec.lean ====
module

public import Idealize.ShloMosaic.Lib.Pointwise

@[expose] public section

noncomputable section

/-! One step of the optimiser on a weight whose gradient comes in four shares, entry by entry, over the extended reals. -/

namespace Cert.Adam

open scoped BigOperators
open Idealize.ShloMosaic

/-- An entry of the gradient: the sum of its shares. -/
def grad (S : Fin 4 → Fin 1024 → Fin 768 → EReal) (a : Fin 1024) (d : Fin 768) : EReal := ∑ k, S k a d

/-- The new first moment, from the old one and the gradient. -/
def mom (m g : EReal) : EReal := Ideal.ofBits .f32 0x3F666666#32 * m + Ideal.ofBits .f32 0x3DCCCCCD#32 * g
/-- The new second moment. -/
def sqm (v g : EReal) : EReal := Ideal.ofBits .f32 0x3F7FBE77#32 * v + Ideal.ofBits .f32 0x3A83126F#32 * (g * g)

/-- The step: the corrected first moment over the root of the corrected second one, and the weight's decay. -/
def delta (w m v g : EReal) : EReal :=
  Ideal.ofBits .f32 0xBA83126F#32 * (Ideal.div (Ideal.div (mom m g) (Ideal.ofBits .f32 0x3F26BD02#32))
    (Ideal.sqrt (Ideal.div (sqm v g) (Ideal.ofBits .f32 0x3C231ACC#32)) + Ideal.ofBits .f32 0x322BCC77#32)
    + Ideal.ofBits .f32 0x3C23D70A#32 * w)

end Cert.Adam
end
-- ==== Proof.Adam.Kernel.lean ====
module

public import proofs.«01_k».proof.Proof.Gen.Kernel14Ideal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
public import proofs.«01_k».proof.Proof.Adam.Spec
public import proofs.«01_k».proof.Proof.Canon

@[expose] public section

set_option maxRecDepth 16384

noncomputable section

namespace Cert.Kernel14Ideal.Val

open Idealize.ShloMosaic Idealize.ShloMosaic.TcCoe Idealize.SL.Sem
open Cert.Kernel14Ideal Cert.Kernel14Ideal.Gen

variable (m : (ℓ : Loc nD τ sig) → Buf (Elt Ideal) ℓ)

/-- The arguments, entry by entry. -/
abbrev aS (c : Dev nD) (k : Fin 4) (i0 : Fin 1024) (i1 : Fin 768) : EReal := m ((c : Thread nD τ).loc main_arg0) (ix3 k i0 i1)
@[inherit_doc aS] abbrev aW (c : Dev nD) (i0 : Fin 1024) (i1 : Fin 768) : EReal := m ((c : Thread nD τ).loc main_arg1) (ix2 i0 i1)
@[inherit_doc aS] abbrev aM (c : Dev nD) (i0 : Fin 1024) (i1 : Fin 768) : EReal := m ((c : Thread nD τ).loc main_arg2) (ix2 i0 i1)
@[inherit_doc aS] abbrev aV (c : Dev nD) (i0 : Fin 1024) (i1 : Fin 768) : EReal := m ((c : Thread nD τ).loc main_arg3) (ix2 i0 i1)

/-- The results, entry by entry. -/
abbrev rG (c : Dev nD) (a : Fin 1024) (d : Fin 768) : EReal := Adam.grad (aS m c) a d
@[inherit_doc rG] abbrev rD (c : Dev nD) (a : Fin 1024) (d : Fin 768) : EReal := Adam.delta (aW m c a d) (aM m c a d) (aV m c a d) (Adam.grad (aS m c) a d)
@[inherit_doc rG] abbrev rM (c : Dev nD) (a : Fin 1024) (d : Fin 768) : EReal := Adam.mom (aM m c a d) (Adam.grad (aS m c) a d)
@[inherit_doc rG] abbrev rV (c : Dev nD) (a : Fin 1024) (d : Fin 768) : EReal := Adam.sqm (aV m c a d) (Adam.grad (aS m c) a d)

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem tlt (t : Fin cfg0.N) : t.val < 4 := lt_of_lt_of_eq t.isLt N_0

/-- The row of the array that row `a` of block `t` is. -/
abbrev row (t : Fin cfg0.N) (a : Fin 256) : Fin 1024 := ⟨t.val * 256 + a.val, by have := tlt t; omega⟩

/-- What the pipelined arrays hold as the pipeline starts. -/
theorem entry0 (c : Dev nD) (k : Fin 4) (i0 : Fin 1024) (i1 : Fin 768) : V m c main_v0 (ix3 k i0 i1) = (aS m c k i0 i1 : EReal) := by
  unfold V
  unfold hostOps0
  after_reads_at
@[inherit_doc entry0] theorem entry1 (c : Dev nD) (i0 : Fin 1024) (i1 : Fin 768) : V m c main_arg1 (ix2 i0 i1) = (aW m c i0 i1 : EReal) := by
  unfold V
  unfold hostOps0
  after_reads_at
@[inherit_doc entry0] theorem entry2 (c : Dev nD) (i0 : Fin 1024) (i1 : Fin 768) : V m c main_arg2 (ix2 i0 i1) = (aM m c i0 i1 : EReal) := by
  unfold V
  unfold hostOps0
  after_reads_at
@[inherit_doc entry0] theorem entry3 (c : Dev nD) (i0 : Fin 1024) (i1 : Fin 768) : V m c main_arg3 (ix2 i0 i1) = (aV m c i0 i1 : EReal) := by
  unfold V
  unfold hostOps0
  after_reads_at

/-- The blocks at a point, read in the arguments. -/
theorem blk0 (c : Dev nD) (t : Fin cfg0.N) (k : Fin 4) (a : Fin 256) (d : Fin 768) : iblk m c 0 t (ix3 k a d) = aS m c k (row t a) d := by
  rw [← entry0 m c]
  blk_ext [iblk, (idx t).1]
@[inherit_doc blk0] theorem blk1 (c : Dev nD) (t : Fin cfg0.N) (a : Fin 256) (d : Fin 768) : iblk m c 1 t (ix2 a d) = aW m c (row t a) d := by
  rw [← entry1 m c]
  blk_ext [iblk, (idx t).2.1]
@[inherit_doc blk0] theorem blk2 (c : Dev nD) (t : Fin cfg0.N) (a : Fin 256) (d : Fin 768) : iblk m c 2 t (ix2 a d) = aM m c (row t a) d := by
  rw [← entry2 m c]
  blk_ext [iblk, (idx t).2.2.1]
@[inherit_doc blk0] theorem blk3 (c : Dev nD) (t : Fin cfg0.N) (a : Fin 256) (d : Fin 768) : iblk m c 3 t (ix2 a d) = aV m c (row t a) d := by
  rw [← entry3 m c]
  blk_ext [iblk, (idx t).2.2.2.1]

/-- One share's block. -/
theorem ld0 (c : Dev nD) (t : Fin cfg0.N) (k : Fin 4) (h) (a : Fin 256) (d : Fin 768) :
    View.ld (iblk m c 0 t) (Rect.unit (s := S4x256x768) ![k.val, 0, 0] ![1, 256, 768] h) (ix3 0 a d) = aS m c k (row t a) d := by
  refine Eq.trans ?_ (blk0 m c t k a d)
  pointwise

/-- The shares' sum, as the kernel forms it. -/
theorem pay2 (S : Fin 4 → EReal) (x0 x1 x2 x3 : FVec Ideal S1x256x768 .bf16) (a : Fin 256) (d : Fin 768)
    (h0 : x0 (ix3 0 a d) = S 0) (h1 : x1 (ix3 0 a d) = S 1) (h2 : x2 (ix3 0 a d) = S 2) (h3 : x3 (ix3 0 a d) = S 3) :
    k0_pay2 (F := Ideal) x0 x1 x2 x3 (ix2 a d) = ∑ k, S k := by
  unfold k0_pay2
  pointwise
  rw [Fin.sum_univ_four]
  exact congrArg₂ (· + ·) (congrArg₂ (· + ·) (congrArg₂ (· + ·) h0 h1) h2) h3

/-- The moments and the step, as the kernel forms them from the shares' sum. -/
theorem pay3 (x0 x1 x2 x3 : FVec Ideal S1x256x768 .bf16) (w : FVec Ideal S256x768 .f32) (a : Fin 256) (d : Fin 768) :
    k0_pay3 (F := Ideal) x0 x1 x2 x3 w (ix2 a d) = Adam.mom (w (ix2 a d)) (k0_pay2 (F := Ideal) x0 x1 x2 x3 (ix2 a d)) := by
  unfold k0_pay3 Adam.mom
  pointwise
@[inherit_doc pay3] theorem pay4 (x0 x1 x2 x3 : FVec Ideal S1x256x768 .bf16) (w : FVec Ideal S256x768 .f32) (a : Fin 256) (d : Fin 768) :
    k0_pay4 (F := Ideal) x0 x1 x2 x3 w (ix2 a d) = Adam.sqm (w (ix2 a d)) (k0_pay2 (F := Ideal) x0 x1 x2 x3 (ix2 a d)) := by
  unfold k0_pay4 Adam.sqm
  pointwise
@[inherit_doc pay3] theorem pay1 (x0 x1 x2 x3 : FVec Ideal S1x256x768 .bf16) (w p v : FVec Ideal S256x768 .f32) (a : Fin 256) (d : Fin 768) :
    k0_pay1 (F := Ideal) w (k0_pay4 (F := Ideal) x0 x1 x2 x3 v) (k0_pay5 (F := Ideal) x0 x1 x2 x3 p) (Scalar.ofBits .f32 0x3C231ACC#32) (ix2 a d)
      = Adam.delta (w (ix2 a d)) (p (ix2 a d)) (v (ix2 a d)) (k0_pay2 (F := Ideal) x0 x1 x2 x3 (ix2 a d)) := by
  unfold Adam.delta
  rw [← pay3, ← pay4]
  unfold k0_pay1 k0_pay5
  pointwise

/-- The shares' sum at a point. -/
theorem sum_eq (c : Dev nD) (t : Fin cfg0.N) (h0 h1 h2 h3) (a : Fin 256) (d : Fin 768) :
    k0_pay2 (F := Ideal) (View.ld (iblk m c 0 t) (Rect.unit (s := S4x256x768) ![0, 0, 0] ![1, 256, 768] h0)) (View.ld (iblk m c 0 t) (Rect.unit (s := S4x256x768) ![1, 0, 0] ![1, 256, 768] h1))
      (View.ld (iblk m c 0 t) (Rect.unit (s := S4x256x768) ![2, 0, 0] ![1, 256, 768] h2)) (View.ld (iblk m c 0 t) (Rect.unit (s := S4x256x768) ![3, 0, 0] ![1, 256, 768] h3)) (ix2 a d)
      = Adam.grad (aS m c) (row t a) d :=
  pay2 (fun k => aS m c k (row t a) d) _ _ _ _ a d (ld0 m c t 0 h0 a d) (ld0 m c t 1 h1 a d) (ld0 m c t 2 h2 a d) (ld0 m c t 3 h3 a d)

/-- The results' blocks. -/
theorem out4 (c : Dev nD) (t : Fin cfg0.N) (a : Fin 256) (d : Fin 768) : out0_4 (iblk m c 0 t) (iblk m c 1 t) (iblk m c 2 t) (iblk m c 3 t) (ix2 a d) = rG m c (row t a) d := by
  unfold_out out0_4
  frame_out
  exact sum_eq m c t _ _ _ _ a d
@[inherit_doc out4] theorem out5 (c : Dev nD) (t : Fin cfg0.N) (a : Fin 256) (d : Fin 768) : out0_5 (iblk m c 0 t) (iblk m c 1 t) (iblk m c 2 t) (iblk m c 3 t) (ix2 a d) = rD m c (row t a) d := by
  unfold_out out0_5
  frame_out
  refine (pay1 _ _ _ _ _ _ _ a d).trans ?_
  rw [sum_eq m c t, blk1 m c t, blk2 m c t, blk3 m c t]
@[inherit_doc out4] theorem out6 (c : Dev nD) (t : Fin cfg0.N) (a : Fin 256) (d : Fin 768) : out0_6 (iblk m c 0 t) (iblk m c 1 t) (iblk m c 2 t) (iblk m c 3 t) (ix2 a d) = rM m c (row t a) d := by
  unfold_out out0_6
  frame_out
  refine (pay3 _ _ _ _ _ a d).trans ?_
  rw [sum_eq m c t, blk2 m c t]
@[inherit_doc out4] theorem out7 (c : Dev nD) (t : Fin cfg0.N) (a : Fin 256) (d : Fin 768) : out0_7 (iblk m c 0 t) (iblk m c 1 t) (iblk m c 2 t) (iblk m c 3 t) (ix2 a d) = rV m c (row t a) d := by
  unfold_out out0_7
  frame_out
  refine (pay4 _ _ _ _ _ a d).trans ?_
  rw [sum_eq m c t, blk3 m c t]

/-- The results' arrays. -/
theorem arr4 (c : Dev nD) : (dats m 0 c).arrAt 4 cfg0.N = fun j => (rG m c) (j 0) (j 1) := by
  refine (dats m 0 c).arrAt_eq_of_covers 4 _ (by decide +kernel) fun t hf y => ?_
  have e0 : ((((cfg0.win 4).blk t).view.emb y) 0 : ℕ) = t.val * 256 + (y 0).val := by blk_simp [(idx t).2.2.2.2.1]
  have e1 : ((((cfg0.win 4).blk t).view.emb y) 1 : ℕ) = (y 1).val := by blk_simp [(idx t).2.2.2.2.1]
  generalize ((cfg0.win 4).blk t).view.emb y = j at e0 e1
  blk_simp
  rw [after0_4]
  idx_vars y
  refine (out4 m c t y0 y1).trans ?_
  exact congrArg₂ (rG m c) (Fin.ext e0.symm) (Fin.ext e1.symm)
@[inherit_doc arr4] theorem arr5 (c : Dev nD) : (dats m 0 c).arrAt 5 cfg0.N = fun j => (rD m c) (j 0) (j 1) := by
  refine (dats m 0 c).arrAt_eq_of_covers 5 _ (by decide +kernel) fun t hf y => ?_
  have e0 : ((((cfg0.win 5).blk t).view.emb y) 0 : ℕ) = t.val * 256 + (y 0).val := by blk_simp [(idx t).2.2.2.2.2.1]
  have e1 : ((((cfg0.win 5).blk t).view.emb y) 1 : ℕ) = (y 1).val := by blk_simp [(idx t).2.2.2.2.2.1]
  generalize ((cfg0.win 5).blk t).view.emb y = j at e0 e1
  blk_simp
  rw [after0_5]
  idx_vars y
  refine (out5 m c t y0 y1).trans ?_
  exact congrArg₂ (rD m c) (Fin.ext e0.symm) (Fin.ext e1.symm)
@[inherit_doc arr4] theorem arr6 (c : Dev nD) : (dats m 0 c).arrAt 6 cfg0.N = fun j => (rM m c) (j 0) (j 1) := by
  refine (dats m 0 c).arrAt_eq_of_covers 6 _ (by decide +kernel) fun t hf y => ?_
  have e0 : ((((cfg0.win 6).blk t).view.emb y) 0 : ℕ) = t.val * 256 + (y 0).val := by blk_simp [(idx t).2.2.2.2.2.2.1]
  have e1 : ((((cfg0.win 6).blk t).view.emb y) 1 : ℕ) = (y 1).val := by blk_simp [(idx t).2.2.2.2.2.2.1]
  generalize ((cfg0.win 6).blk t).view.emb y = j at e0 e1
  blk_simp
  rw [after0_6]
  idx_vars y
  refine (out6 m c t y0 y1).trans ?_
  exact congrArg₂ (rM m c) (Fin.ext e0.symm) (Fin.ext e1.symm)
@[inherit_doc arr4] theorem arr7 (c : Dev nD) : (dats m 0 c).arrAt 7 cfg0.N = fun j => (rV m c) (j 0) (j 1) := by
  refine (dats m 0 c).arrAt_eq_of_covers 7 _ (by decide +kernel) fun t hf y => ?_
  have e0 : ((((cfg0.win 7).blk t).view.emb y) 0 : ℕ) = t.val * 256 + (y 0).val := by blk_simp [(idx t).2.2.2.2.2.2.2]
  have e1 : ((((cfg0.win 7).blk t).view.emb y) 1 : ℕ) = (y 1).val := by blk_simp [(idx t).2.2.2.2.2.2.2]
  generalize ((cfg0.win 7).blk t).view.emb y = j at e0 e1
  blk_simp
  rw [after0_7]
  idx_vars y
  refine (out7 m c t y0 y1).trans ?_
  exact congrArg₂ (rV m c) (Fin.ext e0.symm) (Fin.ext e1.symm)

set_option maxHeartbeats 2000000 in
/-- The four results, whatever functions they are. -/
theorem run_of (X Y Z W : Dev nD → S1024x768.Idx → EReal)
    (h4 : ∀ c, (dats m 0 c).arrAt 4 cfg0.N = X c) (h5 : ∀ c, (dats m 0 c).arrAt 5 cfg0.N = Y c) (h6 : ∀ c, (dats m 0 c).arrAt 6 cfg0.N = Z c) (h7 : ∀ c, (dats m 0 c).arrAt 7 cfg0.N = W c) (ρ : Dev nD → PrngReg) :
    θ_run defs (onTc (τ := τ) (main (F := Ideal))) ⟨m, fun _ => 0, ρ⟩ (fun r => ∀ c : Dev nD,
    r.2.mem ((c.tc : Thread nD τ).loc main_v1_0) = X c ∧ r.2.mem ((c.tc : Thread nD τ).loc main_v1_1) = Y c ∧ r.2.mem ((c.tc : Thread nD τ).loc main_v1_2) = Z c ∧ r.2.mem ((c.tc : Thread nD τ).loc main_v1_3) = W c) := by
  run_from Gen.run_main m ρ
  · exact h4 c
  · exact h5 c
  · exact h6 c
  · exact h7 c

/-- The kernel's run: its four results as functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v1_0) = (fun j => rG m c (j 0) (j 1))
    ∧ r.2.mem ((c.tc : Thread nD τ).loc main_v1_1) = (fun j => rD m c (j 0) (j 1))
    ∧ r.2.mem ((c.tc : Thread nD τ).loc main_v1_2) = (fun j => rM m c (j 0) (j 1))
    ∧ r.2.mem ((c.tc : Thread nD τ).loc main_v1_3) = (fun j => rV m c (j 0) (j 1))) :=
  run_of m (fun c j => rG m c (j 0) (j 1)) (fun c j => rD m c (j 0) (j 1)) (fun c j => rM m c (j 0) (j 1)) (fun c j => rV m c (j 0) (j 1))
    (arr4 m) (arr5 m) (arr6 m) (arr7 m) ρ

end Cert.Kernel14Ideal.Val
end
-- ==== Proof.Adam.Reference.lean ====
module

public import proofs.«01_k».proof.Proof.Gen.Reference14Ideal.Run
public import proofs.«01_k».proof.Proof.Gen.Reference14Ideal.Read
public import Idealize.ShloMosaic.Lib.Pointwise
public import Idealize.ShloMosaic.Lib.Claim
public import proofs.«01_k».proof.Proof.Adam.Spec

@[expose] public section

set_option maxRecDepth 16384

noncomputable section

namespace Cert.Reference14Ideal.Val

open Idealize.ShloMosaic Idealize.ShloMosaic.TcCoe Idealize.SL.Sem
open Cert.Reference14Ideal Cert.Reference14Ideal.Gen Cert.Reference14Ideal.Read

variable (x0 : (⟨S4x1024x768, .f32⟩ : BufTy).Contents (Elt Ideal)) (x1 x2 x3 : (⟨S1024x768, .f32⟩ : BufTy).Contents (Elt Ideal))

/-- The shares, entry by entry. -/
abbrev fS (k : Fin 4) (i : Fin 1024) (d : Fin 768) : EReal := x0 (ix3 k i d)
/-- Another argument, entry by entry. -/
abbrev fA (x : (⟨S1024x768, .f32⟩ : BufTy).Contents (Elt Ideal)) (i : Fin 1024) (d : Fin 768) : EReal := x (ix2 i d)

theorem v0 (i : Fin 1024) (d : Fin 768) : val_main_v0 (F := Ideal) x0 (ix2 i d) = Adam.grad (fS x0) i d := by
  unfold val_main_v0 val_main_cst Adam.grad
  pointwise

theorem v5 (i : Fin 1024) (d : Fin 768) : val_main_v5 (F := Ideal) x0 x2 (ix2 i d) = Adam.mom (fA x2 i d) (Adam.grad (fS x0) i d) := by
  rw [← v0]
  unfold val_main_v5 val_main_v4 val_main_v3 val_main_v2 val_main_v1 val_main_cst_0 val_main_cst_1 Adam.mom
  pointwise

theorem v11 (i : Fin 1024) (d : Fin 768) : val_main_v11 (F := Ideal) x0 x3 (ix2 i d) = Adam.sqm (fA x3 i d) (Adam.grad (fS x0) i d) := by
  rw [← v0]
  unfold val_main_v11 val_main_v10 val_main_v9 val_main_v8 val_main_v7 val_main_v6 val_main_cst_2 val_main_cst_3 Adam.sqm
  pointwise

theorem v24 (i : Fin 1024) (d : Fin 768) :
    val_main_v24 (F := Ideal) x0 x1 x2 x3 (ix2 i d) = Adam.delta (fA x1 i d) (fA x2 i d) (fA x3 i d) (Adam.grad (fS x0) i d) := by
  unfold Adam.delta
  rw [← v5, ← v11]
  unfold val_main_v24 val_main_v23 val_main_v22 val_main_v21 val_main_v20 val_main_v19 val_main_v18 val_main_v17 val_main_v16 val_main_v15 val_main_v14 val_main_v13 val_main_v12
    val_main_cst_4 val_main_cst_5 val_main_cst_6 val_main_cst_7 val_main_cst_8
  pointwise

variable (m : (ℓ : Loc nD τ sig) → Buf (Elt Ideal) ℓ)

/-- The reference's run: its results as the same functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v0) = (fun j => Adam.grad (fS (m ((c.tc : Thread nD τ).loc main_arg0))) (j 0) (j 1))
    ∧ r.2.mem ((c.tc : Thread nD τ).loc main_v24) = (fun j => Adam.delta (fA (m ((c.tc : Thread nD τ).loc main_arg1)) (j 0) (j 1)) (fA (m ((c.tc : Thread nD τ).loc main_arg2)) (j 0) (j 1)) (fA (m ((c.tc : Thread nD τ).loc main_arg3)) (j 0) (j 1)) (Adam.grad (fS (m ((c.tc : Thread nD τ).loc main_arg0))) (j 0) (j 1)))
    ∧ r.2.mem ((c.tc : Thread nD τ).loc main_v5) = (fun j => Adam.mom (fA (m ((c.tc : Thread nD τ).loc main_arg2)) (j 0) (j 1)) (Adam.grad (fS (m ((c.tc : Thread nD τ).loc main_arg0))) (j 0) (j 1)))
    ∧ r.2.mem ((c.tc : Thread nD τ).loc main_v11) = (fun j => Adam.sqm (fA (m ((c.tc : Thread nD τ).loc main_arg3)) (j 0) (j 1)) (Adam.grad (fS (m ((c.tc : Thread nD τ).loc main_arg0))) (j 0) (j 1)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run _ _ _).mono (fun r h c => ⟨(h c).1.trans ?_, (h c).2.1.trans ?_, (h c).2.2.1.trans ?_, (h c).2.2.2.1.trans ?_, (h c).2.2.2.2⟩) (Cert.Reference14Ideal.Value.run m ρ)
  · rw [val_main_v0_eq]
    funext j
    idx_vars j
    apply v0
  · rw [val_main_v24_eq]
    funext j
    idx_vars j
    apply v24
  · rw [val_main_v5_eq]
    funext j
    idx_vars j
    apply v5
  · rw [val_main_v11_eq]
    funext j
    idx_vars j
    apply v11

end Cert.Reference14Ideal.Val
end
-- ==== Proof.Step.Kernel.lean ====
module

public import proofs.«01_k».proof.Proof.Gen.Kernel15Ideal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
public import proofs.«01_k».proof.Proof.Adam.Spec
public import proofs.«01_k».proof.Proof.Canon

@[expose] public section

set_option maxRecDepth 16384

noncomputable section

namespace Cert.Kernel15Ideal.Val

open Idealize.ShloMosaic Idealize.ShloMosaic.TcCoe Idealize.SL.Sem
open Cert.Kernel15Ideal Cert.Kernel15Ideal.Gen

variable (m : (ℓ : Loc nD τ sig) → Buf (Elt Ideal) ℓ)

/-- The arguments, entry by entry. -/
abbrev aG (c : Dev nD) (i0 : Fin 1) (i1 : Fin 2048) : EReal := m ((c : Thread nD τ).loc main_arg0) (ix2 i0 i1)
@[inherit_doc aG] abbrev aW (c : Dev nD) (i0 : Fin 1) (i1 : Fin 2048) : EReal := m ((c : Thread nD τ).loc main_arg1) (ix2 i0 i1)
@[inherit_doc aG] abbrev aM (c : Dev nD) (i0 : Fin 1) (i1 : Fin 2048) : EReal := m ((c : Thread nD τ).loc main_arg2) (ix2 i0 i1)
@[inherit_doc aG] abbrev aV (c : Dev nD) (i0 : Fin 1) (i1 : Fin 2048) : EReal := m ((c : Thread nD τ).loc main_arg3) (ix2 i0 i1)

/-- The results, entry by entry. -/
abbrev rD (c : Dev nD) (a : Fin 1) (d : Fin 2048) : EReal := Adam.delta (aW m c a d) (aM m c a d) (aV m c a d) (aG m c a d)
@[inherit_doc rD] abbrev rM (c : Dev nD) (a : Fin 1) (d : Fin 2048) : EReal := Adam.mom (aM m c a d) (aG m c a d)
@[inherit_doc rD] abbrev rV (c : Dev nD) (a : Fin 1) (d : Fin 2048) : EReal := Adam.sqm (aV m c a d) (aG m c a d)

/-- What the pipelined arrays hold as the pipeline starts. -/
theorem entry0 (c : Dev nD) (i0 : Fin 1) (i1 : Fin 2048) : V m c main_arg0 (ix2 i0 i1) = (aG m c i0 i1 : EReal) := by
  exact congrFun (V_main_arg0 m c) _
@[inherit_doc entry0] theorem entry1 (c : Dev nD) (i0 : Fin 1) (i1 : Fin 2048) : V m c main_arg1 (ix2 i0 i1) = (aW m c i0 i1 : EReal) := by
  exact congrFun (V_main_arg1 m c) _
@[inherit_doc entry0] theorem entry2 (c : Dev nD) (i0 : Fin 1) (i1 : Fin 2048) : V m c main_arg2 (ix2 i0 i1) = (aM m c i0 i1 : EReal) := by
  exact congrFun (V_main_arg2 m c) _
@[inherit_doc entry0] theorem entry3 (c : Dev nD) (i0 : Fin 1) (i1 : Fin 2048) : V m c main_arg3 (ix2 i0 i1) = (aV m c i0 i1 : EReal) := by
  exact congrFun (V_main_arg3 m c) _

theorem idx0 (t : Fin cfg0.N) : win0_0.index t = ![0, 0] := (by decide +kernel : ∀ t : Fin grid0.N, win0_0.index t = ![0, 0]) t
theorem idx1 (t : Fin cfg0.N) : win0_1.index t = ![0, 0] := (by decide +kernel : ∀ t : Fin grid0.N, win0_1.index t = ![0, 0]) t
theorem idx2 (t : Fin cfg0.N) : win0_2.index t = ![0, 0] := (by decide +kernel : ∀ t : Fin grid0.N, win0_2.index t = ![0, 0]) t
theorem idx3 (t : Fin cfg0.N) : win0_3.index t = ![0, 0] := (by decide +kernel : ∀ t : Fin grid0.N, win0_3.index t = ![0, 0]) t
theorem idx4 (t : Fin cfg0.N) : win0_4.index t = ![0, 0] := (by decide +kernel : ∀ t : Fin grid0.N, win0_4.index t = ![0, 0]) t
theorem idx5 (t : Fin cfg0.N) : win0_5.index t = ![0, 0] := (by decide +kernel : ∀ t : Fin grid0.N, win0_5.index t = ![0, 0]) t
theorem idx6 (t : Fin cfg0.N) : win0_6.index t = ![0, 0] := (by decide +kernel : ∀ t : Fin grid0.N, win0_6.index t = ![0, 0]) t

/-- The blocks, read in the arguments. -/
theorem blk0 (c : Dev nD) (t : Fin cfg0.N) (a : Fin 1) (d : Fin 2048) : iblk m c 0 t (ix2 a d) = aG m c a d := by
  rw [← entry0 m c]
  blk_ext [iblk, idx0 t]
@[inherit_doc blk0] theorem blk1 (c : Dev nD) (t : Fin cfg0.N) (a : Fin 1) (d : Fin 2048) : iblk m c 1 t (ix2 a d) = aW m c a d := by
  rw [← entry1 m c]
  blk_ext [iblk, idx1 t]
@[inherit_doc blk0] theorem blk2 (c : Dev nD) (t : Fin cfg0.N) (a : Fin 1) (d : Fin 2048) : iblk m c 2 t (ix2 a d) = aM m c a d := by
  rw [← entry2 m c]
  blk_ext [iblk, idx2 t]
@[inherit_doc blk0] theorem blk3 (c : Dev nD) (t : Fin cfg0.N) (a : Fin 1) (d : Fin 2048) : iblk m c 3 t (ix2 a d) = aV m c a d := by
  rw [← entry3 m c]
  blk_ext [iblk, idx3 t]

/-- The moments and the step, as the kernel forms them. -/
theorem pay1 (g p : FVec Ideal S1x2048 .f32) (a : Fin 1) (d : Fin 2048) : k0_pay1 (F := Ideal) g p (ix2 a d) = Adam.mom (p (ix2 a d)) (g (ix2 a d)) := by
  unfold k0_pay1 Adam.mom
  pointwise
@[inherit_doc pay1] theorem pay2 (g v : FVec Ideal S1x2048 .f32) (a : Fin 1) (d : Fin 2048) : k0_pay2 (F := Ideal) g v (ix2 a d) = Adam.sqm (v (ix2 a d)) (g (ix2 a d)) := by
  unfold k0_pay2 Adam.sqm
  pointwise
@[inherit_doc pay1] theorem pay3 (w g p v : FVec Ideal S1x2048 .f32) (a : Fin 1) (d : Fin 2048) :
    k0_pay3 (F := Ideal) w g p v (ix2 a d) = Adam.delta (w (ix2 a d)) (p (ix2 a d)) (v (ix2 a d)) (g (ix2 a d)) := by
  unfold Adam.delta
  rw [← pay1, ← pay2]
  unfold k0_pay3
  pointwise

/-- The results' blocks. -/
theorem out4 (c : Dev nD) (t : Fin cfg0.N) (a : Fin 1) (d : Fin 2048) : out0_4 (iblk m c 0 t) (iblk m c 1 t) (iblk m c 2 t) (iblk m c 3 t) (ix2 a d) = rD m c a d := by
  unfold out0_4
  frame_out
  refine (pay3 _ _ _ _ a d).trans ?_
  rw [blk0 m c t, blk1 m c t, blk2 m c t, blk3 m c t]
@[inherit_doc out4] theorem out5 (c : Dev nD) (t : Fin cfg0.N) (a : Fin 1) (d : Fin 2048) : out0_5 (iblk m c 0 t) (iblk m c 1 t) (iblk m c 2 t) (iblk m c 3 t) (ix2 a d) = rM m c a d := by
  unfold out0_5
  frame_out
  refine (pay1 _ _ a d).trans ?_
  rw [blk0 m c t, blk2 m c t]
@[inherit_doc out4] theorem out6 (c : Dev nD) (t : Fin cfg0.N) (a : Fin 1) (d : Fin 2048) : out0_6 (iblk m c 0 t) (iblk m c 1 t) (iblk m c 2 t) (iblk m c 3 t) (ix2 a d) = rV m c a d := by
  unfold out0_6
  frame_out
  refine (pay2 _ _ a d).trans ?_
  rw [blk0 m c t, blk3 m c t]

/-- The results' arrays. -/
theorem arr4 (c : Dev nD) : (dats m 0 c).arrAt 4 cfg0.N = fun j => (rD m c) (j 0) (j 1) := by
  refine (dats m 0 c).arrAt_eq_of_covers 4 _ (by decide +kernel) fun t hf y => ?_
  have e0 : ((((cfg0.win 4).blk t).view.emb y) 0 : ℕ) = (y 0).val := by blk_simp [idx4 t]
  have e1 : ((((cfg0.win 4).blk t).view.emb y) 1 : ℕ) = (y 1).val := by blk_simp [idx4 t]
  generalize ((cfg0.win 4).blk t).view.emb y = j at e0 e1
  blk_simp
  rw [after0_4]
  idx_vars y
  refine (out4 m c t y0 y1).trans ?_
  exact congrArg₂ (rD m c) (Fin.ext e0.symm) (Fin.ext e1.symm)
@[inherit_doc arr4] theorem arr5 (c : Dev nD) : (dats m 0 c).arrAt 5 cfg0.N = fun j => (rM m c) (j 0) (j 1) := by
  refine (dats m 0 c).arrAt_eq_of_covers 5 _ (by decide +kernel) fun t hf y => ?_
  have e0 : ((((cfg0.win 5).blk t).view.emb y) 0 : ℕ) = (y 0).val := by blk_simp [idx5 t]
  have e1 : ((((cfg0.win 5).blk t).view.emb y) 1 : ℕ) = (y 1).val := by blk_simp [idx5 t]
  generalize ((cfg0.win 5).blk t).view.emb y = j at e0 e1
  blk_simp
  rw [after0_5]
  idx_vars y
  refine (out5 m c t y0 y1).trans ?_
  exact congrArg₂ (rM m c) (Fin.ext e0.symm) (Fin.ext e1.symm)
@[inherit_doc arr4] theorem arr6 (c : Dev nD) : (dats m 0 c).arrAt 6 cfg0.N = fun j => (rV m c) (j 0) (j 1) := by
  refine (dats m 0 c).arrAt_eq_of_covers 6 _ (by decide +kernel) fun t hf y => ?_
  have e0 : ((((cfg0.win 6).blk t).view.emb y) 0 : ℕ) = (y 0).val := by blk_simp [idx6 t]
  have e1 : ((((cfg0.win 6).blk t).view.emb y) 1 : ℕ) = (y 1).val := by blk_simp [idx6 t]
  generalize ((cfg0.win 6).blk t).view.emb y = j at e0 e1
  blk_simp
  rw [after0_6]
  idx_vars y
  refine (out6 m c t y0 y1).trans ?_
  exact congrArg₂ (rV m c) (Fin.ext e0.symm) (Fin.ext e1.symm)

/-- The kernel's run: its three results as functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v0_0) = (fun j => rD m c (j 0) (j 1))
    ∧ r.2.mem ((c.tc : Thread nD τ).loc main_v0_1) = (fun j => rM m c (j 0) (j 1))
    ∧ r.2.mem ((c.tc : Thread nD τ).loc main_v0_2) = (fun j => rV m c (j 0) (j 1))) := by
  run_from Gen.run_main m ρ
  · exact arr4 m c
  · exact arr5 m c
  · exact arr6 m c

end Cert.Kernel15Ideal.Val
end
-- ==== Proof.Step.Reference.lean ====
module

public import proofs.«01_k».proof.Proof.Gen.Reference15Ideal.Run
public import proofs.«01_k».proof.Proof.Gen.Reference15Ideal.Read
public import Idealize.ShloMosaic.Lib.Pointwise
public import Idealize.ShloMosaic.Lib.Claim
public import proofs.«01_k».proof.Proof.Adam.Spec

@[expose] public section

set_option maxRecDepth 16384

noncomputable section

namespace Cert.Reference15Ideal.Val

open Idealize.ShloMosaic Idealize.ShloMosaic.TcCoe Idealize.SL.Sem
open Cert.Reference15Ideal Cert.Reference15Ideal.Gen Cert.Reference15Ideal.Read

variable (x0 x1 x2 x3 : (⟨S1x2048, .f32⟩ : BufTy).Contents (Elt Ideal))

/-- An argument, entry by entry. -/
abbrev fA (x : (⟨S1x2048, .f32⟩ : BufTy).Contents (Elt Ideal)) (i : Fin 1) (d : Fin 2048) : EReal := x (ix2 i d)

theorem v4 (i : Fin 1) (d : Fin 2048) : val_main_v4 (F := Ideal) x0 x2 (ix2 i d) = Adam.mom (fA x2 i d) (fA x0 i d) := by
  unfold val_main_v4 val_main_v3 val_main_v2 val_main_v1 val_main_v0 val_main_cst val_main_cst_0 Adam.mom
  pointwise

theorem v10 (i : Fin 1) (d : Fin 2048) : val_main_v10 (F := Ideal) x0 x3 (ix2 i d) = Adam.sqm (fA x3 i d) (fA x0 i d) := by
  unfold val_main_v10 val_main_v9 val_main_v8 val_main_v7 val_main_v6 val_main_v5 val_main_cst_1 val_main_cst_2 Adam.sqm
  pointwise

theorem v23 (i : Fin 1) (d : Fin 2048) :
    val_main_v23 (F := Ideal) x0 x1 x2 x3 (ix2 i d) = Adam.delta (fA x1 i d) (fA x2 i d) (fA x3 i d) (fA x0 i d) := by
  unfold Adam.delta
  rw [← v4, ← v10]
  unfold val_main_v23 val_main_v22 val_main_v21 val_main_v20 val_main_v19 val_main_v18 val_main_v17 val_main_v16 val_main_v15 val_main_v14 val_main_v13 val_main_v12 val_main_v11
    val_main_cst_3 val_main_cst_4 val_main_cst_5 val_main_cst_6 val_main_cst_7
  pointwise

variable (m : (ℓ : Loc nD τ sig) → Buf (Elt Ideal) ℓ)

/-- The reference's run: its results as the same functions of its arguments. -/
theorem run (ρ : Dev nD → PrngReg) : θ_run defs (onTc (τ := τ) (main (F := Ideal))) ⟨m, fun _ => 0, ρ⟩ (fun r => ∀ c : Dev nD,
    r.2.mem ((c.tc : Thread nD τ).loc main_v23) = (fun j => Adam.delta (fA (m ((c.tc : Thread nD τ).loc main_arg1)) (j 0) (j 1)) (fA (m ((c.tc : Thread nD τ).loc main_arg2)) (j 0) (j 1)) (fA (m ((c.tc : Thread nD τ).loc main_arg3)) (j 0) (j 1)) (fA (m ((c.tc : Thread nD τ).loc main_arg0)) (j 0) (j 1)))
    ∧ r.2.mem ((c.tc : Thread nD τ).loc main_v4) = (fun j => Adam.mom (fA (m ((c.tc : Thread nD τ).loc main_arg2)) (j 0) (j 1)) (fA (m ((c.tc : Thread nD τ).loc main_arg0)) (j 0) (j 1)))
    ∧ r.2.mem ((c.tc : Thread nD τ).loc main_v10) = (fun j => Adam.sqm (fA (m ((c.tc : Thread nD τ).loc main_arg3)) (j 0) (j 1)) (fA (m ((c.tc : Thread nD τ).loc main_arg0)) (j 0) (j 1)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run _ _ _).mono (fun r h c => ⟨(h c).1.trans ?_, (h c).2.1.trans ?_, (h c).2.2.1.trans ?_, (h c).2.2.2⟩) (Cert.Reference15Ideal.Value.run m ρ)
  · rw [val_main_v23_eq]
    funext j
    idx_vars j
    apply v23
  · rw [val_main_v4_eq]
    funext j
    idx_vars j
    apply v4
  · rw [val_main_v10_eq]
    funext j
    idx_vars j
    apply v10

end Cert.Reference15Ideal.Val
end
-- ==== Proof.lean ====
/- The proof of the certificate's claims: the frames are the generated runs, the values the hand-written modules
   beside this one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Conv.Kernel
public import proofs.«01_k».proof.Proof.Conv.Reference
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Mix.Kernel
public import proofs.«01_k».proof.Proof.Mix.Reference
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Loss.Kernel
public import proofs.«01_k».proof.Proof.Loss.Reference
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Mlp.Kernel
public import proofs.«01_k».proof.Proof.Mlp.Reference
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Inb.Kernel
public import proofs.«01_k».proof.Proof.Inb.Reference
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite_qk
public import proofs.«01_k».proof.Proof.Qk.Kernel
public import proofs.«01_k».proof.Proof.Qk.Reference
public import proofs.«01_k».proof.Proof.Qk.Pre
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite_bfold
public import proofs.«01_k».proof.Proof.Fold.Kernel
public import proofs.«01_k».proof.Proof.Fold.Reference
public import proofs.«01_k».proof.Proof.Fold.Pre
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite_fwd
public import proofs.«01_k».proof.Proof.Attn.Kernel
public import proofs.«01_k».proof.Proof.Attn.Reference
public import proofs.«01_k».proof.Proof.Attn.Pre
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.MixOut.Kernel
public import proofs.«01_k».proof.Proof.MixOut.Reference
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Tiles.Kernel
public import proofs.«01_k».proof.Proof.Tiles.Reference
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_finite_gnc
public import proofs.«01_k».proof.Proof.Gates.Kernel
public import proofs.«01_k».proof.Proof.Gates.Reference
public import proofs.«01_k».proof.Proof.Gates.Pre
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.InProj.Kernel
public import proofs.«01_k».proof.Proof.InProj.Reference
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Wgrad.Kernel
public import proofs.«01_k».proof.Proof.Wgrad.Reference
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Adam.Kernel
public import proofs.«01_k».proof.Proof.Adam.Reference
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Step.Kernel
public import proofs.«01_k».proof.Proof.Step.Reference
public import Idealize.ShloMosaic.Adequacy
public import Idealize.ShloMosaic.Init

@[expose] public section

noncomputable section

namespace Cert.Proof

open Idealize.ShloMosaic Idealize.SL.Sem

/-- Conv: the reference runs and leaves its arguments unchanged. -/
theorem frameConv : Cert.quiescent_ReferenceIdeal := by
  intro m ρ _
  run_from Cert.ReferenceIdeal.Val.run m ρ
  · exact fun _ => ⟨trivial, trivial, trivial, trivial⟩
  · apply sem_eq_zero_of_no_sems
    decide

/-- Conv: kernel and reference leave the same functions of their arguments. -/
theorem valueConv : Cert.algebraic_KernelIdeal_ReferenceIdeal := by
  pair_intro
  · run_from Cert.KernelIdeal.Val.run m g & Cert.KernelIdeal.Gen.unchanged m g
  · run_from Cert.ReferenceIdeal.Val.run m' g' <;> rfl

/-- Mix: the reference runs and leaves its arguments unchanged. -/
theorem frameMix : Cert.quiescent_Reference2Ideal := by
  intro m ρ _
  run_from Cert.Reference2Ideal.Val.run m ρ
  · exact fun _ => ⟨trivial, trivial, trivial, trivial, trivial, trivial, trivial, trivial, trivial⟩
  · apply sem_eq_zero_of_no_sems
    decide

/-- Mix: kernel and reference leave the same functions of their arguments. -/
theorem valueMix : Cert.algebraic_Kernel2Ideal_Reference2Ideal := by
  pair_intro
  · run_from Cert.Kernel2Ideal.Val.run m g & Cert.Kernel2Ideal.Gen.unchanged m g
  · run_from Cert.Reference2Ideal.Val.run m' g' <;> rfl

/-- Loss: the reference runs and leaves its arguments unchanged. -/
theorem frameLoss : Cert.quiescent_Reference3Ideal := by
  intro m ρ _
  run_from Cert.Reference3Ideal.Val.run m ρ
  · exact fun _ => ⟨trivial, trivial, trivial, trivial, trivial⟩
  · apply sem_eq_zero_of_no_sems
    decide

/-- Loss: kernel and reference leave the same functions of their arguments. -/
theorem valueLoss : Cert.algebraic_Kernel3Ideal_Reference3Ideal := by
  pair_intro
  · run_from Cert.Kernel3Ideal.Val.run m g & Cert.Kernel3Ideal.Gen.unchanged m g
  · run_from Cert.Reference3Ideal.Val.run m' g' <;> rfl

/-- Mlp: the reference runs and leaves its arguments unchanged. -/
theorem frameMlp : Cert.quiescent_Reference4Ideal := by
  intro m ρ _
  run_from Cert.Reference4Ideal.Val.run m ρ
  · exact fun _ => ⟨trivial, trivial, trivial, trivial, trivial⟩
  · apply sem_eq_zero_of_no_sems
    decide

/-- Mlp: kernel and reference leave the same functions of their arguments. -/
theorem valueMlp : Cert.algebraic_Kernel4Ideal_Reference4Ideal := by
  pair_intro
  · run_from Cert.Kernel4Ideal.Val.run m g & Cert.Kernel4Ideal.Gen.unchanged m g
  · run_from Cert.Reference4Ideal.Val.run m' g' <;> rfl

/-- Inb: the reference runs and leaves its arguments unchanged. -/
theorem frameInb : Cert.quiescent_Reference5Ideal := by
  intro m ρ _
  run_from Cert.Reference5Ideal.Val.run m ρ
  · exact fun _ => ⟨trivial, trivial, trivial, trivial, trivial, trivial⟩
  · apply sem_eq_zero_of_no_sems
    decide

/-- Inb: kernel and reference leave the same functions of their arguments. -/
theorem valueInb : Cert.algebraic_Kernel5Ideal_Reference5Ideal := by
  pair_intro
  · run_from Cert.Kernel5Ideal.Val.run m g & Cert.Kernel5Ideal.Gen.unchanged m g
  · run_from Cert.Reference5Ideal.Val.run m' g' <;> rfl

/-- Qk: the reference runs and leaves its arguments unchanged. -/
theorem frameQk : Cert.quiescent_Reference6Ideal := by
  intro m ρ _
  run_from Cert.Reference6Ideal.Val.run m ρ
  · exact fun _ => ⟨trivial, trivial, trivial, trivial, trivial⟩
  · apply sem_eq_zero_of_no_sems
    decide

/-- Qk: kernel and reference leave the same functions of their arguments. -/
theorem valueQk : Cert.algebraic_Kernel6Ideal_Reference6Ideal_pre_finite_qk := by
  pair_intro
  · run_from Cert.Kernel6Ideal.Val.run m (Cert.Kernel6Ideal.Val.reals m hpre) g & Cert.Kernel6Ideal.Gen.unchanged m g
  · run_from Cert.Reference6Ideal.Val.run m' g' <;> first | rfl | (simp only [Cert.Kernel6Ideal.Val.dk, Cert.Kernel6Ideal.Val.sk, Cert.Qk.c_1]; rfl)

/-- Fold: the reference runs and leaves its arguments unchanged. -/
theorem frameFold : Cert.quiescent_Reference7Ideal := by
  intro m ρ _
  run_from Cert.Reference7Ideal.Val.run m ρ
  · exact fun _ => trivial
  · apply sem_eq_zero_of_no_sems
    decide

/-- Fold: kernel and reference leave the same functions of their arguments. -/
theorem valueFold : Cert.algebraic_Kernel7Ideal_Reference7Ideal_pre_finite_bfold := by
  pair_intro
  · run_from Cert.Kernel7Ideal.Val.run m (Cert.Kernel7Ideal.Val.reals m hpre) g & Cert.Kernel7Ideal.Gen.unchanged m g
  · run_from Cert.Reference7Ideal.Val.run m' g' <;> rfl

/-- Attn: the reference runs and leaves its arguments unchanged. -/
theorem frameAttn : Cert.quiescent_Reference8Ideal := by
  intro m ρ _
  run_from Cert.Reference8Ideal.Value.run m ρ
  · exact fun _ => ⟨trivial, trivial, trivial, trivial⟩
  · apply sem_eq_zero_of_no_sems
    decide

/-- Attn: kernel and reference leave the same functions of their arguments. -/
theorem valueAttn : Cert.algebraic_Kernel8Ideal_Reference8Ideal_pre_finite_fwd := by
  pair_intro
  · run_from Cert.Kernel8Ideal.Val.run m (Cert.Kernel8Ideal.Val.reals m hpre) g & Cert.Kernel8Ideal.Gen.unchanged m g
  · have hp := Cert.Kernel8Ideal.Val.reals m hpre
    run_from Cert.Reference8Ideal.Val.run m' (Cert.Kernel8Ideal.Val.rQ m) (Cert.Kernel8Ideal.Val.rK m) (Cert.Kernel8Ideal.Val.rB m) (fun c i j => (congrFun (hagree c).1 (ix2 i j)).trans (Cert.Kernel8Ideal.Val.aQ_eq m hp c i j))
      (fun c i j => (congrFun (hagree c).2.1 (ix2 i j)).trans (Cert.Kernel8Ideal.Val.aK_eq m hp c i j)) (fun c i j => (congrFun (hagree c).2.2.2 (ix2 i j)).trans (Cert.Kernel8Ideal.Val.aB_eq m hp c i j)) g' <;> rfl

/-- MixOut: the reference runs and leaves its arguments unchanged. -/
theorem frameMixOut : Cert.quiescent_Reference9Ideal := by
  intro m ρ _
  run_from Cert.Reference9Ideal.Val.run m ρ
  · exact fun _ => ⟨trivial, trivial, trivial, trivial, trivial, trivial, trivial, trivial⟩
  · apply sem_eq_zero_of_no_sems
    decide

/-- MixOut: kernel and reference leave the same functions of their arguments. -/
theorem valueMixOut : Cert.algebraic_Kernel9Ideal_Reference9Ideal := by
  pair_intro
  · run_from Cert.Kernel9Ideal.Val.run m g & Cert.Kernel9Ideal.Gen.unchanged m g
  · run_from Cert.Reference9Ideal.Val.run m' g' <;> rfl

/-- Tiles: the reference runs and leaves its arguments unchanged. -/
theorem frameTiles : Cert.quiescent_Reference10Ideal := by
  intro m ρ _
  run_from Cert.Reference10Ideal.Val.run m ρ
  · exact fun _ => ⟨trivial, trivial, trivial⟩
  · apply sem_eq_zero_of_no_sems
    decide

/-- Tiles: kernel and reference leave the same functions of their arguments. -/
theorem valueTiles : Cert.algebraic_Kernel10Ideal_Reference10Ideal := by
  pair_intro
  · run_from Cert.Kernel10Ideal.Val.run m g & Cert.Kernel10Ideal.Gen.unchanged m g
  · run_from Cert.Reference10Ideal.Val.run m' g' <;> rfl

/-- Gates: the reference runs and leaves its arguments unchanged. -/
theorem frameGates : Cert.quiescent_Reference11Ideal := by
  intro m ρ _
  run_from Cert.Reference11Ideal.Val.run m ρ
  · exact fun _ => ⟨trivial, trivial, trivial, trivial, trivial, trivial, trivial, trivial⟩
  · apply sem_eq_zero_of_no_sems
    decide

/-- Gates: kernel and reference leave the same functions of their arguments. -/
theorem valueGates : Cert.algebraic_Kernel11Ideal_Reference11Ideal_pre_finite_gnc := by
  pair_intro
  · run_from Cert.Kernel11Ideal.Val.run m (Cert.Kernel11Ideal.Val.reals m hpre) g & Cert.Kernel11Ideal.Gen.unchanged m g
  · run_from Cert.Reference11Ideal.Val.run m' g' <;> rfl

/-- InProj: the reference runs and leaves its arguments unchanged. -/
theorem frameInProj : Cert.quiescent_Reference12Ideal := by
  intro m ρ _
  run_from Cert.Reference12Ideal.Val.run m ρ
  · exact fun _ => ⟨trivial, trivial⟩
  · apply sem_eq_zero_of_no_sems
    decide

/-- InProj: kernel and reference leave the same functions of their arguments. -/
theorem valueInProj : Cert.algebraic_Kernel12Ideal_Reference12Ideal := by
  pair_intro
  · run_from Cert.Kernel12Ideal.Val.run m g & Cert.Kernel12Ideal.Gen.unchanged m g
  · run_from Cert.Reference12Ideal.Val.run m' g' <;> rfl

/-- Wgrad: the reference runs and leaves its arguments unchanged. -/
theorem frameWgrad : Cert.quiescent_Reference13Ideal := by
  intro m ρ _
  run_from Cert.Reference13Ideal.Val.run m ρ
  · exact fun _ => ⟨trivial, trivial⟩
  · apply sem_eq_zero_of_no_sems
    decide

/-- Wgrad: kernel and reference leave the same functions of their arguments. -/
theorem valueWgrad : Cert.algebraic_Kernel13Ideal_Reference13Ideal := by
  pair_intro
  · run_from Cert.Kernel13Ideal.Val.run m g & Cert.Kernel13Ideal.Gen.unchanged m g
  · run_from Cert.Reference13Ideal.Val.run m' g' <;> rfl

/-- Adam: the reference runs and leaves its arguments unchanged. -/
theorem frameAdam : Cert.quiescent_Reference14Ideal := by
  intro m ρ _
  run_from Cert.Reference14Ideal.Val.run m ρ
  · exact fun _ => ⟨trivial, trivial, trivial, trivial⟩
  · apply sem_eq_zero_of_no_sems
    decide

/-- Adam: kernel and reference leave the same functions of their arguments. -/
theorem valueAdam : Cert.algebraic_Kernel14Ideal_Reference14Ideal := by
  pair_intro
  · run_from Cert.Kernel14Ideal.Val.run m g & Cert.Kernel14Ideal.Gen.unchanged m g
  · run_from Cert.Reference14Ideal.Val.run m' g' <;> rfl

/-- Step: the reference runs and leaves its arguments unchanged. -/
theorem frameStep : Cert.quiescent_Reference15Ideal := by
  intro m ρ _
  run_from Cert.Reference15Ideal.Val.run m ρ
  · exact fun _ => ⟨trivial, trivial, trivial, trivial⟩
  · apply sem_eq_zero_of_no_sems
    decide

/-- Step: kernel and reference leave the same functions of their arguments. -/
theorem valueStep : Cert.algebraic_Kernel15Ideal_Reference15Ideal := by
  pair_intro
  · run_from Cert.Kernel15Ideal.Val.run m g & Cert.Kernel15Ideal.Gen.unchanged m g
  · run_from Cert.Reference15Ideal.Val.run m' g' <;> rfl

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Pre_finite_qk.Gen.facts, Cert.Pre_finite_bfold.Gen.facts, Cert.Pre_finite_fwd.Gen.facts, Cert.Pre_finite_gnc.Gen.facts,
  fun m ρ _ => Cert.Kernel.Gen.frame m ρ, fun m ρ _ => Cert.KernelIdeal.Gen.frame m ρ, frameConv,
  fun m ρ _ => Cert.Kernel2.Gen.frame m ρ, fun m ρ _ => Cert.Kernel2Ideal.Gen.frame m ρ, frameMix,
  fun m ρ _ => Cert.Kernel3.Gen.frame m ρ, fun m ρ _ => Cert.Kernel3Ideal.Gen.frame m ρ, frameLoss,
  fun m ρ _ => Cert.Kernel4.Gen.frame m ρ, fun m ρ _ => Cert.Kernel4Ideal.Gen.frame m ρ, frameMlp,
  fun m ρ _ => Cert.Kernel5.Gen.frame m ρ, fun m ρ _ => Cert.Kernel5Ideal.Gen.frame m ρ, frameInb,
  fun m ρ _ => Cert.Kernel6.Gen.frame m ρ, fun m ρ _ => Cert.Kernel6Ideal.Gen.frame m ρ, fun m ρ _ => Cert.Kernel6Ideal.Gen.frame m ρ, frameQk, fun m ρ _ => frameQk m ρ trivial,
  fun m ρ _ => Cert.Kernel7.Gen.frame m ρ, fun m ρ _ => Cert.Kernel7Ideal.Gen.frame m ρ, fun m ρ _ => Cert.Kernel7Ideal.Gen.frame m ρ, frameFold, fun m ρ _ => frameFold m ρ trivial,
  fun m ρ _ => Cert.Kernel8.Gen.frame m ρ, fun m ρ _ => Cert.Kernel8Ideal.Gen.frame m ρ, fun m ρ _ => Cert.Kernel8Ideal.Gen.frame m ρ, frameAttn, fun m ρ _ => frameAttn m ρ trivial,
  fun m ρ _ => Cert.Kernel9.Gen.frame m ρ, fun m ρ _ => Cert.Kernel9Ideal.Gen.frame m ρ, frameMixOut,
  fun m ρ _ => Cert.Kernel10.Gen.frame m ρ, fun m ρ _ => Cert.Kernel10Ideal.Gen.frame m ρ, frameTiles,
  fun m ρ _ => Cert.Kernel11.Gen.frame m ρ, fun m ρ _ => Cert.Kernel11Ideal.Gen.frame m ρ, fun m ρ _ => Cert.Kernel11Ideal.Gen.frame m ρ, frameGates, fun m ρ _ => frameGates m ρ trivial,
  fun m ρ _ => Cert.Kernel12.Gen.frame m ρ, fun m ρ _ => Cert.Kernel12Ideal.Gen.frame m ρ, frameInProj,
  fun m ρ _ => Cert.Kernel13.Gen.frame m ρ, fun m ρ _ => Cert.Kernel13Ideal.Gen.frame m ρ, frameWgrad,
  fun m ρ _ => Cert.Kernel14.Gen.frame m ρ, fun m ρ _ => Cert.Kernel14Ideal.Gen.frame m ρ, frameAdam,
  fun m ρ _ => Cert.Kernel15.Gen.frame m ρ, fun m ρ _ => Cert.Kernel15Ideal.Gen.frame m ρ, frameStep,
  trivial, valueConv,
  trivial, valueMix,
  trivial, valueLoss,
  trivial, valueMlp,
  trivial, valueInb,
  trivial, valueQk,
  trivial, valueFold,
  ⟨IdealRules.named_const.statement _ _ _ _ _ rfl, IdealRules.named_const.statement _ _ _ _ _ rfl⟩, valueAttn,
  trivial, valueMixOut,
  IdealRules.named_const.statement _ _ _ _ _ rfl, valueTiles,
  IdealRules.named_const.statement _ _ _ _ _ rfl, valueGates,
  trivial, valueInProj,
  trivial, valueWgrad,
  trivial, valueAdam,
  trivial, valueStep⟩

end Cert.Proof

end
